-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_scale_codes [hPre_scale_codes : Cert.Pre_scale_codes.Facts] (m : (ℓ : Loc Cert.MlpIdeal.nD Cert.MlpIdeal.τ Cert.MlpIdeal.sig) → Buf (Elt Ideal) ℓ) : Prop :=
  ∀ c : Dev Cert.MlpIdeal.nD,
    (Cert.Pre_scale_codes.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8))) = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_scale_codes [hPre_scale_codes : Cert.Pre_scale_codes.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_scale_codes.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5)) (m ((c.tc : Thread Cert.MlpRefIdeal.nD Cert.MlpRefIdeal.τ).loc Cert.MlpRefIdeal.main_arg6)) (m ((c.tc : Thread Cert.MlpRefIdeal.nD Cert.MlpRefIdeal.τ).loc Cert.MlpRefIdeal.main_arg7)) (m ((c.tc : Thread Cert.MlpRefIdeal.nD Cert.MlpRefIdeal.τ).loc Cert.MlpRefIdeal.main_arg8))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_out_scale_codes [hPre_out_scale_codes : Cert.Pre_out_scale_codes.Facts] (m : (ℓ : Loc Cert.OutIdeal.nD Cert.OutIdeal.τ Cert.OutIdeal.sig) → Buf (Elt Ideal) ℓ) : Prop :=
  ∀ c : Dev Cert.OutIdeal.nD,
    (Cert.Pre_out_scale_codes.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_out_scale_codes [hPre_out_scale_codes : Cert.Pre_out_scale_codes.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_out_scale_codes.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_qkv_scale_codes [hPre_qkv_scale_codes : Cert.Pre_qkv_scale_codes.Facts] (m : (ℓ : Loc Cert.QkvIdeal.nD Cert.QkvIdeal.τ Cert.QkvIdeal.sig) → Buf (Elt Ideal) ℓ) : Prop :=
  ∀ c : Dev Cert.QkvIdeal.nD,
    (Cert.Pre_qkv_scale_codes.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5))) = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_qkv_scale_codes [hPre_qkv_scale_codes : Cert.Pre_qkv_scale_codes.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_qkv_scale_codes.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5))) = (fun _ => 1#1)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ r.2.sem = fun _ => 0)

def quiescent_MlpIdeal_pre_scale_codes [hMlpIdeal : Cert.MlpIdeal.Facts] [hPre_scale_codes : Cert.Pre_scale_codes.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_scale_codes m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8))
      ∧ r.2.sem = fun _ => 0)

def quiescent_MlpRefIdeal_pre_scale_codes [hMlpRefIdeal : Cert.MlpRefIdeal.Facts] [hPre_scale_codes : Cert.Pre_scale_codes.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_scale_codes m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutIdeal_pre_out_scale_codes [hOutIdeal : Cert.OutIdeal.Facts] [hPre_out_scale_codes : Cert.Pre_out_scale_codes.Facts] : Prop :=
  ∀ (m : (ℓ : Loc Cert.OutIdeal.nD Cert.OutIdeal.τ Cert.OutIdeal.sig) → Buf (Elt Ideal) ℓ) (g : Dev Cert.OutIdeal.nD → PrngReg), Pre_OutIdeal_out_scale_codes m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_OutRefIdeal_pre_out_scale_codes [hOutRefIdeal : Cert.OutRefIdeal.Facts] [hPre_out_scale_codes : Cert.Pre_out_scale_codes.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_out_scale_codes m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvIdeal_pre_qkv_scale_codes [hQkvIdeal : Cert.QkvIdeal.Facts] [hPre_qkv_scale_codes : Cert.Pre_qkv_scale_codes.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_qkv_scale_codes m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5))
      ∧ r.2.sem = fun _ => 0)

def quiescent_QkvRefIdeal_pre_qkv_scale_codes [hQkvRefIdeal : Cert.QkvRefIdeal.Facts] [hPre_qkv_scale_codes : Cert.Pre_qkv_scale_codes.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_qkv_scale_codes m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5))
      ∧ r.2.sem = fun _ => 0)

def preserves_Mlp_MlpIdeal : Prop :=
  IdealRules.named_const.Statement Cert.MlpIdeal.κ "log_two" .f32 0x3F317218#32 ((Real.log 2 : ℝ) : EReal)

def algebraic_MlpIdeal_MlpRefIdeal_pre_scale_codes [hMlpIdeal : Cert.MlpIdeal.Facts] [hMlpRefIdeal : Cert.MlpRefIdeal.Facts] [hPre_scale_codes : Cert.Pre_scale_codes.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_scale_codes m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)) →
    ∃ (v0 : (c : Dev Cert.MlpIdeal.nD) → Buf (Elt Ideal) ((c.tc : Thread Cert.MlpIdeal.nD Cert.MlpIdeal.τ).loc Cert.MlpIdeal.main_v3)) (v1 : (c : Dev Cert.MlpIdeal.nD) → Buf (Elt Ideal) ((c.tc : Thread Cert.MlpIdeal.nD Cert.MlpIdeal.τ).loc Cert.MlpIdeal.main_v1_0)) (v2 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3) = v0 c
          ∧ r.2.mem ((c.tc : Thread Cert.MlpIdeal.nD Cert.MlpIdeal.τ).loc Cert.MlpIdeal.main_v1_0) = v1 c
          ∧ r.2.mem ((c.tc : Thread Cert.MlpIdeal.nD Cert.MlpIdeal.τ).loc Cert.MlpIdeal.main_v4) = v2 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v0_0) = v0 c
          ∧ r.2.mem ((c.tc : Thread Cert.MlpRefIdeal.nD Cert.MlpRefIdeal.τ).loc Cert.MlpRefIdeal.main_v0_1) = v1 c
          ∧ r.2.mem ((c.tc : Thread Cert.MlpRefIdeal.nD Cert.MlpRefIdeal.τ).loc Cert.MlpRefIdeal.main_v0_2) = v2 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8))

def preserves_Out_OutIdeal : Prop :=
  IdealRules.named_const.Statement Cert.OutIdeal.κ "log_two" .f32 0x3F317218#32 ((Real.log 2 : ℝ) : EReal)

def algebraic_OutIdeal_OutRefIdeal_pre_out_scale_codes [hOutIdeal : Cert.OutIdeal.Facts] [hOutRefIdeal : Cert.OutRefIdeal.Facts] [hPre_out_scale_codes : Cert.Pre_out_scale_codes.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_out_scale_codes m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v1_0)) (v1 : (c : Dev Cert.OutIdeal.nD) → Buf (Elt Ideal) ((c.tc : Thread Cert.OutIdeal.nD Cert.OutIdeal.τ).loc Cert.OutIdeal.main_v1_1)) (v2 : (c : Dev Cert.OutIdeal.nD) → Buf (Elt Ideal) ((c.tc : Thread Cert.OutIdeal.nD Cert.OutIdeal.τ).loc Cert.OutIdeal.main_v2)) (v3 : (c : Dev Cert.OutIdeal.nD) → Buf (Elt Ideal) ((c.tc : Thread Cert.OutIdeal.nD Cert.OutIdeal.τ).loc Cert.OutIdeal.main_v1_3)) (v4 : (c : Dev Cert.OutIdeal.nD) → Buf (Elt Ideal) ((c.tc : Thread Cert.OutIdeal.nD Cert.OutIdeal.τ).loc Cert.OutIdeal.main_v1_4)) (v5 : (c : Dev Cert.OutIdeal.nD) → Buf (Elt Ideal) ((c.tc : Thread Cert.OutIdeal.nD Cert.OutIdeal.τ).loc Cert.OutIdeal.main_v3)) (v6 : (c : Dev Cert.OutIdeal.nD) → Buf (Elt Ideal) ((c.tc : Thread Cert.OutIdeal.nD Cert.OutIdeal.τ).loc Cert.OutIdeal.main_v1_6)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1_0) = v0 c
          ∧ r.2.mem ((c.tc : Thread Cert.OutIdeal.nD Cert.OutIdeal.τ).loc Cert.OutIdeal.main_v1_1) = v1 c
          ∧ r.2.mem ((c.tc : Thread Cert.OutIdeal.nD Cert.OutIdeal.τ).loc Cert.OutIdeal.main_v2) = v2 c
          ∧ r.2.mem ((c.tc : Thread Cert.OutIdeal.nD Cert.OutIdeal.τ).loc Cert.OutIdeal.main_v1_3) = v3 c
          ∧ r.2.mem ((c.tc : Thread Cert.OutIdeal.nD Cert.OutIdeal.τ).loc Cert.OutIdeal.main_v1_4) = v4 c
          ∧ r.2.mem ((c.tc : Thread Cert.OutIdeal.nD Cert.OutIdeal.τ).loc Cert.OutIdeal.main_v3) = v5 c
          ∧ r.2.mem ((c.tc : Thread Cert.OutIdeal.nD Cert.OutIdeal.τ).loc Cert.OutIdeal.main_v1_6) = v6 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0_0) = v0 c
          ∧ r.2.mem ((c.tc : Thread Cert.OutRefIdeal.nD Cert.OutRefIdeal.τ).loc Cert.OutRefIdeal.main_v0_1) = v1 c
          ∧ r.2.mem ((c.tc : Thread Cert.OutRefIdeal.nD Cert.OutRefIdeal.τ).loc Cert.OutRefIdeal.main_v0_2) = v2 c
          ∧ r.2.mem ((c.tc : Thread Cert.OutRefIdeal.nD Cert.OutRefIdeal.τ).loc Cert.OutRefIdeal.main_v0_3) = v3 c
          ∧ r.2.mem ((c.tc : Thread Cert.OutRefIdeal.nD Cert.OutRefIdeal.τ).loc Cert.OutRefIdeal.main_v0_4) = v4 c
          ∧ r.2.mem ((c.tc : Thread Cert.OutRefIdeal.nD Cert.OutRefIdeal.τ).loc Cert.OutRefIdeal.main_v0_5) = v5 c
          ∧ r.2.mem ((c.tc : Thread Cert.OutRefIdeal.nD Cert.OutRefIdeal.τ).loc Cert.OutRefIdeal.main_v0_6) = v6 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Qkv_QkvIdeal : Prop :=
  IdealRules.named_const.Statement Cert.QkvIdeal.κ "log_two" .f32 0x3F317218#32 ((Real.log 2 : ℝ) : EReal)

def algebraic_QkvIdeal_QkvRefIdeal_pre_qkv_scale_codes [hQkvIdeal : Cert.QkvIdeal.Facts] [hQkvRefIdeal : Cert.QkvRefIdeal.Facts] [hPre_qkv_scale_codes : Cert.Pre_qkv_scale_codes.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_qkv_scale_codes m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v1_0)) (v1 : (c : Dev Cert.QkvIdeal.nD) → Buf (Elt Ideal) ((c.tc : Thread Cert.QkvIdeal.nD Cert.QkvIdeal.τ).loc Cert.QkvIdeal.main_v2)) (v2 : (c : Dev Cert.QkvIdeal.nD) → Buf (Elt Ideal) ((c.tc : Thread Cert.QkvIdeal.nD Cert.QkvIdeal.τ).loc Cert.QkvIdeal.main_v1_2)) (v3 : (c : Dev Cert.QkvIdeal.nD) → Buf (Elt Ideal) ((c.tc : Thread Cert.QkvIdeal.nD Cert.QkvIdeal.τ).loc Cert.QkvIdeal.main_v1_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1_0) = v0 c
          ∧ r.2.mem ((c.tc : Thread Cert.QkvIdeal.nD Cert.QkvIdeal.τ).loc Cert.QkvIdeal.main_v2) = v1 c
          ∧ r.2.mem ((c.tc : Thread Cert.QkvIdeal.nD Cert.QkvIdeal.τ).loc Cert.QkvIdeal.main_v1_2) = v2 c
          ∧ r.2.mem ((c.tc : Thread Cert.QkvIdeal.nD Cert.QkvIdeal.τ).loc Cert.QkvIdeal.main_v1_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_v0_2) = v2 c
          ∧ r.2.mem ((c.tc : Thread Cert.QkvRefIdeal.nD Cert.QkvRefIdeal.τ).loc Cert.QkvRefIdeal.main_v0_3) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5))

def Claim : Prop :=
  ∃ (hMlp : Cert.Mlp.Facts) (hMlpIdeal : Cert.MlpIdeal.Facts) (hMlpRefIdeal : Cert.MlpRefIdeal.Facts) (hOut : Cert.Out.Facts) (hOutIdeal : Cert.OutIdeal.Facts) (hOutRefIdeal : Cert.OutRefIdeal.Facts) (hQkv : Cert.Qkv.Facts) (hQkvIdeal : Cert.QkvIdeal.Facts) (hQkvRefIdeal : Cert.QkvRefIdeal.Facts) (hPre_scale_codes : Cert.Pre_scale_codes.Facts) (hPre_out_scale_codes : Cert.Pre_out_scale_codes.Facts) (hPre_qkv_scale_codes : Cert.Pre_qkv_scale_codes.Facts),
    quiescent_Mlp (hMlp := hMlp)
    ∧ quiescent_MlpIdeal (hMlpIdeal := hMlpIdeal)
    ∧ quiescent_MlpIdeal_pre_scale_codes (hMlpIdeal := hMlpIdeal) (hPre_scale_codes := hPre_scale_codes)
    ∧ quiescent_MlpRefIdeal (hMlpRefIdeal := hMlpRefIdeal)
    ∧ quiescent_MlpRefIdeal_pre_scale_codes (hMlpRefIdeal := hMlpRefIdeal) (hPre_scale_codes := hPre_scale_codes)
    ∧ quiescent_Out (hOut := hOut)
    ∧ quiescent_OutIdeal (hOutIdeal := hOutIdeal)
    ∧ quiescent_OutIdeal_pre_out_scale_codes (hOutIdeal := hOutIdeal) (hPre_out_scale_codes := hPre_out_scale_codes)
    ∧ quiescent_OutRefIdeal (hOutRefIdeal := hOutRefIdeal)
    ∧ quiescent_OutRefIdeal_pre_out_scale_codes (hOutRefIdeal := hOutRefIdeal) (hPre_out_scale_codes := hPre_out_scale_codes)
    ∧ quiescent_Qkv (hQkv := hQkv)
    ∧ quiescent_QkvIdeal (hQkvIdeal := hQkvIdeal)
    ∧ quiescent_QkvIdeal_pre_qkv_scale_codes (hQkvIdeal := hQkvIdeal) (hPre_qkv_scale_codes := hPre_qkv_scale_codes)
    ∧ quiescent_QkvRefIdeal (hQkvRefIdeal := hQkvRefIdeal)
    ∧ quiescent_QkvRefIdeal_pre_qkv_scale_codes (hQkvRefIdeal := hQkvRefIdeal) (hPre_qkv_scale_codes := hPre_qkv_scale_codes)
    ∧ preserves_Mlp_MlpIdeal
    ∧ algebraic_MlpIdeal_MlpRefIdeal_pre_scale_codes (hMlpIdeal := hMlpIdeal) (hMlpRefIdeal := hMlpRefIdeal) (hPre_scale_codes := hPre_scale_codes)
    ∧ preserves_Out_OutIdeal
    ∧ algebraic_OutIdeal_OutRefIdeal_pre_out_scale_codes (hOutIdeal := hOutIdeal) (hOutRefIdeal := hOutRefIdeal) (hPre_out_scale_codes := hPre_out_scale_codes)
    ∧ preserves_Qkv_QkvIdeal
    ∧ algebraic_QkvIdeal_QkvRefIdeal_pre_qkv_scale_codes (hQkvIdeal := hQkvIdeal) (hQkvRefIdeal := hQkvRefIdeal) (hPre_qkv_scale_codes := hPre_qkv_scale_codes)
-- ==== Pre_out_scale_codes.lean ====
abbrev S2x10x9216x128 : Shape := ⟨4, ![2, 10, 9216, 128]⟩
abbrev S2x9216x2560 : Shape := ⟨3, ![2, 9216, 2560]⟩
abbrev S2x6x2560 : Shape := ⟨3, ![2, 6, 2560]⟩
abbrev S1280x2560 : Shape := ⟨2, ![1280, 2560]⟩
abbrev S40x2560 : Shape := ⟨2, ![40, 2560]⟩
abbrev S_ : Shape := ⟨0, ![]⟩

class Facts : Prop where
  bcast_S_S40x2560 : S_.BroadcastsInDim S40x2560 (![] : Fin 0 → Fin S40x2560.rank)

variable [Facts]

def fn {F : FTy → Type} [FloatOps F] (main_arg0 : FVec F S2x10x9216x128 .f32) (main_arg1 : FVec F S2x9216x2560 .bf16) (main_arg2 : FVec F S2x6x2560 .f32) (main_arg3 : FVec F S1280x2560 .fp8e4m3) (main_arg4 : IVec S40x2560 8) : IVec S40x2560 1 :=
  let main_c : IVec S_ 8 := constantI S_ 8 1#8
  let main_v0 : IVec S40x2560 8 := broadcastInDim S40x2560 ![] bcast_S_S40x2560 main_c
  let main_v1 : IVec S40x2560 1 := cmpi .uge main_arg4 main_v0
  let main_c_0 : IVec S_ 8 := constantI S_ 8 254#8
  let main_v2 : IVec S40x2560 8 := broadcastInDim S40x2560 ![] bcast_S_S40x2560 main_c_0
  let main_v3 : IVec S40x2560 1 := cmpi .ule main_arg4 main_v2
  let main_v4 : IVec S40x2560 1 := andi main_v1 main_v3
  main_v4
-- ==== Pre_qkv_scale_codes.lean ====
abbrev S2x9216x2560 : Shape := ⟨3, ![2, 9216, 2560]⟩
abbrev S2x6x2560 : Shape := ⟨3, ![2, 6, 2560]⟩
abbrev S2560x3840 : Shape := ⟨2, ![2560, 3840]⟩
abbrev S80x3840 : Shape := ⟨2, ![80, 3840]⟩
abbrev S1x128 : Shape := ⟨2, ![1, 128]⟩
abbrev S_ : Shape := ⟨0, ![]⟩

class Facts : Prop where
  bcast_S_S80x3840 : S_.BroadcastsInDim S80x3840 (![] : Fin 0 → Fin S80x3840.rank)

variable [Facts]

def fn {F : FTy → Type} [FloatOps F] (main_arg0 : FVec F S2x9216x2560 .bf16) (main_arg1 : FVec F S2x6x2560 .f32) (main_arg2 : FVec F S2560x3840 .fp8e4m3) (main_arg3 : IVec S80x3840 8) (main_arg4 : FVec F S1x128 .f32) (main_arg5 : FVec F S1x128 .f32) : IVec S80x3840 1 :=
  let main_c : IVec S_ 8 := constantI S_ 8 1#8
  let main_v0 : IVec S80x3840 8 := broadcastInDim S80x3840 ![] bcast_S_S80x3840 main_c
  let main_v1 : IVec S80x3840 1 := cmpi .uge main_arg3 main_v0
  let main_c_0 : IVec S_ 8 := constantI S_ 8 254#8
  let main_v2 : IVec S80x3840 8 := broadcastInDim S80x3840 ![] bcast_S_S80x3840 main_c_0
  let main_v3 : IVec S80x3840 1 := cmpi .ule main_arg3 main_v2
  let main_v4 : IVec S80x3840 1 := andi main_v1 main_v3
  main_v4
-- ==== Pre_scale_codes.lean ====
abbrev S2x9216x2560 : Shape := ⟨3, ![2, 9216, 2560]⟩
abbrev S2x6x2560 : Shape := ⟨3, ![2, 6, 2560]⟩
abbrev S2560x3456 : Shape := ⟨2, ![2560, 3456]⟩
abbrev S80x3456 : Shape := ⟨2, ![80, 3456]⟩
abbrev S3456x2560 : Shape := ⟨2, ![3456, 2560]⟩
abbrev S108x2560 : Shape := ⟨2, ![108, 2560]⟩
abbrev S_ : Shape := ⟨0, ![]⟩
abbrev S276480 : Shape := ⟨1, ![276480]⟩

class Facts : Prop where
  bcast_S_S80x3456 : S_.BroadcastsInDim S80x3456 (![] : Fin 0 → Fin S80x3456.rank)
  shapeCasts_S80x3456_S276480 : S80x3456.ShapeCasts S276480
  bcast_S_S108x2560 : S_.BroadcastsInDim S108x2560 (![] : Fin 0 → Fin S108x2560.rank)
  shapeCasts_S108x2560_S276480 : S108x2560.ShapeCasts S276480

variable [Facts]

def fn_part1 {F : FTy → Type} [FloatOps F] (main_v12 : IVec S276480 1) (main_v17 : IVec S108x2560 1) : IVec S276480 1 :=
  let main_v18 : IVec S276480 1 := shapeCast S276480 main_v17 shapeCasts_S108x2560_S276480
  let main_v19 : IVec S276480 1 := andi main_v12 main_v18
  main_v19

def fn {F : FTy → Type} [FloatOps F] (main_arg0 : FVec F S2x9216x2560 .bf16) (main_arg1 : FVec F S2x9216x2560 .f32) (main_arg2 : FVec F S2x6x2560 .f32) (main_arg3 : FVec F S2560x3456 .fp8e4m3) (main_arg4 : IVec S80x3456 8) (main_arg5 : FVec F S2560x3456 .fp8e4m3) (main_arg6 : IVec S80x3456 8) (main_arg7 : FVec F S3456x2560 .fp8e4m3) (main_arg8 : IVec S108x2560 8) : IVec S276480 1 :=
  let main_c : IVec S_ 8 := constantI S_ 8 1#8
  let main_v0 : IVec S80x3456 8 := broadcastInDim S80x3456 ![] bcast_S_S80x3456 main_c
  let main_v1 : IVec S80x3456 1 := cmpi .uge main_arg4 main_v0
  let main_c_0 : IVec S_ 8 := constantI S_ 8 254#8
  let main_v2 : IVec S80x3456 8 := broadcastInDim S80x3456 ![] bcast_S_S80x3456 main_c_0
  let main_v3 : IVec S80x3456 1 := cmpi .ule main_arg4 main_v2
  let main_v4 : IVec S80x3456 1 := andi main_v1 main_v3
  let main_v5 : IVec S276480 1 := shapeCast S276480 main_v4 shapeCasts_S80x3456_S276480
  let main_c_1 : IVec S_ 8 := constantI S_ 8 1#8
  let main_v6 : IVec S80x3456 8 := broadcastInDim S80x3456 ![] bcast_S_S80x3456 main_c_1
  let main_v7 : IVec S80x3456 1 := cmpi .uge main_arg6 main_v6
  let main_c_2 : IVec S_ 8 := constantI S_ 8 254#8
  let main_v8 : IVec S80x3456 8 := broadcastInDim S80x3456 ![] bcast_S_S80x3456 main_c_2
  let main_v9 : IVec S80x3456 1 := cmpi .ule main_arg6 main_v8
  let main_v10 : IVec S80x3456 1 := andi main_v7 main_v9
  let main_v11 : IVec S276480 1 := shapeCast S276480 main_v10 shapeCasts_S80x3456_S276480
  let main_v12 : IVec S276480 1 := andi main_v5 main_v11
  let main_c_3 : IVec S_ 8 := constantI S_ 8 1#8
  let main_v13 : IVec S108x2560 8 := broadcastInDim S108x2560 ![] bcast_S_S108x2560 main_c_3
  let main_v14 : IVec S108x2560 1 := cmpi .uge main_arg8 main_v13
  let main_c_4 : IVec S_ 8 := constantI S_ 8 254#8
  let main_v15 : IVec S108x2560 8 := broadcastInDim S108x2560 ![] bcast_S_S108x2560 main_c_4
  let main_v16 : IVec S108x2560 1 := cmpi .ule main_arg8 main_v15
  let main_v17 : IVec S108x2560 1 := andi main_v14 main_v16
  fn_part1 (F := F) main_v12 main_v17
-- ==== Mlp.lean ====
abbrev S2x9216x2560 : Shape := ⟨3, ![2, 9216, 2560]⟩
abbrev S2x6x2560 : Shape := ⟨3, ![2, 6, 2560]⟩
abbrev S2560x3456 : Shape := ⟨2, ![2560, 3456]⟩
abbrev S80x3456 : Shape := ⟨2, ![80, 3456]⟩
abbrev S3456x2560 : Shape := ⟨2, ![3456, 2560]⟩
abbrev S108x2560 : Shape := ⟨2, ![108, 2560]⟩
abbrev S2560x6912 : Shape := ⟨2, ![2560, 6912]⟩
abbrev S2560x128 : Shape := ⟨2, ![2560, 128]⟩
abbrev S80x128 : Shape := ⟨2, ![80, 128]⟩
abbrev S2560x256 : Shape := ⟨2, ![2560, 256]⟩
abbrev S32x128 : Shape := ⟨2, ![32, 128]⟩
abbrev S1x128 : Shape := ⟨2, ![1, 128]⟩
abbrev S2x9216x3456 : Shape := ⟨3, ![2, 9216, 3456]⟩
abbrev S2x108x9216 : Shape := ⟨3, ![2, 108, 9216]⟩
abbrev S1x256x2560 : Shape := ⟨3, ![1, 256, 2560]⟩
abbrev S1x256x3456 : Shape := ⟨3, ![1, 256, 3456]⟩
abbrev S1x108x256 : Shape := ⟨3, ![1, 108, 256]⟩
abbrev S256x3456 : Shape := ⟨2, ![256, 3456]⟩
abbrev S256x128 : Shape := ⟨2, ![256, 128]⟩
abbrev S256x2560 : Shape := ⟨2, ![256, 2560]⟩
abbrev S256x256 : Shape := ⟨2, ![256, 256]⟩
abbrev S32x3456 : Shape := ⟨2, ![32, 3456]⟩
abbrev S32x128x1 : Shape := ⟨3, ![32, 128, 1]⟩
abbrev S1x32x128 : Shape := ⟨3, ![1, 32, 128]⟩
abbrev S128x128 : Shape := ⟨2, ![128, 128]⟩
abbrev S108x128 : Shape := ⟨2, ![108, 128]⟩
abbrev S1x108x128 : Shape := ⟨3, ![1, 108, 128]⟩
abbrev S3456x256 : Shape := ⟨2, ![3456, 256]⟩
abbrev S108x256 : Shape := ⟨2, ![108, 256]⟩
abbrev S32x256 : Shape := ⟨2, ![32, 256]⟩
abbrev S1x256 : Shape := ⟨2, ![1, 256]⟩
abbrev S1x512x3456 : Shape := ⟨3, ![1, 512, 3456]⟩
abbrev S1x512x2560 : Shape := ⟨3, ![1, 512, 2560]⟩
abbrev S1x6x2560 : Shape := ⟨3, ![1, 6, 2560]⟩
abbrev S512x3456 : Shape := ⟨2, ![512, 3456]⟩
abbrev S512x256 : Shape := ⟨2, ![512, 256]⟩
abbrev S1x512x256 : Shape := ⟨3, ![1, 512, 256]⟩
abbrev S1x1x256 : Shape := ⟨3, ![1, 1, 256]⟩
abbrev S2x9216x108 : Shape := ⟨3, ![2, 9216, 108]⟩

abbrev nBuf : Space → Nat
  | .hbm => 16
  | .vmem => 36
  | .smem => 0
  | _ => 0

abbrev bufTy : (tb : Table) → Fin (tcTables nBuf tb) → BufTy
  | .hbm, ⟨0, _⟩ => ⟨S2x9216x2560, .bf16⟩
  | .hbm, ⟨1, _⟩ => ⟨S2x9216x2560, .f32⟩
  | .hbm, ⟨2, _⟩ => ⟨S2x6x2560, .f32⟩
  | .hbm, ⟨3, _⟩ => ⟨S2560x3456, .fp8e4m3⟩
  | .hbm, ⟨4, _⟩ => ⟨S80x3456, .i8⟩
  | .hbm, ⟨5, _⟩ => ⟨S2560x3456, .fp8e4m3⟩
  | .hbm, ⟨6, _⟩ => ⟨S80x3456, .i8⟩
  | .hbm, ⟨7, _⟩ => ⟨S3456x2560, .fp8e4m3⟩
  | .hbm, ⟨8, _⟩ => ⟨S108x2560, .i8⟩
  | .hbm, ⟨9, _⟩ => ⟨S2560x6912, .bf16⟩
  | .hbm, ⟨10, _⟩ => ⟨S2x9216x3456, .fp8e4m3⟩
  | .hbm, ⟨11, _⟩ => ⟨S2x108x9216, .f32⟩
  | .hbm, ⟨12, _⟩ => ⟨S2x9216x3456, .bf16⟩
  | .hbm, ⟨13, _⟩ => ⟨S3456x2560, .bf16⟩
  | .hbm, ⟨14, _⟩ => ⟨S2x9216x2560, .bf16⟩
  | .hbm, ⟨15, _⟩ => ⟨S2x9216x108, .f32⟩
  | .local _ .vmem, ⟨0, _⟩ => ⟨S2560x128, .fp8e4m3⟩
  | .local _ .vmem, ⟨1, _⟩ => ⟨S2560x128, .fp8e4m3⟩
  | .local _ .vmem, ⟨2, _⟩ => ⟨S80x128, .i8⟩
  | .local _ .vmem, ⟨3, _⟩ => ⟨S80x128, .i8⟩
  | .local _ .vmem, ⟨4, _⟩ => ⟨S2560x128, .fp8e4m3⟩
  | .local _ .vmem, ⟨5, _⟩ => ⟨S2560x128, .fp8e4m3⟩
  | .local _ .vmem, ⟨6, _⟩ => ⟨S80x128, .i8⟩
  | .local _ .vmem, ⟨7, _⟩ => ⟨S80x128, .i8⟩
  | .local _ .vmem, ⟨8, _⟩ => ⟨S2560x256, .bf16⟩
  | .local _ .vmem, ⟨9, _⟩ => ⟨S2560x256, .bf16⟩
  | .local _ .vmem, ⟨10, _⟩ => ⟨S1x256x2560, .bf16⟩
  | .local _ .vmem, ⟨11, _⟩ => ⟨S1x256x2560, .bf16⟩
  | .local _ .vmem, ⟨12, _⟩ => ⟨S2560x6912, .bf16⟩
  | .local _ .vmem, ⟨13, _⟩ => ⟨S1x256x3456, .fp8e4m3⟩
  | .local _ .vmem, ⟨14, _⟩ => ⟨S1x256x3456, .fp8e4m3⟩
  | .local _ .vmem, ⟨15, _⟩ => ⟨S1x108x256, .f32⟩
  | .local _ .vmem, ⟨16, _⟩ => ⟨S1x108x256, .f32⟩
  | .local _ .vmem, ⟨17, _⟩ => ⟨S1x256x3456, .bf16⟩
  | .local _ .vmem, ⟨18, _⟩ => ⟨S1x256x3456, .bf16⟩
  | .local _ .vmem, ⟨19, _⟩ => ⟨S256x3456, .f32⟩
  | .local _ .vmem, ⟨20, _⟩ => ⟨S256x128, .f32⟩
  | .local _ .vmem, ⟨21, _⟩ => ⟨S3456x256, .fp8e4m3⟩
  | .local _ .vmem, ⟨22, _⟩ => ⟨S3456x256, .fp8e4m3⟩
  | .local _ .vmem, ⟨23, _⟩ => ⟨S108x256, .i8⟩
  | .local _ .vmem, ⟨24, _⟩ => ⟨S108x256, .i8⟩
  | .local _ .vmem, ⟨25, _⟩ => ⟨S3456x256, .bf16⟩
  | .local _ .vmem, ⟨26, _⟩ => ⟨S3456x256, .bf16⟩
  | .local _ .vmem, ⟨27, _⟩ => ⟨S1x512x3456, .bf16⟩
  | .local _ .vmem, ⟨28, _⟩ => ⟨S1x512x3456, .bf16⟩
  | .local _ .vmem, ⟨29, _⟩ => ⟨S1x512x2560, .f32⟩
  | .local _ .vmem, ⟨30, _⟩ => ⟨S1x512x2560, .f32⟩
  | .local _ .vmem, ⟨31, _⟩ => ⟨S1x6x2560, .f32⟩
  | .local _ .vmem, ⟨32, _⟩ => ⟨S1x6x2560, .f32⟩
  | .local _ .vmem, ⟨33, _⟩ => ⟨S3456x2560, .bf16⟩
  | .local _ .vmem, ⟨34, _⟩ => ⟨S1x512x2560, .bf16⟩
  | .local _ .vmem, ⟨35, _⟩ => ⟨S1x512x2560, .bf16⟩
  | _, _ => ⟨S2x9216x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc1_scratch1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2560x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2560x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![72], ![false]⟩

@[reducible] def k1_t1_loop : Scf.Loop 32 :=
  let c0_i32 : BitVec 32 := 0#32
  let c8_i32 : BitVec 32 := 8#32
  let v351 : BitVec 32 := Scalar.addi c0_i32 c8_i32
  let c1_i32 : BitVec 32 := 1#32
  ⟨c0_i32, v351, c1_i32⟩
def k1_mult1 (k1_t1 : Fin k1_t1_loop.trips) : BitVec 32 :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  v364
def k1_off1 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v366 : Index := Scalar.indexCast v365
  let c0_186 : Index := 0#32
  ![v366.toNat, 0]
def k1_off2 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1073 : Index := Scalar.indexCast v365
  let c0_342 : Index := 0#32
  ![v1073.toNat, 0]
def k1_off3 (k1_t1 : Fin k1_t1_loop.trips) : Fin 3 → Nat :=
  let c0_i32_339 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1073 : Index := Scalar.indexCast v365
  let c0_i32_341 : BitVec 32 := 0#32
  ![0, v1073.toNat, 0]
def k1_off4 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1114 : Index := Scalar.indexCast v365
  let c128_362 : Index := 128#32
  ![v1114.toNat, 128]
def k1_off5 (k1_t1 : Fin k1_t1_loop.trips) : Fin 3 → Nat :=
  let c0_i32_359 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1114 : Index := Scalar.indexCast v365
  ![0, v1114.toNat, 128]
def k1_off6 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1155 : Index := Scalar.indexCast v365
  let c256_382 : Index := 256#32
  ![v1155.toNat, 256]
def k1_off7 (k1_t1 : Fin k1_t1_loop.trips) : Fin 3 → Nat :=
  let c0_i32_379 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1155 : Index := Scalar.indexCast v365
  ![0, v1155.toNat, 256]
def k1_off8 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1196 : Index := Scalar.indexCast v365
  let c384_401 : Index := 384#32
  ![v1196.toNat, 384]
def k1_off9 (k1_t1 : Fin k1_t1_loop.trips) : Fin 3 → Nat :=
  let c0_i32_398 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1196 : Index := Scalar.indexCast v365
  ![0, v1196.toNat, 384]
def k1_off10 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1237 : Index := Scalar.indexCast v365
  let c512_421 : Index := 512#32
  ![v1237.toNat, 512]
def k1_off11 (k1_t1 : Fin k1_t1_loop.trips) : Fin 3 → Nat :=
  let c0_i32_418 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1237 : Index := Scalar.indexCast v365
  ![0, v1237.toNat, 512]
def k1_off12 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1278 : Index := Scalar.indexCast v365
  let c640_440 : Index := 640#32
  ![v1278.toNat, 640]
def k1_off13 (k1_t1 : Fin k1_t1_loop.trips) : Fin 3 → Nat :=
  let c0_i32_437 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1278 : Index := Scalar.indexCast v365
  ![0, v1278.toNat, 640]
def k1_off14 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1319 : Index := Scalar.indexCast v365
  let c768_459 : Index := 768#32
  ![v1319.toNat, 768]
def k1_off15 (k1_t1 : Fin k1_t1_loop.trips) : Fin 3 → Nat :=
  let c0_i32_456 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1319 : Index := Scalar.indexCast v365
  ![0, v1319.toNat, 768]
def k1_off16 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1360 : Index := Scalar.indexCast v365
  let c896_478 : Index := 896#32
  ![v1360.toNat, 896]
def k1_off17 (k1_t1 : Fin k1_t1_loop.trips) : Fin 3 → Nat :=
  let c0_i32_475 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1360 : Index := Scalar.indexCast v365
  ![0, v1360.toNat, 896]
def k1_off18 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1401 : Index := Scalar.indexCast v365
  let c1024_498 : Index := 1024#32
  ![v1401.toNat, 1024]
def k1_off19 (k1_t1 : Fin k1_t1_loop.trips) : Fin 3 → Nat :=
  let c0_i32_495 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1401 : Index := Scalar.indexCast v365
  ![0, v1401.toNat, 1024]
def k1_off20 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1442 : Index := Scalar.indexCast v365
  let c1152_517 : Index := 1152#32
  ![v1442.toNat, 1152]
def k1_off21 (k1_t1 : Fin k1_t1_loop.trips) : Fin 3 → Nat :=
  let c0_i32_514 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1442 : Index := Scalar.indexCast v365
  ![0, v1442.toNat, 1152]
def k1_off22 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1483 : Index := Scalar.indexCast v365
  let c1280_536 : Index := 1280#32
  ![v1483.toNat, 1280]
def k1_off23 (k1_t1 : Fin k1_t1_loop.trips) : Fin 3 → Nat :=
  let c0_i32_533 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1483 : Index := Scalar.indexCast v365
  ![0, v1483.toNat, 1280]
def k1_off24 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1524 : Index := Scalar.indexCast v365
  let c1408_555 : Index := 1408#32
  ![v1524.toNat, 1408]
def k1_off25 (k1_t1 : Fin k1_t1_loop.trips) : Fin 3 → Nat :=
  let c0_i32_552 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1524 : Index := Scalar.indexCast v365
  ![0, v1524.toNat, 1408]
def k1_off26 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1565 : Index := Scalar.indexCast v365
  let c1536_574 : Index := 1536#32
  ![v1565.toNat, 1536]
def k1_off27 (k1_t1 : Fin k1_t1_loop.trips) : Fin 3 → Nat :=
  let c0_i32_571 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1565 : Index := Scalar.indexCast v365
  ![0, v1565.toNat, 1536]
def k1_off28 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1606 : Index := Scalar.indexCast v365
  let c1664_593 : Index := 1664#32
  ![v1606.toNat, 1664]
def k1_off29 (k1_t1 : Fin k1_t1_loop.trips) : Fin 3 → Nat :=
  let c0_i32_590 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1606 : Index := Scalar.indexCast v365
  ![0, v1606.toNat, 1664]
def k1_off30 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1647 : Index := Scalar.indexCast v365
  let c1792_612 : Index := 1792#32
  ![v1647.toNat, 1792]
def k1_off31 (k1_t1 : Fin k1_t1_loop.trips) : Fin 3 → Nat :=
  let c0_i32_609 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1647 : Index := Scalar.indexCast v365
  ![0, v1647.toNat, 1792]
def k1_off32 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1688 : Index := Scalar.indexCast v365
  let c1920_631 : Index := 1920#32
  ![v1688.toNat, 1920]
def k1_off33 (k1_t1 : Fin k1_t1_loop.trips) : Fin 3 → Nat :=
  let c0_i32_628 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1688 : Index := Scalar.indexCast v365
  ![0, v1688.toNat, 1920]
def k1_off34 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1729 : Index := Scalar.indexCast v365
  let c2048_651 : Index := 2048#32
  ![v1729.toNat, 2048]
def k1_off35 (k1_t1 : Fin k1_t1_loop.trips) : Fin 3 → Nat :=
  let c0_i32_648 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1729 : Index := Scalar.indexCast v365
  ![0, v1729.toNat, 2048]
def k1_off36 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1770 : Index := Scalar.indexCast v365
  let c2176_670 : Index := 2176#32
  ![v1770.toNat, 2176]
def k1_off37 (k1_t1 : Fin k1_t1_loop.trips) : Fin 3 → Nat :=
  let c0_i32_667 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1770 : Index := Scalar.indexCast v365
  ![0, v1770.toNat, 2176]
def k1_off38 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1811 : Index := Scalar.indexCast v365
  let c2304_689 : Index := 2304#32
  ![v1811.toNat, 2304]
def k1_off39 (k1_t1 : Fin k1_t1_loop.trips) : Fin 3 → Nat :=
  let c0_i32_686 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1811 : Index := Scalar.indexCast v365
  ![0, v1811.toNat, 2304]
def k1_off40 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1852 : Index := Scalar.indexCast v365
  let c2432_708 : Index := 2432#32
  ![v1852.toNat, 2432]
def k1_off41 (k1_t1 : Fin k1_t1_loop.trips) : Fin 3 → Nat :=
  let c0_i32_705 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1852 : Index := Scalar.indexCast v365
  ![0, v1852.toNat, 2432]
def k1_off42 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1893 : Index := Scalar.indexCast v365
  let c2560_727 : Index := 2560#32
  ![v1893.toNat, 2560]
def k1_off43 (k1_t1 : Fin k1_t1_loop.trips) : Fin 3 → Nat :=
  let c0_i32_724 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1893 : Index := Scalar.indexCast v365
  ![0, v1893.toNat, 2560]
def k1_off44 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1934 : Index := Scalar.indexCast v365
  let c2688_746 : Index := 2688#32
  ![v1934.toNat, 2688]
def k1_off45 (k1_t1 : Fin k1_t1_loop.trips) : Fin 3 → Nat :=
  let c0_i32_743 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1934 : Index := Scalar.indexCast v365
  ![0, v1934.toNat, 2688]
def k1_off46 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1975 : Index := Scalar.indexCast v365
  let c2816_765 : Index := 2816#32
  ![v1975.toNat, 2816]
def k1_off47 (k1_t1 : Fin k1_t1_loop.trips) : Fin 3 → Nat :=
  let c0_i32_762 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v1975 : Index := Scalar.indexCast v365
  ![0, v1975.toNat, 2816]
def k1_off48 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v2016 : Index := Scalar.indexCast v365
  let c2944_784 : Index := 2944#32
  ![v2016.toNat, 2944]
def k1_off49 (k1_t1 : Fin k1_t1_loop.trips) : Fin 3 → Nat :=
  let c0_i32_781 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v2016 : Index := Scalar.indexCast v365
  ![0, v2016.toNat, 2944]
def k1_off50 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v2057 : Index := Scalar.indexCast v365
  let c3072_803 : Index := 3072#32
  ![v2057.toNat, 3072]
def k1_off51 (k1_t1 : Fin k1_t1_loop.trips) : Fin 3 → Nat :=
  let c0_i32_800 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v2057 : Index := Scalar.indexCast v365
  ![0, v2057.toNat, 3072]
def k1_off52 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v2098 : Index := Scalar.indexCast v365
  let c3200_822 : Index := 3200#32
  ![v2098.toNat, 3200]
def k1_off53 (k1_t1 : Fin k1_t1_loop.trips) : Fin 3 → Nat :=
  let c0_i32_819 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v2098 : Index := Scalar.indexCast v365
  ![0, v2098.toNat, 3200]
def k1_off54 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v2139 : Index := Scalar.indexCast v365
  let c3328_841 : Index := 3328#32
  ![v2139.toNat, 3328]
def k1_off55 (k1_t1 : Fin k1_t1_loop.trips) : Fin 3 → Nat :=
  let c0_i32_838 : BitVec 32 := 0#32
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v2139 : Index := Scalar.indexCast v365
  ![0, v2139.toNat, 3328]
def k1_off56 (k1_t1 : Fin k1_t1_loop.trips) : Fin 2 → Nat :=
  let c0_i32 : BitVec 32 := 0#32
  let c1_i32 : BitVec 32 := 1#32
  let arg8 : BitVec 32 := Scf.iv c0_i32 c1_i32 k1_t1
  let c32_i32 : BitVec 32 := 32#32
  let v364 : BitVec 32 := Scalar.muli arg8 c32_i32
  let v365 : BitVec 32 := v364
  let v2211 : Index := Scalar.indexCast v365
  let c0_868 : Index := 0#32
  ![v2211.toNat, 0]
def cc1_transform_0 (i : grid1.Coords) : Fin 3 → Nat :=
  let arg0 : BitVec 32 := BitVec.ofNat 32 (i 0).val
  let c36_i32 : BitVec 32 := 36#32
  let v0 : BitVec 32 := Scalar.divsi arg0 c36_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c36_i32 c0_i32_1
  let v7 : BitVec 32 := Scalar.extui v6
  let c0_i32_2 : BitVec 32 := 0#32
  let v8 : BitVec 1 := Scalar.cmpi .slt c36_i32 c0_i32_2
  let v9 : BitVec 32 := Scalar.extui v8
  let v10 : BitVec 32 := Scalar.subi v7 v9
  let v11 : BitVec 1 := Scalar.cmpi .ne v5 v10
  let v12 : BitVec 32 := Scalar.remsi arg0 c36_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c36_i32_4 : BitVec 32 := 36#32
  let c0_i32_5 : BitVec 32 := 0#32
  let v17 : BitVec 1 := Scalar.cmpi .eq c36_i32_4 c0_i32_5
  let c1_i32_6 : BitVec 32 := 1#32
  let v18 : BitVec 32 := Scalar.select v17 c1_i32_6 c36_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c36_i32 : BitVec 32 := 36#32
  let v0 : BitVec 32 := Scalar.divsi arg0 c36_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c36_i32 c0_i32_1
  let v7 : BitVec 32 := Scalar.extui v6
  let c0_i32_2 : BitVec 32 := 0#32
  let v8 : BitVec 1 := Scalar.cmpi .slt c36_i32 c0_i32_2
  let v9 : BitVec 32 := Scalar.extui v8
  let v10 : BitVec 32 := Scalar.subi v7 v9
  let v11 : BitVec 1 := Scalar.cmpi .ne v5 v10
  let v12 : BitVec 32 := Scalar.remsi arg0 c36_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c36_i32_4 : BitVec 32 := 36#32
  let c0_i32_5 : BitVec 32 := 0#32
  let v17 : BitVec 1 := Scalar.cmpi .eq c36_i32_4 c0_i32_5
  let c1_i32_6 : BitVec 32 := 1#32
  let v18 : BitVec 32 := Scalar.select v17 c1_i32_6 c36_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_3 (i : grid1.Coords) : Fin 3 → Nat :=
  let arg0 : BitVec 32 := BitVec.ofNat 32 (i 0).val
  let c36_i32 : BitVec 32 := 36#32
  let v0 : BitVec 32 := Scalar.divsi arg0 c36_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c36_i32 c0_i32_1
  let v7 : BitVec 32 := Scalar.extui v6
  let c0_i32_2 : BitVec 32 := 0#32
  let v8 : BitVec 1 := Scalar.cmpi .slt c36_i32 c0_i32_2
  let v9 : BitVec 32 := Scalar.extui v8
  let v10 : BitVec 32 := Scalar.subi v7 v9
  let v11 : BitVec 1 := Scalar.cmpi .ne v5 v10
  let v12 : BitVec 32 := Scalar.remsi arg0 c36_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c36_i32_4 : BitVec 32 := 36#32
  let c0_i32_5 : BitVec 32 := 0#32
  let v17 : BitVec 1 := Scalar.cmpi .eq c36_i32_4 c0_i32_5
  let c1_i32_6 : BitVec 32 := 1#32
  let v18 : BitVec 32 := Scalar.select v17 c1_i32_6 c36_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_4 (i : grid1.Coords) : Fin 3 → Nat :=
  let arg0 : BitVec 32 := BitVec.ofNat 32 (i 0).val
  let c36_i32 : BitVec 32 := 36#32
  let v0 : BitVec 32 := Scalar.divsi arg0 c36_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c36_i32 c0_i32_1
  let v7 : BitVec 32 := Scalar.extui v6
  let c0_i32_2 : BitVec 32 := 0#32
  let v8 : BitVec 1 := Scalar.cmpi .slt c36_i32 c0_i32_2
  let v9 : BitVec 32 := Scalar.extui v8
  let v10 : BitVec 32 := Scalar.subi v7 v9
  let v11 : BitVec 1 := Scalar.cmpi .ne v5 v10
  let v12 : BitVec 32 := Scalar.remsi arg0 c36_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c36_i32_4 : BitVec 32 := 36#32
  let c0_i32_5 : BitVec 32 := 0#32
  let v17 : BitVec 1 := Scalar.cmpi .eq c36_i32_4 c0_i32_5
  let c1_i32_6 : BitVec 32 := 1#32
  let v18 : BitVec 32 := Scalar.select v17 c1_i32_6 c36_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage1_0 : Fin 2 → Memref sig .tc .vmem S1x256x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2560x6912 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x256x3456 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x108x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x3456 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S3456x256 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S108x256 .i8 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3456x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![36], ![false]⟩

def cc3_transform_0 (i : grid3.Coords) : Fin 3 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c18_i32_4 : BitVec 32 := 18#32
  let c0_i32_5 : BitVec 32 := 0#32
  let v17 : BitVec 1 := Scalar.cmpi .eq c18_i32_4 c0_i32_5
  let c1_i32_6 : BitVec 32 := 1#32
  let v18 : BitVec 32 := Scalar.select v17 c1_i32_6 c18_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc3_transform_1 (i : grid3.Coords) : Fin 3 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c18_i32_4 : BitVec 32 := 18#32
  let c0_i32_5 : BitVec 32 := 0#32
  let v17 : BitVec 1 := Scalar.cmpi .eq c18_i32_4 c0_i32_5
  let c1_i32_6 : BitVec 32 := 1#32
  let v18 : BitVec 32 := Scalar.select v17 c1_i32_6 c18_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc3_transform_2 (i : grid3.Coords) : Fin 3 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c18_i32_4 : BitVec 32 := 18#32
  let c0_i32_5 : BitVec 32 := 0#32
  let v17 : BitVec 1 := Scalar.cmpi .eq c18_i32_4 c0_i32_5
  let c1_i32_6 : BitVec 32 := 1#32
  let v18 : BitVec 32 := Scalar.select v17 c1_i32_6 c18_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage3_0 : Fin 2 → Memref sig .tc .vmem S1x512x3456 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x512x2560 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x6x2560 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S3456x2560 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x512x2560 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== MlpIdeal.lean ====
variable {F : FTy → Type} [FloatOps F] [Named F]
def κ : String → Option EReal := fun
  | "log_two" => some ((Real.log 2 : ℝ) : EReal)
  | _ => none
-- ==== MlpRefIdeal.lean ====
abbrev S2x9216x2560 : Shape := ⟨3, ![2, 9216, 2560]⟩
abbrev S2x6x2560 : Shape := ⟨3, ![2, 6, 2560]⟩
abbrev S2560x3456 : Shape := ⟨2, ![2560, 3456]⟩
abbrev S80x3456 : Shape := ⟨2, ![80, 3456]⟩
abbrev S3456x2560 : Shape := ⟨2, ![3456, 2560]⟩
abbrev S108x2560 : Shape := ⟨2, ![108, 2560]⟩
abbrev S2x9216x3456 : Shape := ⟨3, ![2, 9216, 3456]⟩
abbrev S2x9216x108 : Shape := ⟨3, ![2, 9216, 108]⟩
abbrev S80x32x3456 : Shape := ⟨3, ![80, 32, 3456]⟩
abbrev S80x1x3456 : Shape := ⟨3, ![80, 1, 3456]⟩
abbrev S2x9216x108x32 : Shape := ⟨4, ![2, 9216, 108, 32]⟩
abbrev S2x9216x108x1 : Shape := ⟨4, ![2, 9216, 108, 1]⟩
abbrev S108x32x2560 : Shape := ⟨3, ![108, 32, 2560]⟩
abbrev S108x1x2560 : Shape := ⟨3, ![108, 1, 2560]⟩
abbrev S2x1x2560 : Shape := ⟨3, ![2, 1, 2560]⟩
abbrev S2x2560 : Shape := ⟨2, ![2, 2560]⟩

abbrev nBuf : Space → Nat
  | .hbm => 12
  | .vmem => 12
  | .smem => 0
  | _ => 0

abbrev bufTy : (tb : Table) → Fin (tcTables nBuf tb) → BufTy
  | .hbm, ⟨0, _⟩ => ⟨S2x9216x2560, .bf16⟩
  | .hbm, ⟨1, _⟩ => ⟨S2x9216x2560, .f32⟩
  | .hbm, ⟨2, _⟩ => ⟨S2x6x2560, .f32⟩
  | .hbm, ⟨3, _⟩ => ⟨S2560x3456, .fp8e4m3⟩
  | .hbm, ⟨4, _⟩ => ⟨S80x3456, .i8⟩
  | .hbm, ⟨5, _⟩ => ⟨S2560x3456, .fp8e4m3⟩
  | .hbm, ⟨6, _⟩ => ⟨S80x3456, .i8⟩
  | .hbm, ⟨7, _⟩ => ⟨S3456x2560, .fp8e4m3⟩
  | .hbm, ⟨8, _⟩ => ⟨S108x2560, .i8⟩
  | .hbm, ⟨9, _⟩ => ⟨S2x9216x2560, .bf16⟩
  | .hbm, ⟨10, _⟩ => ⟨S2x9216x3456, .fp8e4m3⟩
  | .hbm, ⟨11, _⟩ => ⟨S2x9216x108, .f32⟩
  | .local _ .vmem, ⟨0, _⟩ => ⟨S2x9216x2560, .bf16⟩
  | .local _ .vmem, ⟨1, _⟩ => ⟨S2x9216x2560, .f32⟩
  | .local _ .vmem, ⟨2, _⟩ => ⟨S2x6x2560, .f32⟩
  | .local _ .vmem, ⟨3, _⟩ => ⟨S2560x3456, .fp8e4m3⟩
  | .local _ .vmem, ⟨4, _⟩ => ⟨S80x3456, .i8⟩
  | .local _ .vmem, ⟨5, _⟩ => ⟨S2560x3456, .fp8e4m3⟩
  | .local _ .vmem, ⟨6, _⟩ => ⟨S80x3456, .i8⟩
  | .local _ .vmem, ⟨7, _⟩ => ⟨S3456x2560, .fp8e4m3⟩
  | .local _ .vmem, ⟨8, _⟩ => ⟨S108x2560, .i8⟩
  | .local _ .vmem, ⟨9, _⟩ => ⟨S2x9216x2560, .bf16⟩
  | .local _ .vmem, ⟨10, _⟩ => ⟨S2x9216x3456, .fp8e4m3⟩
  | .local _ .vmem, ⟨11, _⟩ => ⟨S2x9216x108, .f32⟩
  | _, _ => ⟨S2x9216x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "log_two" => some ((Real.log 2 : ℝ) : EReal)
  | _ => none

abbrev grid0 : Pipeline.Grid := .none

abbrev stage0_0 : Fin 1 → Memref sig .tc .vmem S2x9216x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x9216x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x6x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x3456 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S80x3456 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2560x3456 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S80x3456 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3456x2560 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S108x2560 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x9216x2560 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x9216x3456 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x9216x108 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Out.lean ====
abbrev S2x10x9216x128 : Shape := ⟨4, ![2, 10, 9216, 128]⟩
abbrev S2x9216x2560 : Shape := ⟨3, ![2, 9216, 2560]⟩
abbrev S2x6x2560 : Shape := ⟨3, ![2, 6, 2560]⟩
abbrev S1280x2560 : Shape := ⟨2, ![1280, 2560]⟩
abbrev S40x2560 : Shape := ⟨2, ![40, 2560]⟩
abbrev S1280x256 : Shape := ⟨2, ![1280, 256]⟩
abbrev S40x256 : Shape := ⟨2, ![40, 256]⟩
abbrev S32x256 : Shape := ⟨2, ![32, 256]⟩
abbrev S1x256 : Shape := ⟨2, ![1, 256]⟩
abbrev S2x9216x1280 : Shape := ⟨3, ![2, 9216, 1280]⟩
abbrev S2x40x9216 : Shape := ⟨3, ![2, 40, 9216]⟩
abbrev S2x80x9216 : Shape := ⟨3, ![2, 80, 9216]⟩
abbrev S1x10x512x128 : Shape := ⟨4, ![1, 10, 512, 128]⟩
abbrev S1x512x2560 : Shape := ⟨3, ![1, 512, 2560]⟩
abbrev S1x6x2560 : Shape := ⟨3, ![1, 6, 2560]⟩
abbrev S1x512x1280 : Shape := ⟨3, ![1, 512, 1280]⟩
abbrev S1x40x512 : Shape := ⟨3, ![1, 40, 512]⟩
abbrev S1x80x512 : Shape := ⟨3, ![1, 80, 512]⟩
abbrev S512x1280 : Shape := ⟨2, ![512, 1280]⟩
abbrev S512x128 : Shape := ⟨2, ![512, 128]⟩
abbrev S1x1x32x128 : Shape := ⟨4, ![1, 1, 32, 128]⟩
abbrev S32x128 : Shape := ⟨2, ![32, 128]⟩
abbrev S1x32x128 : Shape := ⟨3, ![1, 32, 128]⟩
abbrev S32x128x1 : Shape := ⟨3, ![32, 128, 1]⟩
abbrev S128x128 : Shape := ⟨2, ![128, 128]⟩
abbrev S40x128 : Shape := ⟨2, ![40, 128]⟩
abbrev S1x40x128 : Shape := ⟨3, ![1, 40, 128]⟩
abbrev S512x256 : Shape := ⟨2, ![512, 256]⟩
abbrev S1x512x256 : Shape := ⟨3, ![1, 512, 256]⟩
abbrev S1x1x256 : Shape := ⟨3, ![1, 1, 256]⟩
abbrev S1x1x2560 : Shape := ⟨3, ![1, 1, 2560]⟩
abbrev S1x2560 : Shape := ⟨2, ![1, 2560]⟩
abbrev S1x32x2560 : Shape := ⟨3, ![1, 32, 2560]⟩
abbrev S32x2560 : Shape := ⟨2, ![32, 2560]⟩
abbrev S32 : Shape := ⟨1, ![32]⟩
abbrev S32x1 : Shape := ⟨2, ![32, 1]⟩
abbrev S512x2560 : Shape := ⟨2, ![512, 2560]⟩
abbrev S80x128 : Shape := ⟨2, ![80, 128]⟩
abbrev S1x80x128 : Shape := ⟨3, ![1, 80, 128]⟩
abbrev S2x9216x40 : Shape := ⟨3, ![2, 9216, 40]⟩
abbrev S2x9216x80 : Shape := ⟨3, ![2, 9216, 80]⟩

abbrev nBuf : Space → Nat
  | .hbm => 15
  | .vmem => 30
  | .smem => 0
  | _ => 0

abbrev bufTy : (tb : Table) → Fin (tcTables nBuf tb) → BufTy
  | .hbm, ⟨0, _⟩ => ⟨S2x10x9216x128, .f32⟩
  | .hbm, ⟨1, _⟩ => ⟨S2x9216x2560, .bf16⟩
  | .hbm, ⟨2, _⟩ => ⟨S2x6x2560, .f32⟩
  | .hbm, ⟨3, _⟩ => ⟨S1280x2560, .fp8e4m3⟩
  | .hbm, ⟨4, _⟩ => ⟨S40x2560, .i8⟩
  | .hbm, ⟨5, _⟩ => ⟨S1280x2560, .bf16⟩
  | .hbm, ⟨6, _⟩ => ⟨S2x9216x1280, .bf16⟩
  | .hbm, ⟨7, _⟩ => ⟨S2x9216x1280, .fp8e4m3⟩
  | .hbm, ⟨8, _⟩ => ⟨S2x40x9216, .f32⟩
  | .hbm, ⟨9, _⟩ => ⟨S2x9216x2560, .f32⟩
  | .hbm, ⟨10, _⟩ => ⟨S2x9216x2560, .fp8e4m3⟩
  | .hbm, ⟨11, _⟩ => ⟨S2x80x9216, .f32⟩
  | .hbm, ⟨12, _⟩ => ⟨S2x9216x2560, .bf16⟩
  | .hbm, ⟨13, _⟩ => ⟨S2x9216x40, .f32⟩
  | .hbm, ⟨14, _⟩ => ⟨S2x9216x80, .f32⟩
  | .local _ .vmem, ⟨0, _⟩ => ⟨S1280x256, .fp8e4m3⟩
  | .local _ .vmem, ⟨1, _⟩ => ⟨S1280x256, .fp8e4m3⟩
  | .local _ .vmem, ⟨2, _⟩ => ⟨S40x256, .i8⟩
  | .local _ .vmem, ⟨3, _⟩ => ⟨S40x256, .i8⟩
  | .local _ .vmem, ⟨4, _⟩ => ⟨S1280x256, .bf16⟩
  | .local _ .vmem, ⟨5, _⟩ => ⟨S1280x256, .bf16⟩
  | .local _ .vmem, ⟨6, _⟩ => ⟨S1x10x512x128, .f32⟩
  | .local _ .vmem, ⟨7, _⟩ => ⟨S1x10x512x128, .f32⟩
  | .local _ .vmem, ⟨8, _⟩ => ⟨S1x512x2560, .bf16⟩
  | .local _ .vmem, ⟨9, _⟩ => ⟨S1x512x2560, .bf16⟩
  | .local _ .vmem, ⟨10, _⟩ => ⟨S1x6x2560, .f32⟩
  | .local _ .vmem, ⟨11, _⟩ => ⟨S1x6x2560, .f32⟩
  | .local _ .vmem, ⟨12, _⟩ => ⟨S1280x2560, .bf16⟩
  | .local _ .vmem, ⟨13, _⟩ => ⟨S1x512x1280, .bf16⟩
  | .local _ .vmem, ⟨14, _⟩ => ⟨S1x512x1280, .bf16⟩
  | .local _ .vmem, ⟨15, _⟩ => ⟨S1x512x1280, .fp8e4m3⟩
  | .local _ .vmem, ⟨16, _⟩ => ⟨S1x512x1280, .fp8e4m3⟩
  | .local _ .vmem, ⟨17, _⟩ => ⟨S1x40x512, .f32⟩
  | .local _ .vmem, ⟨18, _⟩ => ⟨S1x40x512, .f32⟩
  | .local _ .vmem, ⟨19, _⟩ => ⟨S1x512x2560, .f32⟩
  | .local _ .vmem, ⟨20, _⟩ => ⟨S1x512x2560, .f32⟩
  | .local _ .vmem, ⟨21, _⟩ => ⟨S1x512x2560, .fp8e4m3⟩
  | .local _ .vmem, ⟨22, _⟩ => ⟨S1x512x2560, .fp8e4m3⟩
  | .local _ .vmem, ⟨23, _⟩ => ⟨S1x80x512, .f32⟩
  | .local _ .vmem, ⟨24, _⟩ => ⟨S1x80x512, .f32⟩
  | .local _ .vmem, ⟨25, _⟩ => ⟨S1x512x2560, .bf16⟩
  | .local _ .vmem, ⟨26, _⟩ => ⟨S1x512x2560, .bf16⟩
  | .local _ .vmem, ⟨27, _⟩ => ⟨S512x1280, .bf16⟩
  | .local _ .vmem, ⟨28, _⟩ => ⟨S512x128, .f32⟩
  | .local _ .vmem, ⟨29, _⟩ => ⟨S512x128, .f32⟩
  | _, _ => ⟨S2x10x9216x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev main_v1_6 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc1_scratch0 : Ref sig .tc := ⟨.vmem, 27, rfl⟩
abbrev cc1_scratch1 : Ref sig .tc := ⟨.vmem, 28, rfl⟩
abbrev cc1_scratch2 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1280x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S40x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![36], ![false]⟩

@[reducible] def k1_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k1_mult1 (k1_t1 : Fin k1_t1_loop.trips) : BitVec 32 :=
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  v204
def k1_off1 (k1_t1 : Fin k1_t1_loop.trips) : Fin 4 → Nat :=
  let c0_177 : Index := 0#32
  let c0_178 : Index := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v206 : Index := Scalar.indexCast v205
  let c0_179 : Index := 0#32
  ![0, 0, v206.toNat, 0]
def k1_off2 (k1_t1 : Fin k1_t1_loop.trips) : Fin 4 → Nat :=
  let c0_180 : Index := 0#32
  let c1 : Index := 1#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v209 : Index := Scalar.indexCast v205
  let c0_181 : Index := 0#32
  ![0, 1, v209.toNat, 0]
def k1_off3 (k1_t1 : Fin k1_t1_loop.trips) : Fin 4 → Nat :=
  let c0_182 : Index := 0#32
  let c2_183 : Index := 2#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v212 : Index := Scalar.indexCast v205
  let c0_184 : Index := 0#32
  ![0, 2, v212.toNat, 0]
def k1_off4 (k1_t1 : Fin k1_t1_loop.trips) : Fin 4 → Nat :=
  let c0_185 : Index := 0#32
  let c3_186 : Index := 3#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v215 : Index := Scalar.indexCast v205
  let c0_187 : Index := 0#32
  ![0, 3, v215.toNat, 0]
def k1_off5 (k1_t1 : Fin k1_t1_loop.trips) : Fin 4 → Nat :=
  let c0_188 : Index := 0#32
  let c4_189 : Index := 4#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v218 : Index := Scalar.indexCast v205
  let c0_190 : Index := 0#32
  ![0, 4, v218.toNat, 0]
def k1_off6 (k1_t1 : Fin k1_t1_loop.trips) : Fin 4 → Nat :=
  let c0_191 : Index := 0#32
  let c5 : Index := 5#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v221 : Index := Scalar.indexCast v205
  let c0_192 : Index := 0#32
  ![0, 5, v221.toNat, 0]
def k1_off7 (k1_t1 : Fin k1_t1_loop.trips) : Fin 4 → Nat :=
  let c0_193 : Index := 0#32
  let c6 : Index := 6#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v224 : Index := Scalar.indexCast v205
  let c0_194 : Index := 0#32
  ![0, 6, v224.toNat, 0]
def k1_off8 (k1_t1 : Fin k1_t1_loop.trips) : Fin 4 → Nat :=
  let c0_195 : Index := 0#32
  let c7 : Index := 7#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v227 : Index := Scalar.indexCast v205
  let c0_196 : Index := 0#32
  ![0, 7, v227.toNat, 0]
def k1_off9 (k1_t1 : Fin k1_t1_loop.trips) : Fin 4 → Nat :=
  let c0_197 : Index := 0#32
  let c8 : Index := 8#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v230 : Index := Scalar.indexCast v205
  let c0_198 : Index := 0#32
  ![0, 8, v230.toNat, 0]
def k1_off10 (k1_t1 : Fin k1_t1_loop.trips) : Fin 4 → Nat :=
  let c0_199 : Index := 0#32
  let c9 : Index := 9#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v233 : Index := Scalar.indexCast v205
  let c0_200 : Index := 0#32
  ![0, 9, v233.toNat, 0]
def k1_off11 (k1_t1 : Fin k1_t1_loop.trips) : Fin 3 → Nat :=
  let c0_201 : Index := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v237 : Index := Scalar.indexCast v205
  let c0_202 : Index := 0#32
  ![0, v237.toNat, 0]
def k1_off12 (k1_t1 : Fin k1_t1_loop.trips) : Fin 3 → Nat :=
  let c0_203 : Index := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v242 : Index := Scalar.indexCast v205
  let c128_204 : Index := 128#32
  ![0, v242.toNat, 128]
def k1_off13 (k1_t1 : Fin k1_t1_loop.trips) : Fin 3 → Nat :=
  let c0_205 : Index := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v247 : Index := Scalar.indexCast v205
  let c256_206 : Index := 256#32
  ![0, v247.toNat, 256]
def k1_off14 (k1_t1 : Fin k1_t1_loop.trips) : Fin 3 → Nat :=
  let c0_207 : Index := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v252 : Index := Scalar.indexCast v205
  let c384_208 : Index := 384#32
  ![0, v252.toNat, 384]
def k1_off15 (k1_t1 : Fin k1_t1_loop.trips) : Fin 3 → Nat :=
  let c0_209 : Index := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v257 : Index := Scalar.indexCast v205
  let c512_210 : Index := 512#32
  ![0, v257.toNat, 512]
def k1_off16 (k1_t1 : Fin k1_t1_loop.trips) : Fin 3 → Nat :=
  let c0_211 : Index := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v262 : Index := Scalar.indexCast v205
  let c640 : Index := 640#32
  ![0, v262.toNat, 640]
def k1_off17 (k1_t1 : Fin k1_t1_loop.trips) : Fin 3 → Nat :=
  let c0_212 : Index := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v267 : Index := Scalar.indexCast v205
  let c768_213 : Index := 768#32
  ![0, v267.toNat, 768]
def k1_off18 (k1_t1 : Fin k1_t1_loop.trips) : Fin 3 → Nat :=
  let c0_214 : Index := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v272 : Index := Scalar.indexCast v205
  let c896 : Index := 896#32
  ![0, v272.toNat, 896]
def k1_off19 (k1_t1 : Fin k1_t1_loop.trips) : Fin 3 → Nat :=
  let c0_215 : Index := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v277 : Index := Scalar.indexCast v205
  let c1024_216 : Index := 1024#32
  ![0, v277.toNat, 1024]
def k1_off20 (k1_t1 : Fin k1_t1_loop.trips) : Fin 3 → Nat :=
  let c0_217 : Index := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v282 : Index := Scalar.indexCast v205
  let c1152 : Index := 1152#32
  ![0, v282.toNat, 1152]
def k1_off21 (k1_t1 : Fin k1_t1_loop.trips) : Fin 2 → Nat :=
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v580 : Index := Scalar.indexCast v205
  let c0_289 : Index := 0#32
  ![v580.toNat, 0]
def k1_off22 (k1_t1 : Fin k1_t1_loop.trips) : Fin 3 → Nat :=
  let c0_i32_286 : BitVec 32 := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v580 : Index := Scalar.indexCast v205
  let c0_i32_288 : BitVec 32 := 0#32
  ![0, v580.toNat, 0]
def k1_off23 (k1_t1 : Fin k1_t1_loop.trips) : Fin 2 → Nat :=
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v621 : Index := Scalar.indexCast v205
  let c128_306 : Index := 128#32
  ![v621.toNat, 128]
def k1_off24 (k1_t1 : Fin k1_t1_loop.trips) : Fin 3 → Nat :=
  let c0_i32_303 : BitVec 32 := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v621 : Index := Scalar.indexCast v205
  ![0, v621.toNat, 128]
def k1_off25 (k1_t1 : Fin k1_t1_loop.trips) : Fin 2 → Nat :=
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v662 : Index := Scalar.indexCast v205
  let c256_323 : Index := 256#32
  ![v662.toNat, 256]
def k1_off26 (k1_t1 : Fin k1_t1_loop.trips) : Fin 3 → Nat :=
  let c0_i32_320 : BitVec 32 := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v662 : Index := Scalar.indexCast v205
  ![0, v662.toNat, 256]
def k1_off27 (k1_t1 : Fin k1_t1_loop.trips) : Fin 2 → Nat :=
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v703 : Index := Scalar.indexCast v205
  let c384_339 : Index := 384#32
  ![v703.toNat, 384]
def k1_off28 (k1_t1 : Fin k1_t1_loop.trips) : Fin 3 → Nat :=
  let c0_i32_336 : BitVec 32 := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v703 : Index := Scalar.indexCast v205
  ![0, v703.toNat, 384]
def k1_off29 (k1_t1 : Fin k1_t1_loop.trips) : Fin 2 → Nat :=
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v744 : Index := Scalar.indexCast v205
  let c512_356 : Index := 512#32
  ![v744.toNat, 512]
def k1_off30 (k1_t1 : Fin k1_t1_loop.trips) : Fin 3 → Nat :=
  let c0_i32_353 : BitVec 32 := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v744 : Index := Scalar.indexCast v205
  ![0, v744.toNat, 512]
def k1_off31 (k1_t1 : Fin k1_t1_loop.trips) : Fin 2 → Nat :=
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v785 : Index := Scalar.indexCast v205
  let c640_372 : Index := 640#32
  ![v785.toNat, 640]
def k1_off32 (k1_t1 : Fin k1_t1_loop.trips) : Fin 3 → Nat :=
  let c0_i32_369 : BitVec 32 := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v785 : Index := Scalar.indexCast v205
  ![0, v785.toNat, 640]
def k1_off33 (k1_t1 : Fin k1_t1_loop.trips) : Fin 2 → Nat :=
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v826 : Index := Scalar.indexCast v205
  let c768_388 : Index := 768#32
  ![v826.toNat, 768]
def k1_off34 (k1_t1 : Fin k1_t1_loop.trips) : Fin 3 → Nat :=
  let c0_i32_385 : BitVec 32 := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v826 : Index := Scalar.indexCast v205
  ![0, v826.toNat, 768]
def k1_off35 (k1_t1 : Fin k1_t1_loop.trips) : Fin 2 → Nat :=
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v867 : Index := Scalar.indexCast v205
  let c896_404 : Index := 896#32
  ![v867.toNat, 896]
def k1_off36 (k1_t1 : Fin k1_t1_loop.trips) : Fin 3 → Nat :=
  let c0_i32_401 : BitVec 32 := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v867 : Index := Scalar.indexCast v205
  ![0, v867.toNat, 896]
def k1_off37 (k1_t1 : Fin k1_t1_loop.trips) : Fin 2 → Nat :=
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v908 : Index := Scalar.indexCast v205
  let c1024_421 : Index := 1024#32
  ![v908.toNat, 1024]
def k1_off38 (k1_t1 : Fin k1_t1_loop.trips) : Fin 3 → Nat :=
  let c0_i32_418 : BitVec 32 := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v908 : Index := Scalar.indexCast v205
  ![0, v908.toNat, 1024]
def k1_off39 (k1_t1 : Fin k1_t1_loop.trips) : Fin 2 → Nat :=
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v949 : Index := Scalar.indexCast v205
  let c1152_437 : Index := 1152#32
  ![v949.toNat, 1152]
def k1_off40 (k1_t1 : Fin k1_t1_loop.trips) : Fin 3 → Nat :=
  let c0_i32_434 : BitVec 32 := 0#32
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v949 : Index := Scalar.indexCast v205
  ![0, v949.toNat, 1152]
def k1_off41 (k1_t1 : Fin k1_t1_loop.trips) : Fin 2 → Nat :=
  let c0_i32 : BitVec 32 := 0#32
  let c1_i32 : BitVec 32 := 1#32
  let arg15 : BitVec 32 := Scf.iv c0_i32 c1_i32 k1_t1
  let c32_i32 : BitVec 32 := 32#32
  let v204 : BitVec 32 := Scalar.muli arg15 c32_i32
  let v205 : BitVec 32 := v204
  let v1021 : Index := Scalar.indexCast v205
  let c0_461 : Index := 0#32
  ![v1021.toNat, 0]
@[reducible] def k1_t2_loop : Scf.Loop 32 :=
  let c0_i32_153 : BitVec 32 := 0#32
  let c16_i32_154 : BitVec 32 := 16#32
  let v179 : BitVec 32 := Scalar.addi c0_i32_153 c16_i32_154
  let c1_i32_155 : BitVec 32 := 1#32
  ⟨c0_i32_153, v179, c1_i32_155⟩
def k1_mult2 (k1_t2 : Fin k1_t2_loop.trips) : BitVec 32 :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  v204
def k1_off42 (k1_t2 : Fin k1_t2_loop.trips) : Fin 3 → Nat :=
  let c0_177 : Index := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v206 : Index := Scalar.indexCast v205
  let c0_178 : Index := 0#32
  ![0, v206.toNat, 0]
def k1_off43 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v764 : Index := Scalar.indexCast v205
  let c0_303 : Index := 0#32
  ![v764.toNat, 0]
def k1_off44 (k1_t2 : Fin k1_t2_loop.trips) : Fin 3 → Nat :=
  let c0_i32_151 : BitVec 32 := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v764 : Index := Scalar.indexCast v205
  let c0_i32_302 : BitVec 32 := 0#32
  ![0, v764.toNat, 0]
def k1_off45 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v805 : Index := Scalar.indexCast v205
  let c128_321 : Index := 128#32
  ![v805.toNat, 128]
def k1_off46 (k1_t2 : Fin k1_t2_loop.trips) : Fin 3 → Nat :=
  let c0_i32_151 : BitVec 32 := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v805 : Index := Scalar.indexCast v205
  ![0, v805.toNat, 128]
def k1_off47 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v846 : Index := Scalar.indexCast v205
  let c256_339 : Index := 256#32
  ![v846.toNat, 256]
def k1_off48 (k1_t2 : Fin k1_t2_loop.trips) : Fin 3 → Nat :=
  let c0_i32_151 : BitVec 32 := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v846 : Index := Scalar.indexCast v205
  ![0, v846.toNat, 256]
def k1_off49 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v887 : Index := Scalar.indexCast v205
  let c384_356 : Index := 384#32
  ![v887.toNat, 384]
def k1_off50 (k1_t2 : Fin k1_t2_loop.trips) : Fin 3 → Nat :=
  let c0_i32_151 : BitVec 32 := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v887 : Index := Scalar.indexCast v205
  ![0, v887.toNat, 384]
def k1_off51 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v928 : Index := Scalar.indexCast v205
  let c512_374 : Index := 512#32
  ![v928.toNat, 512]
def k1_off52 (k1_t2 : Fin k1_t2_loop.trips) : Fin 3 → Nat :=
  let c0_i32_151 : BitVec 32 := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v928 : Index := Scalar.indexCast v205
  ![0, v928.toNat, 512]
def k1_off53 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v969 : Index := Scalar.indexCast v205
  let c640 : Index := 640#32
  ![v969.toNat, 640]
def k1_off54 (k1_t2 : Fin k1_t2_loop.trips) : Fin 3 → Nat :=
  let c0_i32_151 : BitVec 32 := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v969 : Index := Scalar.indexCast v205
  ![0, v969.toNat, 640]
def k1_off55 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1010 : Index := Scalar.indexCast v205
  let c768_407 : Index := 768#32
  ![v1010.toNat, 768]
def k1_off56 (k1_t2 : Fin k1_t2_loop.trips) : Fin 3 → Nat :=
  let c0_i32_151 : BitVec 32 := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1010 : Index := Scalar.indexCast v205
  ![0, v1010.toNat, 768]
def k1_off57 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1051 : Index := Scalar.indexCast v205
  let c896 : Index := 896#32
  ![v1051.toNat, 896]
def k1_off58 (k1_t2 : Fin k1_t2_loop.trips) : Fin 3 → Nat :=
  let c0_i32_151 : BitVec 32 := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1051 : Index := Scalar.indexCast v205
  ![0, v1051.toNat, 896]
def k1_off59 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1092 : Index := Scalar.indexCast v205
  let c1024_441 : Index := 1024#32
  ![v1092.toNat, 1024]
def k1_off60 (k1_t2 : Fin k1_t2_loop.trips) : Fin 3 → Nat :=
  let c0_i32_151 : BitVec 32 := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1092 : Index := Scalar.indexCast v205
  ![0, v1092.toNat, 1024]
def k1_off61 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1133 : Index := Scalar.indexCast v205
  let c1152 : Index := 1152#32
  ![v1133.toNat, 1152]
def k1_off62 (k1_t2 : Fin k1_t2_loop.trips) : Fin 3 → Nat :=
  let c0_i32_151 : BitVec 32 := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1133 : Index := Scalar.indexCast v205
  ![0, v1133.toNat, 1152]
def k1_off63 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1174 : Index := Scalar.indexCast v205
  let c1280_474 : Index := 1280#32
  ![v1174.toNat, 1280]
def k1_off64 (k1_t2 : Fin k1_t2_loop.trips) : Fin 3 → Nat :=
  let c0_i32_151 : BitVec 32 := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1174 : Index := Scalar.indexCast v205
  ![0, v1174.toNat, 1280]
def k1_off65 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1215 : Index := Scalar.indexCast v205
  let c1408 : Index := 1408#32
  ![v1215.toNat, 1408]
def k1_off66 (k1_t2 : Fin k1_t2_loop.trips) : Fin 3 → Nat :=
  let c0_i32_151 : BitVec 32 := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1215 : Index := Scalar.indexCast v205
  ![0, v1215.toNat, 1408]
def k1_off67 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1256 : Index := Scalar.indexCast v205
  let c1536_507 : Index := 1536#32
  ![v1256.toNat, 1536]
def k1_off68 (k1_t2 : Fin k1_t2_loop.trips) : Fin 3 → Nat :=
  let c0_i32_151 : BitVec 32 := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1256 : Index := Scalar.indexCast v205
  ![0, v1256.toNat, 1536]
def k1_off69 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1297 : Index := Scalar.indexCast v205
  let c1664 : Index := 1664#32
  ![v1297.toNat, 1664]
def k1_off70 (k1_t2 : Fin k1_t2_loop.trips) : Fin 3 → Nat :=
  let c0_i32_151 : BitVec 32 := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1297 : Index := Scalar.indexCast v205
  ![0, v1297.toNat, 1664]
def k1_off71 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1338 : Index := Scalar.indexCast v205
  let c1792_540 : Index := 1792#32
  ![v1338.toNat, 1792]
def k1_off72 (k1_t2 : Fin k1_t2_loop.trips) : Fin 3 → Nat :=
  let c0_i32_151 : BitVec 32 := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1338 : Index := Scalar.indexCast v205
  ![0, v1338.toNat, 1792]
def k1_off73 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1379 : Index := Scalar.indexCast v205
  let c1920 : Index := 1920#32
  ![v1379.toNat, 1920]
def k1_off74 (k1_t2 : Fin k1_t2_loop.trips) : Fin 3 → Nat :=
  let c0_i32_151 : BitVec 32 := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1379 : Index := Scalar.indexCast v205
  ![0, v1379.toNat, 1920]
def k1_off75 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1420 : Index := Scalar.indexCast v205
  let c2048_574 : Index := 2048#32
  ![v1420.toNat, 2048]
def k1_off76 (k1_t2 : Fin k1_t2_loop.trips) : Fin 3 → Nat :=
  let c0_i32_151 : BitVec 32 := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1420 : Index := Scalar.indexCast v205
  ![0, v1420.toNat, 2048]
def k1_off77 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1461 : Index := Scalar.indexCast v205
  let c2176 : Index := 2176#32
  ![v1461.toNat, 2176]
def k1_off78 (k1_t2 : Fin k1_t2_loop.trips) : Fin 3 → Nat :=
  let c0_i32_151 : BitVec 32 := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1461 : Index := Scalar.indexCast v205
  ![0, v1461.toNat, 2176]
def k1_off79 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1502 : Index := Scalar.indexCast v205
  let c2304_607 : Index := 2304#32
  ![v1502.toNat, 2304]
def k1_off80 (k1_t2 : Fin k1_t2_loop.trips) : Fin 3 → Nat :=
  let c0_i32_151 : BitVec 32 := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1502 : Index := Scalar.indexCast v205
  ![0, v1502.toNat, 2304]
def k1_off81 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1543 : Index := Scalar.indexCast v205
  let c2432 : Index := 2432#32
  ![v1543.toNat, 2432]
def k1_off82 (k1_t2 : Fin k1_t2_loop.trips) : Fin 3 → Nat :=
  let c0_i32_151 : BitVec 32 := 0#32
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1543 : Index := Scalar.indexCast v205
  ![0, v1543.toNat, 2432]
def k1_off83 (k1_t2 : Fin k1_t2_loop.trips) : Fin 2 → Nat :=
  let c0_i32_153 : BitVec 32 := 0#32
  let c1_i32_155 : BitVec 32 := 1#32
  let arg15 : BitVec 32 := Scf.iv c0_i32_153 c1_i32_155 k1_t2
  let c32_i32 : BitVec 32 := 32#32
  let v204 : BitVec 32 := Scalar.muli arg15 c32_i32
  let v205 : BitVec 32 := v204
  let v1615 : Index := Scalar.indexCast v205
  let c0_649 : Index := 0#32
  ![v1615.toNat, 0]
def cc1_transform_0 (i : grid1.Coords) : Fin 4 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c18_i32_4 : BitVec 32 := 18#32
  let c0_i32_5 : BitVec 32 := 0#32
  let v17 : BitVec 1 := Scalar.cmpi .eq c18_i32_4 c0_i32_5
  let c1_i32_6 : BitVec 32 := 1#32
  let v18 : BitVec 32 := Scalar.select v17 c1_i32_6 c18_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc1_transform_1 (i : grid1.Coords) : Fin 3 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c18_i32_4 : BitVec 32 := 18#32
  let c0_i32_5 : BitVec 32 := 0#32
  let v17 : BitVec 1 := Scalar.cmpi .eq c18_i32_4 c0_i32_5
  let c1_i32_6 : BitVec 32 := 1#32
  let v18 : BitVec 32 := Scalar.select v17 c1_i32_6 c18_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_2 (i : grid1.Coords) : Fin 3 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c18_i32_4 : BitVec 32 := 18#32
  let c0_i32_5 : BitVec 32 := 0#32
  let v17 : BitVec 1 := Scalar.cmpi .eq c18_i32_4 c0_i32_5
  let c1_i32_6 : BitVec 32 := 1#32
  let v18 : BitVec 32 := Scalar.select v17 c1_i32_6 c18_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_5 (i : grid1.Coords) : Fin 3 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c18_i32_4 : BitVec 32 := 18#32
  let c0_i32_5 : BitVec 32 := 0#32
  let v17 : BitVec 1 := Scalar.cmpi .eq c18_i32_4 c0_i32_5
  let c1_i32_6 : BitVec 32 := 1#32
  let v18 : BitVec 32 := Scalar.select v17 c1_i32_6 c18_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_6 (i : grid1.Coords) : Fin 3 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c18_i32_4 : BitVec 32 := 18#32
  let c0_i32_5 : BitVec 32 := 0#32
  let v17 : BitVec 1 := Scalar.cmpi .eq c18_i32_4 c0_i32_5
  let c1_i32_6 : BitVec 32 := 1#32
  let v18 : BitVec 32 := Scalar.select v17 c1_i32_6 c18_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_7 (i : grid1.Coords) : Fin 3 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c18_i32_4 : BitVec 32 := 18#32
  let c0_i32_5 : BitVec 32 := 0#32
  let v17 : BitVec 1 := Scalar.cmpi .eq c18_i32_4 c0_i32_5
  let c1_i32_6 : BitVec 32 := 1#32
  let v18 : BitVec 32 := Scalar.select v17 c1_i32_6 c18_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_8 (i : grid1.Coords) : Fin 3 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c18_i32_4 : BitVec 32 := 18#32
  let c0_i32_5 : BitVec 32 := 0#32
  let v17 : BitVec 1 := Scalar.cmpi .eq c18_i32_4 c0_i32_5
  let c1_i32_6 : BitVec 32 := 1#32
  let v18 : BitVec 32 := Scalar.select v17 c1_i32_6 c18_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_9 (i : grid1.Coords) : Fin 3 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c18_i32_4 : BitVec 32 := 18#32
  let c0_i32_5 : BitVec 32 := 0#32
  let v17 : BitVec 1 := Scalar.cmpi .eq c18_i32_4 c0_i32_5
  let c1_i32_6 : BitVec 32 := 1#32
  let v18 : BitVec 32 := Scalar.select v17 c1_i32_6 c18_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_10 (i : grid1.Coords) : Fin 3 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c18_i32_4 : BitVec 32 := 18#32
  let c0_i32_5 : BitVec 32 := 0#32
  let v17 : BitVec 1 := Scalar.cmpi .eq c18_i32_4 c0_i32_5
  let c1_i32_6 : BitVec 32 := 1#32
  let v18 : BitVec 32 := Scalar.select v17 c1_i32_6 c18_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage1_0 : Fin 2 → Memref sig .tc .vmem S1x10x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x2560 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x6x2560 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1280x2560 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x512x1280 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512x1280 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x40x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512x2560 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x512x2560 .fp8e4m3 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x80x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x512x2560 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== OutIdeal.lean ====
variable {F : FTy → Type} [FloatOps F] [Named F]
def κ : String → Option EReal := fun
  | "log_two" => some ((Real.log 2 : ℝ) : EReal)
  | _ => none
-- ==== OutRefIdeal.lean ====
abbrev S2x10x9216x128 : Shape := ⟨4, ![2, 10, 9216, 128]⟩
abbrev S2x9216x2560 : Shape := ⟨3, ![2, 9216, 2560]⟩
abbrev S2x6x2560 : Shape := ⟨3, ![2, 6, 2560]⟩
abbrev S1280x2560 : Shape := ⟨2, ![1280, 2560]⟩
abbrev S40x2560 : Shape := ⟨2, ![40, 2560]⟩
abbrev S2x9216x1280 : Shape := ⟨3, ![2, 9216, 1280]⟩
abbrev S2x9216x40 : Shape := ⟨3, ![2, 9216, 40]⟩
abbrev S2x9216x80 : Shape := ⟨3, ![2, 9216, 80]⟩
abbrev S2x9216x10x128 : Shape := ⟨4, ![2, 9216, 10, 128]⟩
abbrev S2x9216x40x32 : Shape := ⟨4, ![2, 9216, 40, 32]⟩
abbrev S2x9216x40x1 : Shape := ⟨4, ![2, 9216, 40, 1]⟩
abbrev S40x32x2560 : Shape := ⟨3, ![40, 32, 2560]⟩
abbrev S40x1x2560 : Shape := ⟨3, ![40, 1, 2560]⟩
abbrev S2x1x2560 : Shape := ⟨3, ![2, 1, 2560]⟩
abbrev S2x2560 : Shape := ⟨2, ![2, 2560]⟩
abbrev S2x9216 : Shape := ⟨2, ![2, 9216]⟩
abbrev S2x9216x1 : Shape := ⟨3, ![2, 9216, 1]⟩
abbrev S2x9216x80x32 : Shape := ⟨4, ![2, 9216, 80, 32]⟩
abbrev S2x9216x80x1 : Shape := ⟨4, ![2, 9216, 80, 1]⟩

abbrev nBuf : Space → Nat
  | .hbm => 12
  | .vmem => 12
  | .smem => 0
  | _ => 0

abbrev bufTy : (tb : Table) → Fin (tcTables nBuf tb) → BufTy
  | .hbm, ⟨0, _⟩ => ⟨S2x10x9216x128, .f32⟩
  | .hbm, ⟨1, _⟩ => ⟨S2x9216x2560, .bf16⟩
  | .hbm, ⟨2, _⟩ => ⟨S2x6x2560, .f32⟩
  | .hbm, ⟨3, _⟩ => ⟨S1280x2560, .fp8e4m3⟩
  | .hbm, ⟨4, _⟩ => ⟨S40x2560, .i8⟩
  | .hbm, ⟨5, _⟩ => ⟨S2x9216x1280, .bf16⟩
  | .hbm, ⟨6, _⟩ => ⟨S2x9216x1280, .fp8e4m3⟩
  | .hbm, ⟨7, _⟩ => ⟨S2x9216x40, .f32⟩
  | .hbm, ⟨8, _⟩ => ⟨S2x9216x2560, .f32⟩
  | .hbm, ⟨9, _⟩ => ⟨S2x9216x2560, .fp8e4m3⟩
  | .hbm, ⟨10, _⟩ => ⟨S2x9216x80, .f32⟩
  | .hbm, ⟨11, _⟩ => ⟨S2x9216x2560, .bf16⟩
  | .local _ .vmem, ⟨0, _⟩ => ⟨S2x10x9216x128, .f32⟩
  | .local _ .vmem, ⟨1, _⟩ => ⟨S2x9216x2560, .bf16⟩
  | .local _ .vmem, ⟨2, _⟩ => ⟨S2x6x2560, .f32⟩
  | .local _ .vmem, ⟨3, _⟩ => ⟨S1280x2560, .fp8e4m3⟩
  | .local _ .vmem, ⟨4, _⟩ => ⟨S40x2560, .i8⟩
  | .local _ .vmem, ⟨5, _⟩ => ⟨S2x9216x1280, .bf16⟩
  | .local _ .vmem, ⟨6, _⟩ => ⟨S2x9216x1280, .fp8e4m3⟩
  | .local _ .vmem, ⟨7, _⟩ => ⟨S2x9216x40, .f32⟩
  | .local _ .vmem, ⟨8, _⟩ => ⟨S2x9216x2560, .f32⟩
  | .local _ .vmem, ⟨9, _⟩ => ⟨S2x9216x2560, .fp8e4m3⟩
  | .local _ .vmem, ⟨10, _⟩ => ⟨S2x9216x80, .f32⟩
  | .local _ .vmem, ⟨11, _⟩ => ⟨S2x9216x2560, .bf16⟩
  | _, _ => ⟨S2x10x9216x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "log_two" => some ((Real.log 2 : ℝ) : EReal)
  | _ => none

abbrev grid0 : Pipeline.Grid := .none

abbrev stage0_0 : Fin 1 → Memref sig .tc .vmem S2x10x9216x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x9216x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x6x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x2560 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x9216x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x9216x1280 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x9216x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x9216x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x9216x2560 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x9216x80 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x9216x2560 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Qkv.lean ====
abbrev S2x9216x2560 : Shape := ⟨3, ![2, 9216, 2560]⟩
abbrev S2x6x2560 : Shape := ⟨3, ![2, 6, 2560]⟩
abbrev S2560x3840 : Shape := ⟨2, ![2560, 3840]⟩
abbrev S80x3840 : Shape := ⟨2, ![80, 3840]⟩
abbrev S1x128 : Shape := ⟨2, ![1, 128]⟩
abbrev S2560x256 : Shape := ⟨2, ![2560, 256]⟩
abbrev S80x256 : Shape := ⟨2, ![80, 256]⟩
abbrev S32x256 : Shape := ⟨2, ![32, 256]⟩
abbrev S1x256 : Shape := ⟨2, ![1, 256]⟩
abbrev S2x80x9216 : Shape := ⟨3, ![2, 80, 9216]⟩
abbrev S2x20x9216x128 : Shape := ⟨4, ![2, 20, 9216, 128]⟩
abbrev S2x10x9216x128 : Shape := ⟨4, ![2, 10, 9216, 128]⟩
abbrev S1x512x2560 : Shape := ⟨3, ![1, 512, 2560]⟩
abbrev S1x6x2560 : Shape := ⟨3, ![1, 6, 2560]⟩
abbrev S1x80x512 : Shape := ⟨3, ![1, 80, 512]⟩
abbrev S1x20x512x128 : Shape := ⟨4, ![1, 20, 512, 128]⟩
abbrev S1x10x512x128 : Shape := ⟨4, ![1, 10, 512, 128]⟩
abbrev S512x2560 : Shape := ⟨2, ![512, 2560]⟩
abbrev S512x128 : Shape := ⟨2, ![512, 128]⟩
abbrev S1x1x2560 : Shape := ⟨3, ![1, 1, 2560]⟩
abbrev S1x2560 : Shape := ⟨2, ![1, 2560]⟩
abbrev S1x32x2560 : Shape := ⟨3, ![1, 32, 2560]⟩
abbrev S32x2560 : Shape := ⟨2, ![32, 2560]⟩
abbrev S32 : Shape := ⟨1, ![32]⟩
abbrev S32x1 : Shape := ⟨2, ![32, 1]⟩
abbrev S32x128 : Shape := ⟨2, ![32, 128]⟩
abbrev S32x128x1 : Shape := ⟨3, ![32, 128, 1]⟩
abbrev S1x32x128 : Shape := ⟨3, ![1, 32, 128]⟩
abbrev S128x128 : Shape := ⟨2, ![128, 128]⟩
abbrev S80x128 : Shape := ⟨2, ![80, 128]⟩
abbrev S1x80x128 : Shape := ⟨3, ![1, 80, 128]⟩
abbrev S512x256 : Shape := ⟨2, ![512, 256]⟩
abbrev S512 : Shape := ⟨1, ![512]⟩
abbrev S512x1 : Shape := ⟨2, ![512, 1]⟩
abbrev S1x1x512x128 : Shape := ⟨4, ![1, 1, 512, 128]⟩
abbrev S2x9216x80 : Shape := ⟨3, ![2, 9216, 80]⟩

abbrev nBuf : Space → Nat
  | .hbm => 12
  | .vmem => 23
  | .smem => 0
  | _ => 0

abbrev bufTy : (tb : Table) → Fin (tcTables nBuf tb) → BufTy
  | .hbm, ⟨0, _⟩ => ⟨S2x9216x2560, .bf16⟩
  | .hbm, ⟨1, _⟩ => ⟨S2x6x2560, .f32⟩
  | .hbm, ⟨2, _⟩ => ⟨S2560x3840, .fp8e4m3⟩
  | .hbm, ⟨3, _⟩ => ⟨S80x3840, .i8⟩
  | .hbm, ⟨4, _⟩ => ⟨S1x128, .f32⟩
  | .hbm, ⟨5, _⟩ => ⟨S1x128, .f32⟩
  | .hbm, ⟨6, _⟩ => ⟨S2560x3840, .bf16⟩
  | .hbm, ⟨7, _⟩ => ⟨S2x9216x2560, .fp8e4m3⟩
  | .hbm, ⟨8, _⟩ => ⟨S2x80x9216, .f32⟩
  | .hbm, ⟨9, _⟩ => ⟨S2x20x9216x128, .f32⟩
  | .hbm, ⟨10, _⟩ => ⟨S2x10x9216x128, .f32⟩
  | .hbm, ⟨11, _⟩ => ⟨S2x9216x80, .f32⟩
  | .local _ .vmem, ⟨0, _⟩ => ⟨S2560x256, .fp8e4m3⟩
  | .local _ .vmem, ⟨1, _⟩ => ⟨S2560x256, .fp8e4m3⟩
  | .local _ .vmem, ⟨2, _⟩ => ⟨S80x256, .i8⟩
  | .local _ .vmem, ⟨3, _⟩ => ⟨S80x256, .i8⟩
  | .local _ .vmem, ⟨4, _⟩ => ⟨S2560x256, .bf16⟩
  | .local _ .vmem, ⟨5, _⟩ => ⟨S2560x256, .bf16⟩
  | .local _ .vmem, ⟨6, _⟩ => ⟨S1x512x2560, .bf16⟩
  | .local _ .vmem, ⟨7, _⟩ => ⟨S1x512x2560, .bf16⟩
  | .local _ .vmem, ⟨8, _⟩ => ⟨S1x6x2560, .f32⟩
  | .local _ .vmem, ⟨9, _⟩ => ⟨S1x6x2560, .f32⟩
  | .local _ .vmem, ⟨10, _⟩ => ⟨S2560x3840, .bf16⟩
  | .local _ .vmem, ⟨11, _⟩ => ⟨S1x128, .f32⟩
  | .local _ .vmem, ⟨12, _⟩ => ⟨S1x128, .f32⟩
  | .local _ .vmem, ⟨13, _⟩ => ⟨S1x512x2560, .fp8e4m3⟩
  | .local _ .vmem, ⟨14, _⟩ => ⟨S1x512x2560, .fp8e4m3⟩
  | .local _ .vmem, ⟨15, _⟩ => ⟨S1x80x512, .f32⟩
  | .local _ .vmem, ⟨16, _⟩ => ⟨S1x80x512, .f32⟩
  | .local _ .vmem, ⟨17, _⟩ => ⟨S1x20x512x128, .f32⟩
  | .local _ .vmem, ⟨18, _⟩ => ⟨S1x20x512x128, .f32⟩
  | .local _ .vmem, ⟨19, _⟩ => ⟨S1x10x512x128, .f32⟩
  | .local _ .vmem, ⟨20, _⟩ => ⟨S1x10x512x128, .f32⟩
  | .local _ .vmem, ⟨21, _⟩ => ⟨S512x2560, .bf16⟩
  | .local _ .vmem, ⟨22, _⟩ => ⟨S512x128, .f32⟩
  | _, _ => ⟨S2x9216x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc1_scratch0 : Ref sig .tc := ⟨.vmem, 21, rfl⟩
abbrev cc1_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem8_1 : DmaSem sig := 20

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2560x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![36], ![false]⟩

@[reducible] def k1_t1_loop : Scf.Loop 32 :=
  let c0_i32_4 : BitVec 32 := 0#32
  let c16_i32 : BitVec 32 := 16#32
  let v4 : BitVec 32 := Scalar.addi c0_i32_4 c16_i32
  let c1_i32 : BitVec 32 := 1#32
  ⟨c0_i32_4, v4, c1_i32⟩
def k1_mult1 (k1_t1 : Fin k1_t1_loop.trips) : BitVec 32 :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  v509
def k1_off1 (k1_t1 : Fin k1_t1_loop.trips) : Fin 3 → Nat :=
  let c0_306 : Index := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v511 : Index := Scalar.indexCast v510
  let c0_307 : Index := 0#32
  ![0, v511.toNat, 0]
def k1_off2 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1070 : Index := Scalar.indexCast v510
  let c0_432 : Index := 0#32
  ![v1070.toNat, 0]
def k1_off3 (k1_t1 : Fin k1_t1_loop.trips) : Fin 3 → Nat :=
  let c0_i32 : BitVec 32 := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1070 : Index := Scalar.indexCast v510
  let c0_i32_431 : BitVec 32 := 0#32
  ![0, v1070.toNat, 0]
def k1_off4 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1111 : Index := Scalar.indexCast v510
  let c128_448 : Index := 128#32
  ![v1111.toNat, 128]
def k1_off5 (k1_t1 : Fin k1_t1_loop.trips) : Fin 3 → Nat :=
  let c0_i32 : BitVec 32 := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1111 : Index := Scalar.indexCast v510
  ![0, v1111.toNat, 128]
def k1_off6 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1152 : Index := Scalar.indexCast v510
  let c256_464 : Index := 256#32
  ![v1152.toNat, 256]
def k1_off7 (k1_t1 : Fin k1_t1_loop.trips) : Fin 3 → Nat :=
  let c0_i32 : BitVec 32 := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1152 : Index := Scalar.indexCast v510
  ![0, v1152.toNat, 256]
def k1_off8 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1193 : Index := Scalar.indexCast v510
  let c384_479 : Index := 384#32
  ![v1193.toNat, 384]
def k1_off9 (k1_t1 : Fin k1_t1_loop.trips) : Fin 3 → Nat :=
  let c0_i32 : BitVec 32 := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1193 : Index := Scalar.indexCast v510
  ![0, v1193.toNat, 384]
def k1_off10 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1234 : Index := Scalar.indexCast v510
  let c512_495 : Index := 512#32
  ![v1234.toNat, 512]
def k1_off11 (k1_t1 : Fin k1_t1_loop.trips) : Fin 3 → Nat :=
  let c0_i32 : BitVec 32 := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1234 : Index := Scalar.indexCast v510
  ![0, v1234.toNat, 512]
def k1_off12 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1275 : Index := Scalar.indexCast v510
  let c640 : Index := 640#32
  ![v1275.toNat, 640]
def k1_off13 (k1_t1 : Fin k1_t1_loop.trips) : Fin 3 → Nat :=
  let c0_i32 : BitVec 32 := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1275 : Index := Scalar.indexCast v510
  ![0, v1275.toNat, 640]
def k1_off14 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1316 : Index := Scalar.indexCast v510
  let c768_524 : Index := 768#32
  ![v1316.toNat, 768]
def k1_off15 (k1_t1 : Fin k1_t1_loop.trips) : Fin 3 → Nat :=
  let c0_i32 : BitVec 32 := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1316 : Index := Scalar.indexCast v510
  ![0, v1316.toNat, 768]
def k1_off16 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1357 : Index := Scalar.indexCast v510
  let c896 : Index := 896#32
  ![v1357.toNat, 896]
def k1_off17 (k1_t1 : Fin k1_t1_loop.trips) : Fin 3 → Nat :=
  let c0_i32 : BitVec 32 := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1357 : Index := Scalar.indexCast v510
  ![0, v1357.toNat, 896]
def k1_off18 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1398 : Index := Scalar.indexCast v510
  let c1024_554 : Index := 1024#32
  ![v1398.toNat, 1024]
def k1_off19 (k1_t1 : Fin k1_t1_loop.trips) : Fin 3 → Nat :=
  let c0_i32 : BitVec 32 := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1398 : Index := Scalar.indexCast v510
  ![0, v1398.toNat, 1024]
def k1_off20 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1439 : Index := Scalar.indexCast v510
  let c1152 : Index := 1152#32
  ![v1439.toNat, 1152]
def k1_off21 (k1_t1 : Fin k1_t1_loop.trips) : Fin 3 → Nat :=
  let c0_i32 : BitVec 32 := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1439 : Index := Scalar.indexCast v510
  ![0, v1439.toNat, 1152]
def k1_off22 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1480 : Index := Scalar.indexCast v510
  let c1280_583 : Index := 1280#32
  ![v1480.toNat, 1280]
def k1_off23 (k1_t1 : Fin k1_t1_loop.trips) : Fin 3 → Nat :=
  let c0_i32 : BitVec 32 := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1480 : Index := Scalar.indexCast v510
  ![0, v1480.toNat, 1280]
def k1_off24 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1521 : Index := Scalar.indexCast v510
  let c1408 : Index := 1408#32
  ![v1521.toNat, 1408]
def k1_off25 (k1_t1 : Fin k1_t1_loop.trips) : Fin 3 → Nat :=
  let c0_i32 : BitVec 32 := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1521 : Index := Scalar.indexCast v510
  ![0, v1521.toNat, 1408]
def k1_off26 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1562 : Index := Scalar.indexCast v510
  let c1536_612 : Index := 1536#32
  ![v1562.toNat, 1536]
def k1_off27 (k1_t1 : Fin k1_t1_loop.trips) : Fin 3 → Nat :=
  let c0_i32 : BitVec 32 := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1562 : Index := Scalar.indexCast v510
  ![0, v1562.toNat, 1536]
def k1_off28 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1603 : Index := Scalar.indexCast v510
  let c1664 : Index := 1664#32
  ![v1603.toNat, 1664]
def k1_off29 (k1_t1 : Fin k1_t1_loop.trips) : Fin 3 → Nat :=
  let c0_i32 : BitVec 32 := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1603 : Index := Scalar.indexCast v510
  ![0, v1603.toNat, 1664]
def k1_off30 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1644 : Index := Scalar.indexCast v510
  let c1792_641 : Index := 1792#32
  ![v1644.toNat, 1792]
def k1_off31 (k1_t1 : Fin k1_t1_loop.trips) : Fin 3 → Nat :=
  let c0_i32 : BitVec 32 := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1644 : Index := Scalar.indexCast v510
  ![0, v1644.toNat, 1792]
def k1_off32 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1685 : Index := Scalar.indexCast v510
  let c1920 : Index := 1920#32
  ![v1685.toNat, 1920]
def k1_off33 (k1_t1 : Fin k1_t1_loop.trips) : Fin 3 → Nat :=
  let c0_i32 : BitVec 32 := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1685 : Index := Scalar.indexCast v510
  ![0, v1685.toNat, 1920]
def k1_off34 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1726 : Index := Scalar.indexCast v510
  let c2048_671 : Index := 2048#32
  ![v1726.toNat, 2048]
def k1_off35 (k1_t1 : Fin k1_t1_loop.trips) : Fin 3 → Nat :=
  let c0_i32 : BitVec 32 := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1726 : Index := Scalar.indexCast v510
  ![0, v1726.toNat, 2048]
def k1_off36 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1767 : Index := Scalar.indexCast v510
  let c2176 : Index := 2176#32
  ![v1767.toNat, 2176]
def k1_off37 (k1_t1 : Fin k1_t1_loop.trips) : Fin 3 → Nat :=
  let c0_i32 : BitVec 32 := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1767 : Index := Scalar.indexCast v510
  ![0, v1767.toNat, 2176]
def k1_off38 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1808 : Index := Scalar.indexCast v510
  let c2304_700 : Index := 2304#32
  ![v1808.toNat, 2304]
def k1_off39 (k1_t1 : Fin k1_t1_loop.trips) : Fin 3 → Nat :=
  let c0_i32 : BitVec 32 := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1808 : Index := Scalar.indexCast v510
  ![0, v1808.toNat, 2304]
def k1_off40 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1849 : Index := Scalar.indexCast v510
  let c2432 : Index := 2432#32
  ![v1849.toNat, 2432]
def k1_off41 (k1_t1 : Fin k1_t1_loop.trips) : Fin 3 → Nat :=
  let c0_i32 : BitVec 32 := 0#32
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1849 : Index := Scalar.indexCast v510
  ![0, v1849.toNat, 2432]
def k1_off42 (k1_t1 : Fin k1_t1_loop.trips) : Fin 2 → Nat :=
  let c0_i32_4 : BitVec 32 := 0#32
  let c1_i32 : BitVec 32 := 1#32
  let arg12 : BitVec 32 := Scf.iv c0_i32_4 c1_i32 k1_t1
  let c32_i32 : BitVec 32 := 32#32
  let v509 : BitVec 32 := Scalar.muli arg12 c32_i32
  let v510 : BitVec 32 := v509
  let v1921 : Index := Scalar.indexCast v510
  let c0_738 : Index := 0#32
  ![v1921.toNat, 0]
def cc1_transform_0 (i : grid1.Coords) : Fin 3 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c18_i32_4 : BitVec 32 := 18#32
  let c0_i32_5 : BitVec 32 := 0#32
  let v17 : BitVec 1 := Scalar.cmpi .eq c18_i32_4 c0_i32_5
  let c1_i32_6 : BitVec 32 := 1#32
  let v18 : BitVec 32 := Scalar.select v17 c1_i32_6 c18_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_1 (i : grid1.Coords) : Fin 3 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c18_i32_4 : BitVec 32 := 18#32
  let c0_i32_5 : BitVec 32 := 0#32
  let v17 : BitVec 1 := Scalar.cmpi .eq c18_i32_4 c0_i32_5
  let c1_i32_6 : BitVec 32 := 1#32
  let v18 : BitVec 32 := Scalar.select v17 c1_i32_6 c18_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_6 (i : grid1.Coords) : Fin 3 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c18_i32_4 : BitVec 32 := 18#32
  let c0_i32_5 : BitVec 32 := 0#32
  let v17 : BitVec 1 := Scalar.cmpi .eq c18_i32_4 c0_i32_5
  let c1_i32_6 : BitVec 32 := 1#32
  let v18 : BitVec 32 := Scalar.select v17 c1_i32_6 c18_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc1_transform_7 (i : grid1.Coords) : Fin 4 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c18_i32_4 : BitVec 32 := 18#32
  let c0_i32_5 : BitVec 32 := 0#32
  let v17 : BitVec 1 := Scalar.cmpi .eq c18_i32_4 c0_i32_5
  let c1_i32_6 : BitVec 32 := 1#32
  let v18 : BitVec 32 := Scalar.select v17 c1_i32_6 c18_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc1_transform_8 (i : grid1.Coords) : Fin 4 → Nat :=
  let arg0 : BitVec 32 := BitVec.ofNat 32 (i 0).val
  let c18_i32 : BitVec 32 := 18#32
  let v0 : BitVec 32 := Scalar.divsi arg0 c18_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c18_i32 c0_i32_1
  let v7 : BitVec 32 := Scalar.extui v6
  let c0_i32_2 : BitVec 32 := 0#32
  let v8 : BitVec 1 := Scalar.cmpi .slt c18_i32 c0_i32_2
  let v9 : BitVec 32 := Scalar.extui v8
  let v10 : BitVec 32 := Scalar.subi v7 v9
  let v11 : BitVec 1 := Scalar.cmpi .ne v5 v10
  let v12 : BitVec 32 := Scalar.remsi arg0 c18_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c18_i32_4 : BitVec 32 := 18#32
  let c0_i32_5 : BitVec 32 := 0#32
  let v17 : BitVec 1 := Scalar.cmpi .eq c18_i32_4 c0_i32_5
  let c1_i32_6 : BitVec 32 := 1#32
  let v18 : BitVec 32 := Scalar.select v17 c1_i32_6 c18_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage1_0 : Fin 2 → Memref sig .tc .vmem S1x512x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x6x2560 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2560x3840 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x512x2560 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x80x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x20x512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x10x512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== QkvIdeal.lean ====
variable {F : FTy → Type} [FloatOps F] [Named F]
def κ : String → Option EReal := fun
  | "log_two" => some ((Real.log 2 : ℝ) : EReal)
  | _ => none
-- ==== QkvRefIdeal.lean ====
abbrev S2x9216x2560 : Shape := ⟨3, ![2, 9216, 2560]⟩
abbrev S2x6x2560 : Shape := ⟨3, ![2, 6, 2560]⟩
abbrev S2560x3840 : Shape := ⟨2, ![2560, 3840]⟩
abbrev S80x3840 : Shape := ⟨2, ![80, 3840]⟩
abbrev S1x128 : Shape := ⟨2, ![1, 128]⟩
abbrev S2x9216x80 : Shape := ⟨3, ![2, 9216, 80]⟩
abbrev S2x20x9216x128 : Shape := ⟨4, ![2, 20, 9216, 128]⟩
abbrev S2x10x9216x128 : Shape := ⟨4, ![2, 10, 9216, 128]⟩
abbrev S2x9216 : Shape := ⟨2, ![2, 9216]⟩
abbrev S2x9216x1 : Shape := ⟨3, ![2, 9216, 1]⟩
abbrev S2x1x2560 : Shape := ⟨3, ![2, 1, 2560]⟩
abbrev S2x2560 : Shape := ⟨2, ![2, 2560]⟩
abbrev S2x9216x80x32 : Shape := ⟨4, ![2, 9216, 80, 32]⟩
abbrev S2x9216x80x1 : Shape := ⟨4, ![2, 9216, 80, 1]⟩
abbrev S80x32x3840 : Shape := ⟨3, ![80, 32, 3840]⟩
abbrev S80x1x3840 : Shape := ⟨3, ![80, 1, 3840]⟩
abbrev S2x9216x3840 : Shape := ⟨3, ![2, 9216, 3840]⟩
abbrev S2x9216x30x128 : Shape := ⟨4, ![2, 9216, 30, 128]⟩
abbrev S2x9216x10x128 : Shape := ⟨4, ![2, 9216, 10, 128]⟩
abbrev S2x9216x10 : Shape := ⟨3, ![2, 9216, 10]⟩
abbrev S2x9216x10x1 : Shape := ⟨4, ![2, 9216, 10, 1]⟩
abbrev S1x1x1x128 : Shape := ⟨4, ![1, 1, 1, 128]⟩

abbrev nBuf : Space → Nat
  | .hbm => 10
  | .vmem => 10
  | .smem => 0
  | _ => 0

abbrev bufTy : (tb : Table) → Fin (tcTables nBuf tb) → BufTy
  | .hbm, ⟨0, _⟩ => ⟨S2x9216x2560, .bf16⟩
  | .hbm, ⟨1, _⟩ => ⟨S2x6x2560, .f32⟩
  | .hbm, ⟨2, _⟩ => ⟨S2560x3840, .fp8e4m3⟩
  | .hbm, ⟨3, _⟩ => ⟨S80x3840, .i8⟩
  | .hbm, ⟨4, _⟩ => ⟨S1x128, .f32⟩
  | .hbm, ⟨5, _⟩ => ⟨S1x128, .f32⟩
  | .hbm, ⟨6, _⟩ => ⟨S2x9216x2560, .fp8e4m3⟩
  | .hbm, ⟨7, _⟩ => ⟨S2x9216x80, .f32⟩
  | .hbm, ⟨8, _⟩ => ⟨S2x20x9216x128, .f32⟩
  | .hbm, ⟨9, _⟩ => ⟨S2x10x9216x128, .f32⟩
  | .local _ .vmem, ⟨0, _⟩ => ⟨S2x9216x2560, .bf16⟩
  | .local _ .vmem, ⟨1, _⟩ => ⟨S2x6x2560, .f32⟩
  | .local _ .vmem, ⟨2, _⟩ => ⟨S2560x3840, .fp8e4m3⟩
  | .local _ .vmem, ⟨3, _⟩ => ⟨S80x3840, .i8⟩
  | .local _ .vmem, ⟨4, _⟩ => ⟨S1x128, .f32⟩
  | .local _ .vmem, ⟨5, _⟩ => ⟨S1x128, .f32⟩
  | .local _ .vmem, ⟨6, _⟩ => ⟨S2x9216x2560, .fp8e4m3⟩
  | .local _ .vmem, ⟨7, _⟩ => ⟨S2x9216x80, .f32⟩
  | .local _ .vmem, ⟨8, _⟩ => ⟨S2x20x9216x128, .f32⟩
  | .local _ .vmem, ⟨9, _⟩ => ⟨S2x10x9216x128, .f32⟩
  | _, _ => ⟨S2x9216x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "log_two" => some ((Real.log 2 : ℝ) : EReal)
  | _ => none

abbrev grid0 : Pipeline.Grid := .none

abbrev stage0_0 : Fin 1 → Memref sig .tc .vmem S2x9216x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x6x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x3840 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S80x3840 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x9216x2560 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x9216x80 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x20x9216x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x10x9216x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Widen.lean ====
/- The two widening calls at one grid point: what each stores, index by index. -/
module

public import proofs.«01_k».proof.Proof.Gen.MlpIdeal.Frame
public import Idealize.ShloMosaic.Lib.Pipeline.ValueKit
public import Idealize.ShloMosaic.Lib.Pointwise
public import Idealize.ShloMosaic.PureOps.Ideal

@[expose] public section

set_option maxRecDepth 16384

noncomputable section

namespace Cert.Proof.Widen

open Idealize.ShloMosaic Cert.MlpIdeal Cert.MlpIdeal.Gen

/-- The float whose exponent field is a scale byte. -/
def word (s : BitVec 8) : EReal := Ideal.ofBits .f32 (IntOp.shli .vector (s.setWidth 32) 23#32)

/-- A load of everything is the contents. -/
theorem ld_all {S : Shape} {e : EltTy} (x : Vec Ideal S e) (off : Fin S.rank → ℕ) (h : ∀ a, off a = 0) (inb) :
    View.ld (Val := Elt Ideal) x (Rect.unit (s := S) off S.size inb) = x :=
  funext fun i => View.ld_unit_apply_of x off S.size inb i i fun a => by rw [h a, Nat.zero_add]

/-- `32` rows of codes against one row of scale bytes. -/
def rows0 (s : Vec Ideal S80x128 .i8) (i : ℕ) (hs : S80x128.Slices ![i, 0] S1x128) (v : Vec Ideal S32x128 .fp8e4m3) : FVec Ideal S32x128 .bf16 :=
  truncf .bf16 (mulf (extf .f32 v bitsLt_fp8e4m3_f32)
    (broadcastTo S32x128 (extractStridedSlice S1x128 ![i, 0] (bitcastToFloat .f32 (shli (extui 32 s natLt_8_32) (broadcast S80x128 23#32))) hs) broadcasts_S1x128_S32x128)) bitsLt_bf16_f32

/-- One row of it at an index. -/
theorem rows0_apply (s : Vec Ideal S80x128 .i8) (i : ℕ) (hi : i < 80) (hs : S80x128.Slices ![i, 0] S1x128) (v : Vec Ideal S32x128 .fp8e4m3) (x : S32x128.Idx) :
    rows0 s i hs v x = v x * word (s (ix2 ⟨i, hi⟩ (x 1))) := by
  unfold rows0 word
  pointwise

/-- `32` rows of codes against one row of scale bytes. -/
def rows2 (s : Vec Ideal S108x256 .i8) (i : ℕ) (hs : S108x256.Slices ![i, 0] S1x256) (v : Vec Ideal S32x256 .fp8e4m3) : FVec Ideal S32x256 .bf16 :=
  truncf .bf16 (mulf (extf .f32 v bitsLt_fp8e4m3_f32)
    (broadcastTo S32x256 (extractStridedSlice S1x256 ![i, 0] (bitcastToFloat .f32 (shli (extui 32 s natLt_8_32) (broadcast S108x256 23#32))) hs) broadcasts_S1x256_S32x256)) bitsLt_bf16_f32

/-- One row of it at an index. -/
theorem rows2_apply (s : Vec Ideal S108x256 .i8) (i : ℕ) (hi : i < 108) (hs : S108x256.Slices ![i, 0] S1x256) (v : Vec Ideal S32x256 .fp8e4m3) (x : S32x256.Idx) :
    rows2 s i hs v x = v x * word (s (ix2 ⟨i, hi⟩ (x 1))) := by
  unfold rows2 word
  pointwise

/-- The widened pair: columns below 128 from the first codes, the others from the second. -/
def pair (x0 : Vec Ideal S2560x128 .fp8e4m3) (x1 : Vec Ideal S80x128 .i8) (x2 : Vec Ideal S2560x128 .fp8e4m3) (x3 : Vec Ideal S80x128 .i8) (r : Fin 2560) (c : ℕ) : EReal :=
  if c < 128 then x0 (ix2 r ⟨c % 128, Nat.mod_lt _ (by decide)⟩) * word (x1 (ix2 ⟨r.val / 32, by omega⟩ ⟨c % 128, Nat.mod_lt _ (by decide)⟩))
  else x2 (ix2 r ⟨c % 128, Nat.mod_lt _ (by decide)⟩) * word (x3 (ix2 ⟨r.val / 32, by omega⟩ ⟨c % 128, Nat.mod_lt _ (by decide)⟩))

variable (x0 : Vec Ideal S2560x128 .fp8e4m3) (x1 : Vec Ideal S80x128 .i8) (x2 : Vec Ideal S2560x128 .fp8e4m3) (x3 : Vec Ideal S80x128 .i8)

theorem tileA (y : S2560x256.Idx) (i : ℕ) (hi : i < 80) (hs : S80x128.Slices ![i, 0] S1x128) (inb)
    (off : Fin 2 → ℕ) (w : Vec Ideal S32x128 .bf16) (hoff : off = ![32 * i, 0])
    (hw : w = rows0 (View.ld x1 r0_0) i hs (View.ld x0 (Rect.unit (s := S2560x128) ![32 * i, 0] S32x128.size inb))) :
    View.TileAt (Val := Elt Ideal) (e := .bf16) y off S32x128.size w (pair x0 x1 x2 x3 (y 0) (y 1).val) := by
  subst hoff hw
  intro x hx
  have h0 := hx 0
  have h1 := hx 1
  simp only [Fin.isValue, Matrix.cons_val, zero_add] at h0 h1
  have hl : (x 1).val < 128 := (x 1).isLt
  have hr : (x 0).val < 32 := (x 0).isLt
  rw [rows0_apply _ _ hi, ld_all _ _ (by decide)]
  unfold pair
  rw [if_pos (by omega), View.ld_unit_apply_of x0 _ _ _ x (ix2 (y 0) ⟨(y 1).val % 128, Nat.mod_lt _ (by decide)⟩) (fun a => by
    fin_cases a
    · exact h0
    · show (y 1).val % 128 = 0 + (x 1).val
      omega)]
  congr 4
  · apply Fin.ext; show i = (y 0).val / 32; omega
  · apply Fin.ext; show (x 1).val = (y 1).val % 128; omega

theorem tileB (y : S2560x256.Idx) (i : ℕ) (hi : i < 80) (hs : S80x128.Slices ![i, 0] S1x128) (inb)
    (off : Fin 2 → ℕ) (w : Vec Ideal S32x128 .bf16) (hoff : off = ![32 * i, 128])
    (hw : w = rows0 (View.ld x3 r0_0) i hs (View.ld x2 (Rect.unit (s := S2560x128) ![32 * i, 0] S32x128.size inb))) :
    View.TileAt (Val := Elt Ideal) (e := .bf16) y off S32x128.size w (pair x0 x1 x2 x3 (y 0) (y 1).val) := by
  subst hoff hw
  intro x hx
  have h0 := hx 0
  have h1 := hx 1
  simp only [Fin.isValue, Matrix.cons_val] at h0 h1
  have hl : (x 1).val < 128 := (x 1).isLt
  have hr : (x 0).val < 32 := (x 0).isLt
  rw [rows0_apply _ _ hi, ld_all _ _ (by decide)]
  unfold pair
  rw [if_neg (by omega), View.ld_unit_apply_of x2 _ _ _ x (ix2 (y 0) ⟨(y 1).val % 128, Nat.mod_lt _ (by decide)⟩) (fun a => by
    fin_cases a
    · exact h0
    · show (y 1).val % 128 = 0 + (x 1).val
      omega)]
  congr 4
  · apply Fin.ext; show i = (y 0).val / 32; omega
  · apply Fin.ext; show (x 1).val = (y 1).val % 128; omega

/-- What the pair's call stores. -/
theorem pair_apply (y : S2560x256.Idx) : out0_4 x0 x1 x2 x3 y = pair x0 x1 x2 x3 (y 0) (y 1).val := by
  unfold out0_4
  refine View.canon_eq_of_allAt _ y _ (cover0_4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y) ?_
  refine View.allAt_cons_unit _ _ _ _ _ (tileB x0 x1 x2 x3 y 79 (by decide) slices_S80x128_o79_0_S1x128 inb_S2560x128_S32x128_2528_0 _ _ rfl rfl) ?_
  refine View.allAt_cons_unit _ _ _ _ _ (tileA x0 x1 x2 x3 y 79 (by decide) slices_S80x128_o79_0_S1x128 inb_S2560x128_S32x128_2528_0 _ _ rfl rfl) ?_
  refine View.allAt_cons_unit _ _ _ _ _ (tileB x0 x1 x2 x3 y 78 (by decide) slices_S80x128_o78_0_S1x128 inb_S2560x128_S32x128_2496_0 _ _ rfl rfl) ?_
  refine View.allAt_cons_unit _ _ _ _ _ (tileA x0 x1 x2 x3 y 78 (by decide) slices_S80x128_o78_0_S1x128 inb_S2560x128_S32x128_2496_0 _ _ rfl rfl) ?_
  refine View.allAt_cons_unit _ _ _ _ _ (tileB x0 x1 x2 x3 y 77 (by decide) slices_S80x128_o77_0_S1x128 inb_S2560x128_S32x128_2464_0 _ _ rfl rfl) ?_
  refine View.allAt_cons_unit _ _ _ _ _ (tileA x0 x1 x2 x3 y 77 (by decide) slices_S80x128_o77_0_S1x128 inb_S2560x128_S32x128_2464_0 _ _ rfl rfl) ?_
  refine View.allAt_cons_unit _ _ _ _ _ (tileB x0 x1 x2 x3 y 76 (by decide) slices_S80x128_o76_0_S1x128 inb_S2560x128_S32x128_2432_0 _ _ rfl rfl) ?_
  refine View.allAt_cons_unit _ _ _ _ _ (tileA x0 x1 x2 x3 y 76 (by decide) slices_S80x128_o76_0_S1x128 inb_S2560x128_S32x128_2432_0 _ _ rfl rfl) ?_
  refine View.allAt_cons_unit _ _ _ _ _ (tileB x0 x1 x2 x3 y 75 (by decide) slices_S80x128_o75_0_S1x128 inb_S2560x128_S32x128_2400_0 _ _ rfl rfl) ?_
  refine View.allAt_cons_unit _ _ _ _ _ (tileA x0 x1 x2 x3 y 75 (by decide) slices_S80x128_o75_0_S1x128 inb_S2560x128_S32x128_2400_0 _ _ rfl rfl) ?_
  refine View.allAt_cons_unit _ _ _ _ _ (tileB x0 x1 x2 x3 y 74 (by decide) slices_S80x128_o74_0_S1x128 inb_S2560x128_S32x128_2368_0 _ _ rfl rfl) ?_
  refine View.allAt_cons_unit _ _ _ _ _ (tileA x0 x1 x2 x3 y 74 (by decide) slices_S80x128_o74_0_S1x128 inb_S2560x128_S32x128_2368_0 _ _ rfl rfl) ?_
  refine View.allAt_cons_unit _ _ _ _ _ (tileB x0 x1 x2 x3 y 73 (by decide) slices_S80x128_o73_0_S1x128 inb_S2560x128_S32x128_2336_0 _ _ rfl rfl) ?_
  refine View.allAt_cons_unit _ _ _ _ _ (tileA x0 x1 x2 x3 y 73 (by decide) slices_S80x128_o73_0_S1x128 inb_S2560x128_S32x128_2336_0 _ _ rfl rfl) ?_
  refine View.allAt_cons_unit _ _ _ _ _ (tileB x0 x1 x2 x3 y 72 (by decide) slices_S80x128_o72_0_S1x128 inb_S2560x128_S32x128_2304_0 _ _ rfl rfl) ?_
  refine View.allAt_cons_unit _ _ _ _ _ (tileA x0 x1 x2 x3 y 72 (by decide) slices_S80x128_o72_0_S1x128 inb_S2560x128_S32x128_2304_0 _ _ rfl rfl) ?_
  refine View.allAt_cons_unit _ _ _ _ _ (tileB x0 x1 x2 x3 y 71 (by decide) slices_S80x128_o71_0_S1x128 inb_S2560x128_S32x128_2272_0 _ _ rfl rfl) ?_
  refine View.allAt_cons_unit _ _ _ _ _ (tileA x0 x1 x2 x3 y 71 (by decide) slices_S80x128_o71_0_S1x128 inb_S2560x128_S32x128_2272_0 _ _ rfl rfl) ?_
  refine View.allAt_cons_unit _ _ _ _ _ (tileB x0 x1 x2 x3 y 70 (by decide) slices_S80x128_o70_0_S1x128 inb_S2560x128_S32x128_2240_0 _ _ rfl rfl) ?_
  refine View.allAt_cons_unit _ _ _ _ _ (tileA x0 x1 x2 x3 y 70 (by decide) slices_S80x128_o70_0_S1x128 inb_S2560x128_S32x128_2240_0 _ _ rfl rfl) ?_
  refine View.allAt_cons_unit _ _ _ _ _ (tileB x0 x1 x2 x3 y 69 (by decide) slices_S80x128_o69_0_S1x128 inb_S2560x128_S32x128_2208_0 _ _ rfl rfl) ?_
  refine View.allAt_cons_unit _ _ _ _ _ (tileA x0 x1 x2 x3 y 69 (by decide) slices_S80x128_o69_0_S1x128 inb_S2560x128_S32x128_2208_0 _ _ rfl rfl) ?_
  refine View.allAt_cons_unit _ _ _ _ _ (tileB x0 x1 x2 x3 y 68 (by decide) slices_S80x128_o68_0_S1x128 inb_S2560x128_S32x128_2176_0 _ _ rfl rfl) ?_
  refine View.allAt_cons_unit _ _ _ _ _ (tileA x0 x1 x2 x3 y 68 (by decide) slices_S80x128_o68_0_S1x128 inb_S2560x128_S32x128_2176_0 _ _ rfl rfl) ?_
  refine View.allAt_cons_unit _ _ _ _ _ (tileB x0 x1 x2 x3 y 67 (by decide) slices_S80x128_o67_0_S1x128 inb_S2560x128_S32x128_2144_0 _ _ rfl rfl) ?_
  refine View.allAt_cons_unit _ _ _ _ _ (tileA x0 x1 x2 x3 y 67 (by decide) slices_S80x128_o67_0_S1x128 inb_S2560x128_S32x128_2144_0 _ _ rfl rfl) ?_
  refine View.allAt_cons_unit _ _ _ _ _ (tileB x0 x1 x2 x3 y 66 (by decide) slices_S80x128_o66_0_S1x128 inb_S2560x128_S32x128_2112_0 _ _ rfl rfl) ?_
  refine View.allAt_cons_unit _ _ _ _ _ (tileA x0 x1 x2 x3 y 66 (by decide) slices_S80x128_o66_0_S1x128 inb_S2560x128_S32x128_2112_0 _ _ rfl rfl) ?_
  refine View.allAt_cons_unit _ _ _ _ _ (tileB x0 x1 x2 x3 y 65 (by decide) slices_S80x128_o65_0_S1x128 inb_S2560x128_S32x128_2080_0 _ _ rfl rfl) ?_
  refine View.allAt_cons_unit _ _ _ _ _ (tileA x0 x1 x2 x3 y 65 (by decide) slices_S80x128_o65_0_S1x128 inb_S2560x128_S32x128_2080_0 _ _ rfl rfl) ?_
  refine View.allAt_cons_unit _ _ _ _ _ (tileB x0 x1 x2 x3 y 64 (by decide) slices_S80x128_o64_0_S1x128 inb_S2560x128_S32x128_2048_0 _ _ rfl rfl) ?_
  refine View.allAt_cons_unit _ _ _ _ _ (tileA x0 x1 x2 x3 y 64 (by decide) slices_S80x128_o64_0_S1x128 inb_S2560x128_S32x128_2048_0 _ _ rfl rfl) ?_
  refine View.allAt_cons_unit _ _ _ _ _ (tileB x0 x1 x2 x3 y 63 (by decide) slices_S80x128_o63_0_S1x128 inb_S2560x128_S32x128_2016_0 _ _ rfl rfl) ?_
  refine View.allAt_cons_unit _ _ _ _ _ (tileA x0 x1 x2 x3 y 63 (by decide) slices_S80x128_o63_0_S1x128 inb_S2560x128_S32x128_2016_0 _ _ rfl rfl) ?_
  refine View.allAt_cons_unit _ _ _ _ _ (tileB x0 x1 x2 x3 y 62 (by decide) slices_S80x128_o62_0_S1x128 inb_S2560x128_S32x128_1984_0 _ _ rfl rfl) ?_
  refine View.allAt_cons_unit _ _ _ _ _ (tileA x0 x1 x2 x3 y 62 (by decide) slices_S80x128_o62_0_S1x128 inb_S2560x128_S32x128_1984_0 _ _ rfl rfl) ?_
  refine View.allAt_cons_unit _ _ _ _ _ (tileB x0 x1 x2 x3 y 61 (by decide) slices_S80x128_o61_0_S1x128 inb_S2560x128_S32x128_1952_0 _ _ rfl rfl) ?_
  refine View.allAt_cons_unit _ _ _ _ _ (tileA x0 x1 x2 x3 y 61 (by decide) slices_S80x128_o61_0_S1x128 inb_S2560x128_S32x128_1952_0 _ _ rfl rfl) ?_
  refine View.allAt_cons_unit _ _ _ _ _ (tileB x0 x1 x2 x3 y 60 (by decide) slices_S80x128_o60_0_S1x128 inb_S2560x128_S32x128_1920_0 _ _ rfl rfl) ?_
  refine View.allAt_cons_unit _ _ _ _ _ (tileA x0 x1 x2 x3 y 60 (by decide) slices_S80x128_o60_0_S1x128 inb_S2560x128_S32x128_1920_0 _ _ rfl rfl) ?_
  refine View.allAt_cons_unit _ _ _ _ _ (tileB x0 x1 x2 x3 y 59 (by decide) slices_S80x128_o59_0_S1x128 inb_S2560x128_S32x128_1888_0 _ _ rfl rfl) ?_
  refine View.allAt_cons_unit _ _ _ _ _ (tileA x0 x1 x2 x3 y 59 (by decide) slices_S80x128_o59_0_S1x128 inb_S2560x128_S32x128_1888_0 _ _ rfl rfl) ?_
  refine View.allAt_cons_unit _ _ _ _ _ (tileB x0 x1 x2 x3 y 58 (by decide) slices_S80x128_o58_0_S1x128 inb_S2560x128_S32x128_1856_0 _ _ rfl rfl) ?_
  refine View.allAt_cons_unit _ _ _ _ _ (tileA x0 x1 x2 x3 y 58 (by decide) slices_S80x128_o58_0_S1x128 inb_S2560x128_S32x128_1856_0 _ _ rfl rfl) ?_
  refine View.allAt_cons_unit _ _ _ _ _ (tileB x0 x1 x2 x3 y 57 (by decide) slices_S80x128_o57_0_S1x128 inb_S2560x128_S32x128_1824_0 _ _ rfl rfl) ?_
  refine View.allAt_cons_unit _ _ _ _ _ (tileA x0 x1 x2 x3 y 57 (by decide) slices_S80x128_o57_0_S1x128 inb_S2560x128_S32x128_1824_0 _ _ rfl rfl) ?_
  refine View.allAt_cons_unit _ _ _ _ _ (tileB x0 x1 x2 x3 y 56 (by decide) slices_S80x128_o56_0_S1x128 inb_S2560x128_S32x128_1792_0 _ _ rfl rfl) ?_
  refine View.allAt_cons_unit _ _ _ _ _ (tileA x0 x1 x2 x3 y 56 (by decide) slices_S80x128_o56_0_S1x128 inb_S2560x128_S32x128_1792_0 _ _ rfl rfl) ?_
  refine View.allAt_cons_unit _ _ _ _ _ (tileB x0 x1 x2 x3 y 55 (by decide) slices_S80x128_o55_0_S1x128 inb_S2560x128_S32x128_1760_0 _ _ rfl rfl) ?_
  refine View.allAt_cons_unit _ _ _ _ _ (tileA x0 x1 x2 x3 y 55 (by decide) slices_S80x128_o55_0_S1x128 inb_S2560x128_S32x128_1760_0 _ _ rfl rfl) ?_
  refine View.allAt_cons_unit _ _ _ _ _ (tileB x0 x1 x2 x3 y 54 (by decide) slices_S80x128_o54_0_S1x128 inb_S2560x128_S32x128_1728_0 _ _ rfl rfl) ?_
  refine View.allAt_cons_unit _ _ _ _ _ (tileA x0 x1 x2 x3 y 54 (by decide) slices_S80x128_o54_0_S1x128 inb_S2560x128_S32x128_1728_0 _ _ rfl rfl) ?_
  refine View.allAt_cons_unit _ _ _ _ _ (tileB x0 x1 x2 x3 y 53 (by decide) slices_S80x128_o53_0_S1x128 inb_S2560x128_S32x128_1696_0 _ _ rfl rfl) ?_
  refine View.allAt_cons_unit _ _ _ _ _ (tileA x0 x1 x2 x3 y 53 (by decide) slices_S80x128_o53_0_S1x128 inb_S2560x128_S32x128_1696_0 _ _ rfl rfl) ?_
  refine View.allAt_cons_unit _ _ _ _ _ (tileB x0 x1 x2 x3 y 52 (by decide) slices_S80x128_o52_0_S1x128 inb_S2560x128_S32x128_1664_0 _ _ rfl rfl) ?_
  refine View.allAt_cons_unit _ _ _ _ _ (tileA x0 x1 x2 x3 y 52 (by decide) slices_S80x128_o52_0_S1x128 inb_S2560x128_S32x128_1664_0 _ _ rfl rfl) ?_
  refine View.allAt_cons_unit _ _ _ _ _ (tileB x0 x1 x2 x3 y 51 (by decide) slices_S80x128_o51_0_S1x128 inb_S2560x128_S32x128_1632_0 _ _ rfl rfl) ?_
  refine View.allAt_cons_unit _ _ _ _ _ (tileA x0 x1 x2 x3 y 51 (by decide) slices_S80x128_o51_0_S1x128 inb_S2560x128_S32x128_1632_0 _ _ rfl rfl) ?_
  refine View.allAt_cons_unit _ _ _ _ _ (tileB x0 x1 x2 x3 y 50 (by decide) slices_S80x128_o50_0_S1x128 inb_S2560x128_S32x128_1600_0 _ _ rfl rfl) ?_
  refine View.allAt_cons_unit _ _ _ _ _ (tileA x0 x1 x2 x3 y 50 (by decide) slices_S80x128_o50_0_S1x128 inb_S2560x128_S32x128_1600_0 _ _ rfl rfl) ?_
  refine View.allAt_cons_unit _ _ _ _ _ (tileB x0 x1 x2 x3 y 49 (by decide) slices_S80x128_o49_0_S1x128 inb_S2560x128_S32x128_1568_0 _ _ rfl rfl) ?_
  refine View.allAt_cons_unit _ _ _ _ _ (tileA x0 x1 x2 x3 y 49 (by decide) slices_S80x128_o49_0_S1x128 inb_S2560x128_S32x128_1568_0 _ _ rfl rfl) ?_
  refine View.allAt_cons_unit _ _ _ _ _ (tileB x0 x1 x2 x3 y 48 (by decide) slices_S80x128_o48_0_S1x128 inb_S2560x128_S32x128_1536_0 _ _ rfl rfl) ?_
  refine View.allAt_cons_unit _ _ _ _ _ (tileA x0 x1 x2 x3 y 48 (by decide) slices_S80x128_o48_0_S1x128 inb_S2560x128_S32x128_1536_0 _ _ rfl rfl) ?_
  refine View.allAt_cons_unit _ _ _ _ _ (tileB x0 x1 x2 x3 y 47 (by decide) slices_S80x128_o47_0_S1x128 inb_S2560x128_S32x128_1504_0 _ _ rfl rfl) ?_
  refine View.allAt_cons_unit _ _ _ _ _ (tileA x0 x1 x2 x3 y 47 (by decide) slices_S80x128_o47_0_S1x128 inb_S2560x128_S32x128_1504_0 _ _ rfl rfl) ?_
  refine View.allAt_cons_unit _ _ _ _ _ (tileB x0 x1 x2 x3 y 46 (by decide) slices_S80x128_o46_0_S1x128 inb_S2560x128_S32x128_1472_0 _ _ rfl rfl) ?_
  refine View.allAt_cons_unit _ _ _ _ _ (tileA x0 x1 x2 x3 y 46 (by decide) slices_S80x128_o46_0_S1x128 inb_S2560x128_S32x128_1472_0 _ _ rfl rfl) ?_
  refine View.allAt_cons_unit _ _ _ _ _ (tileB x0 x1 x2 x3 y 45 (by decide) slices_S80x128_o45_0_S1x128 inb_S2560x128_S32x128_1440_0 _ _ rfl rfl) ?_
  refine View.allAt_cons_unit _ _ _ _ _ (tileA x0 x1 x2 x3 y 45 (by decide) slices_S80x128_o45_0_S1x128 inb_S2560x128_S32x128_1440_0 _ _ rfl rfl) ?_
  refine View.allAt_cons_unit _ _ _ _ _ (tileB x0 x1 x2 x3 y 44 (by decide) slices_S80x128_o44_0_S1x128 inb_S2560x128_S32x128_1408_0 _ _ rfl rfl) ?_
  refine View.allAt_cons_unit _ _ _ _ _ (tileA x0 x1 x2 x3 y 44 (by decide) slices_S80x128_o44_0_S1x128 inb_S2560x128_S32x128_1408_0 _ _ rfl rfl) ?_
  refine View.allAt_cons_unit _ _ _ _ _ (tileB x0 x1 x2 x3 y 43 (by decide) slices_S80x128_o43_0_S1x128 inb_S2560x128_S32x128_1376_0 _ _ rfl rfl) ?_
  refine View.allAt_cons_unit _ _ _ _ _ (tileA x0 x1 x2 x3 y 43 (by decide) slices_S80x128_o43_0_S1x128 inb_S2560x128_S32x128_1376_0 _ _ rfl rfl) ?_
  refine View.allAt_cons_unit _ _ _ _ _ (tileB x0 x1 x2 x3 y 42 (by decide) slices_S80x128_o42_0_S1x128 inb_S2560x128_S32x128_1344_0 _ _ rfl rfl) ?_
  refine View.allAt_cons_unit _ _ _ _ _ (tileA x0 x1 x2 x3 y 42 (by decide) slices_S80x128_o42_0_S1x128 inb_S2560x128_S32x128_1344_0 _ _ rfl rfl) ?_
  refine View.allAt_cons_unit _ _ _ _ _ (tileB x0 x1 x2 x3 y 41 (by decide) slices_S80x128_o41_0_S1x128 inb_S2560x128_S32x128_1312_0 _ _ rfl rfl) ?_
  refine View.allAt_cons_unit _ _ _ _ _ (tileA x0 x1 x2 x3 y 41 (by decide) slices_S80x128_o41_0_S1x128 inb_S2560x128_S32x128_1312_0 _ _ rfl rfl) ?_
  refine View.allAt_cons_unit _ _ _ _ _ (tileB x0 x1 x2 x3 y 40 (by decide) slices_S80x128_o40_0_S1x128 inb_S2560x128_S32x128_1280_0 _ _ rfl rfl) ?_
  refine View.allAt_cons_unit _ _ _ _ _ (tileA x0 x1 x2 x3 y 40 (by decide) slices_S80x128_o40_0_S1x128 inb_S2560x128_S32x128_1280_0 _ _ rfl rfl) ?_
  refine View.allAt_cons_unit _ _ _ _ _ (tileB x0 x1 x2 x3 y 39 (by decide) slices_S80x128_o39_0_S1x128 inb_S2560x128_S32x128_1248_0 _ _ rfl rfl) ?_
  refine View.allAt_cons_unit _ _ _ _ _ (tileA x0 x1 x2 x3 y 39 (by decide) slices_S80x128_o39_0_S1x128 inb_S2560x128_S32x128_1248_0 _ _ rfl rfl) ?_
  refine View.allAt_cons_unit _ _ _ _ _ (tileB x0 x1 x2 x3 y 38 (by decide) slices_S80x128_o38_0_S1x128 inb_S2560x128_S32x128_1216_0 _ _ rfl rfl) ?_
  refine View.allAt_cons_unit _ _ _ _ _ (tileA x0 x1 x2 x3 y 38 (by decide) slices_S80x128_o38_0_S1x128 inb_S2560x128_S32x128_1216_0 _ _ rfl rfl) ?_
  refine View.allAt_cons_unit _ _ _ _ _ (tileB x0 x1 x2 x3 y 37 (by decide) slices_S80x128_o37_0_S1x128 inb_S2560x128_S32x128_1184_0 _ _ rfl rfl) ?_
  refine View.allAt_cons_unit _ _ _ _ _ (tileA x0 x1 x2 x3 y 37 (by decide) slices_S80x128_o37_0_S1x128 inb_S2560x128_S32x128_1184_0 _ _ rfl rfl) ?_
  refine View.allAt_cons_unit _ _ _ _ _ (tileB x0 x1 x2 x3 y 36 (by decide) slices_S80x128_o36_0_S1x128 inb_S2560x128_S32x128_1152_0 _ _ rfl rfl) ?_
  refine View.allAt_cons_unit _ _ _ _ _ (tileA x0 x1 x2 x3 y 36 (by decide) slices_S80x128_o36_0_S1x128 inb_S2560x128_S32x128_1152_0 _ _ rfl rfl) ?_
  refine View.allAt_cons_unit _ _ _ _ _ (tileB x0 x1 x2 x3 y 35 (by decide) slices_S80x128_o35_0_S1x128 inb_S2560x128_S32x128_1120_0 _ _ rfl rfl) ?_
  refine View.allAt_cons_unit _ _ _ _ _ (tileA x0 x1 x2 x3 y 35 (by decide) slices_S80x128_o35_0_S1x128 inb_S2560x128_S32x128_1120_0 _ _ rfl rfl) ?_
  refine View.allAt_cons_unit _ _ _ _ _ (tileB x0 x1 x2 x3 y 34 (by decide) slices_S80x128_o34_0_S1x128 inb_S2560x128_S32x128_1088_0 _ _ rfl rfl) ?_
  refine View.allAt_cons_unit _ _ _ _ _ (tileA x0 x1 x2 x3 y 34 (by decide) slices_S80x128_o34_0_S1x128 inb_S2560x128_S32x128_1088_0 _ _ rfl rfl) ?_
  refine View.allAt_cons_unit _ _ _ _ _ (tileB x0 x1 x2 x3 y 33 (by decide) slices_S80x128_o33_0_S1x128 inb_S2560x128_S32x128_1056_0 _ _ rfl rfl) ?_
  refine View.allAt_cons_unit _ _ _ _ _ (tileA x0 x1 x2 x3 y 33 (by decide) slices_S80x128_o33_0_S1x128 inb_S2560x128_S32x128_1056_0 _ _ rfl rfl) ?_
  refine View.allAt_cons_unit _ _ _ _ _ (tileB x0 x1 x2 x3 y 32 (by decide) slices_S80x128_o32_0_S1x128 inb_S2560x128_S32x128_1024_0 _ _ rfl rfl) ?_
  refine View.allAt_cons_unit _ _ _ _ _ (tileA x0 x1 x2 x3 y 32 (by decide) slices_S80x128_o32_0_S1x128 inb_S2560x128_S32x128_1024_0 _ _ rfl rfl) ?_
  refine View.allAt_cons_unit _ _ _ _ _ (tileB x0 x1 x2 x3 y 31 (by decide) slices_S80x128_o31_0_S1x128 inb_S2560x128_S32x128_992_0 _ _ rfl rfl) ?_
  refine View.allAt_cons_unit _ _ _ _ _ (tileA x0 x1 x2 x3 y 31 (by decide) slices_S80x128_o31_0_S1x128 inb_S2560x128_S32x128_992_0 _ _ rfl rfl) ?_
  refine View.allAt_cons_unit _ _ _ _ _ (tileB x0 x1 x2 x3 y 30 (by decide) slices_S80x128_o30_0_S1x128 inb_S2560x128_S32x128_960_0 _ _ rfl rfl) ?_
  refine View.allAt_cons_unit _ _ _ _ _ (tileA x0 x1 x2 x3 y 30 (by decide) slices_S80x128_o30_0_S1x128 inb_S2560x128_S32x128_960_0 _ _ rfl rfl) ?_
  refine View.allAt_cons_unit _ _ _ _ _ (tileB x0 x1 x2 x3 y 29 (by decide) slices_S80x128_o29_0_S1x128 inb_S2560x128_S32x128_928_0 _ _ rfl rfl) ?_
  refine View.allAt_cons_unit _ _ _ _ _ (tileA x0 x1 x2 x3 y 29 (by decide) slices_S80x128_o29_0_S1x128 inb_S2560x128_S32x128_928_0 _ _ rfl rfl) ?_
  refine View.allAt_cons_unit _ _ _ _ _ (tileB x0 x1 x2 x3 y 28 (by decide) slices_S80x128_o28_0_S1x128 inb_S2560x128_S32x128_896_0 _ _ rfl rfl) ?_
  refine View.allAt_cons_unit _ _ _ _ _ (tileA x0 x1 x2 x3 y 28 (by decide) slices_S80x128_o28_0_S1x128 inb_S2560x128_S32x128_896_0 _ _ rfl rfl) ?_
  refine View.allAt_cons_unit _ _ _ _ _ (tileB x0 x1 x2 x3 y 27 (by decide) slices_S80x128_o27_0_S1x128 inb_S2560x128_S32x128_864_0 _ _ rfl rfl) ?_
  refine View.allAt_cons_unit _ _ _ _ _ (tileA x0 x1 x2 x3 y 27 (by decide) slices_S80x128_o27_0_S1x128 inb_S2560x128_S32x128_864_0 _ _ rfl rfl) ?_
  refine View.allAt_cons_unit _ _ _ _ _ (tileB x0 x1 x2 x3 y 26 (by decide) slices_S80x128_o26_0_S1x128 inb_S2560x128_S32x128_832_0 _ _ rfl rfl) ?_
  refine View.allAt_cons_unit _ _ _ _ _ (tileA x0 x1 x2 x3 y 26 (by decide) slices_S80x128_o26_0_S1x128 inb_S2560x128_S32x128_832_0 _ _ rfl rfl) ?_
  refine View.allAt_cons_unit _ _ _ _ _ (tileB x0 x1 x2 x3 y 25 (by decide) slices_S80x128_o25_0_S1x128 inb_S2560x128_S32x128_800_0 _ _ rfl rfl) ?_
  refine View.allAt_cons_unit _ _ _ _ _ (tileA x0 x1 x2 x3 y 25 (by decide) slices_S80x128_o25_0_S1x128 inb_S2560x128_S32x128_800_0 _ _ rfl rfl) ?_
  refine View.allAt_cons_unit _ _ _ _ _ (tileB x0 x1 x2 x3 y 24 (by decide) slices_S80x128_o24_0_S1x128 inb_S2560x128_S32x128_768_0 _ _ rfl rfl) ?_
  refine View.allAt_cons_unit _ _ _ _ _ (tileA x0 x1 x2 x3 y 24 (by decide) slices_S80x128_o24_0_S1x128 inb_S2560x128_S32x128_768_0 _ _ rfl rfl) ?_
  refine View.allAt_cons_unit _ _ _ _ _ (tileB x0 x1 x2 x3 y 23 (by decide) slices_S80x128_o23_0_S1x128 inb_S2560x128_S32x128_736_0 _ _ rfl rfl) ?_
  refine View.allAt_cons_unit _ _ _ _ _ (tileA x0 x1 x2 x3 y 23 (by decide) slices_S80x128_o23_0_S1x128 inb_S2560x128_S32x128_736_0 _ _ rfl rfl) ?_
  refine View.allAt_cons_unit _ _ _ _ _ (tileB x0 x1 x2 x3 y 22 (by decide) slices_S80x128_o22_0_S1x128 inb_S2560x128_S32x128_704_0 _ _ rfl rfl) ?_
  refine View.allAt_cons_unit _ _ _ _ _ (tileA x0 x1 x2 x3 y 22 (by decide) slices_S80x128_o22_0_S1x128 inb_S2560x128_S32x128_704_0 _ _ rfl rfl) ?_
  refine View.allAt_cons_unit _ _ _ _ _ (tileB x0 x1 x2 x3 y 21 (by decide) slices_S80x128_o21_0_S1x128 inb_S2560x128_S32x128_672_0 _ _ rfl rfl) ?_
  refine View.allAt_cons_unit _ _ _ _ _ (tileA x0 x1 x2 x3 y 21 (by decide) slices_S80x128_o21_0_S1x128 inb_S2560x128_S32x128_672_0 _ _ rfl rfl) ?_
  refine View.allAt_cons_unit _ _ _ _ _ (tileB x0 x1 x2 x3 y 20 (by decide) slices_S80x128_o20_0_S1x128 inb_S2560x128_S32x128_640_0 _ _ rfl rfl) ?_
  refine View.allAt_cons_unit _ _ _ _ _ (tileA x0 x1 x2 x3 y 20 (by decide) slices_S80x128_o20_0_S1x128 inb_S2560x128_S32x128_640_0 _ _ rfl rfl) ?_
  refine View.allAt_cons_unit _ _ _ _ _ (tileB x0 x1 x2 x3 y 19 (by decide) slices_S80x128_o19_0_S1x128 inb_S2560x128_S32x128_608_0 _ _ rfl rfl) ?_
  refine View.allAt_cons_unit _ _ _ _ _ (tileA x0 x1 x2 x3 y 19 (by decide) slices_S80x128_o19_0_S1x128 inb_S2560x128_S32x128_608_0 _ _ rfl rfl) ?_
  refine View.allAt_cons_unit _ _ _ _ _ (tileB x0 x1 x2 x3 y 18 (by decide) slices_S80x128_o18_0_S1x128 inb_S2560x128_S32x128_576_0 _ _ rfl rfl) ?_
  refine View.allAt_cons_unit _ _ _ _ _ (tileA x0 x1 x2 x3 y 18 (by decide) slices_S80x128_o18_0_S1x128 inb_S2560x128_S32x128_576_0 _ _ rfl rfl) ?_
  refine View.allAt_cons_unit _ _ _ _ _ (tileB x0 x1 x2 x3 y 17 (by decide) slices_S80x128_o17_0_S1x128 inb_S2560x128_S32x128_544_0 _ _ rfl rfl) ?_
  refine View.allAt_cons_unit _ _ _ _ _ (tileA x0 x1 x2 x3 y 17 (by decide) slices_S80x128_o17_0_S1x128 inb_S2560x128_S32x128_544_0 _ _ rfl rfl) ?_
  refine View.allAt_cons_unit _ _ _ _ _ (tileB x0 x1 x2 x3 y 16 (by decide) slices_S80x128_o16_0_S1x128 inb_S2560x128_S32x128_512_0 _ _ rfl rfl) ?_
  refine View.allAt_cons_unit _ _ _ _ _ (tileA x0 x1 x2 x3 y 16 (by decide) slices_S80x128_o16_0_S1x128 inb_S2560x128_S32x128_512_0 _ _ rfl rfl) ?_
  refine View.allAt_cons_unit _ _ _ _ _ (tileB x0 x1 x2 x3 y 15 (by decide) slices_S80x128_o15_0_S1x128 inb_S2560x128_S32x128_480_0 _ _ rfl rfl) ?_
  refine View.allAt_cons_unit _ _ _ _ _ (tileA x0 x1 x2 x3 y 15 (by decide) slices_S80x128_o15_0_S1x128 inb_S2560x128_S32x128_480_0 _ _ rfl rfl) ?_
  refine View.allAt_cons_unit _ _ _ _ _ (tileB x0 x1 x2 x3 y 14 (by decide) slices_S80x128_o14_0_S1x128 inb_S2560x128_S32x128_448_0 _ _ rfl rfl) ?_
  refine View.allAt_cons_unit _ _ _ _ _ (tileA x0 x1 x2 x3 y 14 (by decide) slices_S80x128_o14_0_S1x128 inb_S2560x128_S32x128_448_0 _ _ rfl rfl) ?_
  refine View.allAt_cons_unit _ _ _ _ _ (tileB x0 x1 x2 x3 y 13 (by decide) slices_S80x128_o13_0_S1x128 inb_S2560x128_S32x128_416_0 _ _ rfl rfl) ?_
  refine View.allAt_cons_unit _ _ _ _ _ (tileA x0 x1 x2 x3 y 13 (by decide) slices_S80x128_o13_0_S1x128 inb_S2560x128_S32x128_416_0 _ _ rfl rfl) ?_
  refine View.allAt_cons_unit _ _ _ _ _ (tileB x0 x1 x2 x3 y 12 (by decide) slices_S80x128_o12_0_S1x128 inb_S2560x128_S32x128_384_0 _ _ rfl rfl) ?_
  refine View.allAt_cons_unit _ _ _ _ _ (tileA x0 x1 x2 x3 y 12 (by decide) slices_S80x128_o12_0_S1x128 inb_S2560x128_S32x128_384_0 _ _ rfl rfl) ?_
  refine View.allAt_cons_unit _ _ _ _ _ (tileB x0 x1 x2 x3 y 11 (by decide) slices_S80x128_o11_0_S1x128 inb_S2560x128_S32x128_352_0 _ _ rfl rfl) ?_
  refine View.allAt_cons_unit _ _ _ _ _ (tileA x0 x1 x2 x3 y 11 (by decide) slices_S80x128_o11_0_S1x128 inb_S2560x128_S32x128_352_0 _ _ rfl rfl) ?_
  refine View.allAt_cons_unit _ _ _ _ _ (tileB x0 x1 x2 x3 y 10 (by decide) slices_S80x128_o10_0_S1x128 inb_S2560x128_S32x128_320_0 _ _ rfl rfl) ?_
  refine View.allAt_cons_unit _ _ _ _ _ (tileA x0 x1 x2 x3 y 10 (by decide) slices_S80x128_o10_0_S1x128 inb_S2560x128_S32x128_320_0 _ _ rfl rfl) ?_
  refine View.allAt_cons_unit _ _ _ _ _ (tileB x0 x1 x2 x3 y 9 (by decide) slices_S80x128_o9_0_S1x128 inb_S2560x128_S32x128_288_0 _ _ rfl rfl) ?_
  refine View.allAt_cons_unit _ _ _ _ _ (tileA x0 x1 x2 x3 y 9 (by decide) slices_S80x128_o9_0_S1x128 inb_S2560x128_S32x128_288_0 _ _ rfl rfl) ?_
  refine View.allAt_cons_unit _ _ _ _ _ (tileB x0 x1 x2 x3 y 8 (by decide) slices_S80x128_o8_0_S1x128 inb_S2560x128_S32x128_256_0 _ _ rfl rfl) ?_
  refine View.allAt_cons_unit _ _ _ _ _ (tileA x0 x1 x2 x3 y 8 (by decide) slices_S80x128_o8_0_S1x128 inb_S2560x128_S32x128_256_0 _ _ rfl rfl) ?_
  refine View.allAt_cons_unit _ _ _ _ _ (tileB x0 x1 x2 x3 y 7 (by decide) slices_S80x128_o7_0_S1x128 inb_S2560x128_S32x128_224_0 _ _ rfl rfl) ?_
  refine View.allAt_cons_unit _ _ _ _ _ (tileA x0 x1 x2 x3 y 7 (by decide) slices_S80x128_o7_0_S1x128 inb_S2560x128_S32x128_224_0 _ _ rfl rfl) ?_
  refine View.allAt_cons_unit _ _ _ _ _ (tileB x0 x1 x2 x3 y 6 (by decide) slices_S80x128_o6_0_S1x128 inb_S2560x128_S32x128_192_0 _ _ rfl rfl) ?_
  refine View.allAt_cons_unit _ _ _ _ _ (tileA x0 x1 x2 x3 y 6 (by decide) slices_S80x128_o6_0_S1x128 inb_S2560x128_S32x128_192_0 _ _ rfl rfl) ?_
  refine View.allAt_cons_unit _ _ _ _ _ (tileB x0 x1 x2 x3 y 5 (by decide) slices_S80x128_o5_0_S1x128 inb_S2560x128_S32x128_160_0 _ _ rfl rfl) ?_
  refine View.allAt_cons_unit _ _ _ _ _ (tileA x0 x1 x2 x3 y 5 (by decide) slices_S80x128_o5_0_S1x128 inb_S2560x128_S32x128_160_0 _ _ rfl rfl) ?_
  refine View.allAt_cons_unit _ _ _ _ _ (tileB x0 x1 x2 x3 y 4 (by decide) slices_S80x128_o4_0_S1x128 inb_S2560x128_S32x128_128_0 _ _ rfl rfl) ?_
  refine View.allAt_cons_unit _ _ _ _ _ (tileA x0 x1 x2 x3 y 4 (by decide) slices_S80x128_o4_0_S1x128 inb_S2560x128_S32x128_128_0 _ _ rfl rfl) ?_
  refine View.allAt_cons_unit _ _ _ _ _ (tileB x0 x1 x2 x3 y 3 (by decide) slices_S80x128_o3_0_S1x128 inb_S2560x128_S32x128_96_0 _ _ rfl rfl) ?_
  refine View.allAt_cons_unit _ _ _ _ _ (tileA x0 x1 x2 x3 y 3 (by decide) slices_S80x128_o3_0_S1x128 inb_S2560x128_S32x128_96_0 _ _ rfl rfl) ?_
  refine View.allAt_cons_unit _ _ _ _ _ (tileB x0 x1 x2 x3 y 2 (by decide) slices_S80x128_o2_0_S1x128 inb_S2560x128_S32x128_64_0 _ _ rfl rfl) ?_
  refine View.allAt_cons_unit _ _ _ _ _ (tileA x0 x1 x2 x3 y 2 (by decide) slices_S80x128_o2_0_S1x128 inb_S2560x128_S32x128_64_0 _ _ rfl rfl) ?_
  refine View.allAt_cons_unit _ _ _ _ _ (tileB x0 x1 x2 x3 y 1 (by decide) slices_S80x128_o1_0_S1x128 inb_S2560x128_S32x128_32_0 _ _ rfl rfl) ?_
  refine View.allAt_cons_unit _ _ _ _ _ (tileA x0 x1 x2 x3 y 1 (by decide) slices_S80x128_o1_0_S1x128 inb_S2560x128_S32x128_32_0 _ _ rfl rfl) ?_
  refine View.allAt_cons_unit _ _ _ _ _ (tileB x0 x1 x2 x3 y 0 (by decide) slices_S80x128_o0_0_S1x128 inb_S2560x128_S32x128_0_0 _ _ rfl rfl) ?_
  refine View.allAt_cons_unit _ _ _ _ _ (tileA x0 x1 x2 x3 y 0 (by decide) slices_S80x128_o0_0_S1x128 inb_S2560x128_S32x128_0_0 _ _ rfl rfl) ?_
  exact View.allAt_nil _ _

/-- The widened matrix. -/
def single (x0 : Vec Ideal S3456x256 .fp8e4m3) (x1 : Vec Ideal S108x256 .i8) (r : Fin 3456) (c : Fin 256) : EReal :=
  x0 (ix2 r c) * word (x1 (ix2 ⟨r.val / 32, by omega⟩ c))

variable (z0 : Vec Ideal S3456x256 .fp8e4m3) (z1 : Vec Ideal S108x256 .i8)

theorem tileC (y : S3456x256.Idx) (i : ℕ) (hi : i < 108) (hs : S108x256.Slices ![i, 0] S1x256) (inb)
    (off : Fin 2 → ℕ) (w : Vec Ideal S32x256 .bf16) (hoff : off = ![32 * i, 0])
    (hw : w = rows2 (View.ld z1 r2_0) i hs (View.ld z0 (Rect.unit (s := S3456x256) ![32 * i, 0] S32x256.size inb))) :
    View.TileAt (Val := Elt Ideal) (e := .bf16) y off S32x256.size w (single z0 z1 (y 0) (y 1)) := by
  subst hoff hw
  intro x hx
  have h0 := hx 0
  have h1 := hx 1
  simp only [Fin.isValue, Matrix.cons_val, zero_add] at h0 h1
  have hr : (x 0).val < 32 := (x 0).isLt
  rw [rows2_apply _ _ hi, ld_all _ _ (by decide)]
  unfold single
  rw [View.ld_unit_apply_of z0 _ _ _ x (ix2 (y 0) (y 1)) (fun a => by
    fin_cases a
    · exact h0
    · exact h1.trans (Nat.zero_add _).symm)]
  congr 4
  · apply Fin.ext; show i = (y 0).val / 32; omega
  · apply Fin.ext; exact h1.symm

/-- What the single call stores. -/
theorem single_apply (y : S3456x256.Idx) : out2_2 z0 z1 y = single z0 z1 (y 0) (y 1) := by
  unfold out2_2
  refine View.canon_eq_of_allAt _ y _ (cover2_2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y) ?_
  refine View.allAt_cons_unit _ _ _ _ _ (tileC z0 z1 y 107 (by decide) slices_S108x256_o107_0_S1x256 inb_S3456x256_S32x256_3424_0 _ _ rfl rfl) ?_
  refine View.allAt_cons_unit _ _ _ _ _ (tileC z0 z1 y 106 (by decide) slices_S108x256_o106_0_S1x256 inb_S3456x256_S32x256_3392_0 _ _ rfl rfl) ?_
  refine View.allAt_cons_unit _ _ _ _ _ (tileC z0 z1 y 105 (by decide) slices_S108x256_o105_0_S1x256 inb_S3456x256_S32x256_3360_0 _ _ rfl rfl) ?_
  refine View.allAt_cons_unit _ _ _ _ _ (tileC z0 z1 y 104 (by decide) slices_S108x256_o104_0_S1x256 inb_S3456x256_S32x256_3328_0 _ _ rfl rfl) ?_
  refine View.allAt_cons_unit _ _ _ _ _ (tileC z0 z1 y 103 (by decide) slices_S108x256_o103_0_S1x256 inb_S3456x256_S32x256_3296_0 _ _ rfl rfl) ?_
  refine View.allAt_cons_unit _ _ _ _ _ (tileC z0 z1 y 102 (by decide) slices_S108x256_o102_0_S1x256 inb_S3456x256_S32x256_3264_0 _ _ rfl rfl) ?_
  refine View.allAt_cons_unit _ _ _ _ _ (tileC z0 z1 y 101 (by decide) slices_S108x256_o101_0_S1x256 inb_S3456x256_S32x256_3232_0 _ _ rfl rfl) ?_
  refine View.allAt_cons_unit _ _ _ _ _ (tileC z0 z1 y 100 (by decide) slices_S108x256_o100_0_S1x256 inb_S3456x256_S32x256_3200_0 _ _ rfl rfl) ?_
  refine View.allAt_cons_unit _ _ _ _ _ (tileC z0 z1 y 99 (by decide) slices_S108x256_o99_0_S1x256 inb_S3456x256_S32x256_3168_0 _ _ rfl rfl) ?_
  refine View.allAt_cons_unit _ _ _ _ _ (tileC z0 z1 y 98 (by decide) slices_S108x256_o98_0_S1x256 inb_S3456x256_S32x256_3136_0 _ _ rfl rfl) ?_
  refine View.allAt_cons_unit _ _ _ _ _ (tileC z0 z1 y 97 (by decide) slices_S108x256_o97_0_S1x256 inb_S3456x256_S32x256_3104_0 _ _ rfl rfl) ?_
  refine View.allAt_cons_unit _ _ _ _ _ (tileC z0 z1 y 96 (by decide) slices_S108x256_o96_0_S1x256 inb_S3456x256_S32x256_3072_0 _ _ rfl rfl) ?_
  refine View.allAt_cons_unit _ _ _ _ _ (tileC z0 z1 y 95 (by decide) slices_S108x256_o95_0_S1x256 inb_S3456x256_S32x256_3040_0 _ _ rfl rfl) ?_
  refine View.allAt_cons_unit _ _ _ _ _ (tileC z0 z1 y 94 (by decide) slices_S108x256_o94_0_S1x256 inb_S3456x256_S32x256_3008_0 _ _ rfl rfl) ?_
  refine View.allAt_cons_unit _ _ _ _ _ (tileC z0 z1 y 93 (by decide) slices_S108x256_o93_0_S1x256 inb_S3456x256_S32x256_2976_0 _ _ rfl rfl) ?_
  refine View.allAt_cons_unit _ _ _ _ _ (tileC z0 z1 y 92 (by decide) slices_S108x256_o92_0_S1x256 inb_S3456x256_S32x256_2944_0 _ _ rfl rfl) ?_
  refine View.allAt_cons_unit _ _ _ _ _ (tileC z0 z1 y 91 (by decide) slices_S108x256_o91_0_S1x256 inb_S3456x256_S32x256_2912_0 _ _ rfl rfl) ?_
  refine View.allAt_cons_unit _ _ _ _ _ (tileC z0 z1 y 90 (by decide) slices_S108x256_o90_0_S1x256 inb_S3456x256_S32x256_2880_0 _ _ rfl rfl) ?_
  refine View.allAt_cons_unit _ _ _ _ _ (tileC z0 z1 y 89 (by decide) slices_S108x256_o89_0_S1x256 inb_S3456x256_S32x256_2848_0 _ _ rfl rfl) ?_
  refine View.allAt_cons_unit _ _ _ _ _ (tileC z0 z1 y 88 (by decide) slices_S108x256_o88_0_S1x256 inb_S3456x256_S32x256_2816_0 _ _ rfl rfl) ?_
  refine View.allAt_cons_unit _ _ _ _ _ (tileC z0 z1 y 87 (by decide) slices_S108x256_o87_0_S1x256 inb_S3456x256_S32x256_2784_0 _ _ rfl rfl) ?_
  refine View.allAt_cons_unit _ _ _ _ _ (tileC z0 z1 y 86 (by decide) slices_S108x256_o86_0_S1x256 inb_S3456x256_S32x256_2752_0 _ _ rfl rfl) ?_
  refine View.allAt_cons_unit _ _ _ _ _ (tileC z0 z1 y 85 (by decide) slices_S108x256_o85_0_S1x256 inb_S3456x256_S32x256_2720_0 _ _ rfl rfl) ?_
  refine View.allAt_cons_unit _ _ _ _ _ (tileC z0 z1 y 84 (by decide) slices_S108x256_o84_0_S1x256 inb_S3456x256_S32x256_2688_0 _ _ rfl rfl) ?_
  refine View.allAt_cons_unit _ _ _ _ _ (tileC z0 z1 y 83 (by decide) slices_S108x256_o83_0_S1x256 inb_S3456x256_S32x256_2656_0 _ _ rfl rfl) ?_
  refine View.allAt_cons_unit _ _ _ _ _ (tileC z0 z1 y 82 (by decide) slices_S108x256_o82_0_S1x256 inb_S3456x256_S32x256_2624_0 _ _ rfl rfl) ?_
  refine View.allAt_cons_unit _ _ _ _ _ (tileC z0 z1 y 81 (by decide) slices_S108x256_o81_0_S1x256 inb_S3456x256_S32x256_2592_0 _ _ rfl rfl) ?_
  refine View.allAt_cons_unit _ _ _ _ _ (tileC z0 z1 y 80 (by decide) slices_S108x256_o80_0_S1x256 inb_S3456x256_S32x256_2560_0 _ _ rfl rfl) ?_
  refine View.allAt_cons_unit _ _ _ _ _ (tileC z0 z1 y 79 (by decide) slices_S108x256_o79_0_S1x256 inb_S3456x256_S32x256_2528_0 _ _ rfl rfl) ?_
  refine View.allAt_cons_unit _ _ _ _ _ (tileC z0 z1 y 78 (by decide) slices_S108x256_o78_0_S1x256 inb_S3456x256_S32x256_2496_0 _ _ rfl rfl) ?_
  refine View.allAt_cons_unit _ _ _ _ _ (tileC z0 z1 y 77 (by decide) slices_S108x256_o77_0_S1x256 inb_S3456x256_S32x256_2464_0 _ _ rfl rfl) ?_
  refine View.allAt_cons_unit _ _ _ _ _ (tileC z0 z1 y 76 (by decide) slices_S108x256_o76_0_S1x256 inb_S3456x256_S32x256_2432_0 _ _ rfl rfl) ?_
  refine View.allAt_cons_unit _ _ _ _ _ (tileC z0 z1 y 75 (by decide) slices_S108x256_o75_0_S1x256 inb_S3456x256_S32x256_2400_0 _ _ rfl rfl) ?_
  refine View.allAt_cons_unit _ _ _ _ _ (tileC z0 z1 y 74 (by decide) slices_S108x256_o74_0_S1x256 inb_S3456x256_S32x256_2368_0 _ _ rfl rfl) ?_
  refine View.allAt_cons_unit _ _ _ _ _ (tileC z0 z1 y 73 (by decide) slices_S108x256_o73_0_S1x256 inb_S3456x256_S32x256_2336_0 _ _ rfl rfl) ?_
  refine View.allAt_cons_unit _ _ _ _ _ (tileC z0 z1 y 72 (by decide) slices_S108x256_o72_0_S1x256 inb_S3456x256_S32x256_2304_0 _ _ rfl rfl) ?_
  refine View.allAt_cons_unit _ _ _ _ _ (tileC z0 z1 y 71 (by decide) slices_S108x256_o71_0_S1x256 inb_S3456x256_S32x256_2272_0 _ _ rfl rfl) ?_
  refine View.allAt_cons_unit _ _ _ _ _ (tileC z0 z1 y 70 (by decide) slices_S108x256_o70_0_S1x256 inb_S3456x256_S32x256_2240_0 _ _ rfl rfl) ?_
  refine View.allAt_cons_unit _ _ _ _ _ (tileC z0 z1 y 69 (by decide) slices_S108x256_o69_0_S1x256 inb_S3456x256_S32x256_2208_0 _ _ rfl rfl) ?_
  refine View.allAt_cons_unit _ _ _ _ _ (tileC z0 z1 y 68 (by decide) slices_S108x256_o68_0_S1x256 inb_S3456x256_S32x256_2176_0 _ _ rfl rfl) ?_
  refine View.allAt_cons_unit _ _ _ _ _ (tileC z0 z1 y 67 (by decide) slices_S108x256_o67_0_S1x256 inb_S3456x256_S32x256_2144_0 _ _ rfl rfl) ?_
  refine View.allAt_cons_unit _ _ _ _ _ (tileC z0 z1 y 66 (by decide) slices_S108x256_o66_0_S1x256 inb_S3456x256_S32x256_2112_0 _ _ rfl rfl) ?_
  refine View.allAt_cons_unit _ _ _ _ _ (tileC z0 z1 y 65 (by decide) slices_S108x256_o65_0_S1x256 inb_S3456x256_S32x256_2080_0 _ _ rfl rfl) ?_
  refine View.allAt_cons_unit _ _ _ _ _ (tileC z0 z1 y 64 (by decide) slices_S108x256_o64_0_S1x256 inb_S3456x256_S32x256_2048_0 _ _ rfl rfl) ?_
  refine View.allAt_cons_unit _ _ _ _ _ (tileC z0 z1 y 63 (by decide) slices_S108x256_o63_0_S1x256 inb_S3456x256_S32x256_2016_0 _ _ rfl rfl) ?_
  refine View.allAt_cons_unit _ _ _ _ _ (tileC z0 z1 y 62 (by decide) slices_S108x256_o62_0_S1x256 inb_S3456x256_S32x256_1984_0 _ _ rfl rfl) ?_
  refine View.allAt_cons_unit _ _ _ _ _ (tileC z0 z1 y 61 (by decide) slices_S108x256_o61_0_S1x256 inb_S3456x256_S32x256_1952_0 _ _ rfl rfl) ?_
  refine View.allAt_cons_unit _ _ _ _ _ (tileC z0 z1 y 60 (by decide) slices_S108x256_o60_0_S1x256 inb_S3456x256_S32x256_1920_0 _ _ rfl rfl) ?_
  refine View.allAt_cons_unit _ _ _ _ _ (tileC z0 z1 y 59 (by decide) slices_S108x256_o59_0_S1x256 inb_S3456x256_S32x256_1888_0 _ _ rfl rfl) ?_
  refine View.allAt_cons_unit _ _ _ _ _ (tileC z0 z1 y 58 (by decide) slices_S108x256_o58_0_S1x256 inb_S3456x256_S32x256_1856_0 _ _ rfl rfl) ?_
  refine View.allAt_cons_unit _ _ _ _ _ (tileC z0 z1 y 57 (by decide) slices_S108x256_o57_0_S1x256 inb_S3456x256_S32x256_1824_0 _ _ rfl rfl) ?_
  refine View.allAt_cons_unit _ _ _ _ _ (tileC z0 z1 y 56 (by decide) slices_S108x256_o56_0_S1x256 inb_S3456x256_S32x256_1792_0 _ _ rfl rfl) ?_
  refine View.allAt_cons_unit _ _ _ _ _ (tileC z0 z1 y 55 (by decide) slices_S108x256_o55_0_S1x256 inb_S3456x256_S32x256_1760_0 _ _ rfl rfl) ?_
  refine View.allAt_cons_unit _ _ _ _ _ (tileC z0 z1 y 54 (by decide) slices_S108x256_o54_0_S1x256 inb_S3456x256_S32x256_1728_0 _ _ rfl rfl) ?_
  refine View.allAt_cons_unit _ _ _ _ _ (tileC z0 z1 y 53 (by decide) slices_S108x256_o53_0_S1x256 inb_S3456x256_S32x256_1696_0 _ _ rfl rfl) ?_
  refine View.allAt_cons_unit _ _ _ _ _ (tileC z0 z1 y 52 (by decide) slices_S108x256_o52_0_S1x256 inb_S3456x256_S32x256_1664_0 _ _ rfl rfl) ?_
  refine View.allAt_cons_unit _ _ _ _ _ (tileC z0 z1 y 51 (by decide) slices_S108x256_o51_0_S1x256 inb_S3456x256_S32x256_1632_0 _ _ rfl rfl) ?_
  refine View.allAt_cons_unit _ _ _ _ _ (tileC z0 z1 y 50 (by decide) slices_S108x256_o50_0_S1x256 inb_S3456x256_S32x256_1600_0 _ _ rfl rfl) ?_
  refine View.allAt_cons_unit _ _ _ _ _ (tileC z0 z1 y 49 (by decide) slices_S108x256_o49_0_S1x256 inb_S3456x256_S32x256_1568_0 _ _ rfl rfl) ?_
  refine View.allAt_cons_unit _ _ _ _ _ (tileC z0 z1 y 48 (by decide) slices_S108x256_o48_0_S1x256 inb_S3456x256_S32x256_1536_0 _ _ rfl rfl) ?_
  refine View.allAt_cons_unit _ _ _ _ _ (tileC z0 z1 y 47 (by decide) slices_S108x256_o47_0_S1x256 inb_S3456x256_S32x256_1504_0 _ _ rfl rfl) ?_
  refine View.allAt_cons_unit _ _ _ _ _ (tileC z0 z1 y 46 (by decide) slices_S108x256_o46_0_S1x256 inb_S3456x256_S32x256_1472_0 _ _ rfl rfl) ?_
  refine View.allAt_cons_unit _ _ _ _ _ (tileC z0 z1 y 45 (by decide) slices_S108x256_o45_0_S1x256 inb_S3456x256_S32x256_1440_0 _ _ rfl rfl) ?_
  refine View.allAt_cons_unit _ _ _ _ _ (tileC z0 z1 y 44 (by decide) slices_S108x256_o44_0_S1x256 inb_S3456x256_S32x256_1408_0 _ _ rfl rfl) ?_
  refine View.allAt_cons_unit _ _ _ _ _ (tileC z0 z1 y 43 (by decide) slices_S108x256_o43_0_S1x256 inb_S3456x256_S32x256_1376_0 _ _ rfl rfl) ?_
  refine View.allAt_cons_unit _ _ _ _ _ (tileC z0 z1 y 42 (by decide) slices_S108x256_o42_0_S1x256 inb_S3456x256_S32x256_1344_0 _ _ rfl rfl) ?_
  refine View.allAt_cons_unit _ _ _ _ _ (tileC z0 z1 y 41 (by decide) slices_S108x256_o41_0_S1x256 inb_S3456x256_S32x256_1312_0 _ _ rfl rfl) ?_
  refine View.allAt_cons_unit _ _ _ _ _ (tileC z0 z1 y 40 (by decide) slices_S108x256_o40_0_S1x256 inb_S3456x256_S32x256_1280_0 _ _ rfl rfl) ?_
  refine View.allAt_cons_unit _ _ _ _ _ (tileC z0 z1 y 39 (by decide) slices_S108x256_o39_0_S1x256 inb_S3456x256_S32x256_1248_0 _ _ rfl rfl) ?_
  refine View.allAt_cons_unit _ _ _ _ _ (tileC z0 z1 y 38 (by decide) slices_S108x256_o38_0_S1x256 inb_S3456x256_S32x256_1216_0 _ _ rfl rfl) ?_
  refine View.allAt_cons_unit _ _ _ _ _ (tileC z0 z1 y 37 (by decide) slices_S108x256_o37_0_S1x256 inb_S3456x256_S32x256_1184_0 _ _ rfl rfl) ?_
  refine View.allAt_cons_unit _ _ _ _ _ (tileC z0 z1 y 36 (by decide) slices_S108x256_o36_0_S1x256 inb_S3456x256_S32x256_1152_0 _ _ rfl rfl) ?_
  refine View.allAt_cons_unit _ _ _ _ _ (tileC z0 z1 y 35 (by decide) slices_S108x256_o35_0_S1x256 inb_S3456x256_S32x256_1120_0 _ _ rfl rfl) ?_
  refine View.allAt_cons_unit _ _ _ _ _ (tileC z0 z1 y 34 (by decide) slices_S108x256_o34_0_S1x256 inb_S3456x256_S32x256_1088_0 _ _ rfl rfl) ?_
  refine View.allAt_cons_unit _ _ _ _ _ (tileC z0 z1 y 33 (by decide) slices_S108x256_o33_0_S1x256 inb_S3456x256_S32x256_1056_0 _ _ rfl rfl) ?_
  refine View.allAt_cons_unit _ _ _ _ _ (tileC z0 z1 y 32 (by decide) slices_S108x256_o32_0_S1x256 inb_S3456x256_S32x256_1024_0 _ _ rfl rfl) ?_
  refine View.allAt_cons_unit _ _ _ _ _ (tileC z0 z1 y 31 (by decide) slices_S108x256_o31_0_S1x256 inb_S3456x256_S32x256_992_0 _ _ rfl rfl) ?_
  refine View.allAt_cons_unit _ _ _ _ _ (tileC z0 z1 y 30 (by decide) slices_S108x256_o30_0_S1x256 inb_S3456x256_S32x256_960_0 _ _ rfl rfl) ?_
  refine View.allAt_cons_unit _ _ _ _ _ (tileC z0 z1 y 29 (by decide) slices_S108x256_o29_0_S1x256 inb_S3456x256_S32x256_928_0 _ _ rfl rfl) ?_
  refine View.allAt_cons_unit _ _ _ _ _ (tileC z0 z1 y 28 (by decide) slices_S108x256_o28_0_S1x256 inb_S3456x256_S32x256_896_0 _ _ rfl rfl) ?_
  refine View.allAt_cons_unit _ _ _ _ _ (tileC z0 z1 y 27 (by decide) slices_S108x256_o27_0_S1x256 inb_S3456x256_S32x256_864_0 _ _ rfl rfl) ?_
  refine View.allAt_cons_unit _ _ _ _ _ (tileC z0 z1 y 26 (by decide) slices_S108x256_o26_0_S1x256 inb_S3456x256_S32x256_832_0 _ _ rfl rfl) ?_
  refine View.allAt_cons_unit _ _ _ _ _ (tileC z0 z1 y 25 (by decide) slices_S108x256_o25_0_S1x256 inb_S3456x256_S32x256_800_0 _ _ rfl rfl) ?_
  refine View.allAt_cons_unit _ _ _ _ _ (tileC z0 z1 y 24 (by decide) slices_S108x256_o24_0_S1x256 inb_S3456x256_S32x256_768_0 _ _ rfl rfl) ?_
  refine View.allAt_cons_unit _ _ _ _ _ (tileC z0 z1 y 23 (by decide) slices_S108x256_o23_0_S1x256 inb_S3456x256_S32x256_736_0 _ _ rfl rfl) ?_
  refine View.allAt_cons_unit _ _ _ _ _ (tileC z0 z1 y 22 (by decide) slices_S108x256_o22_0_S1x256 inb_S3456x256_S32x256_704_0 _ _ rfl rfl) ?_
  refine View.allAt_cons_unit _ _ _ _ _ (tileC z0 z1 y 21 (by decide) slices_S108x256_o21_0_S1x256 inb_S3456x256_S32x256_672_0 _ _ rfl rfl) ?_
  refine View.allAt_cons_unit _ _ _ _ _ (tileC z0 z1 y 20 (by decide) slices_S108x256_o20_0_S1x256 inb_S3456x256_S32x256_640_0 _ _ rfl rfl) ?_
  refine View.allAt_cons_unit _ _ _ _ _ (tileC z0 z1 y 19 (by decide) slices_S108x256_o19_0_S1x256 inb_S3456x256_S32x256_608_0 _ _ rfl rfl) ?_
  refine View.allAt_cons_unit _ _ _ _ _ (tileC z0 z1 y 18 (by decide) slices_S108x256_o18_0_S1x256 inb_S3456x256_S32x256_576_0 _ _ rfl rfl) ?_
  refine View.allAt_cons_unit _ _ _ _ _ (tileC z0 z1 y 17 (by decide) slices_S108x256_o17_0_S1x256 inb_S3456x256_S32x256_544_0 _ _ rfl rfl) ?_
  refine View.allAt_cons_unit _ _ _ _ _ (tileC z0 z1 y 16 (by decide) slices_S108x256_o16_0_S1x256 inb_S3456x256_S32x256_512_0 _ _ rfl rfl) ?_
  refine View.allAt_cons_unit _ _ _ _ _ (tileC z0 z1 y 15 (by decide) slices_S108x256_o15_0_S1x256 inb_S3456x256_S32x256_480_0 _ _ rfl rfl) ?_
  refine View.allAt_cons_unit _ _ _ _ _ (tileC z0 z1 y 14 (by decide) slices_S108x256_o14_0_S1x256 inb_S3456x256_S32x256_448_0 _ _ rfl rfl) ?_
  refine View.allAt_cons_unit _ _ _ _ _ (tileC z0 z1 y 13 (by decide) slices_S108x256_o13_0_S1x256 inb_S3456x256_S32x256_416_0 _ _ rfl rfl) ?_
  refine View.allAt_cons_unit _ _ _ _ _ (tileC z0 z1 y 12 (by decide) slices_S108x256_o12_0_S1x256 inb_S3456x256_S32x256_384_0 _ _ rfl rfl) ?_
  refine View.allAt_cons_unit _ _ _ _ _ (tileC z0 z1 y 11 (by decide) slices_S108x256_o11_0_S1x256 inb_S3456x256_S32x256_352_0 _ _ rfl rfl) ?_
  refine View.allAt_cons_unit _ _ _ _ _ (tileC z0 z1 y 10 (by decide) slices_S108x256_o10_0_S1x256 inb_S3456x256_S32x256_320_0 _ _ rfl rfl) ?_
  refine View.allAt_cons_unit _ _ _ _ _ (tileC z0 z1 y 9 (by decide) slices_S108x256_o9_0_S1x256 inb_S3456x256_S32x256_288_0 _ _ rfl rfl) ?_
  refine View.allAt_cons_unit _ _ _ _ _ (tileC z0 z1 y 8 (by decide) slices_S108x256_o8_0_S1x256 inb_S3456x256_S32x256_256_0 _ _ rfl rfl) ?_
  refine View.allAt_cons_unit _ _ _ _ _ (tileC z0 z1 y 7 (by decide) slices_S108x256_o7_0_S1x256 inb_S3456x256_S32x256_224_0 _ _ rfl rfl) ?_
  refine View.allAt_cons_unit _ _ _ _ _ (tileC z0 z1 y 6 (by decide) slices_S108x256_o6_0_S1x256 inb_S3456x256_S32x256_192_0 _ _ rfl rfl) ?_
  refine View.allAt_cons_unit _ _ _ _ _ (tileC z0 z1 y 5 (by decide) slices_S108x256_o5_0_S1x256 inb_S3456x256_S32x256_160_0 _ _ rfl rfl) ?_
  refine View.allAt_cons_unit _ _ _ _ _ (tileC z0 z1 y 4 (by decide) slices_S108x256_o4_0_S1x256 inb_S3456x256_S32x256_128_0 _ _ rfl rfl) ?_
  refine View.allAt_cons_unit _ _ _ _ _ (tileC z0 z1 y 3 (by decide) slices_S108x256_o3_0_S1x256 inb_S3456x256_S32x256_96_0 _ _ rfl rfl) ?_
  refine View.allAt_cons_unit _ _ _ _ _ (tileC z0 z1 y 2 (by decide) slices_S108x256_o2_0_S1x256 inb_S3456x256_S32x256_64_0 _ _ rfl rfl) ?_
  refine View.allAt_cons_unit _ _ _ _ _ (tileC z0 z1 y 1 (by decide) slices_S108x256_o1_0_S1x256 inb_S3456x256_S32x256_32_0 _ _ rfl rfl) ?_
  refine View.allAt_cons_unit _ _ _ _ _ (tileC z0 z1 y 0 (by decide) slices_S108x256_o0_0_S1x256 inb_S3456x256_S32x256_0_0 _ _ rfl rfl) ?_
  exact View.allAt_nil _ _

end Cert.Proof.Widen

end
-- ==== Proof.Butterfly.lean ====
/- The block maximum by exchanges between lanes: up to 32 tiles of 128 columns, whose blocks of 32 columns are reduced together
   in five steps, each of which halves the tiles. -/
module

public import proofs.«01_k».proof.MlpIdeal
public import Idealize.ShloMosaic.Lib.Pointwise
public import Idealize.ShloMosaic.PureOps.Ideal
public import proofs.«01_k».proof.Proof.Gen.MlpIdeal

@[expose] public section

set_option maxRecDepth 16384

noncomputable section

namespace Cert.Proof.Butterfly

open Idealize.ShloMosaic Cert.MlpIdeal Cert.MlpIdeal.Gen

/-- The lane numbers. -/
def lane : IVec S32x128 32 := iota .tc S32x128 32 [1] iota_S32x128_d1_w32

/-- `x` at the lanes `idx`, row by row. -/
def pick (x : FVec Ideal S32x128 .f32) (idx : IVec S32x128 32) : FVec Ideal S32x128 .f32 :=
  dynamicGather 1 x (shapeCast S32x128 (shapeCast S32x128x1
    (select (cmpi .slt idx (broadcast S32x128 0#32)) (addi idx (broadcast S32x128 128#32)) idx)
    shapeCasts_S32x128_S32x128x1) shapeCasts_S32x128x1_S32x128)

/-- The lanes whose number has the bit `s` clear. -/
def low (s : BitVec 32) : IVec S32x128 1 := cmpi .eq (andi lane (broadcast S32x128 s)) (broadcast S32x128 0#32)

/-- One exchange of two tiles at lane distance `s`. -/
def step (s : BitVec 32) (a b : FVec Ideal S32x128 .f32) : FVec Ideal S32x128 .f32 :=
  maximumf (select (low s) a b) (pick (select (low s) b a) (xori lane (broadcast S32x128 s)))

/-- One exchange within a tile that has no partner. -/
def lone (s : BitVec 32) (a : FVec Ideal S32x128 .f32) : FVec Ideal S32x128 .f32 :=
  maximumf a (pick a (xori lane (broadcast S32x128 s)))

/-- The lane that differs from `l` in the bit `s`. -/
def flip (s : ℕ) (l : Fin 128) : Fin 128 := ⟨(l.val ^^^ s) % 128, Nat.mod_lt _ (by decide)⟩

/-- `pick` at an index, given the lane that the index word names. -/
theorem pick_apply (x : FVec Ideal S32x128 .f32) (idx : IVec S32x128 32) (r : Fin 32) (l k : Fin 128)
    (h : idx (ix2 r l) = BitVec.ofNat 32 k.val) : pick x idx (ix2 r l) = x (ix2 r k) := by
  have hk : IntOp.cmpi .slt (BitVec.ofNat 32 k.val) 0#32 = 0#1 := by clear h; revert k; decide +kernel
  have hm : (BitVec.ofNat 32 k.val).toNat % 128 = k.val := by rw [BitVec.toNat_ofNat]; omega
  unfold pick
  pointwise
  simp only [h, hk]
  exact congrArg x (congrArg (ix2 r) (Fin.ext hm))

theorem low_apply (s : ℕ) (hs : s = 1 ∨ s = 2 ∨ s = 4 ∨ s = 8 ∨ s = 16) (r : Fin 32) (l : Fin 128) :
    low (BitVec.ofNat 32 s) (ix2 r l) = if l.val / s % 2 = 0 then 1#1 else 0#1 := by
  unfold low lane
  pointwise
  clear r
  rcases hs with rfl | rfl | rfl | rfl | rfl <;> revert l <;> decide +kernel

theorem xor_apply (s : ℕ) (hs : s = 1 ∨ s = 2 ∨ s = 4 ∨ s = 8 ∨ s = 16) (r : Fin 32) (l : Fin 128) :
    xori lane (broadcast S32x128 (BitVec.ofNat 32 s)) (ix2 r l) = BitVec.ofNat 32 (flip s l).val := by
  unfold lane
  pointwise
  clear r
  rcases hs with rfl | rfl | rfl | rfl | rfl <;> revert l <;> decide +kernel

theorem step_apply (s : ℕ) (hs : s = 1 ∨ s = 2 ∨ s = 4 ∨ s = 8 ∨ s = 16) (a b : FVec Ideal S32x128 .f32) (r : Fin 32) (l : Fin 128) :
    step (BitVec.ofNat 32 s) a b (ix2 r l)
      = if l.val / s % 2 = 0 then max (a (ix2 r l)) (a (ix2 r (flip s l))) else max (b (ix2 r l)) (b (ix2 r (flip s l))) := by
  have hf : (flip s l).val / s % 2 = 1 - l.val / s % 2 := by
    clear r; rcases hs with rfl | rfl | rfl | rfl | rfl <;> revert l <;> decide +kernel
  show max (Scalar.select (low _ _) _ _) (pick _ _ _) = _
  rw [pick_apply _ _ r l (flip s l) (xor_apply s hs r l), low_apply s hs]
  show max _ (Scalar.select (low _ _) _ _) = _
  rw [low_apply s hs, hf]
  rcases Nat.mod_two_eq_zero_or_one (l.val / s) with e | e <;> rw [e] <;> rfl

theorem lone_apply (s : ℕ) (hs : s = 1 ∨ s = 2 ∨ s = 4 ∨ s = 8 ∨ s = 16) (a : FVec Ideal S32x128 .f32) (r : Fin 32) (l : Fin 128) :
    lone (BitVec.ofNat 32 s) a (ix2 r l) = max (a (ix2 r l)) (a (ix2 r (flip s l))) := by
  show max _ (pick _ _ _) = _
  rw [pick_apply _ _ r l (flip s l) (xor_apply s hs r l)]

/-- `x` holds, at lane `l`, the largest of the `n` consecutive columns around lane `l` of tile `i * n + l % n` of
    `e`, whenever that is one of the `N` tiles. -/
def Has (N : ℕ) (e : Fin 32 → ℕ → EReal) (n i : ℕ) (x : FVec Ideal S32x128 .f32) : Prop :=
  ∀ (r : Fin 32) (l : Fin 128), i * n + l.val % n < N →
    x (ix2 r l) = (Finset.range n).sup fun k => e r ((i * n + l.val % n) * 128 + l.val / n * n + k)

/-- Two neighbouring runs of columns make one. -/
theorem sup_pair (f : ℕ → EReal) (n q : ℕ) :
    max ((Finset.range n).sup fun k => f (2 * q * n + k)) ((Finset.range n).sup fun k => f ((2 * q + 1) * n + k))
      = (Finset.range (2 * n)).sup fun k => f (q * (2 * n) + k) := by
  refine le_antisymm (max_le (Finset.sup_le fun k hk => ?_) (Finset.sup_le fun k hk => ?_)) (Finset.sup_le fun k hk => ?_)
  · rw [Finset.mem_range] at hk
    rw [show 2 * q * n + k = q * (2 * n) + k by ring]
    exact Finset.le_sup (f := fun k => f (q * (2 * n) + k)) (Finset.mem_range.mpr (by omega))
  · rw [Finset.mem_range] at hk
    rw [show (2 * q + 1) * n + k = q * (2 * n) + (n + k) by ring]
    exact Finset.le_sup (f := fun k => f (q * (2 * n) + k)) (Finset.mem_range.mpr (by omega))
  · rw [Finset.mem_range] at hk
    rcases lt_or_ge k n with h | h
    · refine le_max_of_le_left ?_
      rw [show q * (2 * n) + k = 2 * q * n + k by ring]
      exact Finset.le_sup (f := fun k => f (2 * q * n + k)) (Finset.mem_range.mpr h)
    · refine le_max_of_le_right ?_
      obtain ⟨j, rfl⟩ := Nat.exists_eq_add_of_le h
      rw [show q * (2 * n) + (n + j) = (2 * q + 1) * n + j by ring]
      exact Finset.le_sup (f := fun k => f ((2 * q + 1) * n + k)) (Finset.mem_range.mpr (by omega))

theorem pair (f : ℕ → EReal) (n : ℕ) (hs : n = 1 ∨ n = 2 ∨ n = 4 ∨ n = 8 ∨ n = 16) (l : Fin 128) :
    max ((Finset.range n).sup fun k => f (l.val / n * n + k)) ((Finset.range n).sup fun k => f ((flip n l).val / n * n + k))
      = (Finset.range (2 * n)).sup fun k => f (l.val / (2 * n) * (2 * n) + k) := by
  have h : (l.val / n = 2 * (l.val / (2 * n)) ∧ (flip n l).val / n = 2 * (l.val / (2 * n)) + 1)
      ∨ (l.val / n = 2 * (l.val / (2 * n)) + 1 ∧ (flip n l).val / n = 2 * (l.val / (2 * n))) := by
    rcases hs with rfl | rfl | rfl | rfl | rfl <;> revert l <;> decide +kernel
  rw [← sup_pair]
  rcases h with ⟨h1, h2⟩ | ⟨h1, h2⟩ <;> rw [h1, h2]
  exact max_comm _ _

theorem has_step {N : ℕ} {e : Fin 32 → ℕ → EReal} {n i : ℕ} {a b : FVec Ideal S32x128 .f32} (hs : n = 1 ∨ n = 2 ∨ n = 4 ∨ n = 8 ∨ n = 16)
    (ha : Has N e n (2 * i) a) (hb : Has N e n (2 * i + 1) b) : Has N e (2 * n) i (step (BitVec.ofNat 32 n) a b) := by
  intro r l hl
  have hf : (flip n l).val % n = l.val % n := by
    clear hl; rcases hs with rfl | rfl | rfl | rfl | rfl <;> revert l <;> decide +kernel
  have hd : l.val % (2 * n) = l.val / n % 2 * n + l.val % n := by
    clear hl hf; rcases hs with rfl | rfl | rfl | rfl | rfl <;> revert l <;> decide +kernel
  rw [step_apply n hs]
  rcases Nat.mod_two_eq_zero_or_one (l.val / n) with h | h
  · rw [h, zero_mul, zero_add] at hd
    have ht : i * (2 * n) + l.val % (2 * n) = 2 * i * n + l.val % n := by rw [hd]; ring
    rw [if_pos h, ha r l (ht ▸ hl), ha r (flip n l) (by rw [hf]; exact ht ▸ hl), hf, ht]
    simp only [add_assoc]
    exact pair (fun c => e r ((2 * i * n + l.val % n) * 128 + c)) n hs l
  · rw [h, one_mul] at hd
    have ht : i * (2 * n) + l.val % (2 * n) = (2 * i + 1) * n + l.val % n := by rw [hd]; ring
    rw [if_neg (by omega), hb r l (ht ▸ hl), hb r (flip n l) (by rw [hf]; exact ht ▸ hl), hf, ht]
    simp only [add_assoc]
    exact pair (fun c => e r (((2 * i + 1) * n + l.val % n) * 128 + c)) n hs l

theorem has_lone {N : ℕ} {e : Fin 32 → ℕ → EReal} {n i : ℕ} {a : FVec Ideal S32x128 .f32} (hs : n = 1 ∨ n = 2 ∨ n = 4 ∨ n = 8 ∨ n = 16)
    (ha : Has N e n (2 * i) a) (hi : N ≤ (2 * i + 1) * n) : Has N e (2 * n) i (lone (BitVec.ofNat 32 n) a) := by
  intro r l hl
  have hf : (flip n l).val % n = l.val % n := by
    clear hl; rcases hs with rfl | rfl | rfl | rfl | rfl <;> revert l <;> decide +kernel
  have hd : l.val % (2 * n) = l.val / n % 2 * n + l.val % n := by
    clear hl hf; rcases hs with rfl | rfl | rfl | rfl | rfl <;> revert l <;> decide +kernel
  rw [lone_apply n hs]
  rcases Nat.mod_two_eq_zero_or_one (l.val / n) with h | h
  · rw [h, zero_mul, zero_add] at hd
    have ht : i * (2 * n) + l.val % (2 * n) = 2 * i * n + l.val % n := by rw [hd]; ring
    rw [ha r l (ht ▸ hl), ha r (flip n l) (by rw [hf]; exact ht ▸ hl), hf, ht]
    simp only [add_assoc]
    exact pair (fun c => e r ((2 * i * n + l.val % n) * 128 + c)) n hs l
  · rw [h, one_mul] at hd
    have ht : i * (2 * n) + l.val % (2 * n) = (2 * i + 1) * n + l.val % n := by rw [hd]; ring
    omega

/-- A tile's own columns: nothing reduced yet. -/
theorem has_tile {N : ℕ} {e : Fin 32 → ℕ → EReal} {t : ℕ} {x : FVec Ideal S32x128 .f32}
    (h : ∀ (r : Fin 32) (l : Fin 128), x (ix2 r l) = e r (t * 128 + l.val)) : Has N e 1 t x := by
  intro r l _
  rw [h]
  simp [Nat.mod_one]

/-- After five steps lane `32 * g + t` holds the largest of block `g` of tile `t`. -/
theorem has_all {N : ℕ} {e : Fin 32 → ℕ → EReal} {x : FVec Ideal S32x128 .f32} (h : Has N e 32 0 x) (hN : N ≤ 32) (r : Fin 32) (g t : ℕ) (hg : g < 4)
    (ht : t < N) : x (ix2 r ⟨32 * g + t, by omega⟩) = (Finset.range 32).sup fun k => e r (t * 128 + 32 * g + k) := by
  have e1 : (32 * g + t) % 32 = t := by omega
  have e2 : (32 * g + t) / 32 = g := by omega
  rw [h r ⟨32 * g + t, by omega⟩ (by show 0 * 32 + (32 * g + t) % 32 < N; omega)]
  show ((Finset.range 32).sup fun k => e r ((0 * 32 + (32 * g + t) % 32) * 128 + (32 * g + t) / 32 * 32 + k)) = _
  rw [e1, e2]; simp only [zero_mul, zero_add, mul_comm g 32]

end Cert.Proof.Butterfly

end
-- ==== Proof.Scale.lean ====
/- The scale of a block of 32 numbers, as a power of two: the extended-real arithmetic on which the two programs'
   quantisers are compared. -/
module

public import Idealize.ShloMosaic.Lib.Pointwise
public import Idealize.ShloMosaic.PureOps.Ideal

@[expose] public section

noncomputable section

namespace Cert.Proof.Scale

open Idealize.ShloMosaic

/-- `log 2`, as the two programs name it. -/
def ln2 : EReal := ((Real.log 2 : ℝ) : EReal)
/-- The binary32 number next to 1/448. -/
def recip : EReal := Ideal.ofBits .f32 0x3B124925#32

/-- The largest power of two that is at most `a / 448`, for a magnitude `a`; 0 for `a = 0`. -/
def top (a : EReal) : EReal := Ideal.exp2 (Ideal.liftRound Int.floor (Ideal.div (Ideal.log (a * recip)) ln2))

/-- The exponent of the scale of a block whose largest magnitude is `a`. -/
def expo (a : EReal) : EReal :=
  if a = 0 then 0 else Ideal.liftRound Int.floor (Ideal.div (Ideal.log (a * recip)) ln2) + 1

theorem recip_eq : ∃ r : ℝ, 0 < r ∧ recip = (r : EReal) := by
  refine ⟨9586981 * 2 ^ (-32 : ℤ), by positivity, ?_⟩
  simp [recip, Ideal.ofBits, Ideal.ieee, -EReal.coe_mul]

theorem half_eq : Ideal.ofBits .f32 0x3F000000#32 = ((1 / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem ln2_pos : (0 : ℝ) < Real.log 2 := Real.log_pos (by norm_num)

/-- Dividing by `log 2` a real number. -/
theorem div_ln2 (x : ℝ) : Ideal.div (x : EReal) ln2 = ((x / Real.log 2 : ℝ) : EReal) := by
  have h : (ln2 : EReal) ≠ 0 := by unfold ln2; exact_mod_cast ln2_pos.ne'
  unfold Ideal.div; rw [if_neg h]; unfold ln2
  rw [← EReal.coe_inv, ← EReal.coe_mul, div_eq_mul_inv]

theorem div_ln2_bot : Ideal.div ⊥ ln2 = ⊥ := by
  have h : (ln2 : EReal) ≠ 0 := by unfold ln2; exact_mod_cast ln2_pos.ne'
  unfold Ideal.div; rw [if_neg h]; unfold ln2
  rw [← EReal.coe_inv]; exact EReal.bot_mul_coe_of_pos (inv_pos.mpr ln2_pos)

theorem div_ln2_top : Ideal.div ⊤ ln2 = ⊤ := by
  have h : (ln2 : EReal) ≠ 0 := by unfold ln2; exact_mod_cast ln2_pos.ne'
  unfold Ideal.div; rw [if_neg h]; unfold ln2
  rw [← EReal.coe_inv]; exact EReal.top_mul_coe_of_pos (inv_pos.mpr ln2_pos)

/-- The three cases of a magnitude: nothing, a positive number, everything. -/
theorem top_zero : top 0 = 0 := by
  unfold top; rw [zero_mul]
  have : Ideal.log 0 = ⊥ := by
    show Ideal.log ((0 : ℝ) : EReal) = ⊥
    exact if_pos le_rfl
  rw [this, div_ln2_bot]; rfl

theorem top_top : top ⊤ = ⊤ := by
  obtain ⟨r, hr, e⟩ := recip_eq
  unfold top; rw [e, EReal.top_mul_coe_of_pos hr]
  show Ideal.exp2 (Ideal.liftRound Int.floor (Ideal.div ⊤ ln2)) = ⊤
  rw [div_ln2_top]; rfl

/-- The exponent of a positive real magnitude, an integer. -/
def level (a : ℝ) : ℤ := ⌊Real.log (a * (recip).toReal) / Real.log 2⌋

theorem floor_pos {a : ℝ} (h : 0 < a) :
    Ideal.liftRound Int.floor (Ideal.div (Ideal.log ((a : EReal) * recip)) ln2) = ((level a : ℝ) : EReal) := by
  obtain ⟨r, hr, e⟩ := recip_eq
  unfold level; rw [e, EReal.toReal_coe, ← EReal.coe_mul]
  have : Ideal.log ((a * r : ℝ) : EReal) = ((Real.log (a * r) : ℝ) : EReal) := by
    show (if a * r ≤ 0 then ⊥ else ((Real.log (a * r) : ℝ) : EReal)) = _
    rw [if_neg (not_le.mpr (mul_pos h hr))]
  rw [this, div_ln2]; rfl

theorem top_pos {a : ℝ} (h : 0 < a) : top a = (((2 : ℝ) ^ (level a : ℝ) : ℝ) : EReal) := by
  unfold top; rw [floor_pos h]; rfl

theorem level_mono {a b : ℝ} (h : 0 < a) (hab : a ≤ b) : level a ≤ level b := by
  obtain ⟨r, hr, e⟩ := recip_eq
  unfold level; rw [e, EReal.toReal_coe]
  refine Int.floor_le_floor (div_le_div_of_nonneg_right ?_ ln2_pos.le)
  exact Real.log_le_log (mul_pos h hr) (mul_le_mul_of_nonneg_right hab hr.le)

/-- A larger magnitude has no smaller level. -/
theorem top_mono {a b : EReal} (h : 0 ≤ a) (hab : a ≤ b) : top a ≤ top b := by
  induction a with
  | bot => exact absurd h (by simp)
  | top => rw [top_le_iff.mp hab]
  | coe a =>
    induction b with
    | bot => exact absurd hab (by simp)
    | top => rw [top_top]; exact le_top
    | coe b =>
      have h0 : (0 : ℝ) ≤ a := by exact_mod_cast h
      have h1 : a ≤ b := by exact_mod_cast hab
      rcases h0.eq_or_lt with h0 | h0
      · subst h0
        rw [show ((0 : ℝ) : EReal) = 0 from rfl, top_zero]
        rcases (show (0 : ℝ) ≤ b from h1).eq_or_lt with hb | hb
        · subst hb; rw [show ((0 : ℝ) : EReal) = 0 from rfl, top_zero]
        · rw [top_pos hb]; exact EReal.coe_nonneg.mpr (Real.rpow_pos_of_pos two_pos _).le
      · rw [top_pos h0, top_pos (h0.trans_le h1)]
        exact EReal.coe_le_coe_iff.mpr (Real.rpow_le_rpow_of_exponent_le one_le_two (Int.cast_le.mpr (level_mono h0 h1)))

theorem abs_nonneg' (v : EReal) : 0 ≤ max v (-v) := by
  rcases le_total 0 v with h | h
  · exact le_max_of_le_left h
  · exact le_max_of_le_right (by rwa [EReal.neg_nonneg])

/-- The magnitude of a multiple is the multiple of the magnitude. -/
theorem abs_mul_recip (v : EReal) : max (v * recip) (-(v * recip)) = max v (-v) * recip := by
  obtain ⟨r, hr, e⟩ := recip_eq
  have hc : (0 : EReal) ≤ recip := by rw [e]; exact_mod_cast hr.le
  rw [← EReal.neg_mul]
  rcases le_total v (-v) with h | h
  · rw [max_eq_right h, max_eq_right (mul_le_mul_of_nonneg_right h hc)]
  · rw [max_eq_left h, max_eq_left (mul_le_mul_of_nonneg_right h hc)]

/-- The largest of the levels of 32 numbers is the level of the largest magnitude. -/
theorem sup_top {ι : Type} [Fintype ι] [Nonempty ι] (f : ι → EReal) :
    (Finset.univ.sup fun k => top (max (f k) (-f k))) = top (Finset.univ.sup fun k => max (f k) (-f k)) := by
  refine le_antisymm (Finset.sup_le fun k hk => top_mono (abs_nonneg' _) (Finset.le_sup (f := fun k => max (f k) (-f k)) hk)) ?_
  obtain ⟨k, hk, e⟩ := Finset.exists_mem_eq_sup Finset.univ Finset.univ_nonempty fun k => max (f k) (-f k)
  rw [e]; exact Finset.le_sup (f := fun k => top (max (f k) (-f k))) hk

theorem sup_nonneg {ι : Type} [Fintype ι] [Nonempty ι] (f : ι → EReal) : 0 ≤ Finset.univ.sup fun k => max (f k) (-f k) :=
  (abs_nonneg' (f (Classical.arbitrary ι))).trans (Finset.le_sup (f := fun k => max (f k) (-f k)) (Finset.mem_univ _))

/-- What multiplies a number of a block at level `e`. -/
def inv (e : EReal) : EReal := if e = 0 then Ideal.ofBits .f32 0x7E800000#32 else Ideal.div (Ideal.ofBits .f32 0x3F000000#32) e

theorem pow_ne {n : ℝ} : (((2 : ℝ) ^ n : ℝ) : EReal) ≠ 0 := by exact_mod_cast (Real.rpow_pos_of_pos two_pos n).ne'

/-- A number of a block, divided by the block's scale. -/
theorem mul_inv {a v : EReal} (h : 0 ≤ a) (hv : max v (-v) ≤ a) : v * inv (top a) = v * Ideal.exp2 (-expo a) := by
  induction a with
  | bot => exact absurd h (by simp)
  | top =>
    have e : (⊤ : EReal) ≠ 0 := by simp
    have ee : expo ⊤ = ⊤ := by
      obtain ⟨r, hr, e'⟩ := recip_eq
      unfold expo; rw [if_neg e, e', EReal.top_mul_coe_of_pos hr]
      show Ideal.liftRound Int.floor (Ideal.div ⊤ ln2) + 1 = ⊤
      rw [div_ln2_top]; rfl
    rw [ee, top_top]; unfold inv; rw [if_neg e]; unfold Ideal.div; rw [if_neg e, EReal.inv_top, mul_zero]; rfl
  | coe a =>
    have h0 : (0 : ℝ) ≤ a := by exact_mod_cast h
    rcases h0.eq_or_lt with h0 | h0
    · subst h0
      have : v = 0 := by
        rcases le_total 0 v with hv' | hv'
        · exact le_antisymm ((le_max_left _ _).trans hv) hv'
        · refine le_antisymm hv' ?_
          have := (le_max_right _ _).trans hv
          rwa [show ((0 : ℝ) : EReal) = 0 from rfl, EReal.neg_le, neg_zero] at this
      rw [this, zero_mul, zero_mul]
    · congr 1
      have ha : (a : EReal) ≠ 0 := by exact_mod_cast h0.ne'
      unfold inv expo; rw [top_pos h0, if_neg pow_ne, if_neg ha, floor_pos h0, half_eq]; unfold Ideal.div; rw [if_neg pow_ne]
      rw [show (-(((level a : ℝ) : EReal) + 1)) = ((-((level a : ℝ) + 1) : ℝ) : EReal) by push_cast; rfl]
      show _ = (((2 : ℝ) ^ (-((level a : ℝ) + 1)) : ℝ) : EReal)
      rw [← EReal.coe_inv, ← EReal.coe_mul]
      congr 1
      rw [Real.rpow_neg two_pos.le, Real.rpow_add two_pos, Real.rpow_one]
      field_simp

/-- The scale of a block, from its level. -/
theorem scale {a : EReal} (h : 0 ≤ a) :
    (if top a = 0 then 1 else Ideal.ofBits .f32 0x40000000#32 * top a) = Ideal.exp2 (expo a) := by
  induction a with
  | bot => exact absurd h (by simp)
  | top =>
    have e : (⊤ : EReal) ≠ 0 := by simp
    have ee : expo ⊤ = ⊤ := by
      obtain ⟨r, hr, e'⟩ := recip_eq
      unfold expo; rw [if_neg e, e', EReal.top_mul_coe_of_pos hr]
      show Ideal.liftRound Int.floor (Ideal.div ⊤ ln2) + 1 = ⊤
      rw [div_ln2_top]; rfl
    rw [ee, top_top, if_neg e, two_eq, EReal.coe_mul_top_of_pos two_pos]; rfl
  | coe a =>
    have h0 : (0 : ℝ) ≤ a := by exact_mod_cast h
    rcases h0.eq_or_lt with h0 | h0
    · subst h0
      rw [show ((0 : ℝ) : EReal) = 0 from rfl, top_zero, if_pos rfl]; unfold expo; rw [if_pos rfl]
      show 1 = Ideal.exp2 ((0 : ℝ) : EReal)
      show 1 = (((2 : ℝ) ^ (0 : ℝ) : ℝ) : EReal)
      rw [Real.rpow_zero]; rfl
    · have ha : (a : EReal) ≠ 0 := by exact_mod_cast h0.ne'
      unfold expo; rw [top_pos h0, if_neg pow_ne, if_neg ha, floor_pos h0, two_eq, ← EReal.coe_mul]
      show _ = (((2 : ℝ) ^ ((level a : ℝ) + 1) : ℝ) : EReal)
      congr 1
      rw [Real.rpow_add two_pos, Real.rpow_one, mul_comm]

theorem top_eq_zero {a : EReal} (h : 0 ≤ a) : top a = 0 ↔ a = 0 := by
  refine ⟨fun e => ?_, fun e => by rw [e, top_zero]⟩
  induction a with
  | bot => exact absurd h (by simp)
  | top => rw [top_top] at e; exact absurd e (by simp)
  | coe a =>
    have h0 : (0 : ℝ) ≤ a := by exact_mod_cast h
    rcases h0.eq_or_lt with h0 | h0
    · subst h0; rfl
    · rw [top_pos h0] at e; exact absurd e pow_ne

/-- Clipping to the range of the 8-bit format. -/
def clip (x : EReal) : EReal := min (Ideal.ofBits .f32 0x43E00000#32) (max (Ideal.ofBits .f32 0xC3E00000#32) x)

theorem clip_zero : clip 0 = 0 := by
  have a : Ideal.ofBits .f32 0x43E00000#32 = ((448 : ℝ) : EReal) := by simp [Ideal.ofBits, Ideal.ieee, -EReal.coe_mul, -EReal.coe_neg]; norm_num
  have b : Ideal.ofBits .f32 0xC3E00000#32 = ((-448 : ℝ) : EReal) := by simp [Ideal.ofBits, Ideal.ieee, -EReal.coe_mul, -EReal.coe_neg]; norm_num
  unfold clip; rw [a, b, max_eq_right (by exact_mod_cast (by norm_num : (-448 : ℝ) ≤ 0)), min_eq_right (by exact_mod_cast (by norm_num : (0 : ℝ) ≤ 448))]

/-- The code of a number `v` of a block whose largest magnitude is `a`. -/
theorem code {a v : EReal} (h : 0 ≤ a) (hv : max v (-v) ≤ a) : clip (v * inv (top a)) = clip (v * Ideal.exp2 (-expo a)) := by
  rw [mul_inv h hv]

/-- A code times its scale. -/
theorem code_scale {a v : EReal} (h : 0 ≤ a) (hv : max v (-v) ≤ a) :
    clip (v * inv (top a)) * (if top a = 0 then Ideal.ofBits .f32 0x00800000#32 else Ideal.ofBits .f32 0x40000000#32 * top a)
      = clip (v * Ideal.exp2 (-expo a)) * Ideal.exp2 (expo a) := by
  rw [code h hv, ← scale h]
  by_cases e : top a = 0
  · have ha := (top_eq_zero h).mp e
    have : v = 0 := by
      subst ha
      rcases le_total 0 v with hv' | hv'
      · exact le_antisymm ((le_max_left _ _).trans hv) hv'
      · refine le_antisymm hv' ?_
        have := (le_max_right _ _).trans hv
        rwa [EReal.neg_le, neg_zero] at this
    rw [this, zero_mul, clip_zero, zero_mul, zero_mul]
  · rw [if_neg e, if_neg e]

end Cert.Proof.Scale

end
-- ==== Proof.Quant.lean ====
/- The quantiser on one chunk of 32 rows: the codes, the scales and the products of both, read at an index. -/
module

public import proofs.«01_k».proof.Proof.Butterfly
public import proofs.«01_k».proof.Proof.Scale
public import proofs.«01_k».proof.Proof.Gen.MlpIdeal.Skeleton

@[expose] public section

set_option maxRecDepth 16384

noncomputable section

namespace Cert.Proof.Quant

open Idealize.ShloMosaic Cert.MlpIdeal Cert.MlpIdeal.Gen Cert.Proof.Butterfly

/-- The powers of two that the magnitudes of `v`, divided by 448, lie above. -/
def expoT (v : FVec Ideal S32x128 .f32) : FVec Ideal S32x128 .f32 :=
  extf .f32 (truncf .bf16 (exp2 (floor (divf (log (absf (mulf v (broadcast S32x128 (Scalar.ofBits .f32 0x3B124925#32)))))
    (broadcast S32x128 (Named.named κ "log_two" 0x3F317218#32))))) bitsLt_bf16_f32) bitsLt_bf16_f32

theorem slices_tile (t : Fin 27) : S32x3456.Slices ![0, 128 * t.val] S32x128 := by revert t; decide +kernel

/-- Tile `t` of a chunk: its columns `128 * t` to `128 * t + 127`. -/
def tile (X : FVec Ideal S32x3456 .f32) (t : Fin 27) : FVec Ideal S32x128 .f32 :=
  extractStridedSlice S32x128 ![0, 128 * t.val] X (slices_tile t)

/-- The 27 tiles' exponents reduced block by block. -/
def topV (X : FVec Ideal S32x3456 .f32) : FVec Ideal S32x128 .f32 :=
  (step 16#32 (step 8#32 (step 4#32 (step 2#32 (step 1#32 (expoT (tile X 0)) (expoT (tile X 1))) (step 1#32 (expoT (tile X 2)) (expoT (tile X 3)))) (step 2#32 (step 1#32 (expoT (tile X 4)) (expoT (tile X 5))) (step 1#32 (expoT (tile X 6)) (expoT (tile X 7))))) (step 4#32 (step 2#32 (step 1#32 (expoT (tile X 8)) (expoT (tile X 9))) (step 1#32 (expoT (tile X 10)) (expoT (tile X 11)))) (step 2#32 (step 1#32 (expoT (tile X 12)) (expoT (tile X 13))) (step 1#32 (expoT (tile X 14)) (expoT (tile X 15)))))) (step 8#32 (step 4#32 (step 2#32 (step 1#32 (expoT (tile X 16)) (expoT (tile X 17))) (step 1#32 (expoT (tile X 18)) (expoT (tile X 19)))) (step 2#32 (step 1#32 (expoT (tile X 20)) (expoT (tile X 21))) (step 1#32 (expoT (tile X 22)) (expoT (tile X 23))))) (lone 4#32 (step 2#32 (step 1#32 (expoT (tile X 24)) (expoT (tile X 25))) (lone 1#32 (expoT (tile X 26)))))))

/-- The block maxima that the lanes of tile `t` belong to. -/
def ofTile (X : FVec Ideal S32x3456 .f32) (t : BitVec 32) : FVec Ideal S32x128 .f32 :=
  pick (topV X) (ori (andi lane (broadcast S32x128 96#32)) (broadcast S32x128 t))

/-- The codes of tile `t`. -/
def codeV (X : FVec Ideal S32x3456 .f32) (t : Fin 27) : FVec Ideal S32x128 .fp8e4m3 :=
  truncf .fp8e4m3 (minimumf (broadcast S32x128 (Scalar.ofBits .f32 0x43E00000#32))
    (maximumf (broadcast S32x128 (Scalar.ofBits .f32 0xC3E00000#32))
      (mulf (tile X t) (select (cmpf .oeq (ofTile X (BitVec.ofNat 32 t.val)) (broadcast S32x128 (Scalar.ofBits .f32 0x00000000#32)))
        (broadcast S32x128 (Scalar.ofBits .f32 0x7E800000#32))
        (divf (broadcast S32x128 (Scalar.ofBits .f32 0x3F000000#32)) (ofTile X (BitVec.ofNat 32 t.val))))))) bitsLt_fp8e4m3_f32

/-- The codes of tile `t` times their scales. -/
def hwV (X : FVec Ideal S32x3456 .f32) (t : Fin 27) : FVec Ideal S32x128 .bf16 :=
  mulf (extf .bf16 (codeV X t) bitsLt_fp8e4m3_bf16)
    (truncf .bf16 (select (cmpf .oeq (ofTile X (BitVec.ofNat 32 t.val)) (broadcast S32x128 (Scalar.ofBits .f32 0x00000000#32)))
      (broadcast S32x128 (Scalar.ofBits .f32 0x00800000#32))
      (mulf (broadcast S32x128 (Scalar.ofBits .f32 0x40000000#32)) (ofTile X (BitVec.ofNat 32 t.val)))) bitsLt_bf16_f32)

/-- The lane that holds block `b`'s maximum, for each lane `b`. -/
def blockIdx : IVec S32x128 32 :=
  addi (k1_pay254 lane) (select (andi (k1_pay256 lane) (k1_pay257 lane)) (subi (k1_pay255 lane) (broadcast S32x128 1#32))
    (k1_pay255 lane))

/-- The scales of a chunk, block `b` at lane `b`. -/
def scaleV (X : FVec Ideal S32x3456 .f32) : FVec Ideal S32x128 .f32 :=
  select (cmpf .oeq (pick (topV X) blockIdx) (broadcast S32x128 (Scalar.ofBits .f32 0x00000000#32)))
    (broadcast S32x128 (Scalar.ofBits .f32 0x3F800000#32))
    (mulf (broadcast S32x128 (Scalar.ofBits .f32 0x40000000#32)) (pick (topV X) blockIdx))

/-! The numbers these are. -/

/-- The largest magnitude of block `b` (columns `32 * b` to `32 * b + 31`) of a row. -/
def amax (v : ℕ → EReal) (b : ℕ) : EReal := (Finset.range 32).sup fun k => max (v (32 * b + k)) (-v (32 * b + k))

/-- The scale of block `b`. -/
def scaleOf (v : ℕ → EReal) (b : ℕ) : EReal := Ideal.exp2 (Scale.expo (amax v b))

/-- The code of column `c`. -/
def codeOf (v : ℕ → EReal) (c : ℕ) : EReal := Scale.clip (v c * Ideal.exp2 (-Scale.expo (amax v (c / 32))))

/-- Row `r` of a chunk. -/
def row (X : FVec Ideal S32x3456 .f32) (r : Fin 32) (c : ℕ) : EReal := X (ix2 r ⟨c % 3456, Nat.mod_lt _ (by decide)⟩)

theorem amax_nonneg (v : ℕ → EReal) (b : ℕ) : 0 ≤ amax v b :=
  le_trans (Scale.abs_nonneg' _) (Finset.le_sup (f := fun k => max (v (32 * b + k)) (-v (32 * b + k))) (Finset.mem_range.mpr (by decide : 0 < 32)))

theorem le_amax (v : ℕ → EReal) (c : ℕ) : max (v c) (-v c) ≤ amax v (c / 32) := by
  have h := Finset.le_sup (f := fun k => max (v (32 * (c / 32) + k)) (-v (32 * (c / 32) + k)))
    (Finset.mem_range.mpr (Nat.mod_lt c (by decide : 0 < 32)))
  rwa [Nat.div_add_mod] at h

theorem top_amax (v : ℕ → EReal) (b : ℕ) :
    ((Finset.range 32).sup fun k => Scale.top (max (v (32 * b + k)) (-v (32 * b + k)))) = Scale.top (amax v b) := by
  refine le_antisymm (Finset.sup_le fun k hk => Scale.top_mono (Scale.abs_nonneg' _)
    (Finset.le_sup (f := fun k => max (v (32 * b + k)) (-v (32 * b + k))) hk)) ?_
  obtain ⟨k, hk, e⟩ := Finset.exists_mem_eq_sup (Finset.range 32) ⟨0, by decide⟩ fun k => max (v (32 * b + k)) (-v (32 * b + k))
  unfold amax
  rw [e]; exact Finset.le_sup (f := fun k => Scale.top (max (v (32 * b + k)) (-v (32 * b + k)))) hk

theorem tile_apply (X : FVec Ideal S32x3456 .f32) (t : Fin 27) (r : Fin 32) (l : Fin 128) :
    tile X t (ix2 r l) = row X r (128 * t.val + l.val) := by
  unfold tile row
  pointwise
  refine congrArg X (congrArg (ix2 r) (Fin.ext ?_))
  show _ = (128 * t.val + l.val) % 3456
  have := t.isLt; have := l.isLt
  simp; omega

theorem expoT_apply (v : FVec Ideal S32x128 .f32) (r : Fin 32) (l : Fin 128) :
    expoT v (ix2 r l) = Scale.top (max (v (ix2 r l)) (-v (ix2 r l))) := by
  unfold expoT
  pointwise
  unfold Scale.top
  rw [← Scale.abs_mul_recip]
  rfl

theorem hasT (X : FVec Ideal S32x3456 .f32) (t : Fin 27) :
    Has 27 (fun r c => Scale.top (max (row X r c) (-row X r c))) 1 t.val (expoT (tile X t)) :=
  has_tile fun r l => by rw [expoT_apply, tile_apply, mul_comm]

theorem hasTop (X : FVec Ideal S32x3456 .f32) : Has 27 (fun r c => Scale.top (max (row X r c) (-row X r c))) 32 0 (topV X) :=
  (has_step (n := 16) (i := 0) (by decide) (has_step (n := 8) (i := 0) (by decide) (has_step (n := 4) (i := 0) (by decide) (has_step (n := 2) (i := 0) (by decide) (has_step (n := 1) (i := 0) (by decide) (hasT X 0) (hasT X 1)) (has_step (n := 1) (i := 1) (by decide) (hasT X 2) (hasT X 3))) (has_step (n := 2) (i := 1) (by decide) (has_step (n := 1) (i := 2) (by decide) (hasT X 4) (hasT X 5)) (has_step (n := 1) (i := 3) (by decide) (hasT X 6) (hasT X 7)))) (has_step (n := 4) (i := 1) (by decide) (has_step (n := 2) (i := 2) (by decide) (has_step (n := 1) (i := 4) (by decide) (hasT X 8) (hasT X 9)) (has_step (n := 1) (i := 5) (by decide) (hasT X 10) (hasT X 11))) (has_step (n := 2) (i := 3) (by decide) (has_step (n := 1) (i := 6) (by decide) (hasT X 12) (hasT X 13)) (has_step (n := 1) (i := 7) (by decide) (hasT X 14) (hasT X 15))))) (has_step (n := 8) (i := 1) (by decide) (has_step (n := 4) (i := 2) (by decide) (has_step (n := 2) (i := 4) (by decide) (has_step (n := 1) (i := 8) (by decide) (hasT X 16) (hasT X 17)) (has_step (n := 1) (i := 9) (by decide) (hasT X 18) (hasT X 19))) (has_step (n := 2) (i := 5) (by decide) (has_step (n := 1) (i := 10) (by decide) (hasT X 20) (hasT X 21)) (has_step (n := 1) (i := 11) (by decide) (hasT X 22) (hasT X 23)))) (has_lone (n := 4) (i := 3) (by decide) (has_step (n := 2) (i := 6) (by decide) (has_step (n := 1) (i := 12) (by decide) (hasT X 24) (hasT X 25)) (has_lone (n := 1) (i := 13) (by decide) (hasT X 26) (by decide))) (by decide))))

theorem topV_apply (X : FVec Ideal S32x3456 .f32) (r : Fin 32) (g t : ℕ) (hg : g < 4) (ht : t < 27) :
    topV X (ix2 r ⟨32 * g + t, by omega⟩) = Scale.top (amax (row X r) (4 * t + g)) := by
  rw [has_all (hasTop X) (by decide) r g t hg ht, ← top_amax]
  refine Finset.sup_congr rfl fun k _ => ?_
  rw [show t * 128 + 32 * g + k = 32 * (4 * t + g) + k by ring]

theorem ofTile_apply (X : FVec Ideal S32x3456 .f32) (t : Fin 27) (r : Fin 32) (l : Fin 128) :
    ofTile X (BitVec.ofNat 32 t.val) (ix2 r l) = Scale.top (amax (row X r) ((128 * t.val + l.val) / 32)) := by
  have hg : l.val / 32 < 4 := by have := l.isLt; omega
  unfold ofTile
  rw [pick_apply _ _ r l ⟨32 * (l.val / 32) + t.val, by have := t.isLt; omega⟩, topV_apply X r _ _ hg t.isLt]
  · congr 2; omega
  · unfold lane
    pointwise
    clear hg r X
    revert t l
    decide +kernel

theorem blockIdx_apply (X : FVec Ideal S32x3456 .f32) (r : Fin 32) (b : Fin 108) :
    pick (topV X) blockIdx (ix2 r ⟨b.val, by omega⟩) = Scale.top (amax (row X r) b.val) := by
  have hb := b.isLt
  rw [pick_apply _ _ r _ ⟨32 * (b.val % 4) + b.val / 4, by omega⟩, topV_apply X r _ _ (by omega) (by omega)]
  · congr 2; omega
  · unfold blockIdx k1_pay254 k1_pay255 k1_pay256 k1_pay257 lane
    pointwise
    clear hb r X
    revert b
    decide +kernel

theorem codeV_apply (X : FVec Ideal S32x3456 .f32) (t : Fin 27) (r : Fin 32) (l : Fin 128) :
    codeV X t (ix2 r l) = codeOf (row X r) (128 * t.val + l.val) := by
  unfold codeV codeOf
  rw [← Scale.code (amax_nonneg _ _) (le_amax _ _)]
  pointwise
  rw [ofTile_apply, tile_apply]
  rfl

theorem hwV_apply (X : FVec Ideal S32x3456 .f32) (t : Fin 27) (r : Fin 32) (l : Fin 128) :
    hwV X t (ix2 r l) = codeOf (row X r) (128 * t.val + l.val) * scaleOf (row X r) ((128 * t.val + l.val) / 32) := by
  unfold hwV codeV codeOf scaleOf
  rw [← Scale.code_scale (amax_nonneg _ _) (le_amax _ _)]
  pointwise
  rw [ofTile_apply, tile_apply]
  rfl

theorem scaleV_apply (X : FVec Ideal S32x3456 .f32) (r : Fin 32) (b : Fin 108) :
    scaleV X (ix2 r ⟨b.val, by omega⟩) = scaleOf (row X r) b.val := by
  unfold scaleV scaleOf
  rw [← Scale.scale (amax_nonneg _ _)]
  pointwise
  rw [blockIdx_apply]

end Cert.Proof.Quant

end
-- ==== Proof.Pieces.lean ====
/- The stores of one trip of the chunk loop, and of the whole loop, read at an index. -/
module

public import proofs.«01_k».proof.Proof.Quant
public import proofs.«01_k».proof.Proof.Gen.MlpIdeal.Loops
public import Idealize.ShloMosaic.Lib.Pipeline.ValueKit

@[expose] public section

set_option maxRecDepth 16384

noncomputable section

namespace Cert.Proof.Pieces

open Idealize.ShloMosaic Cert.MlpIdeal Cert.MlpIdeal.Gen Cert.Proof.Butterfly Cert.Proof.Quant

variable (arg6 : Memref sig .tc .vmem S256x3456 .f32) (X : BufTy.Contents (Elt Ideal) arg6.view.ty) (k : Fin k1_t1_loop.trips)

/-- The rows a trip reads. -/
def chunk : FVec Ideal S32x3456 .f32 :=
  View.readAt (Elt Ideal) arg6.view (Rect.unit (s := S256x3456) (k1_off1 k) S32x3456.size (k1_off1_inb k)).toLoadRect X

theorem codeTile (H : ℕ → ℕ → EReal) (hH : ∀ r, row (chunk arg6 X k) r = H (32 * k.val + r.val)) (y : S1x256x3456.Idx) (t : Fin 27)
    (off : Fin 3 → ℕ) (w : Vec Ideal S1x32x128 .fp8e4m3) (hoff : off = ![0, 32 * k.val, 128 * t.val])
    (hw : w = shapeCast S1x32x128 (codeV (chunk arg6 X k) t) shapeCasts_S32x128_S1x32x128) :
    View.TileAt (Val := Elt Ideal) (e := .fp8e4m3) y off S1x32x128.size w (codeOf (H (y 1).val) (y 2).val) := by
  subst hoff hw
  intro x hx
  have h1 := hx 1
  have h2 := hx 2
  simp only [Fin.isValue, Matrix.cons_val] at h1 h2
  rw [h1, h2]
  have hl : (x 2).val < 128 := (x 2).isLt
  have hr : (x 1).val < 32 := (x 1).isLt
  have e : shapeCast S1x32x128 (codeV (chunk arg6 X k) t) shapeCasts_S32x128_S1x32x128 x = codeV (chunk arg6 X k) t (ix2 ⟨(x 1).val, hr⟩ ⟨(x 2).val, hl⟩) := by
    pointwise
  rw [e, codeV_apply, hH]

theorem hwTile (H : ℕ → ℕ → EReal) (hH : ∀ r, row (chunk arg6 X k) r = H (32 * k.val + r.val)) (y : S1x256x3456.Idx) (t : Fin 27)
    (off : Fin 3 → ℕ) (w : Vec Ideal S1x32x128 .bf16) (hoff : off = ![0, 32 * k.val, 128 * t.val])
    (hw : w = shapeCast S1x32x128 (hwV (chunk arg6 X k) t) shapeCasts_S32x128_S1x32x128) :
    View.TileAt (Val := Elt Ideal) (e := .bf16) y off S1x32x128.size w (codeOf (H (y 1).val) (y 2).val * scaleOf (H (y 1).val) ((y 2).val / 32)) := by
  subst hoff hw
  intro x hx
  have h1 := hx 1
  have h2 := hx 2
  simp only [Fin.isValue, Matrix.cons_val] at h1 h2
  rw [h1, h2]
  have hl : (x 2).val < 128 := (x 2).isLt
  have hr : (x 1).val < 32 := (x 1).isLt
  have e : shapeCast S1x32x128 (hwV (chunk arg6 X k) t) shapeCasts_S32x128_S1x32x128 x = hwV (chunk arg6 X k) t (ix2 ⟨(x 1).val, hr⟩ ⟨(x 2).val, hl⟩) := by
    pointwise
  rw [e, hwV_apply, hH]

theorem scaleTile (H : ℕ → ℕ → EReal) (hH : ∀ r, row (chunk arg6 X k) r = H (32 * k.val + r.val)) (y : S256x128.Idx) (hy : (y 1).val < 108)
    (off : Fin 2 → ℕ) (w : Vec Ideal S32x128 .f32) (hoff : off = ![32 * k.val, 0])
    (hw : w = shapeCast S32x128 (scaleV (chunk arg6 X k)) shapeCasts_S32x128_S32x128) :
    View.TileAt (Val := Elt Ideal) (e := .f32) y off S32x128.size w (scaleOf (H (y 0).val) (y 1).val) := by
  subst hoff hw
  intro x hx
  have h0 := hx 0
  have h1 := hx 1
  simp only [Fin.isValue, Matrix.cons_val, zero_add] at h0 h1
  have hr : (x 0).val < 32 := (x 0).isLt
  have e : shapeCast S32x128 (scaleV (chunk arg6 X k)) shapeCasts_S32x128_S32x128 x = scaleV (chunk arg6 X k) (ix2 ⟨(x 0).val, hr⟩ ⟨(y 1).val, by omega⟩) := by
    pointwise
    refine congrArg _ (funext fun a => Fin.ext ?_)
    fin_cases a
    · rfl
    · exact h1.symm
  rw [e, scaleV_apply _ _ ⟨(y 1).val, hy⟩, hH, h0]

theorem off0 : k1_off3 k = ![0, 32 * k.val, 0] := by revert k; decide +kernel
theorem off1 : k1_off5 k = ![0, 32 * k.val, 128] := by revert k; decide +kernel
theorem off2 : k1_off7 k = ![0, 32 * k.val, 256] := by revert k; decide +kernel
theorem off3 : k1_off9 k = ![0, 32 * k.val, 384] := by revert k; decide +kernel
theorem off4 : k1_off11 k = ![0, 32 * k.val, 512] := by revert k; decide +kernel
theorem off5 : k1_off13 k = ![0, 32 * k.val, 640] := by revert k; decide +kernel
theorem off6 : k1_off15 k = ![0, 32 * k.val, 768] := by revert k; decide +kernel
theorem off7 : k1_off17 k = ![0, 32 * k.val, 896] := by revert k; decide +kernel
theorem off8 : k1_off19 k = ![0, 32 * k.val, 1024] := by revert k; decide +kernel
theorem off9 : k1_off21 k = ![0, 32 * k.val, 1152] := by revert k; decide +kernel
theorem off10 : k1_off23 k = ![0, 32 * k.val, 1280] := by revert k; decide +kernel
theorem off11 : k1_off25 k = ![0, 32 * k.val, 1408] := by revert k; decide +kernel
theorem off12 : k1_off27 k = ![0, 32 * k.val, 1536] := by revert k; decide +kernel
theorem off13 : k1_off29 k = ![0, 32 * k.val, 1664] := by revert k; decide +kernel
theorem off14 : k1_off31 k = ![0, 32 * k.val, 1792] := by revert k; decide +kernel
theorem off15 : k1_off33 k = ![0, 32 * k.val, 1920] := by revert k; decide +kernel
theorem off16 : k1_off35 k = ![0, 32 * k.val, 2048] := by revert k; decide +kernel
theorem off17 : k1_off37 k = ![0, 32 * k.val, 2176] := by revert k; decide +kernel
theorem off18 : k1_off39 k = ![0, 32 * k.val, 2304] := by revert k; decide +kernel
theorem off19 : k1_off41 k = ![0, 32 * k.val, 2432] := by revert k; decide +kernel
theorem off20 : k1_off43 k = ![0, 32 * k.val, 2560] := by revert k; decide +kernel
theorem off21 : k1_off45 k = ![0, 32 * k.val, 2688] := by revert k; decide +kernel
theorem off22 : k1_off47 k = ![0, 32 * k.val, 2816] := by revert k; decide +kernel
theorem off23 : k1_off49 k = ![0, 32 * k.val, 2944] := by revert k; decide +kernel
theorem off24 : k1_off51 k = ![0, 32 * k.val, 3072] := by revert k; decide +kernel
theorem off25 : k1_off53 k = ![0, 32 * k.val, 3200] := by revert k; decide +kernel
theorem off26 : k1_off55 k = ![0, 32 * k.val, 3328] := by revert k; decide +kernel
theorem offS : k1_off56 k = ![32 * k.val, 0] := by revert k; decide +kernel

variable (𝒱 : Variants) (c : Dev nD) (bd : Option 𝒱.V) (i : grid1.Coords) (arg1 : Memref sig .tc .vmem S1x256x2560 .bf16) (harg1 : arg1.IsWhole)
  (arg2 : Memref sig .tc .vmem S2560x6912 .bf16) (harg2 : arg2.IsWhole) (arg3 : Memref sig .tc .vmem S1x256x3456 .fp8e4m3) (harg3 : arg3.IsWhole)
  (arg4 : Memref sig .tc .vmem S1x108x256 .f32) (harg4 : arg4.IsWhole) (arg5 : Memref sig .tc .vmem S1x256x3456 .bf16) (harg5 : arg5.IsWhole)
  (harg6 : arg6.IsWhole) (arg7 : Memref sig .tc .vmem S256x128 .f32) (harg7 : arg7.IsWhole) (v316 : FVec Ideal S256x256 .f32)

theorem trip_codes (H : ℕ → ℕ → EReal) (hH : ∀ r, row (chunk arg6 X k) r = H (32 * k.val + r.val)) (y : S1x256x3456.Idx) :
    View.AllAt (trip_k1_t1 (F := Ideal) 𝒱 c bd i arg1 harg1 arg2 harg2 arg3 harg3 arg4 harg4 arg5 harg5 arg6 harg6 arg7 harg7 v316 X k).1 y (codeOf (H (y 1).val) (y 2).val) := by
  unfold trip_k1_t1
  refine View.allAt_cons_unit _ _ _ _ _ (codeTile arg6 X k H hH y 26 _ _ (off26 k) rfl) ?_
  refine View.allAt_cons_unit _ _ _ _ _ (codeTile arg6 X k H hH y 25 _ _ (off25 k) rfl) ?_
  refine View.allAt_cons_unit _ _ _ _ _ (codeTile arg6 X k H hH y 24 _ _ (off24 k) rfl) ?_
  refine View.allAt_cons_unit _ _ _ _ _ (codeTile arg6 X k H hH y 23 _ _ (off23 k) rfl) ?_
  refine View.allAt_cons_unit _ _ _ _ _ (codeTile arg6 X k H hH y 22 _ _ (off22 k) rfl) ?_
  refine View.allAt_cons_unit _ _ _ _ _ (codeTile arg6 X k H hH y 21 _ _ (off21 k) rfl) ?_
  refine View.allAt_cons_unit _ _ _ _ _ (codeTile arg6 X k H hH y 20 _ _ (off20 k) rfl) ?_
  refine View.allAt_cons_unit _ _ _ _ _ (codeTile arg6 X k H hH y 19 _ _ (off19 k) rfl) ?_
  refine View.allAt_cons_unit _ _ _ _ _ (codeTile arg6 X k H hH y 18 _ _ (off18 k) rfl) ?_
  refine View.allAt_cons_unit _ _ _ _ _ (codeTile arg6 X k H hH y 17 _ _ (off17 k) rfl) ?_
  refine View.allAt_cons_unit _ _ _ _ _ (codeTile arg6 X k H hH y 16 _ _ (off16 k) rfl) ?_
  refine View.allAt_cons_unit _ _ _ _ _ (codeTile arg6 X k H hH y 15 _ _ (off15 k) rfl) ?_
  refine View.allAt_cons_unit _ _ _ _ _ (codeTile arg6 X k H hH y 14 _ _ (off14 k) rfl) ?_
  refine View.allAt_cons_unit _ _ _ _ _ (codeTile arg6 X k H hH y 13 _ _ (off13 k) rfl) ?_
  refine View.allAt_cons_unit _ _ _ _ _ (codeTile arg6 X k H hH y 12 _ _ (off12 k) rfl) ?_
  refine View.allAt_cons_unit _ _ _ _ _ (codeTile arg6 X k H hH y 11 _ _ (off11 k) rfl) ?_
  refine View.allAt_cons_unit _ _ _ _ _ (codeTile arg6 X k H hH y 10 _ _ (off10 k) rfl) ?_
  refine View.allAt_cons_unit _ _ _ _ _ (codeTile arg6 X k H hH y 9 _ _ (off9 k) rfl) ?_
  refine View.allAt_cons_unit _ _ _ _ _ (codeTile arg6 X k H hH y 8 _ _ (off8 k) rfl) ?_
  refine View.allAt_cons_unit _ _ _ _ _ (codeTile arg6 X k H hH y 7 _ _ (off7 k) rfl) ?_
  refine View.allAt_cons_unit _ _ _ _ _ (codeTile arg6 X k H hH y 6 _ _ (off6 k) rfl) ?_
  refine View.allAt_cons_unit _ _ _ _ _ (codeTile arg6 X k H hH y 5 _ _ (off5 k) rfl) ?_
  refine View.allAt_cons_unit _ _ _ _ _ (codeTile arg6 X k H hH y 4 _ _ (off4 k) rfl) ?_
  refine View.allAt_cons_unit _ _ _ _ _ (codeTile arg6 X k H hH y 3 _ _ (off3 k) rfl) ?_
  refine View.allAt_cons_unit _ _ _ _ _ (codeTile arg6 X k H hH y 2 _ _ (off2 k) rfl) ?_
  refine View.allAt_cons_unit _ _ _ _ _ (codeTile arg6 X k H hH y 1 _ _ (off1 k) rfl) ?_
  refine View.allAt_cons_unit _ _ _ _ _ (codeTile arg6 X k H hH y 0 _ _ (off0 k) rfl) ?_
  exact View.allAt_nil _ _

theorem trip_hw (H : ℕ → ℕ → EReal) (hH : ∀ r, row (chunk arg6 X k) r = H (32 * k.val + r.val)) (y : S1x256x3456.Idx) :
    View.AllAt (trip_k1_t1 (F := Ideal) 𝒱 c bd i arg1 harg1 arg2 harg2 arg3 harg3 arg4 harg4 arg5 harg5 arg6 harg6 arg7 harg7 v316 X k).2.1 y (codeOf (H (y 1).val) (y 2).val * scaleOf (H (y 1).val) ((y 2).val / 32)) := by
  unfold trip_k1_t1
  refine View.allAt_cons_unit _ _ _ _ _ (hwTile arg6 X k H hH y 26 _ _ (off26 k) rfl) ?_
  refine View.allAt_cons_unit _ _ _ _ _ (hwTile arg6 X k H hH y 25 _ _ (off25 k) rfl) ?_
  refine View.allAt_cons_unit _ _ _ _ _ (hwTile arg6 X k H hH y 24 _ _ (off24 k) rfl) ?_
  refine View.allAt_cons_unit _ _ _ _ _ (hwTile arg6 X k H hH y 23 _ _ (off23 k) rfl) ?_
  refine View.allAt_cons_unit _ _ _ _ _ (hwTile arg6 X k H hH y 22 _ _ (off22 k) rfl) ?_
  refine View.allAt_cons_unit _ _ _ _ _ (hwTile arg6 X k H hH y 21 _ _ (off21 k) rfl) ?_
  refine View.allAt_cons_unit _ _ _ _ _ (hwTile arg6 X k H hH y 20 _ _ (off20 k) rfl) ?_
  refine View.allAt_cons_unit _ _ _ _ _ (hwTile arg6 X k H hH y 19 _ _ (off19 k) rfl) ?_
  refine View.allAt_cons_unit _ _ _ _ _ (hwTile arg6 X k H hH y 18 _ _ (off18 k) rfl) ?_
  refine View.allAt_cons_unit _ _ _ _ _ (hwTile arg6 X k H hH y 17 _ _ (off17 k) rfl) ?_
  refine View.allAt_cons_unit _ _ _ _ _ (hwTile arg6 X k H hH y 16 _ _ (off16 k) rfl) ?_
  refine View.allAt_cons_unit _ _ _ _ _ (hwTile arg6 X k H hH y 15 _ _ (off15 k) rfl) ?_
  refine View.allAt_cons_unit _ _ _ _ _ (hwTile arg6 X k H hH y 14 _ _ (off14 k) rfl) ?_
  refine View.allAt_cons_unit _ _ _ _ _ (hwTile arg6 X k H hH y 13 _ _ (off13 k) rfl) ?_
  refine View.allAt_cons_unit _ _ _ _ _ (hwTile arg6 X k H hH y 12 _ _ (off12 k) rfl) ?_
  refine View.allAt_cons_unit _ _ _ _ _ (hwTile arg6 X k H hH y 11 _ _ (off11 k) rfl) ?_
  refine View.allAt_cons_unit _ _ _ _ _ (hwTile arg6 X k H hH y 10 _ _ (off10 k) rfl) ?_
  refine View.allAt_cons_unit _ _ _ _ _ (hwTile arg6 X k H hH y 9 _ _ (off9 k) rfl) ?_
  refine View.allAt_cons_unit _ _ _ _ _ (hwTile arg6 X k H hH y 8 _ _ (off8 k) rfl) ?_
  refine View.allAt_cons_unit _ _ _ _ _ (hwTile arg6 X k H hH y 7 _ _ (off7 k) rfl) ?_
  refine View.allAt_cons_unit _ _ _ _ _ (hwTile arg6 X k H hH y 6 _ _ (off6 k) rfl) ?_
  refine View.allAt_cons_unit _ _ _ _ _ (hwTile arg6 X k H hH y 5 _ _ (off5 k) rfl) ?_
  refine View.allAt_cons_unit _ _ _ _ _ (hwTile arg6 X k H hH y 4 _ _ (off4 k) rfl) ?_
  refine View.allAt_cons_unit _ _ _ _ _ (hwTile arg6 X k H hH y 3 _ _ (off3 k) rfl) ?_
  refine View.allAt_cons_unit _ _ _ _ _ (hwTile arg6 X k H hH y 2 _ _ (off2 k) rfl) ?_
  refine View.allAt_cons_unit _ _ _ _ _ (hwTile arg6 X k H hH y 1 _ _ (off1 k) rfl) ?_
  refine View.allAt_cons_unit _ _ _ _ _ (hwTile arg6 X k H hH y 0 _ _ (off0 k) rfl) ?_
  exact View.allAt_nil _ _

theorem trip_scales (H : ℕ → ℕ → EReal) (hH : ∀ r, row (chunk arg6 X k) r = H (32 * k.val + r.val)) (y : S256x128.Idx) (hy : (y 1).val < 108) :
    View.AllAt (trip_k1_t1 (F := Ideal) 𝒱 c bd i arg1 harg1 arg2 harg2 arg3 harg3 arg4 harg4 arg5 harg5 arg6 harg6 arg7 harg7 v316 X k).2.2.1 y (scaleOf (H (y 0).val) (y 1).val) := by
  unfold trip_k1_t1
  refine View.allAt_cons_unit _ _ _ _ _ (scaleTile arg6 X k H hH y hy _ _ (offS k) rfl) ?_
  exact View.allAt_nil _ _

/-- Two lists of stores one after the other. -/
theorem allAt_append {S : Shape} {e : EltTy} (L L' : List (View.Piece (Elt Ideal) S e)) (y : S.Idx) (v : Elt Ideal e)
    (h : View.AllAt L y v) (h' : View.AllAt L' y v) : View.AllAt (L ++ L') y v := fun p hp =>
  (List.mem_append.mp hp).elim (h p) (h' p)

theorem loop_codes (H : ℕ → ℕ → EReal) (hH : ∀ (k : Fin k1_t1_loop.trips) r, row (chunk arg6 X k) r = H (32 * k.val + r.val)) (y : S1x256x3456.Idx) :
    ∀ n, n ≤ k1_t1_loop.trips → View.AllAt (pb_k1_t1 (F := Ideal) 𝒱 c bd i arg1 harg1 arg2 harg2 arg3 harg3 arg4 harg4 arg5 harg5 arg6 harg6 arg7 harg7 v316 X n).1 y (codeOf (H (y 1).val) (y 2).val)
  | 0, _ => View.allAt_nil _ _
  | n + 1, hn => by
    rw [pb_k1_t1_succ (F := Ideal) 𝒱 c bd i arg1 harg1 arg2 harg2 arg3 harg3 arg4 harg4 arg5 harg5 arg6 harg6 arg7 harg7 v316 X ⟨n, hn⟩]
    exact allAt_append _ _ _ _ (trip_codes arg6 X ⟨n, hn⟩ 𝒱 c bd i arg1 harg1 arg2 harg2 arg3 harg3 arg4 harg4 arg5 harg5 harg6 arg7 harg7 v316 H (hH _) y)
      (loop_codes H hH y n (Nat.le_of_succ_le hn))

theorem loop_hw (H : ℕ → ℕ → EReal) (hH : ∀ (k : Fin k1_t1_loop.trips) r, row (chunk arg6 X k) r = H (32 * k.val + r.val)) (y : S1x256x3456.Idx) :
    ∀ n, n ≤ k1_t1_loop.trips → View.AllAt (pb_k1_t1 (F := Ideal) 𝒱 c bd i arg1 harg1 arg2 harg2 arg3 harg3 arg4 harg4 arg5 harg5 arg6 harg6 arg7 harg7 v316 X n).2.1 y (codeOf (H (y 1).val) (y 2).val * scaleOf (H (y 1).val) ((y 2).val / 32))
  | 0, _ => View.allAt_nil _ _
  | n + 1, hn => by
    rw [pb_k1_t1_succ (F := Ideal) 𝒱 c bd i arg1 harg1 arg2 harg2 arg3 harg3 arg4 harg4 arg5 harg5 arg6 harg6 arg7 harg7 v316 X ⟨n, hn⟩]
    exact allAt_append _ _ _ _ (trip_hw arg6 X ⟨n, hn⟩ 𝒱 c bd i arg1 harg1 arg2 harg2 arg3 harg3 arg4 harg4 arg5 harg5 harg6 arg7 harg7 v316 H (hH _) y)
      (loop_hw H hH y n (Nat.le_of_succ_le hn))

theorem loop_scales (H : ℕ → ℕ → EReal) (hH : ∀ (k : Fin k1_t1_loop.trips) r, row (chunk arg6 X k) r = H (32 * k.val + r.val)) (y : S256x128.Idx)
    (hy : (y 1).val < 108) :
    ∀ n, n ≤ k1_t1_loop.trips → View.AllAt (pb_k1_t1 (F := Ideal) 𝒱 c bd i arg1 harg1 arg2 harg2 arg3 harg3 arg4 harg4 arg5 harg5 arg6 harg6 arg7 harg7 v316 X n).2.2 y (scaleOf (H (y 0).val) (y 1).val)
  | 0, _ => View.allAt_nil _ _
  | n + 1, hn => by
    rw [pb_k1_t1_succ (F := Ideal) 𝒱 c bd i arg1 harg1 arg2 harg2 arg3 harg3 arg4 harg4 arg5 harg5 arg6 harg6 arg7 harg7 v316 X ⟨n, hn⟩]
    exact allAt_append _ _ _ _ (trip_scales arg6 X ⟨n, hn⟩ 𝒱 c bd i arg1 harg1 arg2 harg2 arg3 harg3 arg4 harg4 arg5 harg5 harg6 arg7 harg7 v316 H (hH _) y hy)
      (loop_scales H hH y hy n (Nat.le_of_succ_le hn))

end Cert.Proof.Pieces

end
-- ==== Proof.Up.lean ====
/- One run of the gate and up projections: the gated products, their codes, their scales and the codes times the scales. -/
module

public import proofs.«01_k».proof.Proof.Pieces
public import proofs.«01_k».proof.Proof.Gen.MlpIdeal.Frame
public import Idealize.ShloMosaic.Lib.WholeRead

@[expose] public section

set_option maxRecDepth 16384

noncomputable section

namespace Cert.Proof.Up

open Idealize.ShloMosaic Cert.MlpIdeal Cert.MlpIdeal.Gen Cert.Proof.Quant Cert.Proof.Pieces

/-- The gated product of a gate and an up value. -/
def glu (g u : EReal) : EReal := g * Ideal.div 1 (1 + Ideal.exp (-g)) * u

/-- Row `r` of `x` times column `c` of `w`. -/
def dotAt (x : Vec Ideal S1x256x2560 .bf16) (w : Vec Ideal S2560x6912 .bf16) (r c : ℕ) : EReal :=
  ∑ k : Fin 2560, x (ix3 0 ⟨r % 256, Nat.mod_lt _ (by decide)⟩ k) * w (ix2 k ⟨c % 6912, Nat.mod_lt _ (by decide)⟩)

/-- The gated products of row `r`: gate and up columns lie in turns of 128 columns each. -/
def hAt (x : Vec Ideal S1x256x2560 .bf16) (w : Vec Ideal S2560x6912 .bf16) (r c : ℕ) : EReal :=
  glu (dotAt x w r (256 * (c % 3456 / 128) + c % 3456 % 128)) (dotAt x w r (256 * (c % 3456 / 128) + 128 + c % 3456 % 128))

theorem pay_apply (v0 : Vec Ideal S1x256x2560 .bf16) (v2 : Vec Ideal S2560x256 .bf16) (r : Fin 256) (l : Fin 128) :
    k1_pay259 v0 v2 (ix2 r l)
      = glu (∑ k : Fin 2560, v0 (ix3 0 r k) * v2 (ix2 k ⟨l.val, by omega⟩)) (∑ k : Fin 2560, v0 (ix3 0 r k) * v2 (ix2 k ⟨128 + l.val, by omega⟩)) := by
  unfold k1_pay259 glu
  pointwise
  rfl

theorem inb_w (t : Fin 27) : ∀ a, (![0, 256 * t.val] : Fin 2 → ℕ) a + S2560x256.size a ≤ S2560x6912.size a := by revert t; decide +kernel

theorem prodTile (arg1 : Memref sig .tc .vmem S1x256x2560 .bf16) (harg1 : arg1.IsWhole) (arg2 : Memref sig .tc .vmem S2560x6912 .bf16) (harg2 : arg2.IsWhole)
    (x0 : Vec Ideal S1x256x2560 .bf16) (x1 : Vec Ideal S2560x6912 .bf16) (y : S256x3456.Idx) (t : Fin 27)
    (off : Fin 2 → ℕ) (w : Vec Ideal S256x128 .f32) (hin : ∀ a, (![0, 0, 0] : Fin 3 → ℕ) a + S1x256x2560.size a ≤ S1x256x2560.size a)
    (hoff : off = ![0, 128 * t.val])
    (hw : w = k1_pay259 (View.readAt (Elt Ideal) arg1.view (Rect.unit (s := S1x256x2560) ![0, 0, 0] S1x256x2560.size hin).toLoadRect (harg1.unread x0))
      (View.readAt (Elt Ideal) arg2.view (Rect.unit (s := S2560x6912) ![0, 256 * t.val] S2560x256.size (inb_w t)).toLoadRect (harg2.unread x1))) :
    View.TileAt (Val := Elt Ideal) (e := .f32) y off S256x128.size w (hAt x0 x1 (y 0).val (y 1).val) := by
  subst hoff hw
  intro x hx
  have h0 := hx 0
  have h1 := hx 1
  simp only [Fin.isValue, Matrix.cons_val, zero_add] at h0 h1
  have hr : (x 0).val < 256 := (x 0).isLt
  have hl : (x 1).val < 128 := (x 1).isLt
  have ht := t.isLt
  have ex : x = ix2 ⟨(x 0).val, hr⟩ ⟨(x 1).val, hl⟩ := by funext a; fin_cases a <;> rfl
  rw [ex, pay_apply]
  unfold hAt dotAt
  rw [h0, h1]
  have e0 : ∀ k : Fin 2560, (Rect.unit (s := S1x256x2560) ![0, 0, 0] S1x256x2560.size hin).toLoadRect.idx (ix3 0 ⟨(x 0).val, hr⟩ k) = ix3 0 ⟨(x 0).val % 256, Nat.mod_lt _ (by decide)⟩ k := by
    intro k; funext a; refine Fin.ext ((Rect.idx_unit_val _ _ hin (ix3 0 ⟨(x 0).val, hr⟩ k) a).trans ?_); fin_cases a <;> simp; omega
  have e1 : ∀ (k : Fin 2560) (q : ℕ) (hq : q < 256) (h), (Rect.unit (s := S2560x6912) ![0, 256 * t.val] S2560x256.size (inb_w t)).toLoadRect.idx (ix2 k ⟨q, hq⟩) = ix2 k ⟨(256 * t.val + q) % 6912, h⟩ := by
    intro k q hq h; funext a; refine Fin.ext ((Rect.idx_unit_val _ _ (inb_w t) (ix2 k ⟨q, hq⟩) a).trans ?_); fin_cases a <;> simp; omega
  have a1 : (128 * t.val + (x 1).val) % 3456 / 128 = t.val := by omega
  have a2 : (128 * t.val + (x 1).val) % 3456 % 128 = (x 1).val := by omega
  rw [a1, a2]
  simp only [add_assoc]
  have r0 := fun k : Fin 2560 => (harg1.readAt_unread x0 (Rect.unit (s := S1x256x2560) ![0, 0, 0] S1x256x2560.size hin).toLoadRect _).trans (congrArg x0 (e0 k))
  have r1 := fun (k : Fin 2560) (q : ℕ) (hq : q < 256) (h) =>
    (harg2.readAt_unread x1 (Rect.unit (s := S2560x6912) ![0, 256 * t.val] S2560x256.size (inb_w t)).toLoadRect _).trans (congrArg x1 (e1 k q hq h))
  exact congrArg₂ glu (Finset.sum_congr rfl fun k _ => congrArg₂ (· * ·) (r0 k) (r1 k _ _ _))
    (Finset.sum_congr rfl fun k _ => congrArg₂ (· * ·) (r0 k) (r1 k _ _ _))

theorem scratch (c : Dev nD) (arg1 : Memref sig .tc .vmem S1x256x2560 .bf16) (harg1 : arg1.IsWhole) (arg2 : Memref sig .tc .vmem S2560x6912 .bf16) (harg2 : arg2.IsWhole)
    (x0 : Vec Ideal S1x256x2560 .bf16) (x1 : Vec Ideal S2560x6912 .bf16) (y : S256x3456.Idx) :
    View.AllAt (kernelRun1_A.sl.HS0_27 (F := Ideal) c arg1 harg1 arg2 harg2 x0 x1) y (hAt x0 x1 (y 0).val (y 1).val) := by
  unfold kernelRun1_A.sl.HS0_27
  refine View.allAt_cons_unit _ _ _ _ _ (prodTile arg1 harg1 arg2 harg2 x0 x1 y 26 _ _ _ rfl rfl) ?_
  refine View.allAt_cons_unit _ _ _ _ _ (prodTile arg1 harg1 arg2 harg2 x0 x1 y 25 _ _ _ rfl rfl) ?_
  refine View.allAt_cons_unit _ _ _ _ _ (prodTile arg1 harg1 arg2 harg2 x0 x1 y 24 _ _ _ rfl rfl) ?_
  refine View.allAt_cons_unit _ _ _ _ _ (prodTile arg1 harg1 arg2 harg2 x0 x1 y 23 _ _ _ rfl rfl) ?_
  refine View.allAt_cons_unit _ _ _ _ _ (prodTile arg1 harg1 arg2 harg2 x0 x1 y 22 _ _ _ rfl rfl) ?_
  refine View.allAt_cons_unit _ _ _ _ _ (prodTile arg1 harg1 arg2 harg2 x0 x1 y 21 _ _ _ rfl rfl) ?_
  refine View.allAt_cons_unit _ _ _ _ _ (prodTile arg1 harg1 arg2 harg2 x0 x1 y 20 _ _ _ rfl rfl) ?_
  refine View.allAt_cons_unit _ _ _ _ _ (prodTile arg1 harg1 arg2 harg2 x0 x1 y 19 _ _ _ rfl rfl) ?_
  refine View.allAt_cons_unit _ _ _ _ _ (prodTile arg1 harg1 arg2 harg2 x0 x1 y 18 _ _ _ rfl rfl) ?_
  refine View.allAt_cons_unit _ _ _ _ _ (prodTile arg1 harg1 arg2 harg2 x0 x1 y 17 _ _ _ rfl rfl) ?_
  refine View.allAt_cons_unit _ _ _ _ _ (prodTile arg1 harg1 arg2 harg2 x0 x1 y 16 _ _ _ rfl rfl) ?_
  refine View.allAt_cons_unit _ _ _ _ _ (prodTile arg1 harg1 arg2 harg2 x0 x1 y 15 _ _ _ rfl rfl) ?_
  refine View.allAt_cons_unit _ _ _ _ _ (prodTile arg1 harg1 arg2 harg2 x0 x1 y 14 _ _ _ rfl rfl) ?_
  refine View.allAt_cons_unit _ _ _ _ _ (prodTile arg1 harg1 arg2 harg2 x0 x1 y 13 _ _ _ rfl rfl) ?_
  refine View.allAt_cons_unit _ _ _ _ _ (prodTile arg1 harg1 arg2 harg2 x0 x1 y 12 _ _ _ rfl rfl) ?_
  refine View.allAt_cons_unit _ _ _ _ _ (prodTile arg1 harg1 arg2 harg2 x0 x1 y 11 _ _ _ rfl rfl) ?_
  refine View.allAt_cons_unit _ _ _ _ _ (prodTile arg1 harg1 arg2 harg2 x0 x1 y 10 _ _ _ rfl rfl) ?_
  refine View.allAt_cons_unit _ _ _ _ _ (prodTile arg1 harg1 arg2 harg2 x0 x1 y 9 _ _ _ rfl rfl) ?_
  refine View.allAt_cons_unit _ _ _ _ _ (prodTile arg1 harg1 arg2 harg2 x0 x1 y 8 _ _ _ rfl rfl) ?_
  refine View.allAt_cons_unit _ _ _ _ _ (prodTile arg1 harg1 arg2 harg2 x0 x1 y 7 _ _ _ rfl rfl) ?_
  refine View.allAt_cons_unit _ _ _ _ _ (prodTile arg1 harg1 arg2 harg2 x0 x1 y 6 _ _ _ rfl rfl) ?_
  refine View.allAt_cons_unit _ _ _ _ _ (prodTile arg1 harg1 arg2 harg2 x0 x1 y 5 _ _ _ rfl rfl) ?_
  refine View.allAt_cons_unit _ _ _ _ _ (prodTile arg1 harg1 arg2 harg2 x0 x1 y 4 _ _ _ rfl rfl) ?_
  refine View.allAt_cons_unit _ _ _ _ _ (prodTile arg1 harg1 arg2 harg2 x0 x1 y 3 _ _ _ rfl rfl) ?_
  refine View.allAt_cons_unit _ _ _ _ _ (prodTile arg1 harg1 arg2 harg2 x0 x1 y 2 _ _ _ rfl rfl) ?_
  refine View.allAt_cons_unit _ _ _ _ _ (prodTile arg1 harg1 arg2 harg2 x0 x1 y 1 _ _ _ rfl rfl) ?_
  refine View.allAt_cons_unit _ _ _ _ _ (prodTile arg1 harg1 arg2 harg2 x0 x1 y 0 _ _ _ rfl rfl) ?_
  exact View.allAt_nil _ _

theorem scratch_cover (c : Dev nD) (arg1 : Memref sig .tc .vmem S1x256x2560 .bf16) (harg1 : arg1.IsWhole) (arg2 : Memref sig .tc .vmem S2560x6912 .bf16) (harg2 : arg2.IsWhole)
    (x0 : Vec Ideal S1x256x2560 .bf16) (x1 : Vec Ideal S2560x6912 .bf16) (y : S256x3456.Idx) :
    ∃ p ∈ kernelRun1_A.sl.HS0_27 (F := Ideal) c arg1 harg1 arg2 harg2 x0 x1, y ∈ p.1.set :=
  View.cover_of_tiledL (kernelRun1_A.sl.HS0_27 (F := Ideal) c arg1 harg1 arg2 harg2 x0 x1) S256x128.size (by sl_kernel_rfl) y

theorem off1 (k : Fin k1_t1_loop.trips) : k1_off1 k = ![32 * k.val, 0] := by revert k; decide +kernel

variable (c : Dev nD) (i : grid1.Coords) (arg1 : Memref sig .tc .vmem S1x256x2560 .bf16) (harg1 : arg1.IsWhole)
  (arg2 : Memref sig .tc .vmem S2560x6912 .bf16) (harg2 : arg2.IsWhole) (arg3 : Memref sig .tc .vmem S1x256x3456 .fp8e4m3) (harg3 : arg3.IsWhole)
  (arg4 : Memref sig .tc .vmem S1x108x256 .f32) (harg4 : arg4.IsWhole) (arg5 : Memref sig .tc .vmem S1x256x3456 .bf16) (harg5 : arg5.IsWhole)
  (arg6 : Memref sig .tc .vmem S256x3456 .f32) (harg6 : arg6.IsWhole) (arg7 : Memref sig .tc .vmem S256x128 .f32) (harg7 : arg7.IsWhole)
  (x0 : Vec Ideal S1x256x2560 .bf16) (x1 : Vec Ideal S2560x6912 .bf16)

theorem rows (k : Fin k1_t1_loop.trips) (r : Fin 32) :
    row (chunk arg6 (arg6.view.writes (Elt Ideal) arg6.view.junk (kernelRun1_A.sl.HS0_27 (F := Ideal) c arg1 harg1 arg2 harg2 x0 x1)) k) r
      = hAt x0 x1 (32 * k.val + r.val) := by
  funext q
  unfold row chunk
  rw [View.readAt_writes_of_cover _ _ _ _ (fun _ => scratch_cover c arg1 harg1 arg2 harg2 x0 x1 _), View.readCov_eq_canon']
  refine (View.canon_eq_of_allAt _ _ _ (scratch_cover c arg1 harg1 arg2 harg2 x0 x1 _) (scratch c arg1 harg1 arg2 harg2 x0 x1 _)).trans ?_
  have e := fun a => Rect.idx_unit_val (s := S256x3456) (k1_off1 k) S32x3456.size (k1_off1_inb k) (ix2 r ⟨q % 3456, Nat.mod_lt _ (by decide)⟩) a
  have e0 := (e 0).trans (congrArg (· + r.val) (congrFun (off1 k) 0))
  have e1 := (e 1).trans (congrArg (· + q % 3456) (congrFun (off1 k) 1))
  simp only [Fin.isValue, Matrix.cons_val, zero_add] at e0 e1
  have m : ∀ r' c', c' = q % 3456 → hAt x0 x1 r' c' = hAt x0 x1 r' q := fun r' c' h => by subst h; unfold hAt; rw [Nat.mod_mod]
  exact (congrArg₂ (hAt x0 x1) e0 e1).trans (m _ _ rfl)

theorem codes (y : S1x256x3456.Idx) :
    out1_A_2 (F := Ideal) c i arg1 harg1 arg2 harg2 arg3 harg3 arg4 harg4 arg5 harg5 arg6 harg6 arg7 harg7 x0 x1 y = codeOf (hAt x0 x1 (y 1).val) (y 2).val := by
  unfold out1_A_2
  rw [View.read_writes_junk_eq_canon]
  exact View.canon_eq_of_allAt _ y _ (cover1_A_2 c i arg1 harg1 arg2 harg2 arg3 harg3 arg4 harg4 arg5 harg5 arg6 harg6 arg7 harg7 x0 x1 y)
    (loop_codes arg6 _ Variants.none c none i arg1 harg1 arg2 harg2 arg3 harg3 arg4 harg4 arg5 harg5 harg6 arg7 harg7 _ _
      (rows c arg1 harg1 arg2 harg2 arg6 x0 x1) y _ le_rfl)

theorem products (y : S1x256x3456.Idx) :
    out1_A_4 (F := Ideal) c i arg1 harg1 arg2 harg2 arg3 harg3 arg4 harg4 arg5 harg5 arg6 harg6 arg7 harg7 x0 x1 y = codeOf (hAt x0 x1 (y 1).val) (y 2).val * scaleOf (hAt x0 x1 (y 1).val) ((y 2).val / 32) := by
  unfold out1_A_4
  rw [View.read_writes_junk_eq_canon]
  exact View.canon_eq_of_allAt _ y _ (cover1_A_4 c i arg1 harg1 arg2 harg2 arg3 harg3 arg4 harg4 arg5 harg5 arg6 harg6 arg7 harg7 x0 x1 y)
    (loop_hw arg6 _ Variants.none c none i arg1 harg1 arg2 harg2 arg3 harg3 arg4 harg4 arg5 harg5 harg6 arg7 harg7 _ _
      (rows c arg1 harg1 arg2 harg2 arg6 x0 x1) y _ le_rfl)

theorem pay1_apply (v : Vec Ideal S128x128 .f32) (x : S1x108x128.Idx) :
    k1_pay1 v x = v (ix2 ⟨(x 2).val, (x 2).isLt⟩ ⟨(x 1).val, lt_trans (x 1).isLt (by decide)⟩) := by
  unfold k1_pay1
  pointwise

theorem scaleBlock (o : ℕ) (ho : ∀ a, (![o, 0] : Fin 2 → ℕ) a + S128x128.size a ≤ S256x128.size a) (v316 : FVec Ideal S256x256 .f32) (y : S1x108x256.Idx) (w : Vec Ideal S1x108x128 .f32)
    (off : Fin 3 → ℕ) (hoff : off = ![0, 0, o])
    (hw : w = k1_pay1 (arg7.view.readCov (pb_k1_t1 (F := Ideal) Variants.none c none i arg1 harg1 arg2 harg2 arg3 harg3 arg4 harg4 arg5 harg5 arg6 harg6 arg7 harg7 v316
      (arg6.view.writes (Elt Ideal) arg6.view.junk (kernelRun1_A.sl.HS0_27 (F := Ideal) c arg1 harg1 arg2 harg2 x0 x1)) k1_t1_loop.trips).2.2
      (Rect.unit (s := S256x128) ![o, 0] S128x128.size ho).toLoadRect)) :
    View.TileAt (Val := Elt Ideal) (e := .f32) y off S1x108x128.size w (scaleOf (hAt x0 x1 (y 2).val) (y 1).val) := by
  subst hoff hw
  intro x hx
  have h1 := hx 1
  have h2 := hx 2
  simp only [Fin.isValue, Matrix.cons_val, zero_add] at h1 h2
  rw [pay1_apply, View.readCov_eq_canon']
  have e := fun a => Rect.idx_unit_val (s := S256x128) (![o, 0] : Fin 2 → ℕ) S128x128.size ho (ix2 ⟨(x 2).val, (x 2).isLt⟩ ⟨(x 1).val, lt_trans (x 1).isLt (by decide)⟩) a
  have e0 := e 0
  have e1 := e 1
  simp only [Fin.isValue, Matrix.cons_val, zero_add] at e0 e1
  have hb : (x 1).val < 108 := (x 1).isLt
  refine (View.canon_eq_of_allAt _ _ _ (View.cover_of_tiledL (pb_k1_t1 (F := Ideal) Variants.none c none i arg1 harg1 arg2 harg2 arg3 harg3 arg4 harg4 arg5 harg5 arg6 harg6 arg7 harg7 v316
      (arg6.view.writes (Elt Ideal) arg6.view.junk (kernelRun1_A.sl.HS0_27 (F := Ideal) c arg1 harg1 arg2 harg2 x0 x1)) k1_t1_loop.trips).2.2 S32x128.size (by sl_kernel_rfl) _)
    (loop_scales arg6 _ Variants.none c none i arg1 harg1 arg2 harg2 arg3 harg3 arg4 harg4 arg5 harg5 harg6 arg7 harg7 _ _
      (rows c arg1 harg1 arg2 harg2 arg6 x0 x1) _ (by exact lt_of_eq_of_lt e1 hb) _ le_rfl)).trans ?_
  exact congrArg₂ (fun r b => scaleOf (hAt x0 x1 r) b) (e0.trans h2.symm) (e1.trans h1.symm)

theorem scales (y : S1x108x256.Idx) :
    out1_A_3 (F := Ideal) c i arg1 harg1 arg2 harg2 arg3 harg3 arg4 harg4 arg5 harg5 arg6 harg6 arg7 harg7 x0 x1 y = scaleOf (hAt x0 x1 (y 2).val) (y 1).val := by
  unfold out1_A_3
  rw [View.read_writes_junk_eq_canon]
  refine View.canon_eq_of_allAt _ y _ (cover1_A_3 c i arg1 harg1 arg2 harg2 arg3 harg3 arg4 harg4 arg5 harg5 arg6 harg6 arg7 harg7 x0 x1 y) ?_
  unfold kernelRun1_A
  refine View.allAt_cons_unit _ _ _ _ _ (scaleBlock c i arg1 harg1 arg2 harg2 arg3 harg3 arg4 harg4 arg5 harg5 arg6 harg6 arg7 harg7 x0 x1 128 (by decide) _ y _ _ rfl rfl) ?_
  refine View.allAt_cons_unit _ _ _ _ _ (scaleBlock c i arg1 harg1 arg2 harg2 arg3 harg3 arg4 harg4 arg5 harg5 arg6 harg6 arg7 harg7 x0 x1 0 (by decide) _ y _ _ rfl rfl) ?_
  exact View.allAt_nil _ _

end Cert.Proof.Up

end
-- ==== Proof.Spec.lean ====
/- The gated feed-forward block written as plain sums: gate, up, the block quantiser, and the down projection. -/
module

public import proofs.«01_k».proof.Proof.Quant
public import Idealize.ShloMosaic.Lib.Pipeline.ValueKit

@[expose] public section

noncomputable section

namespace Cert.Proof.Spec

open Idealize.ShloMosaic Cert.Proof.Quant

abbrev Tokens : Shape := ⟨3, ![2, 9216, 2560]⟩
abbrev Hidden : Shape := ⟨3, ![2, 9216, 3456]⟩
abbrev Mods : Shape := ⟨3, ![2, 6, 2560]⟩
abbrev Up : Shape := ⟨2, ![2560, 3456]⟩
abbrev UpS : Shape := ⟨2, ![80, 3456]⟩
abbrev Down : Shape := ⟨2, ![3456, 2560]⟩
abbrev DownS : Shape := ⟨2, ![108, 2560]⟩
abbrev Scales : Shape := ⟨3, ![2, 9216, 108]⟩

/-- The gated linear unit of a gate and an up value. -/
def glu (g u : EReal) : EReal := g * Ideal.div 1 (1 + Ideal.exp (-g)) * u

/-- An entry of the widened up matrix: a code times its block's scale. -/
def upW (w : Up.Idx → EReal) (s : UpS.Idx → EReal) (k : Fin 2560) (j : Fin 3456) : EReal :=
  w (ix2 k j) * s (ix2 ⟨k.val / 32, by omega⟩ j)

/-- An entry of the widened down matrix. -/
def downW (w : Down.Idx → EReal) (s : DownS.Idx → EReal) (k : Fin 3456) (j : Fin 2560) : EReal :=
  w (ix2 k j) * s (ix2 ⟨k.val / 32, by omega⟩ j)

/-- A token row against a column of a widened up matrix. -/
def proj (x : Tokens.Idx → EReal) (w : Up.Idx → EReal) (s : UpS.Idx → EReal) (b : Fin 2) (r : Fin 9216) (j : Fin 3456) : EReal :=
  ∑ k : Fin 2560, x (ix3 b r k) * upW w s k j

/-- The hidden activation of a token, before quantising. -/
def hid (x : Tokens.Idx → EReal) (w1 : Up.Idx → EReal) (s1 : UpS.Idx → EReal) (w3 : Up.Idx → EReal) (s3 : UpS.Idx → EReal)
    (b : Fin 2) (r : Fin 9216) (c : ℕ) : EReal :=
  glu (proj x w1 s1 b r ⟨c % 3456, Nat.mod_lt _ (by decide)⟩) (proj x w3 s3 b r ⟨c % 3456, Nat.mod_lt _ (by decide)⟩)

/-- A quantised entry read back: its code times its block's scale. -/
def back (v : ℕ → EReal) (c : ℕ) : EReal := codeOf v c * scaleOf v (c / 32)

/-- The quantised hidden activations of every token. -/
def codes (x : Tokens.Idx → EReal) (w1 : Up.Idx → EReal) (s1 : UpS.Idx → EReal) (w3 : Up.Idx → EReal) (s3 : UpS.Idx → EReal) : Hidden.Idx → EReal :=
  fun i => codeOf (hid x w1 s1 w3 s3 (i 0) (i 1)) (i 2).val

/-- Their block scales. -/
def scales (x : Tokens.Idx → EReal) (w1 : Up.Idx → EReal) (s1 : UpS.Idx → EReal) (w3 : Up.Idx → EReal) (s3 : UpS.Idx → EReal) : Scales.Idx → EReal :=
  fun i => scaleOf (hid x w1 s1 w3 s3 (i 0) (i 1)) (i 2).val

/-- The block's result: the residual plus the modulated down projection of the hidden activations read back. -/
def result (x y : Tokens.Idx → EReal) (md : Mods.Idx → EReal) (w1 : Up.Idx → EReal) (s1 : UpS.Idx → EReal) (w3 : Up.Idx → EReal) (s3 : UpS.Idx → EReal)
    (w2 : Down.Idx → EReal) (s2 : DownS.Idx → EReal) : Tokens.Idx → EReal :=
  fun i => y i + md (ix3 (i 0) 5 (i 2)) * ∑ k : Fin 3456, back (hid x w1 s1 w3 s3 (i 0) (i 1)) k.val * downW w2 s2 k (i 2)

end Cert.Proof.Spec

end
-- ==== Proof.Regions.lean ====
/- What each of the four calls leaves in its result arrays, from the arrays it was entered with. -/
module

public import proofs.«01_k».proof.Proof.Widen
public import proofs.«01_k».proof.Proof.Up
public import proofs.«01_k».proof.Proof.Spec
public import Idealize.ShloMosaic.Lib.Pipeline.ValueKit
public import Idealize.ShloMosaic.Lib.Pointwise

@[expose] public section

set_option maxRecDepth 16384

noncomputable section

namespace Cert.Proof.Regions

open Idealize.ShloMosaic Idealize.ShloMosaic.TcCoe Idealize.SL.Sem
open Cert.MlpIdeal Cert.MlpIdeal.Gen Cert.Proof.Quant

variable (V : (c : Dev nD) → (b : Ref sig .tc) → Buf (Elt Ideal) ((c : Thread nD τ).loc b)) (c : Dev nD)

/-- The pair of widened matrices, side by side in columns of `128`. -/
def inter (w1 : S2560x3456.Idx → EReal) (s1 : S80x3456.Idx → BitVec 8) (w3 : S2560x3456.Idx → EReal) (s3 : S80x3456.Idx → BitVec 8) : S2560x6912.Idx → EReal :=
  fun i => if (i 1).val % 256 < 128
    then Spec.upW w1 (fun a => Widen.word (s1 a)) (i 0) ⟨(i 1).val / 256 * 128 + (i 1).val % 128, by have := (i 1).isLt; simp only [Fin.isValue, Matrix.cons_val] at this; omega⟩
    else Spec.upW w3 (fun a => Widen.word (s3 a)) (i 0) ⟨(i 1).val / 256 * 128 + (i 1).val % 128, by have := (i 1).isLt; simp only [Fin.isValue, Matrix.cons_val] at this; omega⟩

theorem idx0 : ∀ t : Fin grid0.N, win0_0.index t = ![0, t.val] ∧ win0_1.index t = ![0, t.val] ∧ win0_2.index t = ![0, t.val]
    ∧ win0_3.index t = ![0, t.val] ∧ win0_4.index t = ![0, t.val] := by
  decide +kernel

theorem final0 : (dat0 V c).arrAt 4 cfg0.N = inter (V c main_arg3) (V c main_arg4) (V c main_arg5) (V c main_arg6) := by
  refine (dat0 V c).arrAt_eq_of_covers 4 _ (by decide +kernel) fun t hf y => ?_
  blk_simp
  rw [after0_4]
  rw [Widen.pair_apply]
  obtain ⟨e0, e1, e2, e3, e4⟩ := idx0 t
  unfold inter Widen.pair Spec.upW
  have h : (y 1).val < 256 := (y 1).isLt
  by_cases hc : (y 1).val < 128
  · rw [if_pos hc, if_pos]
    · refine Ideal.mul_congr ?_ (congrArg Widen.word ?_) <;> blk_ext [iblk0, e0, e1, e2, e3, e4]
    · blk_simp [e4]
      omega
  · rw [if_neg hc, if_neg]
    · refine Ideal.mul_congr ?_ (congrArg Widen.word ?_) <;> blk_ext [iblk0, e0, e1, e2, e3, e4]
    · blk_simp [e4]
      omega

theorem idx2 : ∀ t : Fin grid2.N, win2_0.index t = ![0, t.val] ∧ win2_1.index t = ![0, t.val] ∧ win2_2.index t = ![0, t.val] := by
  decide +kernel

theorem final2 : (dat2 V c).arrAt 2 cfg2.N = fun i => Spec.downW (V c main_arg7) (fun a => Widen.word (V c main_arg8 a)) (i 0) (i 1) := by
  refine (dat2 V c).arrAt_eq_of_covers 2 _ (by decide +kernel) fun t hf y => ?_
  blk_simp
  rw [after2_2]
  rw [Widen.single_apply]
  obtain ⟨e0, e1, e2⟩ := idx2 t
  unfold Widen.single Spec.downW
  refine Ideal.mul_congr ?_ (congrArg Widen.word ?_) <;> blk_ext [iblk2, e0, e1, e2]

theorem idx3 : ∀ t : Fin grid3.N, win3_0.index t = ![t.val / 18, t.val % 18, 0] ∧ win3_1.index t = ![t.val / 18, t.val % 18, 0]
    ∧ win3_2.index t = ![t.val / 18, 0, 0] ∧ win3_3.index t = ![0, 0] ∧ win3_4.index t = ![t.val / 18, t.val % 18, 0] := by
  decide +kernel

/-- The down projection at one index: the residual plus the gate times the product's row sum. -/
def down (h : S2x9216x3456.Idx → EReal) (y : S2x9216x2560.Idx → EReal) (md : S2x6x2560.Idx → EReal)
    (w : S3456x2560.Idx → EReal) (i : S2x9216x2560.Idx) : EReal :=
  y i + md (ix3 (i 0) 5 (i 2)) * ∑ k : Fin 3456, h (ix3 (i 0) (i 1) k) * w (ix2 k (i 2))

/-- The block a point stores, at an index: the down projection of the blocks it loaded. -/
theorem out3_apply (x0 : Vec Ideal S1x512x3456 .bf16) (x1 : Vec Ideal S1x512x2560 .f32) (x2 : Vec Ideal S1x6x2560 .f32)
    (x3 : Vec Ideal S3456x2560 .bf16) (y : S1x512x2560.Idx) :
    out3_4 x0 x1 x2 x3 y = x1 y + x2 (ix3 0 5 (y 2)) * ∑ k : Fin 3456, x0 (ix3 0 (y 1) k) * x3 (ix2 k (y 2)) := by
  canon_tiles x h
  all_goals
    open_payloads
    pointwise
    refine Ideal.add_congr ?_ (Ideal.mul_congr ?_ (Finset.sum_congr rfl fun k _ => Ideal.mul_congr ?_ ?_)) <;> blk_ext

theorem final3 : (dat3 V c).arrAt 4 cfg3.N = down (V c main_v1_2) (V c main_arg1) (V c main_arg2) (V c main_v2) := by
  refine (dat3 V c).arrAt_eq_of_covers 4 _ (by decide +kernel) fun t hf y => ?_
  blk_simp
  rw [after3_4]
  rw [out3_apply]
  obtain ⟨e0, e1, e2, e3, e4⟩ := idx3 t
  unfold down
  refine Ideal.add_congr ?_ (Ideal.mul_congr ?_ (Finset.sum_congr rfl fun k _ => Ideal.mul_congr ?_ ?_)) <;> blk_ext [iblk3, e0, e1, e2, e3, e4]

theorem idx1 : ∀ t : Fin grid1.N, win1_0.index t = ![t.val / 36, t.val % 36, 0] ∧ win1_1.index t = ![0, 0]
    ∧ win1_2.index t = ![t.val / 36, t.val % 36, 0] ∧ win1_3.index t = ![t.val / 36, 0, t.val % 36] ∧ win1_4.index t = ![t.val / 36, t.val % 36, 0] := by
  decide +kernel

/-- A token's hidden activations, from the widened pair. -/
def hidW (x : S2x9216x2560.Idx → EReal) (w : S2560x6912.Idx → EReal) (b : Fin 2) (r : Fin 9216) (q : ℕ) : EReal :=
  Up.glu (∑ k : Fin 2560, x (ix3 b r k) * w (ix2 k ⟨(256 * (q % 3456 / 128) + q % 3456 % 128) % 6912, Nat.mod_lt _ (by decide)⟩))
    (∑ k : Fin 2560, x (ix3 b r k) * w (ix2 k ⟨(256 * (q % 3456 / 128) + 128 + q % 3456 % 128) % 6912, Nat.mod_lt _ (by decide)⟩))

theorem hAt_blk (t : Fin cfg1.N) (r : ℕ) (hr : r < 256) (b : Fin 2) (r' : Fin 9216) (hb : b.val = t.val / 36) (hr' : r'.val = t.val % 36 * 256 + r) :
    Up.hAt (iblk1 V c 0 t) (iblk1 V c 1 t) r = hidW (V c main_arg0) (V c main_v0) b r' := by
  obtain ⟨e0, e1, e2, e3, e4⟩ := idx1 t
  funext q
  unfold Up.hAt hidW Up.dotAt
  refine congrArg₂ Up.glu (Finset.sum_congr rfl fun k _ => Ideal.mul_congr ?_ ?_) (Finset.sum_congr rfl fun k _ => Ideal.mul_congr ?_ ?_) <;> blk_ext [iblk1, e0, e1, e2, e3, e4]

theorem final1_2 : (dat1 V c).arrAt 2 cfg1.N = fun i => codeOf (hidW (V c main_arg0) (V c main_v0) (i 0) (i 1)) (i 2).val := by
  refine (dat1 V c).arrAt_eq_of_covers 2 _ (by decide +kernel) fun t hf y => ?_
  blk_simp
  rw [after1_2]
  obtain ⟨e0, e1, e2, e3, e4⟩ := idx1 t
  unfold outsAt1
  dsimp only
  rw [Up.codes, hAt_blk V c t (y 1).val (y 1).isLt ((win1_2.blk t).view.emb y 0) ((win1_2.blk t).view.emb y 1)]
  · refine congrArg _ ?_
    blk_simp [e2]
  · blk_simp [e2]
  · blk_simp [e2]

theorem final1_4 : (dat1 V c).arrAt 4 cfg1.N = fun i => Spec.back (hidW (V c main_arg0) (V c main_v0) (i 0) (i 1)) (i 2).val := by
  refine (dat1 V c).arrAt_eq_of_covers 4 _ (by decide +kernel) fun t hf y => ?_
  blk_simp
  rw [after1_4]
  obtain ⟨e0, e1, e2, e3, e4⟩ := idx1 t
  unfold outsAt1
  dsimp only
  rw [Up.products, hAt_blk V c t (y 1).val (y 1).isLt ((win1_4.blk t).view.emb y 0) ((win1_4.blk t).view.emb y 1)]
  · refine congrArg (Spec.back _) ?_
    blk_simp [e4]
  · blk_simp [e4]
  · blk_simp [e4]

theorem final1_3 : (dat1 V c).arrAt 3 cfg1.N = fun i => scaleOf (hidW (V c main_arg0) (V c main_v0) (i 0) (i 2)) (i 1).val := by
  refine (dat1 V c).arrAt_eq_of_covers 3 _ (by decide +kernel) fun t hf y => ?_
  blk_simp
  rw [after1_3]
  obtain ⟨e0, e1, e2, e3, e4⟩ := idx1 t
  unfold outsAt1
  dsimp only
  rw [Up.scales, hAt_blk V c t (y 2).val (y 2).isLt ((win1_3.blk t).view.emb y 0) ((win1_3.blk t).view.emb y 2)]
  · refine congrArg _ ?_
    blk_simp [e3]
  · blk_simp [e3]
  · blk_simp [e3]

/-- The hidden activations from the widened pair are those of the two matrices. -/
theorem hidW_inter (x : S2x9216x2560.Idx → EReal) (w1 : S2560x3456.Idx → EReal) (s1 : S80x3456.Idx → BitVec 8) (w3 : S2560x3456.Idx → EReal) (s3 : S80x3456.Idx → BitVec 8)
    (b : Fin 2) (r : Fin 9216) : hidW x (inter w1 s1 w3 s3) b r = Spec.hid x w1 (fun a => Widen.word (s1 a)) w3 (fun a => Widen.word (s3 a)) b r := by
  funext q
  unfold hidW Spec.hid Spec.proj
  refine congrArg₂ Up.glu (Finset.sum_congr rfl fun k _ => Ideal.mul_congr rfl ?_) (Finset.sum_congr rfl fun k _ => Ideal.mul_congr rfl ?_)
  · unfold inter
    refine (if_pos (show (256 * (q % 3456 / 128) + q % 3456 % 128) % 6912 % 256 < 128 by omega)).trans ?_
    refine congrArg (Spec.upW _ _ k) (Fin.ext ?_)
    show (256 * (q % 3456 / 128) + q % 3456 % 128) % 6912 / 256 * 128 + (256 * (q % 3456 / 128) + q % 3456 % 128) % 6912 % 128 = q % 3456
    omega
  · unfold inter
    refine (if_neg (show ¬ (256 * (q % 3456 / 128) + 128 + q % 3456 % 128) % 6912 % 256 < 128 by omega)).trans ?_
    refine congrArg (Spec.upW _ _ k) (Fin.ext ?_)
    show (256 * (q % 3456 / 128) + 128 + q % 3456 % 128) % 6912 / 256 * 128 + (256 * (q % 3456 / 128) + 128 + q % 3456 % 128) % 6912 % 128 = q % 3456
    omega

end Cert.Proof.Regions

end
-- ==== Proof.Values.lean ====
/- The kernel's run: its three results as plain sums of its arguments. -/
module

public import proofs.«01_k».proof.Proof.Regions
public import proofs.«01_k».proof.Proof.Gen.MlpIdeal.Frame
public import Idealize.ShloMosaic.Lib.Claim

@[expose] public section

set_option maxRecDepth 16384

noncomputable section

namespace Cert.Proof.Values

open Idealize.ShloMosaic Idealize.ShloMosaic.TcCoe Idealize.SL Idealize.SL.Sem
open Cert.MlpIdeal Cert.MlpIdeal.Gen Cert.Proof.Quant Cert.Proof.Regions

variable (m : (ℓ : Loc nD τ sig) → Buf (Elt Ideal) ℓ) (ρ : Dev nD → PrngReg) (c : Dev nD)

/-- The scale words of an array of scale bytes. -/
abbrev words {S : Shape} (s : S.Idx → BitVec 8) : S.Idx → EReal := fun a => Widen.word (s a)

theorem w_pair : V1 (F := Ideal) m ρ c main_v0 = inter (m ((c : Thread nD τ).loc main_arg3)) (m ((c : Thread nD τ).loc main_arg4)) (m ((c : Thread nD τ).loc main_arg5)) (m ((c : Thread nD τ).loc main_arg6)) :=
  (hF0 m ρ c 4).symm.trans (final0 (V0 m ρ) c)

theorem hidden (b : Fin 2) (r : Fin 9216) : hidW (V1 (F := Ideal) m ρ c main_arg0) (V1 (F := Ideal) m ρ c main_v0) b r
    = Spec.hid (m ((c : Thread nD τ).loc main_arg0)) (m ((c : Thread nD τ).loc main_arg3)) (words (m ((c : Thread nD τ).loc main_arg4))) (m ((c : Thread nD τ).loc main_arg5)) (words (m ((c : Thread nD τ).loc main_arg6))) b r := by
  rw [w_pair, show V1 (F := Ideal) m ρ c main_arg0 = m ((c : Thread nD τ).loc main_arg0) from W1_args m ρ c main_arg0 (by decide)]
  exact hidW_inter _ _ _ _ _ b r

theorem v_codes : V2 (F := Ideal) m ρ c main_v1_0 = Spec.codes (m ((c : Thread nD τ).loc main_arg0)) (m ((c : Thread nD τ).loc main_arg3)) (words (m ((c : Thread nD τ).loc main_arg4))) (m ((c : Thread nD τ).loc main_arg5)) (words (m ((c : Thread nD τ).loc main_arg6))) := by
  refine (hF1 m ρ c 2).symm.trans ((final1_2 (V1 m ρ) c).trans (funext fun i => ?_))
  exact congrArg (fun h => codeOf h (i 2).val) (hidden m ρ c (i 0) (i 1))

theorem v_back : V2 (F := Ideal) m ρ c main_v1_2 = fun i => Spec.back (Spec.hid (m ((c : Thread nD τ).loc main_arg0)) (m ((c : Thread nD τ).loc main_arg3)) (words (m ((c : Thread nD τ).loc main_arg4))) (m ((c : Thread nD τ).loc main_arg5)) (words (m ((c : Thread nD τ).loc main_arg6))) (i 0) (i 1)) (i 2).val := by
  refine (hF1 m ρ c 4).symm.trans ((final1_4 (V1 m ρ) c).trans (funext fun i => ?_))
  exact congrArg (fun h => Spec.back h (i 2).val) (hidden m ρ c (i 0) (i 1))

theorem v_scales : V2 (F := Ideal) m ρ c main_v1_1 = fun i => scaleOf (Spec.hid (m ((c : Thread nD τ).loc main_arg0)) (m ((c : Thread nD τ).loc main_arg3)) (words (m ((c : Thread nD τ).loc main_arg4))) (m ((c : Thread nD τ).loc main_arg5)) (words (m ((c : Thread nD τ).loc main_arg6))) (i 0) (i 2)) (i 1).val := by
  refine (hF1 m ρ c 3).symm.trans ((final1_3 (V1 m ρ) c).trans (funext fun i => ?_))
  exact congrArg (fun h => scaleOf h (i 1).val) (hidden m ρ c (i 0) (i 2))

/-- The first result. -/
theorem end_result : W5 (F := Ideal) m ρ c (Proc.devRef .tc main_v3) = Spec.result (m ((c : Thread nD τ).loc main_arg0)) (m ((c : Thread nD τ).loc main_arg1)) (m ((c : Thread nD τ).loc main_arg2))
    (m ((c : Thread nD τ).loc main_arg3)) (words (m ((c : Thread nD τ).loc main_arg4))) (m ((c : Thread nD τ).loc main_arg5)) (words (m ((c : Thread nD τ).loc main_arg6))) (m ((c : Thread nD τ).loc main_arg7)) (words (m ((c : Thread nD τ).loc main_arg8))) := by
  rw [W5_of m ρ c main_v3 (by decide)]
  refine (hF3 m ρ c 4).symm.trans ((final3 (V3 m ρ) c).trans ?_)
  rw [show V3 (F := Ideal) m ρ c main_v1_2 = V2 m ρ c main_v1_2 from W3_of m ρ c main_v1_2 (by decide), v_back,
    show V3 (F := Ideal) m ρ c main_arg1 = m ((c : Thread nD τ).loc main_arg1) from W3_args m ρ c main_arg1 (by decide),
    show V3 (F := Ideal) m ρ c main_arg2 = m ((c : Thread nD τ).loc main_arg2) from W3_args m ρ c main_arg2 (by decide),
    show V3 (F := Ideal) m ρ c main_v2 = _ from (hF2 m ρ c 2).symm.trans (final2 (V2 m ρ) c),
    show V2 (F := Ideal) m ρ c main_arg7 = m ((c : Thread nD τ).loc main_arg7) from W2_args m ρ c main_arg7 (by decide),
    show V2 (F := Ideal) m ρ c main_arg8 = m ((c : Thread nD τ).loc main_arg8) from W2_args m ρ c main_arg8 (by decide)]
  rfl

/-- The second result. -/
theorem end_codes : W5 (F := Ideal) m ρ c (Proc.devRef .tc main_v1_0) = Spec.codes (m ((c : Thread nD τ).loc main_arg0)) (m ((c : Thread nD τ).loc main_arg3)) (words (m ((c : Thread nD τ).loc main_arg4))) (m ((c : Thread nD τ).loc main_arg5)) (words (m ((c : Thread nD τ).loc main_arg6))) := by
  rw [W5_of m ρ c main_v1_0 (by decide), W4_of m ρ c main_v1_0 (by decide), W3_of m ρ c main_v1_0 (by decide)]
  exact v_codes m ρ c

/-- The third result. -/
theorem end_scales : W5 (F := Ideal) m ρ c (Proc.devRef .tc main_v4) = Spec.scales (m ((c : Thread nD τ).loc main_arg0)) (m ((c : Thread nD τ).loc main_arg3)) (words (m ((c : Thread nD τ).loc main_arg4))) (m ((c : Thread nD τ).loc main_arg5)) (words (m ((c : Thread nD τ).loc main_arg6))) := by
  have h : W4 (F := Ideal) m ρ c (Proc.devRef .tc main_v1_1) = _ :=
    (W4_of m ρ c main_v1_1 (by decide)).trans ((W3_of m ρ c main_v1_1 (by decide)).trans (v_scales m ρ c))
  show StableHlo.after hostOps4 (W4 m ρ c) (Proc.devRef .tc main_v4) = _
  entry_read
  rw [h]
  funext i
  pointwise [Spec.scales]

end Cert.Proof.Values

end
-- ==== Proof.Run.lean ====
/- The kernel's run with its three results read at the end. -/
module

public import proofs.«01_k».proof.Proof.Values

@[expose] public section

set_option maxRecDepth 16384

noncomputable section

namespace Cert.Proof.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MlpIdeal Cert.MlpIdeal.Gen

variable {F : FTy → Type} [FloatOps F] [Named F]
variable (m : (ℓ : Loc nD τ sig) → Buf (Elt F) ℓ) (ρ : Dev nD → PrngReg)

-- The launch theorem's implicit arguments are found by unfolding plain definitions in a type.
set_option backward.isDefEq.respectTransparency.types false in
/-- Every buffer that outlives the calls ends at the last boundary's contents. -/
theorem ends : θ_run defs (onTc (τ := τ) (main (F := F))) ⟨m, fun _ => 0, ρ⟩ (fun r => ∀ c : Dev nD, ∀ b ∈ Pipeline.ucRefs τ sig,
      r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Cert.Proof.Run

end
-- ==== Proof.Ref.lean ====
/- The plain reference's payloads, index by index. -/
module

public import proofs.«01_k».proof.Proof.Spec
public import proofs.«01_k».proof.Proof.Gen.MlpRefIdeal.Frame
public import Idealize.ShloMosaic.Lib.Pipeline.ValueKit
public import Idealize.ShloMosaic.Lib.Pointwise

@[expose] public section

set_option maxRecDepth 16384

noncomputable section

namespace Cert.Proof.Ref

open Idealize.ShloMosaic Idealize.ShloMosaic.TcCoe Idealize.SL.Sem
open Cert.MlpRefIdeal Cert.MlpRefIdeal.Gen Cert.Proof.Quant

variable (x : Vec Ideal S2x9216x2560 .bf16) (s1 : Vec Ideal S80x3456 .i8) (w1 : Vec Ideal S2560x3456 .fp8e4m3) (s3 : Vec Ideal S80x3456 .i8) (w3 : Vec Ideal S2560x3456 .fp8e4m3)

/-- The scale a byte stands for: two to the byte less 127. -/
def pow (s : BitVec 8) : EReal := FloatOps.exp2 (F := Ideal) (FloatOps.sitofp .f32 (IntOp.subi (s.setWidth 32) 127#32))

/-- The scales of an array of scale bytes. -/
abbrev pows {S : Shape} (s : S.Idx → BitVec 8) : S.Idx → EReal := fun a => pow (s a)

theorem pay3_apply (b : Fin 2) (r : Fin 9216) (n : Fin 108) (l : Fin 32) :
    k0_pay3 (F := Ideal) x s1 w1 x s3 w3 (ix4 b r n l) = Spec.hid x w1 (pows s1) w3 (pows s3) b r (32 * n.val + l.val) := by
  pointwise [k0_pay3, Spec.hid, Spec.proj, Spec.upW, Spec.glu]
  have e : (⟨n.val * 32 + l.val, by omega⟩ : Fin 3456) = ⟨(32 * n.val + l.val) % 3456, Nat.mod_lt _ (by decide)⟩ := Fin.ext (by dsimp only; omega)
  simp only [e]
  rfl

/-- The largest magnitude of a block, over its 32 columns. -/
theorem amax_fin (v : ℕ → EReal) (b : ℕ) : ((Finset.univ : Finset (Fin 32)).sup fun k => max (v (32 * b + k.val)) (-v (32 * b + k.val))) = amax v b := by
  unfold amax
  refine le_antisymm (Finset.sup_le fun k _ => Finset.le_sup (f := fun k => max (v (32 * b + k)) (-v (32 * b + k))) (Finset.mem_range.mpr k.isLt)) ?_
  refine Finset.sup_le fun k hk => ?_
  exact Finset.le_sup (f := fun k : Fin 32 => max (v (32 * b + k.val)) (-v (32 * b + k.val))) (Finset.mem_univ (⟨k, Finset.mem_range.mp hk⟩ : Fin 32))

theorem ninf : Ideal.ofBits .f32 0xFF800000#32 = ⊥ := by simp [Ideal.ofBits, Ideal.ieee]

/-- The largest magnitude of each block, as the maximum over its axis. -/
theorem reduce_apply {H : Fin 2 → Fin 9216 → ℕ → EReal} {h : FVec Ideal S2x9216x108x32 .f32} (hh : ∀ b r n l, h (ix4 b r n l) = H b r (32 * n.val + l.val))
    (b : Fin 2) (r : Fin 9216) (n : Fin 108) :
    multiReduction .maximumf [3] S2x9216x108 (absf h) 0xFF800000#32 reduces_S2x9216x108x32_S2x9216x108 (.inl rfl) rfl (ix3 b r n) = amax (H b r) n.val := by
  pointwise
  rw [ninf, ← amax_fin]
  simp only [hh]
  rfl

/-- The largest magnitudes of the blocks. -/
theorem pay4_apply (b : Fin 2) (r : Fin 9216) (n : Fin 108) :
    k0_pay4 (F := Ideal) x s1 w1 x s3 w3 (ix3 b r n) = amax (Spec.hid x w1 (pows s1) w3 (pows s3) b r) n.val := by
  unfold k0_pay4
  exact reduce_apply (pay3_apply x s1 w1 s3 w3) b r n

theorem over_apply (a : FVec Ideal S2x9216x108 .f32) (b : Fin 2) (r : Fin 9216) (n : Fin 108) :
    mulf a (broadcast S2x9216x108 (Scalar.ofBits (F := Ideal) .f32 0x3B124925#32)) (ix3 b r n) = a (ix3 b r n) * Scale.recip := by
  pointwise
  rfl

/-- The largest magnitudes over 448. -/
theorem pay5_apply (b : Fin 2) (r : Fin 9216) (n : Fin 108) :
    k0_pay5 (F := Ideal) x s1 w1 x s3 w3 (ix3 b r n) = amax (Spec.hid x w1 (pows s1) w3 (pows s3) b r) n.val * Scale.recip := by
  unfold k0_pay5
  rw [over_apply, pay4_apply]

section Blocks

variable {H : Fin 2 → Fin 9216 → ℕ → EReal} {h : FVec Ideal S2x9216x108x32 .f32} {a g : FVec Ideal S2x9216x108 .f32}
  (hh : ∀ b r n l, h (ix4 b r n l) = H b r (32 * n.val + l.val)) (ha : ∀ b r n, a (ix3 b r n) = amax (H b r) n.val)
  (hg : ∀ b r n, g (ix3 b r n) = amax (H b r) n.val * Scale.recip)

include ha hg

/-- The exponents of the blocks' scales. -/
theorem pay6_apply (b : Fin 2) (r : Fin 9216) (n : Fin 108) : k0_pay6 (F := Ideal) a g (ix3 b r n) = Scale.expo (amax (H b r) n.val) := by
  unfold k0_pay6
  pointwise
  rw [ha, hg]
  rfl

/-- The scales. -/
theorem pay8_apply (b : Fin 2) (r : Fin 9216) (n : Fin 108) : k0_pay8 (F := Ideal) a g (ix3 b r n) = scaleOf (H b r) n.val := by
  unfold k0_pay8
  pointwise
  rw [pay6_apply ha hg]
  rfl

include hh

/-- The codes, block by block. -/
theorem pay7_apply (b : Fin 2) (r : Fin 9216) (n : Fin 108) (l : Fin 32) :
    k0_pay7 (F := Ideal) h a g (ix4 b r n l) = codeOf (H b r) (32 * n.val + l.val) := by
  unfold k0_pay7
  pointwise
  rw [pay6_apply ha hg, hh, zero_sub]
  unfold codeOf
  rw [show (32 * n.val + l.val) / 32 = n.val by omega]
  rfl

/-- The codes as stored. -/
theorem pay2_apply (b : Fin 2) (r : Fin 9216) (k : Fin 3456) :
    k0_pay2 (F := Ideal) (k0_pay7 h a g) (ix3 b r k) = codeOf (H b r) k.val := by
  unfold k0_pay2
  pointwise
  rw [pay7_apply hh ha hg]
  refine congrArg _ ?_
  show 32 * (k.val / 32) + k.val % 32 = k.val
  omega

/-- The down projection. -/
theorem pay9_apply (s2 : Vec Ideal S108x2560 .i8) (w2 : Vec Ideal S3456x2560 .fp8e4m3) (b : Fin 2) (r : Fin 9216) (j : Fin 2560) :
    k0_pay9 (F := Ideal) h a g s2 w2 (ix3 b r j) = ∑ k : Fin 3456, Spec.back (H b r) k.val * Spec.downW w2 (pows s2) k j := by
  unfold k0_pay9
  pointwise
  refine Finset.sum_congr rfl fun k _ => ?_
  rw [pay7_apply hh ha hg, pay8_apply ha hg, show (32 * (⟨k.val / 32, by omega⟩ : Fin 108).val + (⟨k.val % 32, by omega⟩ : Fin 32).val) = k.val by dsimp only; omega]
  rfl

end Blocks

/-- The residual and the modulation. -/
theorem pay1_apply (d : FVec Ideal S2x9216x2560 .f32) (y : Vec Ideal S2x9216x2560 .f32) (md : Vec Ideal S2x6x2560 .f32) (b : Fin 2) (r : Fin 9216) (j : Fin 2560) :
    k0_pay1 (F := Ideal) d y md (ix3 b r j) = y (ix3 b r j) + md (ix3 b 5 j) * d (ix3 b r j) := by
  unfold k0_pay1
  pointwise

end Cert.Proof.Ref

end
-- ==== Proof.RefRun.lean ====
/- What the plain reference leaves in its three results. -/
module

public import proofs.«01_k».proof.Proof.Ref
public import proofs.«01_k».proof.Proof.Widen

@[expose] public section

set_option maxRecDepth 16384

noncomputable section

namespace Cert.Proof.RefRun

open Idealize.ShloMosaic Idealize.ShloMosaic.TcCoe Idealize.SL.Sem
open Cert.MlpRefIdeal Cert.MlpRefIdeal.Gen Cert.Proof.Quant Cert.Proof.Ref

section Outs

variable (x0 : Vec Ideal S2x9216x2560 .bf16) (x1 : Vec Ideal S2x9216x2560 .f32) (x2 : Vec Ideal S2x6x2560 .f32) (x3 : Vec Ideal S2560x3456 .fp8e4m3)
  (x4 : Vec Ideal S80x3456 .i8) (x5 : Vec Ideal S2560x3456 .fp8e4m3) (x6 : Vec Ideal S80x3456 .i8) (x7 : Vec Ideal S3456x2560 .fp8e4m3) (x8 : Vec Ideal S108x2560 .i8)

theorem hidden_at (b : Fin 2) (r : Fin 9216) (n : Fin 108) (l : Fin 32) :
    k0_pay10 (F := Ideal) x0 x1 x2 x3 x4 x5 x6 x7 x8 (ix4 b r n l) = Spec.hid x0 x3 (pows x4) x5 (pows x6) b r (32 * n.val + l.val) := by
  unfold k0_pay10
  rw [Widen.ld_all x0 _ (by decide), Widen.ld_all x4 _ (by decide), Widen.ld_all x3 _ (by decide), Widen.ld_all x6 _ (by decide), Widen.ld_all x5 _ (by decide)]
  exact pay3_apply x0 x4 x3 x6 x5 b r n l

theorem largest_at (b : Fin 2) (r : Fin 9216) (n : Fin 108) :
    k0_pay11 (F := Ideal) x0 x1 x2 x3 x4 x5 x6 x7 x8 (ix3 b r n) = amax (Spec.hid x0 x3 (pows x4) x5 (pows x6) b r) n.val := by
  unfold k0_pay11
  rw [Widen.ld_all x0 _ (by decide), Widen.ld_all x4 _ (by decide), Widen.ld_all x3 _ (by decide), Widen.ld_all x6 _ (by decide), Widen.ld_all x5 _ (by decide)]
  exact pay4_apply x0 x4 x3 x6 x5 b r n

theorem ratio_at (b : Fin 2) (r : Fin 9216) (n : Fin 108) :
    k0_pay12 (F := Ideal) x0 x1 x2 x3 x4 x5 x6 x7 x8 (ix3 b r n) = amax (Spec.hid x0 x3 (pows x4) x5 (pows x6) b r) n.val * Scale.recip := by
  unfold k0_pay12
  rw [Widen.ld_all x0 _ (by decide), Widen.ld_all x4 _ (by decide), Widen.ld_all x3 _ (by decide), Widen.ld_all x6 _ (by decide), Widen.ld_all x5 _ (by decide)]
  exact pay5_apply x0 x4 x3 x6 x5 b r n

/-- The reference's first result. -/
theorem result_eq : out0_9 (F := Ideal) x0 x1 x2 x3 x4 x5 x6 x7 x8 = Spec.result x0 x1 x2 x3 (pows x4) x5 (pows x6) x7 (pows x8) := by
  funext i
  unfold out0_9
  rw [View.canon_cons_unit_lit _ _ _ (by decide)]
  rw [Widen.ld_all x1 _ (by decide), Widen.ld_all x2 _ (by decide), Widen.ld_all x7 _ (by decide), Widen.ld_all x8 _ (by decide)]
  obtain ⟨b, r, j, rfl⟩ : ∃ (b : Fin 2) (r : Fin 9216) (j : Fin 2560), i = ix3 b r j := ⟨i 0, i 1, i 2, by funext a; fin_cases a <;> rfl⟩
  refine (pay1_apply _ x1 x2 b r j).trans ?_
  rw [pay9_apply (hidden_at x0 x1 x2 x3 x4 x5 x6 x7 x8) (largest_at x0 x1 x2 x3 x4 x5 x6 x7 x8) (ratio_at x0 x1 x2 x3 x4 x5 x6 x7 x8) x8 x7 b r j]
  rfl

/-- The codes. -/
theorem codes_eq : out0_10 (F := Ideal) x0 x1 x2 x3 x4 x5 x6 x7 x8 = Spec.codes x0 x3 (pows x4) x5 (pows x6) := by
  funext i
  unfold out0_10
  rw [View.canon_cons_unit_lit _ _ _ (by decide)]
  obtain ⟨b, r, j, rfl⟩ : ∃ (b : Fin 2) (r : Fin 9216) (j : Fin 3456), i = ix3 b r j := ⟨i 0, i 1, i 2, by funext a; fin_cases a <;> rfl⟩
  exact pay2_apply (hidden_at x0 x1 x2 x3 x4 x5 x6 x7 x8) (largest_at x0 x1 x2 x3 x4 x5 x6 x7 x8) (ratio_at x0 x1 x2 x3 x4 x5 x6 x7 x8) b r j

/-- The scales. -/
theorem scales_eq : out0_11 (F := Ideal) x0 x1 x2 x3 x4 x5 x6 x7 x8 = Spec.scales x0 x3 (pows x4) x5 (pows x6) := by
  funext i
  unfold out0_11
  rw [View.canon_cons_unit_lit _ _ _ (by decide)]
  obtain ⟨b, r, n, rfl⟩ : ∃ (b : Fin 2) (r : Fin 9216) (n : Fin 108), i = ix3 b r n := ⟨i 0, i 1, i 2, by funext a; fin_cases a <;> rfl⟩
  exact pay8_apply (largest_at x0 x1 x2 x3 x4 x5 x6 x7 x8) (ratio_at x0 x1 x2 x3 x4 x5 x6 x7 x8) b r n

end Outs

variable (m : (ℓ : Loc nD τ sig) → Buf (Elt Ideal) ℓ) (ρ : Dev nD → PrngReg) (c : Dev nD)

theorem idx : ∀ t : Fin cfg0.N, win0_0.index t = ![0, 0, 0] ∧ win0_1.index t = ![0, 0, 0] ∧ win0_2.index t = ![0, 0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0, 0] ∧ win0_10.index t = ![0, 0, 0] ∧ win0_11.index t = ![0, 0, 0] := by
  decide +kernel

theorem blk0 (t : Fin cfg0.N) : iblk m c 0 t = m ((c : Thread nD τ).loc main_arg0) := by
  obtain ⟨e0, e1, e2, e3, e4, e5, e6, e7, e8, e9, e10, e11⟩ := idx t
  funext y; blk_ext [iblk, V, e0]
theorem blk1 (t : Fin cfg0.N) : iblk m c 1 t = m ((c : Thread nD τ).loc main_arg1) := by
  obtain ⟨e0, e1, e2, e3, e4, e5, e6, e7, e8, e9, e10, e11⟩ := idx t
  funext y; blk_ext [iblk, V, e1]
theorem blk2 (t : Fin cfg0.N) : iblk m c 2 t = m ((c : Thread nD τ).loc main_arg2) := by
  obtain ⟨e0, e1, e2, e3, e4, e5, e6, e7, e8, e9, e10, e11⟩ := idx t
  funext y; blk_ext [iblk, V, e2]
theorem blk3 (t : Fin cfg0.N) : iblk m c 3 t = m ((c : Thread nD τ).loc main_arg3) := by
  obtain ⟨e0, e1, e2, e3, e4, e5, e6, e7, e8, e9, e10, e11⟩ := idx t
  funext y; blk_ext [iblk, V, e3]
theorem blk4 (t : Fin cfg0.N) : iblk m c 4 t = m ((c : Thread nD τ).loc main_arg4) := by
  obtain ⟨e0, e1, e2, e3, e4, e5, e6, e7, e8, e9, e10, e11⟩ := idx t
  funext y; blk_ext [iblk, V, e4]
theorem blk5 (t : Fin cfg0.N) : iblk m c 5 t = m ((c : Thread nD τ).loc main_arg5) := by
  obtain ⟨e0, e1, e2, e3, e4, e5, e6, e7, e8, e9, e10, e11⟩ := idx t
  funext y; blk_ext [iblk, V, e5]
theorem blk6 (t : Fin cfg0.N) : iblk m c 6 t = m ((c : Thread nD τ).loc main_arg6) := by
  obtain ⟨e0, e1, e2, e3, e4, e5, e6, e7, e8, e9, e10, e11⟩ := idx t
  funext y; blk_ext [iblk, V, e6]
theorem blk7 (t : Fin cfg0.N) : iblk m c 7 t = m ((c : Thread nD τ).loc main_arg7) := by
  obtain ⟨e0, e1, e2, e3, e4, e5, e6, e7, e8, e9, e10, e11⟩ := idx t
  funext y; blk_ext [iblk, V, e7]
theorem blk8 (t : Fin cfg0.N) : iblk m c 8 t = m ((c : Thread nD τ).loc main_arg8) := by
  obtain ⟨e0, e1, e2, e3, e4, e5, e6, e7, e8, e9, e10, e11⟩ := idx t
  funext y; blk_ext [iblk, V, e8]

/-- A whole block of an array is the array. -/
theorem whole9 (t : Fin cfg0.N) (y : S2x9216x2560.Idx) : (win0_9.blk t).view.emb y = y := by
  obtain ⟨e0, e1, e2, e3, e4, e5, e6, e7, e8, e9, e10, e11⟩ := idx t
  blk_ext [e9]
theorem whole10 (t : Fin cfg0.N) (y : S2x9216x3456.Idx) : (win0_10.blk t).view.emb y = y := by
  obtain ⟨e0, e1, e2, e3, e4, e5, e6, e7, e8, e9, e10, e11⟩ := idx t
  blk_ext [e10]
theorem whole11 (t : Fin cfg0.N) (y : S2x9216x108.Idx) : (win0_11.blk t).view.emb y = y := by
  obtain ⟨e0, e1, e2, e3, e4, e5, e6, e7, e8, e9, e10, e11⟩ := idx t
  blk_ext [e11]

theorem arr9 : (dats m 0 c).arrAt 9 cfg0.N = Spec.result (m ((c : Thread nD τ).loc main_arg0)) (m ((c : Thread nD τ).loc main_arg1)) (m ((c : Thread nD τ).loc main_arg2))
    (m ((c : Thread nD τ).loc main_arg3)) (pows (m ((c : Thread nD τ).loc main_arg4))) (m ((c : Thread nD τ).loc main_arg5)) (pows (m ((c : Thread nD τ).loc main_arg6)))
    (m ((c : Thread nD τ).loc main_arg7)) (pows (m ((c : Thread nD τ).loc main_arg8))) := by
  refine (dats m 0 c).arrAt_eq_of_covers 9 _ (by decide +kernel) fun t hf y => ?_
  rw [after0_9, result_eq, blk0, blk1, blk2, blk3, blk4, blk5, blk6, blk7, blk8]
  generalize Spec.result _ _ _ _ _ _ _ _ _ = W
  exact congrArg W (whole9 t y).symm

theorem arr10 : (dats m 0 c).arrAt 10 cfg0.N = Spec.codes (m ((c : Thread nD τ).loc main_arg0))
    (m ((c : Thread nD τ).loc main_arg3)) (pows (m ((c : Thread nD τ).loc main_arg4))) (m ((c : Thread nD τ).loc main_arg5)) (pows (m ((c : Thread nD τ).loc main_arg6))) := by
  refine (dats m 0 c).arrAt_eq_of_covers 10 _ (by decide +kernel) fun t hf y => ?_
  rw [after0_10, codes_eq, blk0, blk3, blk4, blk5, blk6]
  generalize Spec.codes _ _ _ _ _ = W
  exact congrArg W (whole10 t y).symm

theorem arr11 : (dats m 0 c).arrAt 11 cfg0.N = Spec.scales (m ((c : Thread nD τ).loc main_arg0))
    (m ((c : Thread nD τ).loc main_arg3)) (pows (m ((c : Thread nD τ).loc main_arg4))) (m ((c : Thread nD τ).loc main_arg5)) (pows (m ((c : Thread nD τ).loc main_arg6))) := by
  refine (dats m 0 c).arrAt_eq_of_covers 11 _ (by decide +kernel) fun t hf y => ?_
  rw [after0_11, scales_eq, blk0, blk3, blk4, blk5, blk6]
  generalize Spec.scales _ _ _ _ _ = W
  exact congrArg W (whole11 t y).symm

/-- The reference's run: its three results, and its arguments unchanged. -/
theorem run : θ_run defs (onTc (τ := τ) (main (F := Ideal))) ⟨m, fun _ => 0, ρ⟩ (fun r => ∀ c : Dev nD,
      r.2.mem ((c : Thread nD τ).loc main_v0_0) = Spec.result (m ((c : Thread nD τ).loc main_arg0)) (m ((c : Thread nD τ).loc main_arg1)) (m ((c : Thread nD τ).loc main_arg2)) (m ((c : Thread nD τ).loc main_arg3)) (pows (m ((c : Thread nD τ).loc main_arg4))) (m ((c : Thread nD τ).loc main_arg5)) (pows (m ((c : Thread nD τ).loc main_arg6))) (m ((c : Thread nD τ).loc main_arg7)) (pows (m ((c : Thread nD τ).loc main_arg8)))
      ∧ r.2.mem ((c : Thread nD τ).loc main_v0_1) = Spec.codes (m ((c : Thread nD τ).loc main_arg0)) (m ((c : Thread nD τ).loc main_arg3)) (pows (m ((c : Thread nD τ).loc main_arg4))) (m ((c : Thread nD τ).loc main_arg5)) (pows (m ((c : Thread nD τ).loc main_arg6)))
      ∧ r.2.mem ((c : Thread nD τ).loc main_v0_2) = Spec.scales (m ((c : Thread nD τ).loc main_arg0)) (m ((c : Thread nD τ).loc main_arg3)) (pows (m ((c : Thread nD τ).loc main_arg4))) (m ((c : Thread nD τ).loc main_arg5)) (pows (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun _ h c => ⟨((h c).1 9).trans (arr9 m c), ((h c).1 10).trans (arr10 m c), ((h c).1 11).trans (arr11 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩) (run_main m ρ)

end Cert.Proof.RefRun

end
-- ==== Proof.Bytes.lean ====
/- A scale byte read as an exponent field is the power of two it stands for, between 1 and 254. -/
module

public import proofs.«01_k».proof.Proof.Ref
public import proofs.«01_k».proof.Proof.Widen

@[expose] public section

set_option maxRecDepth 16384

noncomputable section

namespace Cert.Proof.Bytes

open Idealize.ShloMosaic

/-- The word a byte is shifted to has sign 0, the byte as its exponent field, and fraction 0. -/
theorem fields : ∀ s : BitVec 8, ((IntOp.shli .vector (s.setWidth 32) 23#32).extractLsb' (8 + 23) 1 == 1#1) = false
    ∧ ((IntOp.shli .vector (s.setWidth 32) 23#32).extractLsb' 23 8).toNat = s.toNat
    ∧ ((IntOp.shli .vector (s.setWidth 32) 23#32).extractLsb' 0 23).toNat = 0
    ∧ (IntOp.subi (s.setWidth 32) 127#32).toInt = (s.toNat : ℤ) - 127 := by
  decide +kernel

/-- The two readings of a scale byte agree where the byte is neither 0 nor 255. -/
theorem word_eq (s : BitVec 8) (h1 : 1 ≤ s.toNat) (h2 : s.toNat ≤ 254) : Widen.word s = Ref.pow s := by
  obtain ⟨f0, f1, f2, f3⟩ := fields s
  have e : Ref.pow s = (((2 : ℝ) ^ ((s.toNat : ℤ) - 127) : ℝ) : EReal) := by
    change Ideal.exp2 (((IntOp.subi (s.setWidth 32) 127#32).toInt : ℝ) : EReal) = _
    rw [f3, Ideal.exp2_coe]
    exact congrArg _ (Real.rpow_intCast 2 _)
  rw [e]
  change Ideal.ieee 8 23 (IntOp.shli .vector (s.setWidth 32) 23#32) = _
  unfold Ideal.ieee
  dsimp only
  rw [f0, f1, f2, if_neg (by omega), if_neg (by omega)]
  refine congrArg _ ?_
  have : ((s.toNat : ℤ) - 127) = 23 + ((s.toNat : ℤ) - (2 ^ (8 - 1) - 1) - 23) := by norm_num
  rw [this, zpow_add₀ (by norm_num : (2 : ℝ) ≠ 0)]
  norm_num

end Cert.Proof.Bytes

end
-- ==== Proof.Codes.lean ====
/- What the precondition says of the three arrays of scale bytes. -/
module

public import proofs.«01_k».proof.Pre_scale_codes
public import proofs.«01_k».proof.Proof.Gen.Pre_scale_codes
public import proofs.«01_k».proof.Proof.Bytes

@[expose] public section

set_option maxRecDepth 16384

noncomputable section

namespace Cert.Proof.Codes

open Idealize.ShloMosaic Cert.Pre_scale_codes

theorem and_one {a b : BitVec 1} (h : IntOp.andi a b = 1#1) : a = 1#1 ∧ b = 1#1 := by
  revert a b; decide

/-- A byte that passes both comparisons lies between 1 and 254. -/
theorem byte_bounds (s : BitVec 8) (h : IntOp.andi (IntOp.cmpi .uge s 1#8) (IntOp.cmpi .ule s 254#8) = 1#1) : 1 ≤ s.toNat ∧ s.toNat ≤ 254 := by
  revert s; decide +kernel

/-- A reshaped array of ones is an array of ones. -/
theorem ones_of_cast {S T : Shape} (x : S.Idx → BitVec 1) (h : S.ShapeCasts T) (hx : ∀ i, shapeCast T x h i = 1#1) (y : S.Idx) : x y = 1#1 := by
  have := hx ((Shape.reshapeEquiv h).symm y)
  unfold shapeCast at this
  rwa [Equiv.apply_symm_apply] at this

/-- The precondition, read: every scale byte lies between 1 and 254. -/
theorem bounds (a0 : FVec Ideal S2x9216x2560 .bf16) (a1 : FVec Ideal S2x9216x2560 .f32) (a2 : FVec Ideal S2x6x2560 .f32) (a3 : FVec Ideal S2560x3456 .fp8e4m3) (a4 : IVec S80x3456 8)
    (a5 : FVec Ideal S2560x3456 .fp8e4m3) (a6 : IVec S80x3456 8) (a7 : FVec Ideal S3456x2560 .fp8e4m3) (a8 : IVec S108x2560 8) [Facts]
    (h : fn (F := Ideal) a0 a1 a2 a3 a4 a5 a6 a7 a8 = fun _ => 1#1) :
    (∀ y, 1 ≤ (a4 y).toNat ∧ (a4 y).toNat ≤ 254) ∧ (∀ y, 1 ≤ (a6 y).toNat ∧ (a6 y).toNat ≤ 254) ∧ (∀ y, 1 ≤ (a8 y).toNat ∧ (a8 y).toNat ≤ 254) := by
  unfold fn fn_part1 at h
  have k := fun i => and_one (congrFun h i)
  have k' := fun i => and_one (k i).1
  exact ⟨fun y => byte_bounds _ (ones_of_cast _ _ (fun i => (k' i).1) y), fun y => byte_bounds _ (ones_of_cast _ _ (fun i => (k' i).2) y),
    fun y => byte_bounds _ (ones_of_cast _ _ (fun i => (k i).2) y)⟩

/-- The two readings of an array of such bytes agree. -/
theorem words_eq {S : Shape} (s : S.Idx → BitVec 8) (h : ∀ y, 1 ≤ (s y).toNat ∧ (s y).toNat ≤ 254) : (fun y => Widen.word (s y)) = Ref.pows s :=
  funext fun y => Bytes.word_eq (s y) (h y).1 (h y).2

end Cert.Proof.Codes

end
-- ==== Proof.Algebraic.lean ====
/- The claim that the kernel's three results are the plain reference's. -/
module

public import proofs.«01_k».proof.Defs
public import proofs.«01_k».proof.Proof.Run
public import proofs.«01_k».proof.Proof.RefRun
public import proofs.«01_k».proof.Proof.Codes

@[expose] public section

set_option maxRecDepth 16384

noncomputable section

namespace Cert.Proof.Algebraic

open Idealize.ShloMosaic Idealize.ShloMosaic.TcCoe Idealize.SL.Sem

section Kernel

open Cert.MlpIdeal Cert.MlpIdeal.Gen

/-- The kernel's run: its three results, and its arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v3) = Spec.result (m ((c : Thread nD τ).loc main_arg0)) (m ((c : Thread nD τ).loc main_arg1)) (m ((c : Thread nD τ).loc main_arg2)) (m ((c : Thread nD τ).loc main_arg3)) (Values.words (m ((c : Thread nD τ).loc main_arg4))) (m ((c : Thread nD τ).loc main_arg5)) (Values.words (m ((c : Thread nD τ).loc main_arg6))) (m ((c : Thread nD τ).loc main_arg7)) (Values.words (m ((c : Thread nD τ).loc main_arg8)))
      ∧ r.2.mem ((c : Thread nD τ).loc main_v1_0) = Spec.codes (m ((c : Thread nD τ).loc main_arg0)) (m ((c : Thread nD τ).loc main_arg3)) (Values.words (m ((c : Thread nD τ).loc main_arg4))) (m ((c : Thread nD τ).loc main_arg5)) (Values.words (m ((c : Thread nD τ).loc main_arg6)))
      ∧ r.2.mem ((c : Thread nD τ).loc main_v4) = Spec.scales (m ((c : Thread nD τ).loc main_arg0)) (m ((c : Thread nD τ).loc main_arg3)) (Values.words (m ((c : Thread nD τ).loc main_arg4))) (m ((c : Thread nD τ).loc main_arg5)) (Values.words (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun _ h c => ⟨(h c _ (mem_uc main_v3 (by decide))).trans (Values.end_result m ρ c), (h c _ (mem_uc main_v1_0 (by decide))).trans (Values.end_codes m ρ c),
      (h c _ (mem_uc main_v4 (by decide))).trans (Values.end_scales m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c)⟩) (Run.ends m ρ)

end Kernel

/-- Equal scales give equal results. -/
theorem result_congr (x y : Spec.Tokens.Idx → EReal) (md : Spec.Mods.Idx → EReal) (w1 : Spec.Up.Idx → EReal) (w3 : Spec.Up.Idx → EReal) (w2 : Spec.Down.Idx → EReal)
    {s1 t1 s3 t3 : Spec.UpS.Idx → EReal} {s2 t2 : Spec.DownS.Idx → EReal} (h1 : s1 = t1) (h3 : s3 = t3) (h2 : s2 = t2) :
    Spec.result x y md w1 s1 w3 s3 w2 s2 = Spec.result x y md w1 t1 w3 t3 w2 t2 := by
  rw [h1, h3, h2]

theorem codes_congr (x : Spec.Tokens.Idx → EReal) (w1 : Spec.Up.Idx → EReal) (w3 : Spec.Up.Idx → EReal)
    {s1 t1 s3 t3 : Spec.UpS.Idx → EReal} (h1 : s1 = t1) (h3 : s3 = t3) : Spec.codes x w1 s1 w3 s3 = Spec.codes x w1 t1 w3 t3 := by
  rw [h1, h3]

theorem scales_congr (x : Spec.Tokens.Idx → EReal) (w1 : Spec.Up.Idx → EReal) (w3 : Spec.Up.Idx → EReal)
    {s1 t1 s3 t3 : Spec.UpS.Idx → EReal} (h1 : s1 = t1) (h3 : s3 = t3) : Spec.scales x w1 s1 w3 s3 = Spec.scales x w1 t1 w3 t3 := by
  rw [h1, h3]

/-- Where every scale byte lies between 1 and 254, both programs end with the same three results, for all inputs. -/
theorem algebraic [hP : Cert.Pre_scale_codes.Facts] : Cert.algebraic_MlpIdeal_MlpRefIdeal_pre_scale_codes (hMlpIdeal := Cert.MlpIdeal.Gen.facts) (hMlpRefIdeal := Cert.MlpRefIdeal.Gen.facts)
    (hPre_scale_codes := hP) := by
  intro m g m' g' hpre hag
  refine ⟨_, _, _, kernel_run m g, (θ_run _ _ _).mono (fun r h c => ?_) (RefRun.run m' g')⟩
  obtain ⟨a0, a1, a2, a3, a4, a5, a6, a7, a8⟩ := hag c
  obtain ⟨b4, b6, b8⟩ := Codes.bounds _ _ _ _ _ _ _ _ _ (hpre c)
  have w4 := Codes.words_eq _ b4
  have w6 := Codes.words_eq _ b6
  have w8 := Codes.words_eq _ b8
  obtain ⟨h0, h1, h2, h3⟩ := h c
  refine ⟨h0.trans ?_, h1.trans ?_, h2.trans ?_, h3⟩
  · rw [a0, a1, a2, a3, a4, a5, a6, a7, a8]
    exact (result_congr _ _ _ _ _ _ w4 w6 w8).symm
  · rw [a0, a3, a4, a5, a6]
    exact (codes_congr _ _ _ w4 w6).symm
  · rw [a0, a3, a4, a5, a6]
    exact (scales_congr _ _ _ w4 w6).symm

end Cert.Proof.Algebraic

end
-- ==== Proof.OutWiden.lean ====
/- The call that widens the output matrix at one grid point: what it stores, index by index. -/
module

public import proofs.«01_k».proof.Proof.Widen
public import proofs.«01_k».proof.Proof.Gen.OutIdeal.Frame

@[expose] public section

set_option maxRecDepth 16384

noncomputable section

namespace Cert.Proof.OutWiden

open Idealize.ShloMosaic Cert.OutIdeal Cert.OutIdeal.Gen
open Cert.Proof.Widen (word ld_all)

/-- `32` rows of codes against one row of scale bytes. -/
def rows (s : Vec Ideal S40x256 .i8) (i : ℕ) (hs : S40x256.Slices ![i, 0] S1x256) (v : Vec Ideal S32x256 .fp8e4m3) : FVec Ideal S32x256 .bf16 :=
  truncf .bf16 (mulf (extf .f32 v bitsLt_fp8e4m3_f32)
    (broadcastTo S32x256 (extractStridedSlice S1x256 ![i, 0] (bitcastToFloat .f32 (shli (extui 32 s natLt_8_32) (broadcast S40x256 23#32))) hs) broadcasts_S1x256_S32x256)) bitsLt_bf16_f32

/-- One row of it at an index. -/
theorem rows_apply (s : Vec Ideal S40x256 .i8) (i : ℕ) (hi : i < 40) (hs : S40x256.Slices ![i, 0] S1x256) (v : Vec Ideal S32x256 .fp8e4m3) (x : S32x256.Idx) :
    rows s i hs v x = v x * word (s (ix2 ⟨i, hi⟩ (x 1))) := by
  unfold rows word
  pointwise

/-- The widened matrix. -/
def single (x0 : Vec Ideal S1280x256 .fp8e4m3) (x1 : Vec Ideal S40x256 .i8) (r : Fin 1280) (c : Fin 256) : EReal :=
  x0 (ix2 r c) * word (x1 (ix2 ⟨r.val / 32, by omega⟩ c))

variable (z0 : Vec Ideal S1280x256 .fp8e4m3) (z1 : Vec Ideal S40x256 .i8)

theorem tile (y : S1280x256.Idx) (i : ℕ) (hi : i < 40) (hs : S40x256.Slices ![i, 0] S1x256) (inb)
    (off : Fin 2 → ℕ) (w : Vec Ideal S32x256 .bf16) (hoff : off = ![32 * i, 0])
    (hw : w = rows (View.ld z1 r0_0) i hs (View.ld z0 (Rect.unit (s := S1280x256) ![32 * i, 0] S32x256.size inb))) :
    View.TileAt (Val := Elt Ideal) (e := .bf16) y off S32x256.size w (single z0 z1 (y 0) (y 1)) := by
  subst hoff hw
  intro x hx
  have h0 := hx 0
  have h1 := hx 1
  simp only [Fin.isValue, Matrix.cons_val, zero_add] at h0 h1
  have hr : (x 0).val < 32 := (x 0).isLt
  rw [rows_apply _ _ hi, ld_all _ _ (by decide)]
  unfold single
  rw [View.ld_unit_apply_of z0 _ _ _ x (ix2 (y 0) (y 1)) (fun a => by
    fin_cases a
    · exact h0
    · exact h1.trans (Nat.zero_add _).symm)]
  congr 4
  · apply Fin.ext; show i = (y 0).val / 32; omega
  · apply Fin.ext; exact h1.symm

/-- What the call stores. -/
theorem single_apply (y : S1280x256.Idx) : out0_2 z0 z1 y = single z0 z1 (y 0) (y 1) := by
  unfold out0_2
  refine View.canon_eq_of_allAt _ y _ (cover0_2 _ _ _ _ _ _ _ _ _ _ _ _ _ _ _ _ _ _ _ _ _ _ _ _ _ _ _ _ _ _ _ _ _ _ _ _ _ _ _ _ y) ?_
  refine View.allAt_cons_unit _ _ _ _ _ (tile z0 z1 y 39 (by decide) slices_S40x256_o39_0_S1x256 _ _ _ rfl rfl) ?_
  refine View.allAt_cons_unit _ _ _ _ _ (tile z0 z1 y 38 (by decide) slices_S40x256_o38_0_S1x256 _ _ _ rfl rfl) ?_
  refine View.allAt_cons_unit _ _ _ _ _ (tile z0 z1 y 37 (by decide) slices_S40x256_o37_0_S1x256 _ _ _ rfl rfl) ?_
  refine View.allAt_cons_unit _ _ _ _ _ (tile z0 z1 y 36 (by decide) slices_S40x256_o36_0_S1x256 _ _ _ rfl rfl) ?_
  refine View.allAt_cons_unit _ _ _ _ _ (tile z0 z1 y 35 (by decide) slices_S40x256_o35_0_S1x256 _ _ _ rfl rfl) ?_
  refine View.allAt_cons_unit _ _ _ _ _ (tile z0 z1 y 34 (by decide) slices_S40x256_o34_0_S1x256 _ _ _ rfl rfl) ?_
  refine View.allAt_cons_unit _ _ _ _ _ (tile z0 z1 y 33 (by decide) slices_S40x256_o33_0_S1x256 _ _ _ rfl rfl) ?_
  refine View.allAt_cons_unit _ _ _ _ _ (tile z0 z1 y 32 (by decide) slices_S40x256_o32_0_S1x256 _ _ _ rfl rfl) ?_
  refine View.allAt_cons_unit _ _ _ _ _ (tile z0 z1 y 31 (by decide) slices_S40x256_o31_0_S1x256 _ _ _ rfl rfl) ?_
  refine View.allAt_cons_unit _ _ _ _ _ (tile z0 z1 y 30 (by decide) slices_S40x256_o30_0_S1x256 _ _ _ rfl rfl) ?_
  refine View.allAt_cons_unit _ _ _ _ _ (tile z0 z1 y 29 (by decide) slices_S40x256_o29_0_S1x256 _ _ _ rfl rfl) ?_
  refine View.allAt_cons_unit _ _ _ _ _ (tile z0 z1 y 28 (by decide) slices_S40x256_o28_0_S1x256 _ _ _ rfl rfl) ?_
  refine View.allAt_cons_unit _ _ _ _ _ (tile z0 z1 y 27 (by decide) slices_S40x256_o27_0_S1x256 _ _ _ rfl rfl) ?_
  refine View.allAt_cons_unit _ _ _ _ _ (tile z0 z1 y 26 (by decide) slices_S40x256_o26_0_S1x256 _ _ _ rfl rfl) ?_
  refine View.allAt_cons_unit _ _ _ _ _ (tile z0 z1 y 25 (by decide) slices_S40x256_o25_0_S1x256 _ _ _ rfl rfl) ?_
  refine View.allAt_cons_unit _ _ _ _ _ (tile z0 z1 y 24 (by decide) slices_S40x256_o24_0_S1x256 _ _ _ rfl rfl) ?_
  refine View.allAt_cons_unit _ _ _ _ _ (tile z0 z1 y 23 (by decide) slices_S40x256_o23_0_S1x256 _ _ _ rfl rfl) ?_
  refine View.allAt_cons_unit _ _ _ _ _ (tile z0 z1 y 22 (by decide) slices_S40x256_o22_0_S1x256 _ _ _ rfl rfl) ?_
  refine View.allAt_cons_unit _ _ _ _ _ (tile z0 z1 y 21 (by decide) slices_S40x256_o21_0_S1x256 _ _ _ rfl rfl) ?_
  refine View.allAt_cons_unit _ _ _ _ _ (tile z0 z1 y 20 (by decide) slices_S40x256_o20_0_S1x256 _ _ _ rfl rfl) ?_
  refine View.allAt_cons_unit _ _ _ _ _ (tile z0 z1 y 19 (by decide) slices_S40x256_o19_0_S1x256 _ _ _ rfl rfl) ?_
  refine View.allAt_cons_unit _ _ _ _ _ (tile z0 z1 y 18 (by decide) slices_S40x256_o18_0_S1x256 _ _ _ rfl rfl) ?_
  refine View.allAt_cons_unit _ _ _ _ _ (tile z0 z1 y 17 (by decide) slices_S40x256_o17_0_S1x256 _ _ _ rfl rfl) ?_
  refine View.allAt_cons_unit _ _ _ _ _ (tile z0 z1 y 16 (by decide) slices_S40x256_o16_0_S1x256 _ _ _ rfl rfl) ?_
  refine View.allAt_cons_unit _ _ _ _ _ (tile z0 z1 y 15 (by decide) slices_S40x256_o15_0_S1x256 _ _ _ rfl rfl) ?_
  refine View.allAt_cons_unit _ _ _ _ _ (tile z0 z1 y 14 (by decide) slices_S40x256_o14_0_S1x256 _ _ _ rfl rfl) ?_
  refine View.allAt_cons_unit _ _ _ _ _ (tile z0 z1 y 13 (by decide) slices_S40x256_o13_0_S1x256 _ _ _ rfl rfl) ?_
  refine View.allAt_cons_unit _ _ _ _ _ (tile z0 z1 y 12 (by decide) slices_S40x256_o12_0_S1x256 _ _ _ rfl rfl) ?_
  refine View.allAt_cons_unit _ _ _ _ _ (tile z0 z1 y 11 (by decide) slices_S40x256_o11_0_S1x256 _ _ _ rfl rfl) ?_
  refine View.allAt_cons_unit _ _ _ _ _ (tile z0 z1 y 10 (by decide) slices_S40x256_o10_0_S1x256 _ _ _ rfl rfl) ?_
  refine View.allAt_cons_unit _ _ _ _ _ (tile z0 z1 y 9 (by decide) slices_S40x256_o9_0_S1x256 _ _ _ rfl rfl) ?_
  refine View.allAt_cons_unit _ _ _ _ _ (tile z0 z1 y 8 (by decide) slices_S40x256_o8_0_S1x256 _ _ _ rfl rfl) ?_
  refine View.allAt_cons_unit _ _ _ _ _ (tile z0 z1 y 7 (by decide) slices_S40x256_o7_0_S1x256 _ _ _ rfl rfl) ?_
  refine View.allAt_cons_unit _ _ _ _ _ (tile z0 z1 y 6 (by decide) slices_S40x256_o6_0_S1x256 _ _ _ rfl rfl) ?_
  refine View.allAt_cons_unit _ _ _ _ _ (tile z0 z1 y 5 (by decide) slices_S40x256_o5_0_S1x256 _ _ _ rfl rfl) ?_
  refine View.allAt_cons_unit _ _ _ _ _ (tile z0 z1 y 4 (by decide) slices_S40x256_o4_0_S1x256 _ _ _ rfl rfl) ?_
  refine View.allAt_cons_unit _ _ _ _ _ (tile z0 z1 y 3 (by decide) slices_S40x256_o3_0_S1x256 _ _ _ rfl rfl) ?_
  refine View.allAt_cons_unit _ _ _ _ _ (tile z0 z1 y 2 (by decide) slices_S40x256_o2_0_S1x256 _ _ _ rfl rfl) ?_
  refine View.allAt_cons_unit _ _ _ _ _ (tile z0 z1 y 1 (by decide) slices_S40x256_o1_0_S1x256 _ _ _ rfl rfl) ?_
  refine View.allAt_cons_unit _ _ _ _ _ (tile z0 z1 y 0 (by decide) slices_S40x256_o0_0_S1x256 _ _ _ rfl rfl) ?_
  exact View.allAt_nil _ _

end Cert.Proof.OutWiden

end
-- ==== Proof.OutSpec.lean ====
/- The attention output's projection, its modulation and its normalization written as plain sums. -/
module

public import proofs.«01_k».proof.Proof.Spec
public import Idealize.ShloMosaic.Lib.Pipeline.ValueKit

@[expose] public section

set_option maxRecDepth 16384

noncomputable section

namespace Cert.Proof.OutSpec

open Idealize.ShloMosaic Cert.Proof.Quant

abbrev Heads : Shape := ⟨4, ![2, 10, 9216, 128]⟩
abbrev Attn : Shape := ⟨3, ![2, 9216, 1280]⟩
abbrev AttnS : Shape := ⟨3, ![2, 9216, 40]⟩
abbrev Tokens : Shape := ⟨3, ![2, 9216, 2560]⟩
abbrev TokensS : Shape := ⟨3, ![2, 9216, 80]⟩
abbrev Mods : Shape := ⟨3, ![2, 6, 2560]⟩
abbrev Out : Shape := ⟨2, ![1280, 2560]⟩
abbrev OutS : Shape := ⟨2, ![40, 2560]⟩

/-- The mean square of a row of 2560 values, plus the constant that keeps it positive. -/
def meanSq (y : ℕ → EReal) : EReal := Ideal.div (∑ j : Fin 2560, y j.val * y j.val) (Ideal.ofBits .f32 0x45200000#32) + Ideal.ofBits .f32 0x358637BD#32

/-- A value over the root of its row's mean square, scaled and shifted. -/
def normed (y sh sc : ℕ → EReal) (c : ℕ) : EReal := y c * Ideal.div 1 (Ideal.sqrt (meanSq y)) * (1 + sc c) + sh c

/-- A token's heads laid side by side. -/
def attn (o : Heads.Idx → EReal) (b : Fin 2) (r : Fin 9216) (c : ℕ) : EReal :=
  if h : c / 128 < 10 then o (ix4 b ⟨c / 128, h⟩ r ⟨c % 128, Nat.mod_lt _ (by decide)⟩) else 0

/-- The widened matrix: a code times its block's scale. -/
def wide (w : Out.Idx → EReal) (s : OutS.Idx → EReal) : Out.Idx → EReal :=
  fun i => w i * s (ix2 ⟨(i 0).val / 32, by have := (i 0).isLt; simp only [Fin.isValue, Matrix.cons_val] at this; omega⟩ (i 1))

/-- A token's residual plus the modulated projection of its quantised heads. -/
def proj (o : Heads.Idx → EReal) (x : Tokens.Idx → EReal) (md : Mods.Idx → EReal) (w : Out.Idx → EReal) (b : Fin 2) (r : Fin 9216) (c : ℕ) : EReal :=
  x (ix3 b r ⟨c % 2560, Nat.mod_lt _ (by decide)⟩) + md (ix3 b 2 ⟨c % 2560, Nat.mod_lt _ (by decide)⟩)
    * ∑ k : Fin 1280, Spec.back (attn o b r) k.val * w (ix2 k ⟨c % 2560, Nat.mod_lt _ (by decide)⟩)

/-- One row of the modulation. -/
def modRow (md : Mods.Idx → EReal) (b : Fin 2) (q : Fin 6) (c : ℕ) : EReal := md (ix3 b q ⟨c % 2560, Nat.mod_lt _ (by decide)⟩)

/-- A token normalized, scaled and shifted, and zero past its end. -/
def nrm (o : Heads.Idx → EReal) (x : Tokens.Idx → EReal) (md : Mods.Idx → EReal) (w : Out.Idx → EReal) (b : Fin 2) (r : Fin 9216) (c : ℕ) : EReal :=
  if c / 128 < 20 then normed (proj o x md w b r) (modRow md b 3) (modRow md b 4) c else 0

def attnAll (o : Heads.Idx → EReal) : Attn.Idx → EReal := fun i => attn o (i 0) (i 1) (i 2).val
def attnCodes (o : Heads.Idx → EReal) : Attn.Idx → EReal := fun i => codeOf (attn o (i 0) (i 1)) (i 2).val
def attnScales (o : Heads.Idx → EReal) : AttnS.Idx → EReal := fun i => scaleOf (attn o (i 0) (i 1)) (i 2).val
def projAll (o : Heads.Idx → EReal) (x : Tokens.Idx → EReal) (md : Mods.Idx → EReal) (w : Out.Idx → EReal) : Tokens.Idx → EReal := fun i => proj o x md w (i 0) (i 1) (i 2).val
def codes (o : Heads.Idx → EReal) (x : Tokens.Idx → EReal) (md : Mods.Idx → EReal) (w : Out.Idx → EReal) : Tokens.Idx → EReal := fun i => codeOf (nrm o x md w (i 0) (i 1)) (i 2).val
def scales (o : Heads.Idx → EReal) (x : Tokens.Idx → EReal) (md : Mods.Idx → EReal) (w : Out.Idx → EReal) : TokensS.Idx → EReal := fun i => scaleOf (nrm o x md w (i 0) (i 1)) (i 2).val
def products (o : Heads.Idx → EReal) (x : Tokens.Idx → EReal) (md : Mods.Idx → EReal) (w : Out.Idx → EReal) : Tokens.Idx → EReal := fun i => Spec.back (nrm o x md w (i 0) (i 1)) (i 2).val

end Cert.Proof.OutSpec

end
-- ==== Proof.Tiles.lean ====
/- The quantiser on one chunk of 32 rows given as tiles of 128 columns: the codes, the scales and the products of both, read
   at an index. -/
module

public import proofs.«01_k».proof.OutIdeal
public import proofs.«01_k».proof.Proof.Quant
public import proofs.«01_k».proof.Proof.Gen.OutIdeal

@[expose] public section

set_option maxRecDepth 16384

noncomputable section

namespace Cert.Proof.Tiles

open Idealize.ShloMosaic Cert.OutIdeal Cert.OutIdeal.Gen
open Cert.Proof.Butterfly (lane pick step lone pick_apply Has has_step has_lone has_tile has_all)
open Cert.Proof.Quant (amax scaleOf codeOf amax_nonneg le_amax top_amax)

/-- The powers of two that the magnitudes of `v`, divided by 448, lie above. -/
def expoT (v : FVec Ideal S32x128 .f32) : FVec Ideal S32x128 .f32 :=
  extf .f32 (truncf .bf16 (exp2 (floor (divf (log (absf (mulf v (broadcast S32x128 (Scalar.ofBits .f32 0x3B124925#32)))))
    (broadcast S32x128 (Named.named κ "log_two" 0x3F317218#32))))) bitsLt_bf16_f32) bitsLt_bf16_f32

/-- Ten tiles' exponents reduced block by block. -/
def top10 (T : Fin 10 → FVec Ideal S32x128 .f32) : FVec Ideal S32x128 .f32 :=
  lone 16#32 (step 8#32 (step 4#32 (step 2#32 (step 1#32 (expoT (T 0)) (expoT (T 1))) (step 1#32 (expoT (T 2)) (expoT (T 3)))) (step 2#32 (step 1#32 (expoT (T 4)) (expoT (T 5))) (step 1#32 (expoT (T 6)) (expoT (T 7))))) (lone 4#32 (lone 2#32 (step 1#32 (expoT (T 8)) (expoT (T 9))))))

/-- Twenty tiles' exponents reduced block by block. -/
def top20 (T : Fin 20 → FVec Ideal S32x128 .f32) : FVec Ideal S32x128 .f32 :=
  step 16#32 (step 8#32 (step 4#32 (step 2#32 (step 1#32 (expoT (T 0)) (expoT (T 1))) (step 1#32 (expoT (T 2)) (expoT (T 3)))) (step 2#32 (step 1#32 (expoT (T 4)) (expoT (T 5))) (step 1#32 (expoT (T 6)) (expoT (T 7))))) (step 4#32 (step 2#32 (step 1#32 (expoT (T 8)) (expoT (T 9))) (step 1#32 (expoT (T 10)) (expoT (T 11)))) (step 2#32 (step 1#32 (expoT (T 12)) (expoT (T 13))) (step 1#32 (expoT (T 14)) (expoT (T 15)))))) (lone 8#32 (lone 4#32 (step 2#32 (step 1#32 (expoT (T 16)) (expoT (T 17))) (step 1#32 (expoT (T 18)) (expoT (T 19))))))

/-- The block maxima that the lanes of tile `t` belong to, out of all the block maxima `top`. -/
def ofTile (top : FVec Ideal S32x128 .f32) (t : BitVec 32) : FVec Ideal S32x128 .f32 :=
  pick top (ori (andi lane (broadcast S32x128 96#32)) (broadcast S32x128 t))

/-- The codes of the tile `v`, the `t`-th. -/
def codeV (top v : FVec Ideal S32x128 .f32) (t : BitVec 32) : FVec Ideal S32x128 .fp8e4m3 :=
  truncf .fp8e4m3 (minimumf (broadcast S32x128 (Scalar.ofBits .f32 0x43E00000#32))
    (maximumf (broadcast S32x128 (Scalar.ofBits .f32 0xC3E00000#32))
      (mulf v (select (cmpf .oeq (ofTile top t) (broadcast S32x128 (Scalar.ofBits .f32 0x00000000#32)))
        (broadcast S32x128 (Scalar.ofBits .f32 0x7E800000#32))
        (divf (broadcast S32x128 (Scalar.ofBits .f32 0x3F000000#32)) (ofTile top t)))))) bitsLt_fp8e4m3_f32

/-- The codes of the tile `v` times their scales. -/
def hwV (top v : FVec Ideal S32x128 .f32) (t : BitVec 32) : FVec Ideal S32x128 .bf16 :=
  mulf (extf .bf16 (codeV top v t) bitsLt_fp8e4m3_bf16)
    (truncf .bf16 (select (cmpf .oeq (ofTile top t) (broadcast S32x128 (Scalar.ofBits .f32 0x00000000#32)))
      (broadcast S32x128 (Scalar.ofBits .f32 0x00800000#32))
      (mulf (broadcast S32x128 (Scalar.ofBits .f32 0x40000000#32)) (ofTile top t))) bitsLt_bf16_f32)

/-- `x` at the lanes `idx`, which are all within range. -/
def gather (x : FVec Ideal S32x128 .f32) (idx : IVec S32x128 32) : FVec Ideal S32x128 .f32 :=
  dynamicGather 1 x (shapeCast S32x128 (shapeCast S32x128x1 idx shapeCasts_S32x128_S32x128x1) shapeCasts_S32x128x1_S32x128)

/-- The scales of a chunk, block `b` at lane `b`, where `idx` says which lane holds its maximum. -/
def scaleV (top : FVec Ideal S32x128 .f32) (idx : IVec S32x128 32) : FVec Ideal S32x128 .f32 :=
  select (cmpf .oeq (gather top idx) (broadcast S32x128 (Scalar.ofBits .f32 0x00000000#32)))
    (broadcast S32x128 (Scalar.ofBits .f32 0x3F800000#32))
    (mulf (broadcast S32x128 (Scalar.ofBits .f32 0x40000000#32)) (gather top idx))

/-- Row `r` of the tiles laid side by side. -/
def row {N : ℕ} (T : Fin N → FVec Ideal S32x128 .f32) (r : Fin 32) (c : ℕ) : EReal :=
  if h : c / 128 < N then T ⟨c / 128, h⟩ (ix2 r ⟨c % 128, Nat.mod_lt _ (by decide)⟩) else 0

theorem row_tile {N : ℕ} (T : Fin N → FVec Ideal S32x128 .f32) (r : Fin 32) (t : Fin N) (l : Fin 128) :
    row T r (128 * t.val + l.val) = T t (ix2 r l) := by
  have h1 : (128 * t.val + l.val) / 128 = t.val := by omega
  have h2 : (128 * t.val + l.val) % 128 = l.val := by omega
  unfold row
  rw [dif_pos (by rw [h1]; exact t.isLt)]
  exact congr (congrArg T (Fin.ext h1)) (congrArg (ix2 r) (Fin.ext h2))

theorem expoT_apply (v : FVec Ideal S32x128 .f32) (r : Fin 32) (l : Fin 128) :
    expoT v (ix2 r l) = Scale.top (max (v (ix2 r l)) (-v (ix2 r l))) := by
  unfold expoT
  pointwise
  unfold Scale.top
  rw [← Scale.abs_mul_recip]
  rfl

theorem hasT {N : ℕ} (T : Fin N → FVec Ideal S32x128 .f32) (t : Fin N) :
    Has N (fun r c => Scale.top (max (row T r c) (-row T r c))) 1 t.val (expoT (T t)) :=
  has_tile fun r l => by rw [expoT_apply, mul_comm, row_tile]

/-- `top` holds every block's maximum. -/
def Tops {N : ℕ} (T : Fin N → FVec Ideal S32x128 .f32) (top : FVec Ideal S32x128 .f32) : Prop :=
  ∀ (r : Fin 32) (g t : ℕ) (_ : g < 4) (_ : t < N) (h : 32 * g + t < 128),
    top (ix2 r ⟨32 * g + t, h⟩) = Scale.top (amax (row T r) (4 * t + g))

theorem tops_of {N : ℕ} (hN : N ≤ 32) (T : Fin N → FVec Ideal S32x128 .f32) (top : FVec Ideal S32x128 .f32)
    (h : Has N (fun r c => Scale.top (max (row T r c) (-row T r c))) 32 0 top) : Tops T top := by
  intro r g t hg ht _
  rw [has_all h hN r g t hg ht, ← top_amax]
  refine Finset.sup_congr rfl fun k _ => ?_
  rw [show t * 128 + 32 * g + k = 32 * (4 * t + g) + k by ring]

theorem tops10 (T : Fin 10 → FVec Ideal S32x128 .f32) : Tops T (top10 T) :=
  tops_of (by decide) T _ (has_lone (n := 16) (i := 0) (by decide) (has_step (n := 8) (i := 0) (by decide) (has_step (n := 4) (i := 0) (by decide) (has_step (n := 2) (i := 0) (by decide) (has_step (n := 1) (i := 0) (by decide) (hasT T 0) (hasT T 1)) (has_step (n := 1) (i := 1) (by decide) (hasT T 2) (hasT T 3))) (has_step (n := 2) (i := 1) (by decide) (has_step (n := 1) (i := 2) (by decide) (hasT T 4) (hasT T 5)) (has_step (n := 1) (i := 3) (by decide) (hasT T 6) (hasT T 7)))) (has_lone (n := 4) (i := 1) (by decide) (has_lone (n := 2) (i := 2) (by decide) (has_step (n := 1) (i := 4) (by decide) (hasT T 8) (hasT T 9)) (by decide)) (by decide))) (by decide))

theorem tops20 (T : Fin 20 → FVec Ideal S32x128 .f32) : Tops T (top20 T) :=
  tops_of (by decide) T _ (has_step (n := 16) (i := 0) (by decide) (has_step (n := 8) (i := 0) (by decide) (has_step (n := 4) (i := 0) (by decide) (has_step (n := 2) (i := 0) (by decide) (has_step (n := 1) (i := 0) (by decide) (hasT T 0) (hasT T 1)) (has_step (n := 1) (i := 1) (by decide) (hasT T 2) (hasT T 3))) (has_step (n := 2) (i := 1) (by decide) (has_step (n := 1) (i := 2) (by decide) (hasT T 4) (hasT T 5)) (has_step (n := 1) (i := 3) (by decide) (hasT T 6) (hasT T 7)))) (has_step (n := 4) (i := 1) (by decide) (has_step (n := 2) (i := 2) (by decide) (has_step (n := 1) (i := 4) (by decide) (hasT T 8) (hasT T 9)) (has_step (n := 1) (i := 5) (by decide) (hasT T 10) (hasT T 11))) (has_step (n := 2) (i := 3) (by decide) (has_step (n := 1) (i := 6) (by decide) (hasT T 12) (hasT T 13)) (has_step (n := 1) (i := 7) (by decide) (hasT T 14) (hasT T 15))))) (has_lone (n := 8) (i := 1) (by decide) (has_lone (n := 4) (i := 2) (by decide) (has_step (n := 2) (i := 4) (by decide) (has_step (n := 1) (i := 8) (by decide) (hasT T 16) (hasT T 17)) (has_step (n := 1) (i := 9) (by decide) (hasT T 18) (hasT T 19))) (by decide)) (by decide)))

theorem ofTile_apply {N : ℕ} (hN : N ≤ 32) {T : Fin N → FVec Ideal S32x128 .f32} {top : FVec Ideal S32x128 .f32} (h : Tops T top)
    (t : Fin N) (r : Fin 32) (l : Fin 128) :
    ofTile top (BitVec.ofNat 32 t.val) (ix2 r l) = Scale.top (amax (row T r) ((128 * t.val + l.val) / 32)) := by
  have hg : l.val / 32 < 4 := by have := l.isLt; omega
  have ht := t.isLt
  have hk : ∀ (t : Fin 32) (l : Fin 128), IntOp.ori (IntOp.andi (BitVec.ofNat 32 l.val) 96#32) (BitVec.ofNat 32 t.val)
      = BitVec.ofNat 32 (32 * (l.val / 32) + t.val) := by decide +kernel
  unfold ofTile
  rw [pick_apply _ _ r l ⟨32 * (l.val / 32) + t.val, by omega⟩, h r _ _ hg ht]
  · congr 2; omega
  · unfold lane
    pointwise
    exact hk ⟨t.val, by omega⟩ l

theorem codeV_apply {N : ℕ} (hN : N ≤ 32) {T : Fin N → FVec Ideal S32x128 .f32} {top : FVec Ideal S32x128 .f32} (h : Tops T top)
    (t : Fin N) (r : Fin 32) (l : Fin 128) :
    codeV top (T t) (BitVec.ofNat 32 t.val) (ix2 r l) = codeOf (row T r) (128 * t.val + l.val) := by
  unfold codeV codeOf
  rw [← Scale.code (amax_nonneg _ _) (le_amax _ _)]
  pointwise
  rw [ofTile_apply hN h, ← row_tile T r t l]
  rfl

theorem hwV_apply {N : ℕ} (hN : N ≤ 32) {T : Fin N → FVec Ideal S32x128 .f32} {top : FVec Ideal S32x128 .f32} (h : Tops T top)
    (t : Fin N) (r : Fin 32) (l : Fin 128) :
    hwV top (T t) (BitVec.ofNat 32 t.val) (ix2 r l)
      = codeOf (row T r) (128 * t.val + l.val) * scaleOf (row T r) ((128 * t.val + l.val) / 32) := by
  unfold hwV codeV codeOf scaleOf
  rw [← Scale.code_scale (amax_nonneg _ _) (le_amax _ _)]
  pointwise
  rw [ofTile_apply hN h, ← row_tile T r t l]
  rfl

theorem gather_apply (x : FVec Ideal S32x128 .f32) (idx : IVec S32x128 32) (r : Fin 32) (l k : Fin 128)
    (h : idx (ix2 r l) = BitVec.ofNat 32 k.val) : gather x idx (ix2 r l) = x (ix2 r k) := by
  have hm : (BitVec.ofNat 32 k.val).toNat % 128 = k.val := by rw [BitVec.toNat_ofNat]; omega
  unfold gather
  pointwise
  simp only [h]
  exact congrArg x (congrArg (ix2 r) (Fin.ext hm))

theorem scaleV_apply {N : ℕ} (hN : N ≤ 32) {T : Fin N → FVec Ideal S32x128 .f32} {top : FVec Ideal S32x128 .f32} (h : Tops T top)
    (idx : IVec S32x128 32) (r : Fin 32) (b : ℕ) (hb : b < 4 * N)
    (hi : idx (ix2 r ⟨b, by omega⟩) = BitVec.ofNat 32 (32 * (b % 4) + b / 4)) :
    scaleV top idx (ix2 r ⟨b, by omega⟩) = scaleOf (row T r) b := by
  have hg : gather top idx (ix2 r ⟨b, by omega⟩) = Scale.top (amax (row T r) b) := by
    rw [gather_apply _ _ r _ ⟨32 * (b % 4) + b / 4, by omega⟩ hi, h r _ _ (by omega) (by omega)]
    congr 2; omega
  unfold scaleV scaleOf
  rw [← Scale.scale (amax_nonneg _ _)]
  pointwise
  rw [hg]

end Cert.Proof.Tiles

end
-- ==== Proof.OutTiles.lean ====
/- Stores of tiles into whole rows, read at an index. -/
module

public import proofs.«01_k».proof.Proof.Tiles
public import Idealize.ShloMosaic.Lib.Pipeline.ValueKit

@[expose] public section

set_option maxRecDepth 16384

noncomputable section

namespace Cert.Proof.OutTiles

open Idealize.ShloMosaic Cert.OutIdeal Cert.OutIdeal.Gen Cert.Proof.Tiles
open Cert.Proof.Quant (scaleOf codeOf)

/-- A tile's codes. -/
theorem codeTile {W N : ℕ} (hN : N ≤ 32) {T : Fin N → FVec Ideal S32x128 .f32} {top : FVec Ideal S32x128 .f32} (hT : Tops T top) (H : ℕ → ℕ → EReal)
    (k : ℕ) (hH : ∀ r, row T r = H (32 * k + r.val)) (y : (⟨3, ![1, 512, W]⟩ : Shape).Idx) (t : Fin N) (off : Fin 3 → ℕ) (w : Vec Ideal S1x32x128 .fp8e4m3)
    (hoff : off = ![0, 32 * k, 128 * t.val]) (hw : w = shapeCast S1x32x128 (codeV top (T t) (BitVec.ofNat 32 t.val)) shapeCasts_S32x128_S1x32x128) :
    View.TileAt (Val := Elt Ideal) (e := .fp8e4m3) y off S1x32x128.size w (codeOf (H (y 1).val) (y 2).val) := by
  subst hoff hw
  intro x hx
  have h1 := hx 1
  have h2 := hx 2
  simp only [Fin.isValue, Matrix.cons_val] at h1 h2
  rw [h1, h2]
  have hl : (x 2).val < 128 := (x 2).isLt
  have hr : (x 1).val < 32 := (x 1).isLt
  have e : shapeCast S1x32x128 (codeV top (T t) (BitVec.ofNat 32 t.val)) shapeCasts_S32x128_S1x32x128 x = (codeV top (T t) (BitVec.ofNat 32 t.val)) (ix2 ⟨(x 1).val, hr⟩ ⟨(x 2).val, hl⟩) := by
    pointwise
  rw [e, codeV_apply hN hT, hH]

/-- A tile's codes times their scales. -/
theorem hwTile {W N : ℕ} (hN : N ≤ 32) {T : Fin N → FVec Ideal S32x128 .f32} {top : FVec Ideal S32x128 .f32} (hT : Tops T top) (H : ℕ → ℕ → EReal)
    (k : ℕ) (hH : ∀ r, row T r = H (32 * k + r.val)) (y : (⟨3, ![1, 512, W]⟩ : Shape).Idx) (t : Fin N) (off : Fin 3 → ℕ) (w : Vec Ideal S1x32x128 .bf16)
    (hoff : off = ![0, 32 * k, 128 * t.val]) (hw : w = shapeCast S1x32x128 (hwV top (T t) (BitVec.ofNat 32 t.val)) shapeCasts_S32x128_S1x32x128) :
    View.TileAt (Val := Elt Ideal) (e := .bf16) y off S1x32x128.size w (codeOf (H (y 1).val) (y 2).val * scaleOf (H (y 1).val) ((y 2).val / 32)) := by
  subst hoff hw
  intro x hx
  have h1 := hx 1
  have h2 := hx 2
  simp only [Fin.isValue, Matrix.cons_val] at h1 h2
  rw [h1, h2]
  have hl : (x 2).val < 128 := (x 2).isLt
  have hr : (x 1).val < 32 := (x 1).isLt
  have e : shapeCast S1x32x128 (hwV top (T t) (BitVec.ofNat 32 t.val)) shapeCasts_S32x128_S1x32x128 x = (hwV top (T t) (BitVec.ofNat 32 t.val)) (ix2 ⟨(x 1).val, hr⟩ ⟨(x 2).val, hl⟩) := by
    pointwise
  rw [e, hwV_apply hN hT, hH]

/-- A tile's codes times their scales, stored without the batch dimension. -/
theorem hwTile2 {W N : ℕ} (hN : N ≤ 32) {T : Fin N → FVec Ideal S32x128 .f32} {top : FVec Ideal S32x128 .f32} (hT : Tops T top) (H : ℕ → ℕ → EReal)
    (k : ℕ) (hH : ∀ r, row T r = H (32 * k + r.val)) (y : (⟨2, ![512, W]⟩ : Shape).Idx) (t : Fin N) (off : Fin 2 → ℕ) (w : Vec Ideal S32x128 .bf16)
    (hoff : off = ![32 * k, 128 * t.val]) (hw : w = shapeCast S32x128 (hwV top (T t) (BitVec.ofNat 32 t.val)) shapeCasts_S32x128_S32x128) :
    View.TileAt (Val := Elt Ideal) (e := .bf16) y off S32x128.size w (codeOf (H (y 0).val) (y 1).val * scaleOf (H (y 0).val) ((y 1).val / 32)) := by
  subst hoff hw
  intro x hx
  have h0 := hx 0
  have h1 := hx 1
  simp only [Fin.isValue, Matrix.cons_val] at h0 h1
  rw [h0, h1]
  have hr : (x 0).val < 32 := (x 0).isLt
  have hl : (x 1).val < 128 := (x 1).isLt
  have e : shapeCast S32x128 (hwV top (T t) (BitVec.ofNat 32 t.val)) shapeCasts_S32x128_S32x128 x = (hwV top (T t) (BitVec.ofNat 32 t.val)) (ix2 ⟨(x 0).val, hr⟩ ⟨(x 1).val, hl⟩) := by
    pointwise
  rw [e, hwV_apply hN hT, hH]

/-- A tile itself. -/
theorem copyTile {W N : ℕ} (hN : N ≤ 32) {T : Fin N → FVec Ideal S32x128 .f32} {top : FVec Ideal S32x128 .f32} (hT : Tops T top) (H : ℕ → ℕ → EReal)
    (k : ℕ) (hH : ∀ r, row T r = H (32 * k + r.val)) (y : (⟨3, ![1, 512, W]⟩ : Shape).Idx) (t : Fin N) (off : Fin 3 → ℕ) (w : Vec Ideal S1x32x128 .bf16)
    (hoff : off = ![0, 32 * k, 128 * t.val]) (hw : w = shapeCast S1x32x128 (truncf .bf16 (T t) bitsLt_bf16_f32) shapeCasts_S32x128_S1x32x128) :
    View.TileAt (Val := Elt Ideal) (e := .bf16) y off S1x32x128.size w (H (y 1).val (y 2).val) := by
  subst hoff hw
  intro x hx
  have h1 := hx 1
  have h2 := hx 2
  simp only [Fin.isValue, Matrix.cons_val] at h1 h2
  rw [h1, h2]
  have hl : (x 2).val < 128 := (x 2).isLt
  have hr : (x 1).val < 32 := (x 1).isLt
  have e : shapeCast S1x32x128 (truncf .bf16 (T t) bitsLt_bf16_f32) shapeCasts_S32x128_S1x32x128 x = (truncf .bf16 (T t) bitsLt_bf16_f32) (ix2 ⟨(x 1).val, hr⟩ ⟨(x 2).val, hl⟩) := by
    pointwise
  rw [e, ← hH ⟨(x 1).val, hr⟩, row_tile T ⟨(x 1).val, hr⟩ t ⟨(x 2).val, hl⟩]
  rfl

/-- A chunk's scales. -/
theorem scaleTile {N : ℕ} (hN : N ≤ 32) {T : Fin N → FVec Ideal S32x128 .f32} {top : FVec Ideal S32x128 .f32} (hT : Tops T top) (H : ℕ → ℕ → EReal)
    (k : ℕ) (hH : ∀ r, row T r = H (32 * k + r.val)) (idx : IVec S32x128 32)
    (hi : ∀ (r : Fin 32) (b : Fin 128), idx (ix2 r b) = BitVec.ofNat 32 (32 * (b.val % 4) + b.val / 4)) (y : S512x128.Idx) (hy : (y 1).val < 4 * N)
    (off : Fin 2 → ℕ) (w : Vec Ideal S32x128 .f32) (hoff : off = ![32 * k, 0])
    (hw : w = shapeCast S32x128 (scaleV top idx) shapeCasts_S32x128_S32x128) :
    View.TileAt (Val := Elt Ideal) (e := .f32) y off S32x128.size w (scaleOf (H (y 0).val) (y 1).val) := by
  subst hoff hw
  intro x hx
  have h0 := hx 0
  have h1 := hx 1
  simp only [Fin.isValue, Matrix.cons_val, zero_add] at h0 h1
  have hr : (x 0).val < 32 := (x 0).isLt
  have e : shapeCast S32x128 (scaleV top idx) shapeCasts_S32x128_S32x128 x = scaleV top idx (ix2 ⟨(x 0).val, hr⟩ ⟨(y 1).val, by omega⟩) := by
    pointwise
    refine congrArg _ (funext fun a => Fin.ext ?_)
    fin_cases a
    · rfl
    · exact h1.symm
  rw [e, scaleV_apply hN hT idx _ _ hy (hi _ _), hH, h0]

/-- Two lists of stores one after the other. -/
theorem allAt_append {S : Shape} {e : EltTy} (L L' : List (View.Piece (Elt Ideal) S e)) (y : S.Idx) (v : Elt Ideal e)
    (h : View.AllAt L y v) (h' : View.AllAt L' y v) : View.AllAt (L ++ L') y v := fun p hp =>
  (List.mem_append.mp hp).elim (h p) (h' p)

end Cert.Proof.OutTiles

end
-- ==== Proof.OutTwo.lean ====
/- The stores of one trip of the loop over the normalized chunks, and of the whole loop, read at an index. -/
module

public import proofs.«01_k».proof.Proof.OutTiles
public import proofs.«01_k».proof.Proof.Gen.OutIdeal.Loops

@[expose] public section

set_option maxRecDepth 16384

noncomputable section

namespace Cert.Proof.OutTwo

open Idealize.ShloMosaic Cert.OutIdeal Cert.OutIdeal.Gen Cert.Proof.Tiles Cert.Proof.OutTiles
open Cert.Proof.Butterfly (lane)
open Cert.Proof.Quant (scaleOf codeOf)

variable (arg8 : Memref sig .tc .vmem S1x512x2560 .f32) (v176 : FVec Ideal S1x2560 .f32) (v177 : Vec Ideal S1x1x2560 .f32)
  (X : BufTy.Contents (Elt Ideal) arg8.view.ty) (k : Fin k1_t2_loop.trips)

/-- The normalized rows of a trip. -/
def normed : FVec Ideal S32x2560 .f32 :=
  k1_pay105 v176 (k1_pay307 v177) (View.readAt (Elt Ideal) arg8.view (Rect.unit (s := S1x512x2560) (k1_off42 k) S1x32x2560.size (k1_off42_inb k)).toLoadRect X)

theorem slices_tile (t : Fin 20) : S32x2560.Slices ![0, 128 * t.val] S32x128 := by revert t; decide +kernel

/-- Tile `t` of 20 tiles of 128 columns. -/
def cut (Y : FVec Ideal S32x2560 .f32) (t : Fin 20) : FVec Ideal S32x128 .f32 :=
  extractStridedSlice S32x128 ![0, 128 * t.val] Y (slices_tile t)

theorem cut_apply (Y : FVec Ideal S32x2560 .f32) (t : Fin 20) (r : Fin 32) (l : Fin 128) :
    cut Y t (ix2 r l) = Y (ix2 r ⟨128 * t.val + l.val, by omega⟩) := by
  unfold cut
  pointwise

/-- The lane of block `b`'s maximum, at lane `b`. -/
def at2 : IVec S32x128 32 := k1_pay290 lane 4#32 (Scalar.cmpi .eq 4#32 0#32) 1#32

theorem at2_apply (r : Fin 32) (b : Fin 128) : at2 (ix2 r b) = BitVec.ofNat 32 (32 * (b.val % 4) + b.val / 4) := by
  unfold at2 k1_pay290 lane
  pointwise
  clear r
  revert b
  decide +kernel

theorem at_0 : k1_off44 k = ![0, 32 * k.val, 0] := by revert k; decide +kernel
theorem at_1 : k1_off46 k = ![0, 32 * k.val, 128] := by revert k; decide +kernel
theorem at_2 : k1_off48 k = ![0, 32 * k.val, 256] := by revert k; decide +kernel
theorem at_3 : k1_off50 k = ![0, 32 * k.val, 384] := by revert k; decide +kernel
theorem at_4 : k1_off52 k = ![0, 32 * k.val, 512] := by revert k; decide +kernel
theorem at_5 : k1_off54 k = ![0, 32 * k.val, 640] := by revert k; decide +kernel
theorem at_6 : k1_off56 k = ![0, 32 * k.val, 768] := by revert k; decide +kernel
theorem at_7 : k1_off58 k = ![0, 32 * k.val, 896] := by revert k; decide +kernel
theorem at_8 : k1_off60 k = ![0, 32 * k.val, 1024] := by revert k; decide +kernel
theorem at_9 : k1_off62 k = ![0, 32 * k.val, 1152] := by revert k; decide +kernel
theorem at_10 : k1_off64 k = ![0, 32 * k.val, 1280] := by revert k; decide +kernel
theorem at_11 : k1_off66 k = ![0, 32 * k.val, 1408] := by revert k; decide +kernel
theorem at_12 : k1_off68 k = ![0, 32 * k.val, 1536] := by revert k; decide +kernel
theorem at_13 : k1_off70 k = ![0, 32 * k.val, 1664] := by revert k; decide +kernel
theorem at_14 : k1_off72 k = ![0, 32 * k.val, 1792] := by revert k; decide +kernel
theorem at_15 : k1_off74 k = ![0, 32 * k.val, 1920] := by revert k; decide +kernel
theorem at_16 : k1_off76 k = ![0, 32 * k.val, 2048] := by revert k; decide +kernel
theorem at_17 : k1_off78 k = ![0, 32 * k.val, 2176] := by revert k; decide +kernel
theorem at_18 : k1_off80 k = ![0, 32 * k.val, 2304] := by revert k; decide +kernel
theorem at_19 : k1_off82 k = ![0, 32 * k.val, 2432] := by revert k; decide +kernel
theorem at_s : k1_off83 k = ![32 * k.val, 0] := by revert k; decide +kernel

variable (𝒱 : Variants) (c : Dev nD) (bd : Option 𝒱.V) (i : grid1.Coords)
  (arg1 : Memref sig .tc .vmem S1x10x512x128 .f32) (harg1 : arg1.IsWhole) (arg2 : Memref sig .tc .vmem S1x512x2560 .bf16) (harg2 : arg2.IsWhole) (arg3 : Memref sig .tc .vmem S1x6x2560 .f32) (harg3 : arg3.IsWhole)
  (arg4 : Memref sig .tc .vmem S1280x2560 .bf16) (harg4 : arg4.IsWhole) (arg5 : Memref sig .tc .vmem S1x512x1280 .bf16) (harg5 : arg5.IsWhole) (arg6 : Memref sig .tc .vmem S1x512x1280 .fp8e4m3) (harg6 : arg6.IsWhole)
  (arg7 : Memref sig .tc .vmem S1x40x512 .f32) (harg7 : arg7.IsWhole) (harg8 : arg8.IsWhole) (arg9 : Memref sig .tc .vmem S1x512x2560 .fp8e4m3) (harg9 : arg9.IsWhole)
  (arg10 : Memref sig .tc .vmem S1x80x512 .f32) (harg10 : arg10.IsWhole) (arg11 : Memref sig .tc .vmem S1x512x2560 .bf16) (harg11 : arg11.IsWhole) (arg12 : Memref sig .tc .vmem S512x1280 .bf16) (harg12 : arg12.IsWhole)
  (arg13 : Memref sig .tc .vmem S512x128 .f32) (harg13 : arg13.IsWhole) (arg14 : Memref sig .tc .vmem S512x128 .f32) (harg14 : arg14.IsWhole)

theorem trip_codes (H : ℕ → ℕ → EReal) (hH : ∀ r, row (cut (normed arg8 v176 v177 X k)) r = H (32 * k.val + r.val)) (y : S1x512x2560.Idx) :
    View.AllAt (trip_k1_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v176 v177 X k).1 y (codeOf (H (y 1).val) (y 2).val) := by
  unfold trip_k1_t2
  refine View.allAt_cons_unit _ _ _ _ _ (codeTile (by decide : (20 : ℕ) ≤ 32) (tops20 (cut (normed arg8 v176 v177 X k))) H k.val hH y 19 _ _ (at_19 k) rfl) ?_
  refine View.allAt_cons_unit _ _ _ _ _ (codeTile (by decide : (20 : ℕ) ≤ 32) (tops20 (cut (normed arg8 v176 v177 X k))) H k.val hH y 18 _ _ (at_18 k) rfl) ?_
  refine View.allAt_cons_unit _ _ _ _ _ (codeTile (by decide : (20 : ℕ) ≤ 32) (tops20 (cut (normed arg8 v176 v177 X k))) H k.val hH y 17 _ _ (at_17 k) rfl) ?_
  refine View.allAt_cons_unit _ _ _ _ _ (codeTile (by decide : (20 : ℕ) ≤ 32) (tops20 (cut (normed arg8 v176 v177 X k))) H k.val hH y 16 _ _ (at_16 k) rfl) ?_
  refine View.allAt_cons_unit _ _ _ _ _ (codeTile (by decide : (20 : ℕ) ≤ 32) (tops20 (cut (normed arg8 v176 v177 X k))) H k.val hH y 15 _ _ (at_15 k) rfl) ?_
  refine View.allAt_cons_unit _ _ _ _ _ (codeTile (by decide : (20 : ℕ) ≤ 32) (tops20 (cut (normed arg8 v176 v177 X k))) H k.val hH y 14 _ _ (at_14 k) rfl) ?_
  refine View.allAt_cons_unit _ _ _ _ _ (codeTile (by decide : (20 : ℕ) ≤ 32) (tops20 (cut (normed arg8 v176 v177 X k))) H k.val hH y 13 _ _ (at_13 k) rfl) ?_
  refine View.allAt_cons_unit _ _ _ _ _ (codeTile (by decide : (20 : ℕ) ≤ 32) (tops20 (cut (normed arg8 v176 v177 X k))) H k.val hH y 12 _ _ (at_12 k) rfl) ?_
  refine View.allAt_cons_unit _ _ _ _ _ (codeTile (by decide : (20 : ℕ) ≤ 32) (tops20 (cut (normed arg8 v176 v177 X k))) H k.val hH y 11 _ _ (at_11 k) rfl) ?_
  refine View.allAt_cons_unit _ _ _ _ _ (codeTile (by decide : (20 : ℕ) ≤ 32) (tops20 (cut (normed arg8 v176 v177 X k))) H k.val hH y 10 _ _ (at_10 k) rfl) ?_
  refine View.allAt_cons_unit _ _ _ _ _ (codeTile (by decide : (20 : ℕ) ≤ 32) (tops20 (cut (normed arg8 v176 v177 X k))) H k.val hH y 9 _ _ (at_9 k) rfl) ?_
  refine View.allAt_cons_unit _ _ _ _ _ (codeTile (by decide : (20 : ℕ) ≤ 32) (tops20 (cut (normed arg8 v176 v177 X k))) H k.val hH y 8 _ _ (at_8 k) rfl) ?_
  refine View.allAt_cons_unit _ _ _ _ _ (codeTile (by decide : (20 : ℕ) ≤ 32) (tops20 (cut (normed arg8 v176 v177 X k))) H k.val hH y 7 _ _ (at_7 k) rfl) ?_
  refine View.allAt_cons_unit _ _ _ _ _ (codeTile (by decide : (20 : ℕ) ≤ 32) (tops20 (cut (normed arg8 v176 v177 X k))) H k.val hH y 6 _ _ (at_6 k) rfl) ?_
  refine View.allAt_cons_unit _ _ _ _ _ (codeTile (by decide : (20 : ℕ) ≤ 32) (tops20 (cut (normed arg8 v176 v177 X k))) H k.val hH y 5 _ _ (at_5 k) rfl) ?_
  refine View.allAt_cons_unit _ _ _ _ _ (codeTile (by decide : (20 : ℕ) ≤ 32) (tops20 (cut (normed arg8 v176 v177 X k))) H k.val hH y 4 _ _ (at_4 k) rfl) ?_
  refine View.allAt_cons_unit _ _ _ _ _ (codeTile (by decide : (20 : ℕ) ≤ 32) (tops20 (cut (normed arg8 v176 v177 X k))) H k.val hH y 3 _ _ (at_3 k) rfl) ?_
  refine View.allAt_cons_unit _ _ _ _ _ (codeTile (by decide : (20 : ℕ) ≤ 32) (tops20 (cut (normed arg8 v176 v177 X k))) H k.val hH y 2 _ _ (at_2 k) rfl) ?_
  refine View.allAt_cons_unit _ _ _ _ _ (codeTile (by decide : (20 : ℕ) ≤ 32) (tops20 (cut (normed arg8 v176 v177 X k))) H k.val hH y 1 _ _ (at_1 k) rfl) ?_
  refine View.allAt_cons_unit _ _ _ _ _ (codeTile (by decide : (20 : ℕ) ≤ 32) (tops20 (cut (normed arg8 v176 v177 X k))) H k.val hH y 0 _ _ (at_0 k) rfl) ?_
  exact View.allAt_nil _ _

theorem trip_hw (H : ℕ → ℕ → EReal) (hH : ∀ r, row (cut (normed arg8 v176 v177 X k)) r = H (32 * k.val + r.val)) (y : S1x512x2560.Idx) :
    View.AllAt (trip_k1_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v176 v177 X k).2.1 y (codeOf (H (y 1).val) (y 2).val * scaleOf (H (y 1).val) ((y 2).val / 32)) := by
  unfold trip_k1_t2
  refine View.allAt_cons_unit _ _ _ _ _ (hwTile (by decide : (20 : ℕ) ≤ 32) (tops20 (cut (normed arg8 v176 v177 X k))) H k.val hH y 19 _ _ (at_19 k) rfl) ?_
  refine View.allAt_cons_unit _ _ _ _ _ (hwTile (by decide : (20 : ℕ) ≤ 32) (tops20 (cut (normed arg8 v176 v177 X k))) H k.val hH y 18 _ _ (at_18 k) rfl) ?_
  refine View.allAt_cons_unit _ _ _ _ _ (hwTile (by decide : (20 : ℕ) ≤ 32) (tops20 (cut (normed arg8 v176 v177 X k))) H k.val hH y 17 _ _ (at_17 k) rfl) ?_
  refine View.allAt_cons_unit _ _ _ _ _ (hwTile (by decide : (20 : ℕ) ≤ 32) (tops20 (cut (normed arg8 v176 v177 X k))) H k.val hH y 16 _ _ (at_16 k) rfl) ?_
  refine View.allAt_cons_unit _ _ _ _ _ (hwTile (by decide : (20 : ℕ) ≤ 32) (tops20 (cut (normed arg8 v176 v177 X k))) H k.val hH y 15 _ _ (at_15 k) rfl) ?_
  refine View.allAt_cons_unit _ _ _ _ _ (hwTile (by decide : (20 : ℕ) ≤ 32) (tops20 (cut (normed arg8 v176 v177 X k))) H k.val hH y 14 _ _ (at_14 k) rfl) ?_
  refine View.allAt_cons_unit _ _ _ _ _ (hwTile (by decide : (20 : ℕ) ≤ 32) (tops20 (cut (normed arg8 v176 v177 X k))) H k.val hH y 13 _ _ (at_13 k) rfl) ?_
  refine View.allAt_cons_unit _ _ _ _ _ (hwTile (by decide : (20 : ℕ) ≤ 32) (tops20 (cut (normed arg8 v176 v177 X k))) H k.val hH y 12 _ _ (at_12 k) rfl) ?_
  refine View.allAt_cons_unit _ _ _ _ _ (hwTile (by decide : (20 : ℕ) ≤ 32) (tops20 (cut (normed arg8 v176 v177 X k))) H k.val hH y 11 _ _ (at_11 k) rfl) ?_
  refine View.allAt_cons_unit _ _ _ _ _ (hwTile (by decide : (20 : ℕ) ≤ 32) (tops20 (cut (normed arg8 v176 v177 X k))) H k.val hH y 10 _ _ (at_10 k) rfl) ?_
  refine View.allAt_cons_unit _ _ _ _ _ (hwTile (by decide : (20 : ℕ) ≤ 32) (tops20 (cut (normed arg8 v176 v177 X k))) H k.val hH y 9 _ _ (at_9 k) rfl) ?_
  refine View.allAt_cons_unit _ _ _ _ _ (hwTile (by decide : (20 : ℕ) ≤ 32) (tops20 (cut (normed arg8 v176 v177 X k))) H k.val hH y 8 _ _ (at_8 k) rfl) ?_
  refine View.allAt_cons_unit _ _ _ _ _ (hwTile (by decide : (20 : ℕ) ≤ 32) (tops20 (cut (normed arg8 v176 v177 X k))) H k.val hH y 7 _ _ (at_7 k) rfl) ?_
  refine View.allAt_cons_unit _ _ _ _ _ (hwTile (by decide : (20 : ℕ) ≤ 32) (tops20 (cut (normed arg8 v176 v177 X k))) H k.val hH y 6 _ _ (at_6 k) rfl) ?_
  refine View.allAt_cons_unit _ _ _ _ _ (hwTile (by decide : (20 : ℕ) ≤ 32) (tops20 (cut (normed arg8 v176 v177 X k))) H k.val hH y 5 _ _ (at_5 k) rfl) ?_
  refine View.allAt_cons_unit _ _ _ _ _ (hwTile (by decide : (20 : ℕ) ≤ 32) (tops20 (cut (normed arg8 v176 v177 X k))) H k.val hH y 4 _ _ (at_4 k) rfl) ?_
  refine View.allAt_cons_unit _ _ _ _ _ (hwTile (by decide : (20 : ℕ) ≤ 32) (tops20 (cut (normed arg8 v176 v177 X k))) H k.val hH y 3 _ _ (at_3 k) rfl) ?_
  refine View.allAt_cons_unit _ _ _ _ _ (hwTile (by decide : (20 : ℕ) ≤ 32) (tops20 (cut (normed arg8 v176 v177 X k))) H k.val hH y 2 _ _ (at_2 k) rfl) ?_
  refine View.allAt_cons_unit _ _ _ _ _ (hwTile (by decide : (20 : ℕ) ≤ 32) (tops20 (cut (normed arg8 v176 v177 X k))) H k.val hH y 1 _ _ (at_1 k) rfl) ?_
  refine View.allAt_cons_unit _ _ _ _ _ (hwTile (by decide : (20 : ℕ) ≤ 32) (tops20 (cut (normed arg8 v176 v177 X k))) H k.val hH y 0 _ _ (at_0 k) rfl) ?_
  exact View.allAt_nil _ _

theorem trip_scales (H : ℕ → ℕ → EReal) (hH : ∀ r, row (cut (normed arg8 v176 v177 X k)) r = H (32 * k.val + r.val)) (y : S512x128.Idx) (hy : (y 1).val < 80) :
    View.AllAt (trip_k1_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v176 v177 X k).2.2.1 y (scaleOf (H (y 0).val) (y 1).val) := by
  unfold trip_k1_t2
  refine View.allAt_cons_unit _ _ _ _ _ (scaleTile (by decide : (20 : ℕ) ≤ 32) (tops20 (cut (normed arg8 v176 v177 X k))) H k.val hH at2 at2_apply y hy _ _ (at_s k) rfl) ?_
  exact View.allAt_nil _ _

theorem loop_codes (H : ℕ → ℕ → EReal) (hH : ∀ (k : Fin k1_t2_loop.trips) r, row (cut (normed arg8 v176 v177 X k)) r = H (32 * k.val + r.val)) (y : S1x512x2560.Idx) :
    ∀ n, n ≤ k1_t2_loop.trips → View.AllAt (pb_k1_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v176 v177 X n).1 y (codeOf (H (y 1).val) (y 2).val)
  | 0, _ => View.allAt_nil _ _
  | n + 1, hn => by
    rw [pb_k1_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v176 v177 X ⟨n, hn⟩]
    exact allAt_append _ _ _ _ (trip_codes arg8 v176 v177 X ⟨n, hn⟩ 𝒱 c bd i arg1 harg1 arg2 harg2 arg3 harg3 arg4 harg4 arg5 harg5 arg6 harg6 arg7 harg7 harg8 arg9 harg9 arg10 harg10 arg11 harg11 arg12 harg12 arg13 harg13 arg14 harg14 H (hH _) y)
      (loop_codes H hH y n (Nat.le_of_succ_le hn))

theorem loop_hw (H : ℕ → ℕ → EReal) (hH : ∀ (k : Fin k1_t2_loop.trips) r, row (cut (normed arg8 v176 v177 X k)) r = H (32 * k.val + r.val)) (y : S1x512x2560.Idx) :
    ∀ n, n ≤ k1_t2_loop.trips → View.AllAt (pb_k1_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v176 v177 X n).2.1 y (codeOf (H (y 1).val) (y 2).val * scaleOf (H (y 1).val) ((y 2).val / 32))
  | 0, _ => View.allAt_nil _ _
  | n + 1, hn => by
    rw [pb_k1_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v176 v177 X ⟨n, hn⟩]
    exact allAt_append _ _ _ _ (trip_hw arg8 v176 v177 X ⟨n, hn⟩ 𝒱 c bd i arg1 harg1 arg2 harg2 arg3 harg3 arg4 harg4 arg5 harg5 arg6 harg6 arg7 harg7 harg8 arg9 harg9 arg10 harg10 arg11 harg11 arg12 harg12 arg13 harg13 arg14 harg14 H (hH _) y)
      (loop_hw H hH y n (Nat.le_of_succ_le hn))

theorem loop_scales (H : ℕ → ℕ → EReal) (hH : ∀ (k : Fin k1_t2_loop.trips) r, row (cut (normed arg8 v176 v177 X k)) r = H (32 * k.val + r.val)) (y : S512x128.Idx) (hy : (y 1).val < 80) :
    ∀ n, n ≤ k1_t2_loop.trips → View.AllAt (pb_k1_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v176 v177 X n).2.2 y (scaleOf (H (y 0).val) (y 1).val)
  | 0, _ => View.allAt_nil _ _
  | n + 1, hn => by
    rw [pb_k1_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 v176 v177 X ⟨n, hn⟩]
    exact allAt_append _ _ _ _ (trip_scales arg8 v176 v177 X ⟨n, hn⟩ 𝒱 c bd i arg1 harg1 arg2 harg2 arg3 harg3 arg4 harg4 arg5 harg5 arg6 harg6 arg7 harg7 harg8 arg9 harg9 arg10 harg10 arg11 harg11 arg12 harg12 arg13 harg13 arg14 harg14 H (hH _) y hy)
      (loop_scales H hH y hy n (Nat.le_of_succ_le hn))

end Cert.Proof.OutTwo

end
-- ==== Proof.OutPieces.lean ====
/- The projection's tiles, the normalization of a chunk and the transposed scales, index by index. -/
module

public import proofs.«01_k».proof.Proof.OutSpec
public import proofs.«01_k».proof.Proof.OutTwo
public import Idealize.ShloMosaic.Lib.WholeRead

@[expose] public section

set_option maxRecDepth 16384

noncomputable section

namespace Cert.Proof.OutPieces

open Idealize.ShloMosaic Cert.OutIdeal Cert.OutIdeal.Gen Cert.Proof.Quant Cert.Proof.Tiles Cert.Proof.OutTwo

/-- Row `r` of the heads laid side by side. -/
def hA (x0 : Vec Ideal S1x10x512x128 .f32) (r c : ℕ) : EReal :=
  if h : c / 128 < 10 then x0 (ix4 0 ⟨c / 128, h⟩ ⟨r % 512, Nat.mod_lt _ (by decide)⟩ ⟨c % 128, Nat.mod_lt _ (by decide)⟩) else 0

/-- The modulated projection of row `r` on top of its residual. -/
def yAt (x0 : Vec Ideal S1x10x512x128 .f32) (x1 : Vec Ideal S1x512x2560 .bf16) (x2 : Vec Ideal S1x6x2560 .f32) (x3 : Vec Ideal S1280x2560 .bf16) (r c : ℕ) : EReal :=
  x1 (ix3 0 ⟨r % 512, Nat.mod_lt _ (by decide)⟩ ⟨c % 2560, Nat.mod_lt _ (by decide)⟩) + x2 (ix3 0 2 ⟨c % 2560, Nat.mod_lt _ (by decide)⟩)
    * ∑ k : Fin 1280, Spec.back (hA x0 r) k.val * x3 (ix2 k ⟨c % 2560, Nat.mod_lt _ (by decide)⟩)

/-- One row of the modulation. -/
def mAt (x2 : Vec Ideal S1x6x2560 .f32) (q : Fin 6) (c : ℕ) : EReal := x2 (ix3 0 q ⟨c % 2560, Nat.mod_lt _ (by decide)⟩)

/-- Row `r` normalized, and zero past its end. -/
def nAt (x0 : Vec Ideal S1x10x512x128 .f32) (x1 : Vec Ideal S1x512x2560 .bf16) (x2 : Vec Ideal S1x6x2560 .f32) (x3 : Vec Ideal S1280x2560 .bf16) (r c : ℕ) : EReal :=
  if c / 128 < 20 then OutSpec.normed (yAt x0 x1 x2 x3 r) (mAt x2 3) (mAt x2 4) c else 0

theorem prod_apply (v25 : Vec Ideal S512x1280 .bf16) (v26 : Vec Ideal S1280x256 .bf16) (v29 : Vec Ideal S1x512x256 .bf16) (v32 : Vec Ideal S1x1x256 .f32)
    (r : Fin 512) (l : Fin 256) :
    k1_pay296 (F := Ideal) v25 v26 v29 v32 (ix3 0 r l) = v29 (ix3 0 r l) + v32 (ix3 0 0 l) * ∑ k : Fin 1280, v25 (ix2 r k) * v26 (ix2 k l) := by
  unfold k1_pay296
  pointwise

theorem inb_w (t : Fin 10) : ∀ a, (![0, 256 * t.val] : Fin 2 → ℕ) a + S1280x256.size a ≤ S1280x2560.size a := by revert t; decide +kernel
theorem inb_x (t : Fin 10) : ∀ a, (![0, 0, 256 * t.val] : Fin 3 → ℕ) a + S1x512x256.size a ≤ S1x512x2560.size a := by revert t; decide +kernel
theorem inb_m (t : Fin 10) : ∀ a, (![0, 2, 256 * t.val] : Fin 3 → ℕ) a + S1x1x256.size a ≤ S1x6x2560.size a := by revert t; decide +kernel

/-- One tile of 256 columns of the projection. -/
theorem prodTile (arg2 : Memref sig .tc .vmem S1x512x2560 .bf16) (harg2 : arg2.IsWhole) (arg3 : Memref sig .tc .vmem S1x6x2560 .f32) (harg3 : arg3.IsWhole)
    (arg4 : Memref sig .tc .vmem S1280x2560 .bf16) (harg4 : arg4.IsWhole)
    (x0 : Vec Ideal S1x10x512x128 .f32) (x1 : Vec Ideal S1x512x2560 .bf16) (x2 : Vec Ideal S1x6x2560 .f32) (x3 : Vec Ideal S1280x2560 .bf16)
    (a : Vec Ideal S512x1280 .bf16) (ha : ∀ (r : Fin 512) (k : Fin 1280), a (ix2 r k) = Spec.back (hA x0 r.val) k.val)
    (y : S1x512x2560.Idx) (t : Fin 10) (off : Fin 3 → ℕ) (w : Vec Ideal S1x512x256 .f32) (hoff : off = ![0, 0, 256 * t.val])
    (hw : w = k1_pay296 (F := Ideal) a (View.readAt (Elt Ideal) arg4.view (Rect.unit (s := S1280x2560) ![0, 256 * t.val] S1280x256.size (inb_w t)).toLoadRect (harg4.unread x3))
      (View.readAt (Elt Ideal) arg2.view (Rect.unit (s := S1x512x2560) ![0, 0, 256 * t.val] S1x512x256.size (inb_x t)).toLoadRect (harg2.unread x1))
      (View.readAt (Elt Ideal) arg3.view (Rect.unit (s := S1x6x2560) ![0, 2, 256 * t.val] S1x1x256.size (inb_m t)).toLoadRect (harg3.unread x2))) :
    View.TileAt (Val := Elt Ideal) (e := .f32) y off S1x512x256.size w (yAt x0 x1 x2 x3 (y 1).val (y 2).val) := by
  subst hoff hw
  intro x hx
  have h1 := hx 1
  have h2 := hx 2
  simp only [Fin.isValue, Matrix.cons_val, zero_add] at h1 h2
  have h0 : (x 0).val < 1 := (x 0).isLt
  have hr : (x 1).val < 512 := (x 1).isLt
  have hl : (x 2).val < 256 := (x 2).isLt
  have ht := t.isLt
  have ex : x = ix3 0 ⟨(x 1).val, hr⟩ ⟨(x 2).val, hl⟩ := by
    funext a; fin_cases a
    · exact Fin.ext (by show (x 0).val = 0; omega)
    · rfl
    · rfl
  rw [ex, prod_apply]
  unfold yAt
  rw [h1, h2]
  have ew : ∀ k : Fin 1280, (Rect.unit (s := S1280x2560) ![0, 256 * t.val] S1280x256.size (inb_w t)).toLoadRect.idx (ix2 k ⟨(x 2).val, hl⟩)
      = ix2 k ⟨(256 * t.val + (x 2).val) % 2560, Nat.mod_lt _ (by decide)⟩ := by
    intro k; funext a; refine Fin.ext ((Rect.idx_unit_val _ _ (inb_w t) (ix2 k ⟨(x 2).val, hl⟩) a).trans ?_); fin_cases a <;> simp; omega
  have exx : (Rect.unit (s := S1x512x2560) ![0, 0, 256 * t.val] S1x512x256.size (inb_x t)).toLoadRect.idx (ix3 0 ⟨(x 1).val, hr⟩ ⟨(x 2).val, hl⟩)
      = ix3 0 ⟨(x 1).val % 512, Nat.mod_lt _ (by decide)⟩ ⟨(256 * t.val + (x 2).val) % 2560, Nat.mod_lt _ (by decide)⟩ := by
    funext a; refine Fin.ext ((Rect.idx_unit_val _ _ (inb_x t) (ix3 0 ⟨(x 1).val, hr⟩ ⟨(x 2).val, hl⟩) a).trans ?_)
    fin_cases a
    · rfl
    · show 0 + (x 1).val = (x 1).val % 512; omega
    · show 256 * t.val + (x 2).val = (256 * t.val + (x 2).val) % 2560; omega
  have em : (Rect.unit (s := S1x6x2560) ![0, 2, 256 * t.val] S1x1x256.size (inb_m t)).toLoadRect.idx (ix3 0 0 ⟨(x 2).val, hl⟩)
      = ix3 0 2 ⟨(256 * t.val + (x 2).val) % 2560, Nat.mod_lt _ (by decide)⟩ := by
    funext a; refine Fin.ext ((Rect.idx_unit_val _ _ (inb_m t) (ix3 0 0 ⟨(x 2).val, hl⟩) a).trans ?_)
    fin_cases a
    · rfl
    · rfl
    · show 256 * t.val + (x 2).val = (256 * t.val + (x 2).val) % 2560; omega
  have rw_ := fun k : Fin 1280 => (harg4.readAt_unread x3 (Rect.unit (s := S1280x2560) ![0, 256 * t.val] S1280x256.size (inb_w t)).toLoadRect _).trans (congrArg x3 (ew k))
  have rx := (harg2.readAt_unread x1 (Rect.unit (s := S1x512x2560) ![0, 0, 256 * t.val] S1x512x256.size (inb_x t)).toLoadRect _).trans (congrArg x1 exx)
  have rm := (harg3.readAt_unread x2 (Rect.unit (s := S1x6x2560) ![0, 2, 256 * t.val] S1x1x256.size (inb_m t)).toLoadRect _).trans (congrArg x2 em)

  exact congrArg₂ (· + ·) rx (congrArg₂ (· * ·) rm (Finset.sum_congr rfl fun k _ => congrArg₂ (· * ·) (ha _ k) (rw_ k)))

/-- A chunk normalized, at an index. -/
theorem norm_apply (sh sc : Vec Ideal S1x1x2560 .f32) (v : Vec Ideal S1x32x2560 .f32) (Y S C : ℕ → EReal) (r : Fin 32) (hv : ∀ j : Fin 2560, v (ix3 0 r j) = Y j.val)
    (hS : ∀ j : Fin 2560, sh (ix3 0 0 j) = S j.val) (hC : ∀ j : Fin 2560, sc (ix3 0 0 j) = C j.val) (c : Fin 2560) :
    k1_pay105 (F := Ideal) (k1_pay306 sh) (k1_pay307 sc) v (ix2 r c) = OutSpec.normed Y S C c.val := by
  unfold k1_pay105 k1_pay306 k1_pay307 OutSpec.normed OutSpec.meanSq
  pointwise
  simp only [hv, hS, hC]

/-- The scales of 128 rows, one row for each block. -/
theorem sa_apply (v : Vec Ideal S128x128 .f32) (x : S1x40x128.Idx) :
    k1_pay292 (F := Ideal) v x = v (ix2 ⟨(x 2).val, (x 2).isLt⟩ ⟨(x 1).val, lt_trans (x 1).isLt (by decide)⟩) := by
  unfold k1_pay292
  pointwise

theorem s_apply (v : Vec Ideal S128x128 .f32) (x : S1x80x128.Idx) :
    k1_pay309 (F := Ideal) v x = v (ix2 ⟨(x 2).val, (x 2).isLt⟩ ⟨(x 1).val, lt_trans (x 1).isLt (by decide)⟩) := by
  unfold k1_pay309
  pointwise

end Cert.Proof.OutPieces

end
-- ==== Proof.OutOne.lean ====
/- The stores of one trip of the loop over the attention output's chunks, and of the whole loop, read at an index. -/
module

public import proofs.«01_k».proof.Proof.OutTiles
public import proofs.«01_k».proof.Proof.Gen.OutIdeal.Loops

@[expose] public section

set_option maxRecDepth 16384

noncomputable section

namespace Cert.Proof.OutOne

open Idealize.ShloMosaic Cert.OutIdeal Cert.OutIdeal.Gen Cert.Proof.Tiles Cert.Proof.OutTiles
open Cert.Proof.Butterfly (lane step lone)
open Cert.Proof.Quant (scaleOf codeOf)

variable (arg1 : Memref sig .tc .vmem S1x10x512x128 .f32) (X : BufTy.Contents (Elt Ideal) arg1.view.ty) (k : Fin k1_t1_loop.trips)

/-- The rows that a trip reads of one head. -/
def part (off : Fin 4 → ℕ) (h : ∀ a, off a + S1x1x32x128.size a ≤ S1x10x512x128.size a) : FVec Ideal S32x128 .f32 :=
  shapeCast S32x128 (View.readAt (Elt Ideal) arg1.view (Rect.unit (s := S1x10x512x128) off S1x1x32x128.size h).toLoadRect X)
    shapeCasts_S1x1x32x128_S32x128

/-- The heads' rows that a trip reads, one tile for each head. -/
def tiles : Fin 10 → FVec Ideal S32x128 .f32 :=
  ![part arg1 X (k1_off1 k) (k1_off1_inb k), part arg1 X (k1_off2 k) (k1_off2_inb k), part arg1 X (k1_off3 k) (k1_off3_inb k), part arg1 X (k1_off4 k) (k1_off4_inb k), part arg1 X (k1_off5 k) (k1_off5_inb k), part arg1 X (k1_off6 k) (k1_off6_inb k), part arg1 X (k1_off7 k) (k1_off7_inb k), part arg1 X (k1_off8 k) (k1_off8_inb k), part arg1 X (k1_off9 k) (k1_off9_inb k), part arg1 X (k1_off10 k) (k1_off10_inb k)]

/-- The lane of block `b`'s maximum, at lane `b`. -/
def at1 : IVec S32x128 32 :=
  select (cmpi .slt (addi (k1_pay101 lane) (select (k1_pay103 lane) (subi (k1_pay102 lane) k1_pay104) (k1_pay102 lane))) (broadcast S32x128 0#32))
    (addi (addi (k1_pay101 lane) (select (k1_pay103 lane) (subi (k1_pay102 lane) k1_pay104) (k1_pay102 lane))) (broadcast S32x128 128#32))
    (addi (k1_pay101 lane) (select (k1_pay103 lane) (subi (k1_pay102 lane) k1_pay104) (k1_pay102 lane)))

theorem at1_apply (r : Fin 32) (b : Fin 128) : at1 (ix2 r b) = BitVec.ofNat 32 (32 * (b.val % 4) + b.val / 4) := by
  unfold at1 k1_pay101 k1_pay102 k1_pay103 k1_pay104 lane
  pointwise
  clear r
  revert b
  decide +kernel

theorem in0 : k1_off1 k = ![0, 0, 32 * k.val, 0] := by revert k; decide +kernel
theorem in1 : k1_off2 k = ![0, 1, 32 * k.val, 0] := by revert k; decide +kernel
theorem in2 : k1_off3 k = ![0, 2, 32 * k.val, 0] := by revert k; decide +kernel
theorem in3 : k1_off4 k = ![0, 3, 32 * k.val, 0] := by revert k; decide +kernel
theorem in4 : k1_off5 k = ![0, 4, 32 * k.val, 0] := by revert k; decide +kernel
theorem in5 : k1_off6 k = ![0, 5, 32 * k.val, 0] := by revert k; decide +kernel
theorem in6 : k1_off7 k = ![0, 6, 32 * k.val, 0] := by revert k; decide +kernel
theorem in7 : k1_off8 k = ![0, 7, 32 * k.val, 0] := by revert k; decide +kernel
theorem in8 : k1_off9 k = ![0, 8, 32 * k.val, 0] := by revert k; decide +kernel
theorem in9 : k1_off10 k = ![0, 9, 32 * k.val, 0] := by revert k; decide +kernel
theorem va0 : k1_off11 k = ![0, 32 * k.val, 0] := by revert k; decide +kernel
theorem va1 : k1_off12 k = ![0, 32 * k.val, 128] := by revert k; decide +kernel
theorem va2 : k1_off13 k = ![0, 32 * k.val, 256] := by revert k; decide +kernel
theorem va3 : k1_off14 k = ![0, 32 * k.val, 384] := by revert k; decide +kernel
theorem va4 : k1_off15 k = ![0, 32 * k.val, 512] := by revert k; decide +kernel
theorem va5 : k1_off16 k = ![0, 32 * k.val, 640] := by revert k; decide +kernel
theorem va6 : k1_off17 k = ![0, 32 * k.val, 768] := by revert k; decide +kernel
theorem va7 : k1_off18 k = ![0, 32 * k.val, 896] := by revert k; decide +kernel
theorem va8 : k1_off19 k = ![0, 32 * k.val, 1024] := by revert k; decide +kernel
theorem va9 : k1_off20 k = ![0, 32 * k.val, 1152] := by revert k; decide +kernel
theorem ca0 : k1_off22 k = ![0, 32 * k.val, 0] := by revert k; decide +kernel
theorem ca1 : k1_off24 k = ![0, 32 * k.val, 128] := by revert k; decide +kernel
theorem ca2 : k1_off26 k = ![0, 32 * k.val, 256] := by revert k; decide +kernel
theorem ca3 : k1_off28 k = ![0, 32 * k.val, 384] := by revert k; decide +kernel
theorem ca4 : k1_off30 k = ![0, 32 * k.val, 512] := by revert k; decide +kernel
theorem ca5 : k1_off32 k = ![0, 32 * k.val, 640] := by revert k; decide +kernel
theorem ca6 : k1_off34 k = ![0, 32 * k.val, 768] := by revert k; decide +kernel
theorem ca7 : k1_off36 k = ![0, 32 * k.val, 896] := by revert k; decide +kernel
theorem ca8 : k1_off38 k = ![0, 32 * k.val, 1024] := by revert k; decide +kernel
theorem ca9 : k1_off40 k = ![0, 32 * k.val, 1152] := by revert k; decide +kernel
theorem aw0 : k1_off21 k = ![32 * k.val, 0] := by revert k; decide +kernel
theorem aw1 : k1_off23 k = ![32 * k.val, 128] := by revert k; decide +kernel
theorem aw2 : k1_off25 k = ![32 * k.val, 256] := by revert k; decide +kernel
theorem aw3 : k1_off27 k = ![32 * k.val, 384] := by revert k; decide +kernel
theorem aw4 : k1_off29 k = ![32 * k.val, 512] := by revert k; decide +kernel
theorem aw5 : k1_off31 k = ![32 * k.val, 640] := by revert k; decide +kernel
theorem aw6 : k1_off33 k = ![32 * k.val, 768] := by revert k; decide +kernel
theorem aw7 : k1_off35 k = ![32 * k.val, 896] := by revert k; decide +kernel
theorem aw8 : k1_off37 k = ![32 * k.val, 1024] := by revert k; decide +kernel
theorem aw9 : k1_off39 k = ![32 * k.val, 1152] := by revert k; decide +kernel
theorem sa : k1_off41 k = ![32 * k.val, 0] := by revert k; decide +kernel

variable (𝒱 : Variants) (c : Dev nD) (bd : Option 𝒱.V) (i : grid1.Coords)
  (harg1 : arg1.IsWhole) (arg2 : Memref sig .tc .vmem S1x512x2560 .bf16) (harg2 : arg2.IsWhole) (arg3 : Memref sig .tc .vmem S1x6x2560 .f32) (harg3 : arg3.IsWhole)
  (arg4 : Memref sig .tc .vmem S1280x2560 .bf16) (harg4 : arg4.IsWhole) (arg5 : Memref sig .tc .vmem S1x512x1280 .bf16) (harg5 : arg5.IsWhole) (arg6 : Memref sig .tc .vmem S1x512x1280 .fp8e4m3) (harg6 : arg6.IsWhole)
  (arg7 : Memref sig .tc .vmem S1x40x512 .f32) (harg7 : arg7.IsWhole) (arg8 : Memref sig .tc .vmem S1x512x2560 .f32) (harg8 : arg8.IsWhole) (arg9 : Memref sig .tc .vmem S1x512x2560 .fp8e4m3) (harg9 : arg9.IsWhole)
  (arg10 : Memref sig .tc .vmem S1x80x512 .f32) (harg10 : arg10.IsWhole) (arg11 : Memref sig .tc .vmem S1x512x2560 .bf16) (harg11 : arg11.IsWhole) (arg12 : Memref sig .tc .vmem S512x1280 .bf16) (harg12 : arg12.IsWhole)
  (arg13 : Memref sig .tc .vmem S512x128 .f32) (harg13 : arg13.IsWhole) (arg14 : Memref sig .tc .vmem S512x128 .f32) (harg14 : arg14.IsWhole)

theorem s416 : trip_k1_t1.sl.v416 (F := Ideal) arg1 X k = step 1#32 (expoT (tiles arg1 X k 2)) (expoT (tiles arg1 X k 3)) := rfl
theorem s429 : trip_k1_t1.sl.v429 (F := Ideal) arg1 X k = step 1#32 (expoT (tiles arg1 X k 4)) (expoT (tiles arg1 X k 5)) := rfl
theorem s442 : trip_k1_t1.sl.v442 (F := Ideal) arg1 X k = step 1#32 (expoT (tiles arg1 X k 6)) (expoT (tiles arg1 X k 7)) := rfl
theorem s455 : trip_k1_t1.sl.v455 (F := Ideal) arg1 X k = step 1#32 (expoT (tiles arg1 X k 8)) (expoT (tiles arg1 X k 9)) := rfl
theorem s472 : trip_k1_t1.sl.v472 (F := Ideal) arg1 X k = step 2#32 (step 1#32 (expoT (tiles arg1 X k 0)) (expoT (tiles arg1 X k 1))) (trip_k1_t1.sl.v416 (F := Ideal) arg1 X k) := rfl
theorem s485 : trip_k1_t1.sl.v485 (F := Ideal) arg1 X k = step 2#32 (trip_k1_t1.sl.v429 (F := Ideal) arg1 X k) (trip_k1_t1.sl.v442 (F := Ideal) arg1 X k) := rfl
theorem s496 : trip_k1_t1.sl.v496 (F := Ideal) arg1 X k = lone 2#32 (trip_k1_t1.sl.v455 (F := Ideal) arg1 X k) := rfl
theorem s513 : trip_k1_t1.sl.v513 (F := Ideal) arg1 X k = step 4#32 (trip_k1_t1.sl.v472 (F := Ideal) arg1 X k) (trip_k1_t1.sl.v485 (F := Ideal) arg1 X k) := rfl
theorem s524 : trip_k1_t1.sl.v524 (F := Ideal) arg1 X k = lone 4#32 (trip_k1_t1.sl.v496 (F := Ideal) arg1 X k) := rfl
theorem s541 : trip_k1_t1.sl.v541 (F := Ideal) arg1 X k = step 8#32 (trip_k1_t1.sl.v513 (F := Ideal) arg1 X k) (trip_k1_t1.sl.v524 (F := Ideal) arg1 X k) := rfl
theorem s552 : trip_k1_t1.sl.v552 (F := Ideal) arg1 X k = lone 16#32 (trip_k1_t1.sl.v541 (F := Ideal) arg1 X k) := rfl

/-- The block maxima that a trip computes. -/
theorem tops : Tops (tiles arg1 X k) (trip_k1_t1.sl.v552 (F := Ideal) arg1 X k) := by
  rw [s552, s541, s524, s513, s496, s485, s472, s455, s442, s429, s416]
  exact tops10 _

theorem trip_attn (H : ℕ → ℕ → EReal) (hH : ∀ r, row (tiles arg1 X k) r = H (32 * k.val + r.val)) (y : S1x512x1280.Idx) :
    View.AllAt (trip_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X k).1 y (H (y 1).val (y 2).val) := by
  unfold trip_k1_t1
  refine View.allAt_cons_unit _ _ _ _ _ (copyTile (by decide : (10 : ℕ) ≤ 32) (tops arg1 X k) H k.val hH y 9 _ _ (va9 k) rfl) ?_
  refine View.allAt_cons_unit _ _ _ _ _ (copyTile (by decide : (10 : ℕ) ≤ 32) (tops arg1 X k) H k.val hH y 8 _ _ (va8 k) rfl) ?_
  refine View.allAt_cons_unit _ _ _ _ _ (copyTile (by decide : (10 : ℕ) ≤ 32) (tops arg1 X k) H k.val hH y 7 _ _ (va7 k) rfl) ?_
  refine View.allAt_cons_unit _ _ _ _ _ (copyTile (by decide : (10 : ℕ) ≤ 32) (tops arg1 X k) H k.val hH y 6 _ _ (va6 k) rfl) ?_
  refine View.allAt_cons_unit _ _ _ _ _ (copyTile (by decide : (10 : ℕ) ≤ 32) (tops arg1 X k) H k.val hH y 5 _ _ (va5 k) rfl) ?_
  refine View.allAt_cons_unit _ _ _ _ _ (copyTile (by decide : (10 : ℕ) ≤ 32) (tops arg1 X k) H k.val hH y 4 _ _ (va4 k) rfl) ?_
  refine View.allAt_cons_unit _ _ _ _ _ (copyTile (by decide : (10 : ℕ) ≤ 32) (tops arg1 X k) H k.val hH y 3 _ _ (va3 k) rfl) ?_
  refine View.allAt_cons_unit _ _ _ _ _ (copyTile (by decide : (10 : ℕ) ≤ 32) (tops arg1 X k) H k.val hH y 2 _ _ (va2 k) rfl) ?_
  refine View.allAt_cons_unit _ _ _ _ _ (copyTile (by decide : (10 : ℕ) ≤ 32) (tops arg1 X k) H k.val hH y 1 _ _ (va1 k) rfl) ?_
  refine View.allAt_cons_unit _ _ _ _ _ (copyTile (by decide : (10 : ℕ) ≤ 32) (tops arg1 X k) H k.val hH y 0 _ _ (va0 k) rfl) ?_
  exact View.allAt_nil _ _

theorem trip_codes (H : ℕ → ℕ → EReal) (hH : ∀ r, row (tiles arg1 X k) r = H (32 * k.val + r.val)) (y : S1x512x1280.Idx) :
    View.AllAt (trip_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X k).2.1 y (codeOf (H (y 1).val) (y 2).val) := by
  unfold trip_k1_t1
  refine View.allAt_cons_unit _ _ _ _ _ (codeTile (by decide : (10 : ℕ) ≤ 32) (tops arg1 X k) H k.val hH y 9 _ _ (ca9 k) rfl) ?_
  refine View.allAt_cons_unit _ _ _ _ _ (codeTile (by decide : (10 : ℕ) ≤ 32) (tops arg1 X k) H k.val hH y 8 _ _ (ca8 k) rfl) ?_
  refine View.allAt_cons_unit _ _ _ _ _ (codeTile (by decide : (10 : ℕ) ≤ 32) (tops arg1 X k) H k.val hH y 7 _ _ (ca7 k) rfl) ?_
  refine View.allAt_cons_unit _ _ _ _ _ (codeTile (by decide : (10 : ℕ) ≤ 32) (tops arg1 X k) H k.val hH y 6 _ _ (ca6 k) rfl) ?_
  refine View.allAt_cons_unit _ _ _ _ _ (codeTile (by decide : (10 : ℕ) ≤ 32) (tops arg1 X k) H k.val hH y 5 _ _ (ca5 k) rfl) ?_
  refine View.allAt_cons_unit _ _ _ _ _ (codeTile (by decide : (10 : ℕ) ≤ 32) (tops arg1 X k) H k.val hH y 4 _ _ (ca4 k) rfl) ?_
  refine View.allAt_cons_unit _ _ _ _ _ (codeTile (by decide : (10 : ℕ) ≤ 32) (tops arg1 X k) H k.val hH y 3 _ _ (ca3 k) rfl) ?_
  refine View.allAt_cons_unit _ _ _ _ _ (codeTile (by decide : (10 : ℕ) ≤ 32) (tops arg1 X k) H k.val hH y 2 _ _ (ca2 k) rfl) ?_
  refine View.allAt_cons_unit _ _ _ _ _ (codeTile (by decide : (10 : ℕ) ≤ 32) (tops arg1 X k) H k.val hH y 1 _ _ (ca1 k) rfl) ?_
  refine View.allAt_cons_unit _ _ _ _ _ (codeTile (by decide : (10 : ℕ) ≤ 32) (tops arg1 X k) H k.val hH y 0 _ _ (ca0 k) rfl) ?_
  exact View.allAt_nil _ _

theorem trip_hw (H : ℕ → ℕ → EReal) (hH : ∀ r, row (tiles arg1 X k) r = H (32 * k.val + r.val)) (y : S512x1280.Idx) :
    View.AllAt (trip_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X k).2.2.1 y (codeOf (H (y 0).val) (y 1).val * scaleOf (H (y 0).val) ((y 1).val / 32)) := by
  unfold trip_k1_t1
  refine View.allAt_cons_unit _ _ _ _ _ (hwTile2 (by decide : (10 : ℕ) ≤ 32) (tops arg1 X k) H k.val hH y 9 _ _ (aw9 k) rfl) ?_
  refine View.allAt_cons_unit _ _ _ _ _ (hwTile2 (by decide : (10 : ℕ) ≤ 32) (tops arg1 X k) H k.val hH y 8 _ _ (aw8 k) rfl) ?_
  refine View.allAt_cons_unit _ _ _ _ _ (hwTile2 (by decide : (10 : ℕ) ≤ 32) (tops arg1 X k) H k.val hH y 7 _ _ (aw7 k) rfl) ?_
  refine View.allAt_cons_unit _ _ _ _ _ (hwTile2 (by decide : (10 : ℕ) ≤ 32) (tops arg1 X k) H k.val hH y 6 _ _ (aw6 k) rfl) ?_
  refine View.allAt_cons_unit _ _ _ _ _ (hwTile2 (by decide : (10 : ℕ) ≤ 32) (tops arg1 X k) H k.val hH y 5 _ _ (aw5 k) rfl) ?_
  refine View.allAt_cons_unit _ _ _ _ _ (hwTile2 (by decide : (10 : ℕ) ≤ 32) (tops arg1 X k) H k.val hH y 4 _ _ (aw4 k) rfl) ?_
  refine View.allAt_cons_unit _ _ _ _ _ (hwTile2 (by decide : (10 : ℕ) ≤ 32) (tops arg1 X k) H k.val hH y 3 _ _ (aw3 k) rfl) ?_
  refine View.allAt_cons_unit _ _ _ _ _ (hwTile2 (by decide : (10 : ℕ) ≤ 32) (tops arg1 X k) H k.val hH y 2 _ _ (aw2 k) rfl) ?_
  refine View.allAt_cons_unit _ _ _ _ _ (hwTile2 (by decide : (10 : ℕ) ≤ 32) (tops arg1 X k) H k.val hH y 1 _ _ (aw1 k) rfl) ?_
  refine View.allAt_cons_unit _ _ _ _ _ (hwTile2 (by decide : (10 : ℕ) ≤ 32) (tops arg1 X k) H k.val hH y 0 _ _ (aw0 k) rfl) ?_
  exact View.allAt_nil _ _

theorem trip_scales (H : ℕ → ℕ → EReal) (hH : ∀ r, row (tiles arg1 X k) r = H (32 * k.val + r.val)) (y : S512x128.Idx) (hy : (y 1).val < 40) :
    View.AllAt (trip_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X k).2.2.2.1 y (scaleOf (H (y 0).val) (y 1).val) := by
  unfold trip_k1_t1
  refine View.allAt_cons_unit _ _ _ _ _ (scaleTile (by decide : (10 : ℕ) ≤ 32) (tops arg1 X k) H k.val hH at1 at1_apply y hy _ _ (sa k) rfl) ?_
  exact View.allAt_nil _ _

theorem loop_attn (H : ℕ → ℕ → EReal) (hH : ∀ (k : Fin k1_t1_loop.trips) r, row (tiles arg1 X k) r = H (32 * k.val + r.val)) (y : S1x512x1280.Idx) :
    ∀ n, n ≤ k1_t1_loop.trips → View.AllAt (pb_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X n).1 y (H (y 1).val (y 2).val)
  | 0, _ => View.allAt_nil _ _
  | n + 1, hn => by
    rw [pb_k1_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X ⟨n, hn⟩]
    exact allAt_append _ _ _ _ (trip_attn arg1 X ⟨n, hn⟩ 𝒱 c bd i harg1 arg2 harg2 arg3 harg3 arg4 harg4 arg5 harg5 arg6 harg6 arg7 harg7 arg8 harg8 arg9 harg9 arg10 harg10 arg11 harg11 arg12 harg12 arg13 harg13 arg14 harg14 H (hH _) y)
      (loop_attn H hH y n (Nat.le_of_succ_le hn))

theorem loop_codes (H : ℕ → ℕ → EReal) (hH : ∀ (k : Fin k1_t1_loop.trips) r, row (tiles arg1 X k) r = H (32 * k.val + r.val)) (y : S1x512x1280.Idx) :
    ∀ n, n ≤ k1_t1_loop.trips → View.AllAt (pb_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X n).2.1 y (codeOf (H (y 1).val) (y 2).val)
  | 0, _ => View.allAt_nil _ _
  | n + 1, hn => by
    rw [pb_k1_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X ⟨n, hn⟩]
    exact allAt_append _ _ _ _ (trip_codes arg1 X ⟨n, hn⟩ 𝒱 c bd i harg1 arg2 harg2 arg3 harg3 arg4 harg4 arg5 harg5 arg6 harg6 arg7 harg7 arg8 harg8 arg9 harg9 arg10 harg10 arg11 harg11 arg12 harg12 arg13 harg13 arg14 harg14 H (hH _) y)
      (loop_codes H hH y n (Nat.le_of_succ_le hn))

theorem loop_hw (H : ℕ → ℕ → EReal) (hH : ∀ (k : Fin k1_t1_loop.trips) r, row (tiles arg1 X k) r = H (32 * k.val + r.val)) (y : S512x1280.Idx) :
    ∀ n, n ≤ k1_t1_loop.trips → View.AllAt (pb_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X n).2.2.1 y (codeOf (H (y 0).val) (y 1).val * scaleOf (H (y 0).val) ((y 1).val / 32))
  | 0, _ => View.allAt_nil _ _
  | n + 1, hn => by
    rw [pb_k1_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X ⟨n, hn⟩]
    exact allAt_append _ _ _ _ (trip_hw arg1 X ⟨n, hn⟩ 𝒱 c bd i harg1 arg2 harg2 arg3 harg3 arg4 harg4 arg5 harg5 arg6 harg6 arg7 harg7 arg8 harg8 arg9 harg9 arg10 harg10 arg11 harg11 arg12 harg12 arg13 harg13 arg14 harg14 H (hH _) y)
      (loop_hw H hH y n (Nat.le_of_succ_le hn))

theorem loop_scales (H : ℕ → ℕ → EReal) (hH : ∀ (k : Fin k1_t1_loop.trips) r, row (tiles arg1 X k) r = H (32 * k.val + r.val)) (y : S512x128.Idx) (hy : (y 1).val < 40) :
    ∀ n, n ≤ k1_t1_loop.trips → View.AllAt (pb_k1_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X n).2.2.2 y (scaleOf (H (y 0).val) (y 1).val)
  | 0, _ => View.allAt_nil _ _
  | n + 1, hn => by
    rw [pb_k1_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 X ⟨n, hn⟩]
    exact allAt_append _ _ _ _ (trip_scales arg1 X ⟨n, hn⟩ 𝒱 c bd i harg1 arg2 harg2 arg3 harg3 arg4 harg4 arg5 harg5 arg6 harg6 arg7 harg7 arg8 harg8 arg9 harg9 arg10 harg10 arg11 harg11 arg12 harg12 arg13 harg13 arg14 harg14 H (hH _) y hy)
      (loop_scales H hH y hy n (Nat.le_of_succ_le hn))

end Cert.Proof.OutOne

end
-- ==== Proof.OutBody.lean ====
/- One run of the output projection: what it leaves in its seven results. -/
module

public import proofs.«01_k».proof.Proof.OutPieces
public import proofs.«01_k».proof.Proof.OutOne
public import proofs.«01_k».proof.Proof.Gen.OutIdeal.Frame

@[expose] public section

set_option maxRecDepth 16384

noncomputable section

namespace Cert.Proof.OutBody

open Idealize.ShloMosaic Cert.OutIdeal Cert.OutIdeal.Gen Cert.Proof.Tiles Cert.Proof.OutTwo Cert.Proof.OutPieces Cert.Proof.OutOne
open Cert.Proof.Quant (scaleOf codeOf)

theorem drop_apply (v : Vec Ideal S1x1x32x128 .f32) (r : Fin 32) (l : Fin 128) :
    shapeCast S32x128 v shapeCasts_S1x1x32x128_S32x128 (ix2 r l) = v (ix4 0 0 r l) := by
  pointwise

theorem part_apply (arg1 : Memref sig .tc .vmem S1x10x512x128 .f32) (harg1 : arg1.IsWhole) (x0 : Vec Ideal S1x10x512x128 .f32) (k : Fin k1_t1_loop.trips)
    (off : Fin 4 → ℕ) (h : ∀ a, off a + S1x1x32x128.size a ≤ S1x10x512x128.size a) (t : Fin 10) (hoff : off = ![0, t.val, 32 * k.val, 0]) (r : Fin 32) (l : Fin 128) :
    part arg1 (harg1.unread x0) off h (ix2 r l) = x0 (ix4 0 t ⟨(32 * k.val + r.val) % 512, Nat.mod_lt _ (by decide)⟩ l) := by
  subst hoff
  unfold part
  have hk : k.val < 16 := Nat.lt_of_lt_of_le k.isLt k1_t1_abs.2.1
  have e : (Rect.unit (s := S1x10x512x128) ![0, t.val, 32 * k.val, 0] S1x1x32x128.size h).toLoadRect.idx (ix4 0 0 r l)
      = ix4 0 t ⟨(32 * k.val + r.val) % 512, Nat.mod_lt _ (by decide)⟩ l := by
    funext a; refine Fin.ext ((Rect.idx_unit_val _ _ h (ix4 0 0 r l) a).trans ?_)
    fin_cases a
    · rfl
    · rfl
    · show 32 * k.val + r.val = (32 * k.val + r.val) % 512; omega
    · show 0 + l.val = l.val; omega
  refine (drop_apply _ r l).trans ?_
  exact (harg1.readAt_unread x0 (Rect.unit (s := S1x10x512x128) ![0, t.val, 32 * k.val, 0] S1x1x32x128.size h).toLoadRect _).trans (congrArg x0 e)

theorem tiles_apply (arg1 : Memref sig .tc .vmem S1x10x512x128 .f32) (harg1 : arg1.IsWhole) (x0 : Vec Ideal S1x10x512x128 .f32) (k : Fin k1_t1_loop.trips)
    (t : Fin 10) (r : Fin 32) (l : Fin 128) :
    tiles arg1 (harg1.unread x0) k t (ix2 r l) = x0 (ix4 0 t ⟨(32 * k.val + r.val) % 512, Nat.mod_lt _ (by decide)⟩ l) := by
  fin_cases t
  · exact part_apply arg1 harg1 x0 k _ (k1_off1_inb k) 0 (in0 k) r l
  · exact part_apply arg1 harg1 x0 k _ (k1_off2_inb k) 1 (in1 k) r l
  · exact part_apply arg1 harg1 x0 k _ (k1_off3_inb k) 2 (in2 k) r l
  · exact part_apply arg1 harg1 x0 k _ (k1_off4_inb k) 3 (in3 k) r l
  · exact part_apply arg1 harg1 x0 k _ (k1_off5_inb k) 4 (in4 k) r l
  · exact part_apply arg1 harg1 x0 k _ (k1_off6_inb k) 5 (in5 k) r l
  · exact part_apply arg1 harg1 x0 k _ (k1_off7_inb k) 6 (in6 k) r l
  · exact part_apply arg1 harg1 x0 k _ (k1_off8_inb k) 7 (in7 k) r l
  · exact part_apply arg1 harg1 x0 k _ (k1_off9_inb k) 8 (in8 k) r l
  · exact part_apply arg1 harg1 x0 k _ (k1_off10_inb k) 9 (in9 k) r l

/-- The rows that a trip of the first loop reads. -/
theorem rows1 (arg1 : Memref sig .tc .vmem S1x10x512x128 .f32) (harg1 : arg1.IsWhole) (x0 : Vec Ideal S1x10x512x128 .f32) (k : Fin k1_t1_loop.trips) (r : Fin 32) :
    row (tiles arg1 (harg1.unread x0) k) r = hA x0 (32 * k.val + r.val) := by
  funext q
  unfold row hA
  by_cases h : q / 128 < 10
  · rw [dif_pos h, dif_pos h, tiles_apply]
  · rw [dif_neg h, dif_neg h]

theorem inb_sh : ∀ a, (![0, 3, 0] : Fin 3 → ℕ) a + S1x1x2560.size a ≤ S1x6x2560.size a := by decide
theorem inb_sc : ∀ a, (![0, 4, 0] : Fin 3 → ℕ) a + S1x1x2560.size a ≤ S1x6x2560.size a := by decide

theorem off42 (k : Fin k1_t2_loop.trips) : k1_off42 k = ![0, 32 * k.val, 0] := by revert k; decide +kernel

variable (c : Dev nD) (i : grid1.Coords)  (arg1 : Memref sig .tc .vmem S1x10x512x128 .f32) (harg1 : arg1.IsWhole) (arg2 : Memref sig .tc .vmem S1x512x2560 .bf16) (harg2 : arg2.IsWhole) (arg3 : Memref sig .tc .vmem S1x6x2560 .f32) (harg3 : arg3.IsWhole)
  (arg4 : Memref sig .tc .vmem S1280x2560 .bf16) (harg4 : arg4.IsWhole) (arg5 : Memref sig .tc .vmem S1x512x1280 .bf16) (harg5 : arg5.IsWhole) (arg6 : Memref sig .tc .vmem S1x512x1280 .fp8e4m3) (harg6 : arg6.IsWhole)
  (arg7 : Memref sig .tc .vmem S1x40x512 .f32) (harg7 : arg7.IsWhole) (arg8 : Memref sig .tc .vmem S1x512x2560 .f32) (harg8 : arg8.IsWhole) (arg9 : Memref sig .tc .vmem S1x512x2560 .fp8e4m3) (harg9 : arg9.IsWhole)
  (arg10 : Memref sig .tc .vmem S1x80x512 .f32) (harg10 : arg10.IsWhole) (arg11 : Memref sig .tc .vmem S1x512x2560 .bf16) (harg11 : arg11.IsWhole) (arg12 : Memref sig .tc .vmem S512x1280 .bf16) (harg12 : arg12.IsWhole)
  (arg13 : Memref sig .tc .vmem S512x128 .f32) (harg13 : arg13.IsWhole) (arg14 : Memref sig .tc .vmem S512x128 .f32) (harg14 : arg14.IsWhole)
  (x0 : Vec Ideal S1x10x512x128 .f32) (x1 : Vec Ideal S1x512x2560 .bf16) (x2 : Vec Ideal S1x6x2560 .f32) (x3 : Vec Ideal S1280x2560 .bf16)

/-- The codes times their scales, as the products read them. -/
theorem aw_apply (h : ∀ a, (![0, 0] : Fin 2 → ℕ) a + S512x1280.size a ≤ S512x1280.size a) (r : Fin 512) (k : Fin 1280) :
    arg12.view.readCov (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x0) k1_t1_loop.trips).2.2.1 (Rect.unit (s := S512x1280) ![0, 0] S512x1280.size h).toLoadRect (ix2 r k) = Spec.back (hA x0 r.val) k.val := by
  rw [View.readCov_eq_canon']
  have e := fun a => Rect.idx_unit_val (s := S512x1280) (![0, 0] : Fin 2 → ℕ) S512x1280.size h (ix2 r k) a
  have e0 := e 0
  have e1 := e 1
  simp only [Fin.isValue, Matrix.cons_val, zero_add] at e0 e1
  refine (View.canon_eq_of_allAt _ _ _ (View.cover_of_tiledL (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x0) k1_t1_loop.trips).2.2.1 S32x128.size (by sl_kernel_rfl) _)
    (OutOne.loop_hw arg1 _ Variants.none c none i harg1 arg2 harg2 arg3 harg3 arg4 harg4 arg5 harg5 arg6 harg6 arg7 harg7 arg8 harg8 arg9 harg9 arg10 harg10 arg11 harg11 arg12 harg12 arg13 harg13 arg14 harg14 _ (rows1 arg1 harg1 x0) _ _ le_rfl)).trans ?_
  exact congrArg₂ (fun r b => Spec.back (hA x0 r) b) e0 e1

/-- The projection's tiles. -/
theorem scratch (y : S1x512x2560.Idx) : View.AllAt (kernelRun1_A.sl.H7_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3) y (yAt x0 x1 x2 x3 (y 1).val (y 2).val) := by
  unfold kernelRun1_A.sl.H7_10
  refine View.allAt_cons_unit _ _ _ _ _ (prodTile arg2 harg2 arg3 harg3 arg4 harg4 x0 x1 x2 x3 _ (aw_apply c i arg1 harg1 arg2 harg2 arg3 harg3 arg4 harg4 arg5 harg5 arg6 harg6 arg7 harg7 arg8 harg8 arg9 harg9 arg10 harg10 arg11 harg11 arg12 harg12 arg13 harg13 arg14 harg14 x0 (by decide)) y 9 _ _ rfl rfl) ?_
  refine View.allAt_cons_unit _ _ _ _ _ (prodTile arg2 harg2 arg3 harg3 arg4 harg4 x0 x1 x2 x3 _ (aw_apply c i arg1 harg1 arg2 harg2 arg3 harg3 arg4 harg4 arg5 harg5 arg6 harg6 arg7 harg7 arg8 harg8 arg9 harg9 arg10 harg10 arg11 harg11 arg12 harg12 arg13 harg13 arg14 harg14 x0 (by decide)) y 8 _ _ rfl rfl) ?_
  refine View.allAt_cons_unit _ _ _ _ _ (prodTile arg2 harg2 arg3 harg3 arg4 harg4 x0 x1 x2 x3 _ (aw_apply c i arg1 harg1 arg2 harg2 arg3 harg3 arg4 harg4 arg5 harg5 arg6 harg6 arg7 harg7 arg8 harg8 arg9 harg9 arg10 harg10 arg11 harg11 arg12 harg12 arg13 harg13 arg14 harg14 x0 (by decide)) y 7 _ _ rfl rfl) ?_
  refine View.allAt_cons_unit _ _ _ _ _ (prodTile arg2 harg2 arg3 harg3 arg4 harg4 x0 x1 x2 x3 _ (aw_apply c i arg1 harg1 arg2 harg2 arg3 harg3 arg4 harg4 arg5 harg5 arg6 harg6 arg7 harg7 arg8 harg8 arg9 harg9 arg10 harg10 arg11 harg11 arg12 harg12 arg13 harg13 arg14 harg14 x0 (by decide)) y 6 _ _ rfl rfl) ?_
  refine View.allAt_cons_unit _ _ _ _ _ (prodTile arg2 harg2 arg3 harg3 arg4 harg4 x0 x1 x2 x3 _ (aw_apply c i arg1 harg1 arg2 harg2 arg3 harg3 arg4 harg4 arg5 harg5 arg6 harg6 arg7 harg7 arg8 harg8 arg9 harg9 arg10 harg10 arg11 harg11 arg12 harg12 arg13 harg13 arg14 harg14 x0 (by decide)) y 5 _ _ rfl rfl) ?_
  refine View.allAt_cons_unit _ _ _ _ _ (prodTile arg2 harg2 arg3 harg3 arg4 harg4 x0 x1 x2 x3 _ (aw_apply c i arg1 harg1 arg2 harg2 arg3 harg3 arg4 harg4 arg5 harg5 arg6 harg6 arg7 harg7 arg8 harg8 arg9 harg9 arg10 harg10 arg11 harg11 arg12 harg12 arg13 harg13 arg14 harg14 x0 (by decide)) y 4 _ _ rfl rfl) ?_
  refine View.allAt_cons_unit _ _ _ _ _ (prodTile arg2 harg2 arg3 harg3 arg4 harg4 x0 x1 x2 x3 _ (aw_apply c i arg1 harg1 arg2 harg2 arg3 harg3 arg4 harg4 arg5 harg5 arg6 harg6 arg7 harg7 arg8 harg8 arg9 harg9 arg10 harg10 arg11 harg11 arg12 harg12 arg13 harg13 arg14 harg14 x0 (by decide)) y 3 _ _ rfl rfl) ?_
  refine View.allAt_cons_unit _ _ _ _ _ (prodTile arg2 harg2 arg3 harg3 arg4 harg4 x0 x1 x2 x3 _ (aw_apply c i arg1 harg1 arg2 harg2 arg3 harg3 arg4 harg4 arg5 harg5 arg6 harg6 arg7 harg7 arg8 harg8 arg9 harg9 arg10 harg10 arg11 harg11 arg12 harg12 arg13 harg13 arg14 harg14 x0 (by decide)) y 2 _ _ rfl rfl) ?_
  refine View.allAt_cons_unit _ _ _ _ _ (prodTile arg2 harg2 arg3 harg3 arg4 harg4 x0 x1 x2 x3 _ (aw_apply c i arg1 harg1 arg2 harg2 arg3 harg3 arg4 harg4 arg5 harg5 arg6 harg6 arg7 harg7 arg8 harg8 arg9 harg9 arg10 harg10 arg11 harg11 arg12 harg12 arg13 harg13 arg14 harg14 x0 (by decide)) y 1 _ _ rfl rfl) ?_
  refine View.allAt_cons_unit _ _ _ _ _ (prodTile arg2 harg2 arg3 harg3 arg4 harg4 x0 x1 x2 x3 _ (aw_apply c i arg1 harg1 arg2 harg2 arg3 harg3 arg4 harg4 arg5 harg5 arg6 harg6 arg7 harg7 arg8 harg8 arg9 harg9 arg10 harg10 arg11 harg11 arg12 harg12 arg13 harg13 arg14 harg14 x0 (by decide)) y 0 _ _ rfl rfl) ?_
  exact View.allAt_nil _ _

theorem scratch_cover (y : S1x512x2560.Idx) : ∃ p ∈ kernelRun1_A.sl.H7_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3, y ∈ p.1.set :=
  View.cover_of_tiledL (kernelRun1_A.sl.H7_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3) S1x512x256.size (by sl_kernel_rfl) y

/-- The rows that a trip of the second loop normalizes. -/
theorem rows2 (k : Fin k1_t2_loop.trips) (r : Fin 32) :
    row (cut (normed arg8 (k1_pay306 (F := Ideal) (View.readAt (Elt Ideal) arg3.view (Rect.unit (s := S1x6x2560) ![0, 3, 0] S1x1x2560.size inb_sh).toLoadRect (harg3.unread x2))) (View.readAt (Elt Ideal) arg3.view (Rect.unit (s := S1x6x2560) ![0, 4, 0] S1x1x2560.size inb_sc).toLoadRect (harg3.unread x2)) (arg8.view.writes (Elt Ideal) arg8.view.junk (kernelRun1_A.sl.H7_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3)) k)) r = nAt x0 x1 x2 x3 (32 * k.val + r.val) := by
  funext q
  unfold row nAt
  by_cases h : q / 128 < 20
  · rw [dif_pos h, if_pos h, cut_apply]
    unfold normed
    have hq : 128 * (q / 128) + q % 128 = q := by omega
    refine (norm_apply _ _ _ (yAt x0 x1 x2 x3 (32 * k.val + r.val)) (mAt x2 3) (mAt x2 4) r (fun j => ?_) (fun j => ?_) (fun j => ?_) ⟨128 * (q / 128) + q % 128, by omega⟩).trans ?_
    · rw [View.readAt_writes_of_cover _ _ _ _ (fun _ => scratch_cover c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 _), View.readCov_eq_canon']
      refine (View.canon_eq_of_allAt _ _ _ (scratch_cover c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 _) (scratch c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 _)).trans ?_
      have e := fun a => Rect.idx_unit_val (s := S1x512x2560) (k1_off42 k) S1x32x2560.size (k1_off42_inb k) (ix3 0 r j) a
      have e1 := (e 1).trans (congrArg (· + r.val) (congrFun (off42 k) 1))
      have e2 := (e 2).trans (congrArg (· + j.val) (congrFun (off42 k) 2))
      simp only [Fin.isValue, Matrix.cons_val, zero_add] at e1 e2
      exact congrArg₂ (yAt x0 x1 x2 x3) e1 e2
    · refine (harg3.readAt_unread x2 (Rect.unit (s := S1x6x2560) ![0, 3, 0] S1x1x2560.size inb_sh).toLoadRect _).trans (congrArg x2 ?_)
      funext a; refine Fin.ext ((Rect.idx_unit_val _ _ inb_sh (ix3 0 0 j) a).trans ?_)
      fin_cases a
      · rfl
      · rfl
      · show 0 + j.val = j.val % 2560; omega
    · refine (harg3.readAt_unread x2 (Rect.unit (s := S1x6x2560) ![0, 4, 0] S1x1x2560.size inb_sc).toLoadRect _).trans (congrArg x2 ?_)
      funext a; refine Fin.ext ((Rect.idx_unit_val _ _ inb_sc (ix3 0 0 j) a).trans ?_)
      fin_cases a
      · rfl
      · rfl
      · show 0 + j.val = j.val % 2560; omega
    · exact congrArg (OutSpec.normed (yAt x0 x1 x2 x3 (32 * k.val + r.val)) (mAt x2 3) (mAt x2 4)) hq
  · rw [dif_neg h, if_neg h]

/-- The heads laid side by side. -/
theorem attn (y : S1x512x1280.Idx) :
    out1_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 y = hA x0 (y 1).val (y 2).val := by
  unfold out1_A_4
  rw [View.read_writes_junk_eq_canon]
  refine View.canon_eq_of_allAt _ y _ (cover1_A_4 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 y) ?_
  exact OutOne.loop_attn arg1 _ Variants.none c none i harg1 arg2 harg2 arg3 harg3 arg4 harg4 arg5 harg5 arg6 harg6 arg7 harg7 arg8 harg8 arg9 harg9 arg10 harg10 arg11 harg11 arg12 harg12 arg13 harg13 arg14 harg14 _ (rows1 arg1 harg1 x0) y _ le_rfl

/-- Their codes. -/
theorem attn_codes (y : S1x512x1280.Idx) :
    out1_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 y = codeOf (hA x0 (y 1).val) (y 2).val := by
  unfold out1_A_5
  rw [View.read_writes_junk_eq_canon]
  refine View.canon_eq_of_allAt _ y _ (cover1_A_5 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 y) ?_
  exact OutOne.loop_codes arg1 _ Variants.none c none i harg1 arg2 harg2 arg3 harg3 arg4 harg4 arg5 harg5 arg6 harg6 arg7 harg7 arg8 harg8 arg9 harg9 arg10 harg10 arg11 harg11 arg12 harg12 arg13 harg13 arg14 harg14 _ (rows1 arg1 harg1 x0) y _ le_rfl

/-- The modulated projection. -/
theorem proj (y : S1x512x2560.Idx) :
    out1_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 y = yAt x0 x1 x2 x3 (y 1).val (y 2).val := by
  unfold out1_A_7
  rw [View.read_writes_junk_eq_canon]
  refine View.canon_eq_of_allAt _ y _ (cover1_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 y) ?_
  exact scratch c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 y

/-- The normalized rows' codes. -/
theorem codes (y : S1x512x2560.Idx) :
    out1_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 y = codeOf (nAt x0 x1 x2 x3 (y 1).val) (y 2).val := by
  unfold out1_A_8
  rw [View.read_writes_junk_eq_canon]
  refine View.canon_eq_of_allAt _ y _ (cover1_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 y) ?_
  exact OutTwo.loop_codes arg8 _ _ _ Variants.none c none i arg1 harg1 arg2 harg2 arg3 harg3 arg4 harg4 arg5 harg5 arg6 harg6 arg7 harg7 harg8 arg9 harg9 arg10 harg10 arg11 harg11 arg12 harg12 arg13 harg13 arg14 harg14 _ (rows2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3) y _ le_rfl

/-- Their codes times their scales. -/
theorem products (y : S1x512x2560.Idx) :
    out1_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 y = Spec.back (nAt x0 x1 x2 x3 (y 1).val) (y 2).val := by
  unfold out1_A_10
  rw [View.read_writes_junk_eq_canon]
  refine View.canon_eq_of_allAt _ y _ (cover1_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 y) ?_
  exact OutTwo.loop_hw arg8 _ _ _ Variants.none c none i arg1 harg1 arg2 harg2 arg3 harg3 arg4 harg4 arg5 harg5 arg6 harg6 arg7 harg7 harg8 arg9 harg9 arg10 harg10 arg11 harg11 arg12 harg12 arg13 harg13 arg14 harg14 _ (rows2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3) y _ le_rfl

theorem attnBlock (o : ℕ) (ho : ∀ a, (![o, 0] : Fin 2 → ℕ) a + S128x128.size a ≤ S512x128.size a) (y : S1x40x512.Idx) (w : Vec Ideal S1x40x128 .f32)
    (off : Fin 3 → ℕ) (hoff : off = ![0, 0, o])
    (hw : w = k1_pay292 (F := Ideal) (arg13.view.readCov (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x0) k1_t1_loop.trips).2.2.2 (Rect.unit (s := S512x128) ![o, 0] S128x128.size ho).toLoadRect)) :
    View.TileAt (Val := Elt Ideal) (e := .f32) y off S1x40x128.size w (scaleOf (hA x0 (y 2).val) (y 1).val) := by
  subst hoff hw
  intro x hx
  have h1 := hx 1
  have h2 := hx 2
  simp only [Fin.isValue, Matrix.cons_val, zero_add] at h1 h2
  rw [sa_apply, View.readCov_eq_canon']
  have e := fun a => Rect.idx_unit_val (s := S512x128) (![o, 0] : Fin 2 → ℕ) S128x128.size ho (ix2 ⟨(x 2).val, (x 2).isLt⟩ ⟨(x 1).val, lt_trans (x 1).isLt (by decide)⟩) a
  have e0 := e 0
  have e1 := e 1
  simp only [Fin.isValue, Matrix.cons_val, zero_add] at e0 e1
  have hb : (x 1).val < 40 := (x 1).isLt
  refine (View.canon_eq_of_allAt _ _ _ (View.cover_of_tiledL (pb_k1_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x0) k1_t1_loop.trips).2.2.2 S32x128.size (by sl_kernel_rfl) _)
    (OutOne.loop_scales arg1 _ Variants.none c none i harg1 arg2 harg2 arg3 harg3 arg4 harg4 arg5 harg5 arg6 harg6 arg7 harg7 arg8 harg8 arg9 harg9 arg10 harg10 arg11 harg11 arg12 harg12 arg13 harg13 arg14 harg14 _ (rows1 arg1 harg1 x0) _ (by exact lt_of_eq_of_lt e1 hb) _ le_rfl)).trans ?_
  exact congrArg₂ (fun r b => scaleOf (hA x0 r) b) (e0.trans h2.symm) (e1.trans h1.symm)

/-- The scales of the heads' codes. -/
theorem attn_scales (y : S1x40x512.Idx) :
    out1_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 y = scaleOf (hA x0 (y 2).val) (y 1).val := by
  unfold out1_A_6
  rw [View.read_writes_junk_eq_canon]
  refine View.canon_eq_of_allAt _ y _ (cover1_A_6 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 y) ?_
  unfold kernelRun1_A
  unfold kernelRun1_A.sl.H6_4
  refine View.allAt_cons_unit _ _ _ _ _ (attnBlock c i arg1 harg1 arg2 harg2 arg3 harg3 arg4 harg4 arg5 harg5 arg6 harg6 arg7 harg7 arg8 harg8 arg9 harg9 arg10 harg10 arg11 harg11 arg12 harg12 arg13 harg13 arg14 harg14 x0 384 (by decide) y _ _ rfl rfl) ?_
  refine View.allAt_cons_unit _ _ _ _ _ (attnBlock c i arg1 harg1 arg2 harg2 arg3 harg3 arg4 harg4 arg5 harg5 arg6 harg6 arg7 harg7 arg8 harg8 arg9 harg9 arg10 harg10 arg11 harg11 arg12 harg12 arg13 harg13 arg14 harg14 x0 256 (by decide) y _ _ rfl rfl) ?_
  refine View.allAt_cons_unit _ _ _ _ _ (attnBlock c i arg1 harg1 arg2 harg2 arg3 harg3 arg4 harg4 arg5 harg5 arg6 harg6 arg7 harg7 arg8 harg8 arg9 harg9 arg10 harg10 arg11 harg11 arg12 harg12 arg13 harg13 arg14 harg14 x0 128 (by decide) y _ _ rfl rfl) ?_
  refine View.allAt_cons_unit _ _ _ _ _ (attnBlock c i arg1 harg1 arg2 harg2 arg3 harg3 arg4 harg4 arg5 harg5 arg6 harg6 arg7 harg7 arg8 harg8 arg9 harg9 arg10 harg10 arg11 harg11 arg12 harg12 arg13 harg13 arg14 harg14 x0 0 (by decide) y _ _ rfl rfl) ?_
  exact View.allAt_nil _ _

theorem scaleBlock (o : ℕ) (ho : ∀ a, (![o, 0] : Fin 2 → ℕ) a + S128x128.size a ≤ S512x128.size a) (y : S1x80x512.Idx) (w : Vec Ideal S1x80x128 .f32)
    (off : Fin 3 → ℕ) (hoff : off = ![0, 0, o])
    (hw : w = k1_pay309 (F := Ideal) (arg14.view.readCov (pb_k1_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (k1_pay306 (F := Ideal) (View.readAt (Elt Ideal) arg3.view (Rect.unit (s := S1x6x2560) ![0, 3, 0] S1x1x2560.size inb_sh).toLoadRect (harg3.unread x2))) (View.readAt (Elt Ideal) arg3.view (Rect.unit (s := S1x6x2560) ![0, 4, 0] S1x1x2560.size inb_sc).toLoadRect (harg3.unread x2)) (arg8.view.writes (Elt Ideal) arg8.view.junk (kernelRun1_A.sl.H7_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3)) k1_t2_loop.trips).2.2 (Rect.unit (s := S512x128) ![o, 0] S128x128.size ho).toLoadRect)) :
    View.TileAt (Val := Elt Ideal) (e := .f32) y off S1x80x128.size w (scaleOf (nAt x0 x1 x2 x3 (y 2).val) (y 1).val) := by
  subst hoff hw
  intro x hx
  have h1 := hx 1
  have h2 := hx 2
  simp only [Fin.isValue, Matrix.cons_val, zero_add] at h1 h2
  rw [s_apply, View.readCov_eq_canon']
  have e := fun a => Rect.idx_unit_val (s := S512x128) (![o, 0] : Fin 2 → ℕ) S128x128.size ho (ix2 ⟨(x 2).val, (x 2).isLt⟩ ⟨(x 1).val, lt_trans (x 1).isLt (by decide)⟩) a
  have e0 := e 0
  have e1 := e 1
  simp only [Fin.isValue, Matrix.cons_val, zero_add] at e0 e1
  have hb : (x 1).val < 80 := (x 1).isLt
  refine (View.canon_eq_of_allAt _ _ _ (View.cover_of_tiledL (pb_k1_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (k1_pay306 (F := Ideal) (View.readAt (Elt Ideal) arg3.view (Rect.unit (s := S1x6x2560) ![0, 3, 0] S1x1x2560.size inb_sh).toLoadRect (harg3.unread x2))) (View.readAt (Elt Ideal) arg3.view (Rect.unit (s := S1x6x2560) ![0, 4, 0] S1x1x2560.size inb_sc).toLoadRect (harg3.unread x2)) (arg8.view.writes (Elt Ideal) arg8.view.junk (kernelRun1_A.sl.H7_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3)) k1_t2_loop.trips).2.2 S32x128.size (by sl_kernel_rfl) _)
    (OutTwo.loop_scales arg8 _ _ _ Variants.none c none i arg1 harg1 arg2 harg2 arg3 harg3 arg4 harg4 arg5 harg5 arg6 harg6 arg7 harg7 harg8 arg9 harg9 arg10 harg10 arg11 harg11 arg12 harg12 arg13 harg13 arg14 harg14 _ (rows2 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3) _ (by exact lt_of_eq_of_lt e1 hb) _ le_rfl)).trans ?_
  exact congrArg₂ (fun r b => scaleOf (nAt x0 x1 x2 x3 r) b) (e0.trans h2.symm) (e1.trans h1.symm)

/-- The scales of the normalized rows' codes. -/
theorem scales (y : S1x80x512.Idx) :
    out1_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 y = scaleOf (nAt x0 x1 x2 x3 (y 2).val) (y 1).val := by
  unfold out1_A_9
  rw [View.read_writes_junk_eq_canon]
  refine View.canon_eq_of_allAt _ y _ (cover1_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 y) ?_
  unfold kernelRun1_A
  refine View.allAt_cons_unit _ _ _ _ _ (scaleBlock c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 384 (by decide) y _ _ rfl rfl) ?_
  refine View.allAt_cons_unit _ _ _ _ _ (scaleBlock c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 256 (by decide) y _ _ rfl rfl) ?_
  refine View.allAt_cons_unit _ _ _ _ _ (scaleBlock c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 128 (by decide) y _ _ rfl rfl) ?_
  refine View.allAt_cons_unit _ _ _ _ _ (scaleBlock c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 0 (by decide) y _ _ rfl rfl) ?_
  exact View.allAt_nil _ _

end Cert.Proof.OutBody

end
-- ==== Proof.OutRegions.lean ====
/- What the two calls leave in their result arrays, from the arrays they were entered with. -/
module

public import proofs.«01_k».proof.Proof.OutWiden
public import proofs.«01_k».proof.Proof.OutBody
public import proofs.«01_k».proof.Proof.OutSpec
public import Idealize.ShloMosaic.Lib.Pipeline.ValueKit
public import Idealize.ShloMosaic.Lib.Pointwise

@[expose] public section

set_option maxRecDepth 16384

noncomputable section

namespace Cert.Proof.OutRegions

open Idealize.ShloMosaic Idealize.ShloMosaic.TcCoe Idealize.SL.Sem
open Cert.OutIdeal Cert.OutIdeal.Gen
open Cert.Proof.Quant (scaleOf codeOf)

variable (V : (c : Dev nD) → (b : Ref sig .tc) → Buf (Elt Ideal) ((c : Thread nD τ).loc b)) (c : Dev nD)

theorem idx0 : ∀ t : Fin grid0.N, win0_0.index t = ![0, t.val] ∧ win0_1.index t = ![0, t.val] ∧ win0_2.index t = ![0, t.val] := by
  decide +kernel

theorem final0 : (dat0 V c).arrAt 2 cfg0.N = OutSpec.wide (V c main_arg3) (fun a => Widen.word (V c main_arg4 a)) := by
  refine (dat0 V c).arrAt_eq_of_covers 2 _ (by decide +kernel) fun t hf y => ?_
  blk_simp
  rw [after0_2]
  rw [OutWiden.single_apply]
  obtain ⟨e0, e1, e2⟩ := idx0 t
  unfold OutWiden.single OutSpec.wide
  refine Ideal.mul_congr ?_ (congrArg Widen.word ?_) <;> blk_ext [iblk0, e0, e1, e2]

theorem idx1 : ∀ t : Fin grid1.N, win1_0.index t = ![t.val / 18, 0, t.val % 18, 0] ∧ win1_1.index t = ![t.val / 18, t.val % 18, 0]
    ∧ win1_2.index t = ![t.val / 18, 0, 0] ∧ win1_3.index t = ![0, 0] ∧ win1_4.index t = ![t.val / 18, t.val % 18, 0]
    ∧ win1_5.index t = ![t.val / 18, t.val % 18, 0] ∧ win1_6.index t = ![t.val / 18, 0, t.val % 18] ∧ win1_7.index t = ![t.val / 18, t.val % 18, 0]
    ∧ win1_8.index t = ![t.val / 18, t.val % 18, 0] ∧ win1_9.index t = ![t.val / 18, 0, t.val % 18] ∧ win1_10.index t = ![t.val / 18, t.val % 18, 0] := by
  decide +kernel

theorem hA_blk (t : Fin cfg1.N) (r : ℕ) (hr : r < 512) (b : Fin 2) (r' : Fin 9216) (hb : b.val = t.val / 18) (hr' : r'.val = t.val % 18 * 512 + r) :
    OutPieces.hA (iblk1 V c 0 t) r = OutSpec.attn (V c main_arg0) b r' := by
  obtain ⟨e0, e1, e2, e3, e4, e5, e6, e7, e8, e9, e10⟩ := idx1 t
  funext q
  unfold OutPieces.hA OutSpec.attn
  by_cases h : q / 128 < 10
  · rw [dif_pos h, dif_pos h]
    blk_ext [iblk1, e0]
  · rw [dif_neg h, dif_neg h]

theorem yAt_blk (t : Fin cfg1.N) (r : ℕ) (hr : r < 512) (b : Fin 2) (r' : Fin 9216) (hb : b.val = t.val / 18) (hr' : r'.val = t.val % 18 * 512 + r) :
    OutPieces.yAt (iblk1 V c 0 t) (iblk1 V c 1 t) (iblk1 V c 2 t) (iblk1 V c 3 t) r = OutSpec.proj (V c main_arg0) (V c main_arg1) (V c main_arg2) (V c main_v0) b r' := by
  funext q
  unfold OutPieces.yAt OutSpec.proj
  rw [hA_blk V c t r hr b r' hb hr']
  obtain ⟨e0, e1, e2, e3, e4, e5, e6, e7, e8, e9, e10⟩ := idx1 t
  refine Ideal.add_congr ?_ (Ideal.mul_congr ?_ (Finset.sum_congr rfl fun k _ => Ideal.mul_congr rfl ?_)) <;> blk_ext [iblk1, e1, e2, e3]

theorem mAt_blk (t : Fin cfg1.N) (q : Fin 6) (b : Fin 2) (hb : b.val = t.val / 18) : OutPieces.mAt (iblk1 V c 2 t) q = OutSpec.modRow (V c main_arg2) b q := by
  obtain ⟨e0, e1, e2, e3, e4, e5, e6, e7, e8, e9, e10⟩ := idx1 t
  funext j
  unfold OutPieces.mAt OutSpec.modRow
  blk_ext [iblk1, e2]

theorem nAt_blk (t : Fin cfg1.N) (r : ℕ) (hr : r < 512) (b : Fin 2) (r' : Fin 9216) (hb : b.val = t.val / 18) (hr' : r'.val = t.val % 18 * 512 + r) :
    OutPieces.nAt (iblk1 V c 0 t) (iblk1 V c 1 t) (iblk1 V c 2 t) (iblk1 V c 3 t) r = OutSpec.nrm (V c main_arg0) (V c main_arg1) (V c main_arg2) (V c main_v0) b r' := by
  funext q
  unfold OutPieces.nAt OutSpec.nrm
  rw [yAt_blk V c t r hr b r' hb hr', mAt_blk V c t 3 b hb, mAt_blk V c t 4 b hb]

theorem final1_4 : (dat1 V c).arrAt 4 cfg1.N = fun i => (OutSpec.attn (V c main_arg0) (i 0) (i 1)) (i 2).val := by
  refine (dat1 V c).arrAt_eq_of_covers 4 _ (by decide +kernel) fun t hf y => ?_
  blk_simp
  rw [after1_4]
  obtain ⟨e0, e1, e2, e3, e4, e5, e6, e7, e8, e9, e10⟩ := idx1 t
  unfold outsAt1
  dsimp only
  rw [OutBody.attn, hA_blk V c t (y 1).val (y 1).isLt ((win1_4.blk t).view.emb y 0) ((win1_4.blk t).view.emb y 1)]
  · refine congrArg (OutSpec.attn (V c main_arg0) _ _) ?_
    blk_simp [e4]
  · blk_simp [e4]
  · blk_simp [e4]

theorem final1_5 : (dat1 V c).arrAt 5 cfg1.N = fun i => codeOf (OutSpec.attn (V c main_arg0) (i 0) (i 1)) (i 2).val := by
  refine (dat1 V c).arrAt_eq_of_covers 5 _ (by decide +kernel) fun t hf y => ?_
  blk_simp
  rw [after1_5]
  obtain ⟨e0, e1, e2, e3, e4, e5, e6, e7, e8, e9, e10⟩ := idx1 t
  unfold outsAt1
  dsimp only
  rw [OutBody.attn_codes, hA_blk V c t (y 1).val (y 1).isLt ((win1_5.blk t).view.emb y 0) ((win1_5.blk t).view.emb y 1)]
  · refine congrArg (codeOf _) ?_
    blk_simp [e5]
  · blk_simp [e5]
  · blk_simp [e5]

theorem final1_6 : (dat1 V c).arrAt 6 cfg1.N = fun i => scaleOf (OutSpec.attn (V c main_arg0) (i 0) (i 2)) (i 1).val := by
  refine (dat1 V c).arrAt_eq_of_covers 6 _ (by decide +kernel) fun t hf y => ?_
  blk_simp
  rw [after1_6]
  obtain ⟨e0, e1, e2, e3, e4, e5, e6, e7, e8, e9, e10⟩ := idx1 t
  unfold outsAt1
  dsimp only
  rw [OutBody.attn_scales, hA_blk V c t (y 2).val (y 2).isLt ((win1_6.blk t).view.emb y 0) ((win1_6.blk t).view.emb y 2)]
  · refine congrArg (scaleOf _) ?_
    blk_simp [e6]
  · blk_simp [e6]
  · blk_simp [e6]

theorem final1_7 : (dat1 V c).arrAt 7 cfg1.N = fun i => (OutSpec.proj (V c main_arg0) (V c main_arg1) (V c main_arg2) (V c main_v0) (i 0) (i 1)) (i 2).val := by
  refine (dat1 V c).arrAt_eq_of_covers 7 _ (by decide +kernel) fun t hf y => ?_
  blk_simp
  rw [after1_7]
  obtain ⟨e0, e1, e2, e3, e4, e5, e6, e7, e8, e9, e10⟩ := idx1 t
  unfold outsAt1
  dsimp only
  rw [OutBody.proj, yAt_blk V c t (y 1).val (y 1).isLt ((win1_7.blk t).view.emb y 0) ((win1_7.blk t).view.emb y 1)]
  · refine congrArg (OutSpec.proj (V c main_arg0) (V c main_arg1) (V c main_arg2) (V c main_v0) _ _) ?_
    blk_simp [e7]
  · blk_simp [e7]
  · blk_simp [e7]

theorem final1_8 : (dat1 V c).arrAt 8 cfg1.N = fun i => codeOf (OutSpec.nrm (V c main_arg0) (V c main_arg1) (V c main_arg2) (V c main_v0) (i 0) (i 1)) (i 2).val := by
  refine (dat1 V c).arrAt_eq_of_covers 8 _ (by decide +kernel) fun t hf y => ?_
  blk_simp
  rw [after1_8]
  obtain ⟨e0, e1, e2, e3, e4, e5, e6, e7, e8, e9, e10⟩ := idx1 t
  unfold outsAt1
  dsimp only
  rw [OutBody.codes, nAt_blk V c t (y 1).val (y 1).isLt ((win1_8.blk t).view.emb y 0) ((win1_8.blk t).view.emb y 1)]
  · refine congrArg (codeOf _) ?_
    blk_simp [e8]
  · blk_simp [e8]
  · blk_simp [e8]

theorem final1_9 : (dat1 V c).arrAt 9 cfg1.N = fun i => scaleOf (OutSpec.nrm (V c main_arg0) (V c main_arg1) (V c main_arg2) (V c main_v0) (i 0) (i 2)) (i 1).val := by
  refine (dat1 V c).arrAt_eq_of_covers 9 _ (by decide +kernel) fun t hf y => ?_
  blk_simp
  rw [after1_9]
  obtain ⟨e0, e1, e2, e3, e4, e5, e6, e7, e8, e9, e10⟩ := idx1 t
  unfold outsAt1
  dsimp only
  rw [OutBody.scales, nAt_blk V c t (y 2).val (y 2).isLt ((win1_9.blk t).view.emb y 0) ((win1_9.blk t).view.emb y 2)]
  · refine congrArg (scaleOf _) ?_
    blk_simp [e9]
  · blk_simp [e9]
  · blk_simp [e9]

theorem final1_10 : (dat1 V c).arrAt 10 cfg1.N = fun i => Spec.back (OutSpec.nrm (V c main_arg0) (V c main_arg1) (V c main_arg2) (V c main_v0) (i 0) (i 1)) (i 2).val := by
  refine (dat1 V c).arrAt_eq_of_covers 10 _ (by decide +kernel) fun t hf y => ?_
  blk_simp
  rw [after1_10]
  obtain ⟨e0, e1, e2, e3, e4, e5, e6, e7, e8, e9, e10⟩ := idx1 t
  unfold outsAt1
  dsimp only
  rw [OutBody.products, nAt_blk V c t (y 1).val (y 1).isLt ((win1_10.blk t).view.emb y 0) ((win1_10.blk t).view.emb y 1)]
  · refine congrArg (Spec.back _) ?_
    blk_simp [e10]
  · blk_simp [e10]
  · blk_simp [e10]

end Cert.Proof.OutRegions

end
-- ==== Proof.OutValues.lean ====
/- The kernel's run: its seven results as plain sums of its arguments. -/
module

public import proofs.«01_k».proof.Proof.OutRegions
public import proofs.«01_k».proof.Proof.Gen.OutIdeal.Frame
public import Idealize.ShloMosaic.Lib.Claim

@[expose] public section

set_option maxRecDepth 16384

noncomputable section

namespace Cert.Proof.OutValues

open Idealize.ShloMosaic Idealize.ShloMosaic.TcCoe Idealize.SL Idealize.SL.Sem
open Cert.OutIdeal Cert.OutIdeal.Gen Cert.Proof.OutRegions
open Cert.Proof.Quant (scaleOf codeOf)

variable (m : (ℓ : Loc nD τ sig) → Buf (Elt Ideal) ℓ) (ρ : Dev nD → PrngReg) (c : Dev nD)

/-- The scale words of an array of scale bytes. -/
abbrev words {S : Shape} (s : S.Idx → BitVec 8) : S.Idx → EReal := fun a => Widen.word (s a)

theorem widened : V1 (F := Ideal) m ρ c main_v0 = OutSpec.wide (m ((c : Thread nD τ).loc main_arg3)) (words (m ((c : Thread nD τ).loc main_arg4))) :=
  (hF0 m ρ c 2).symm.trans (final0 (V0 m ρ) c)

theorem e0 : V1 (F := Ideal) m ρ c main_arg0 = (m ((c : Thread nD τ).loc main_arg0)) := W1_args m ρ c main_arg0 (by decide)
theorem e1 : V1 (F := Ideal) m ρ c main_arg1 = (m ((c : Thread nD τ).loc main_arg1)) := W1_args m ρ c main_arg1 (by decide)
theorem e2 : V1 (F := Ideal) m ρ c main_arg2 = (m ((c : Thread nD τ).loc main_arg2)) := W1_args m ρ c main_arg2 (by decide)

theorem end_attn : W3 (F := Ideal) m ρ c (Proc.devRef .tc main_v1_0) = OutSpec.attnAll (m ((c : Thread nD τ).loc main_arg0)) := by
  rw [W3_of m ρ c main_v1_0 (by decide)]
  refine (hF1 m ρ c 4).symm.trans ((final1_4 (V1 m ρ) c).trans ?_)
  rw [e0]
  rfl

theorem end_attn_codes : W3 (F := Ideal) m ρ c (Proc.devRef .tc main_v1_1) = OutSpec.attnCodes (m ((c : Thread nD τ).loc main_arg0)) := by
  rw [W3_of m ρ c main_v1_1 (by decide)]
  refine (hF1 m ρ c 5).symm.trans ((final1_5 (V1 m ρ) c).trans ?_)
  rw [e0]
  rfl

theorem end_attn_scales : W3 (F := Ideal) m ρ c (Proc.devRef .tc main_v2) = OutSpec.attnScales (m ((c : Thread nD τ).loc main_arg0)) := by
  have h : W2 (F := Ideal) m ρ c (Proc.devRef .tc main_v1_2) = fun i => scaleOf (OutSpec.attn (m ((c : Thread nD τ).loc main_arg0)) (i 0) (i 2)) (i 1).val := by
    refine (hF1 m ρ c 6).symm.trans ((final1_6 (V1 m ρ) c).trans ?_)
    rw [e0]
  show StableHlo.after hostOps2 (W2 m ρ c) (Proc.devRef .tc main_v2) = _
  entry_read
  rw [h]
  funext i
  pointwise [OutSpec.attnScales]

theorem end_proj : W3 (F := Ideal) m ρ c (Proc.devRef .tc main_v1_3) = OutSpec.projAll (m ((c : Thread nD τ).loc main_arg0)) (m ((c : Thread nD τ).loc main_arg1)) (m ((c : Thread nD τ).loc main_arg2)) (OutSpec.wide (m ((c : Thread nD τ).loc main_arg3)) (words (m ((c : Thread nD τ).loc main_arg4)))) := by
  rw [W3_of m ρ c main_v1_3 (by decide)]
  refine (hF1 m ρ c 7).symm.trans ((final1_7 (V1 m ρ) c).trans ?_)
  rw [e0, e1, e2, widened]
  rfl

theorem end_codes : W3 (F := Ideal) m ρ c (Proc.devRef .tc main_v1_4) = OutSpec.codes (m ((c : Thread nD τ).loc main_arg0)) (m ((c : Thread nD τ).loc main_arg1)) (m ((c : Thread nD τ).loc main_arg2)) (OutSpec.wide (m ((c : Thread nD τ).loc main_arg3)) (words (m ((c : Thread nD τ).loc main_arg4)))) := by
  rw [W3_of m ρ c main_v1_4 (by decide)]
  refine (hF1 m ρ c 8).symm.trans ((final1_8 (V1 m ρ) c).trans ?_)
  rw [e0, e1, e2, widened]
  rfl

theorem end_scales : W3 (F := Ideal) m ρ c (Proc.devRef .tc main_v3) = OutSpec.scales (m ((c : Thread nD τ).loc main_arg0)) (m ((c : Thread nD τ).loc main_arg1)) (m ((c : Thread nD τ).loc main_arg2)) (OutSpec.wide (m ((c : Thread nD τ).loc main_arg3)) (words (m ((c : Thread nD τ).loc main_arg4)))) := by
  have h : W2 (F := Ideal) m ρ c (Proc.devRef .tc main_v1_5) = fun i => scaleOf (OutSpec.nrm (m ((c : Thread nD τ).loc main_arg0)) (m ((c : Thread nD τ).loc main_arg1)) (m ((c : Thread nD τ).loc main_arg2)) (OutSpec.wide (m ((c : Thread nD τ).loc main_arg3)) (words (m ((c : Thread nD τ).loc main_arg4)))) (i 0) (i 2)) (i 1).val := by
    refine (hF1 m ρ c 9).symm.trans ((final1_9 (V1 m ρ) c).trans ?_)
    rw [e0, e1, e2, widened]
  show StableHlo.after hostOps2 (W2 m ρ c) (Proc.devRef .tc main_v3) = _
  entry_read
  rw [h]
  funext i
  pointwise [OutSpec.scales]

theorem end_products : W3 (F := Ideal) m ρ c (Proc.devRef .tc main_v1_6) = OutSpec.products (m ((c : Thread nD τ).loc main_arg0)) (m ((c : Thread nD τ).loc main_arg1)) (m ((c : Thread nD τ).loc main_arg2)) (OutSpec.wide (m ((c : Thread nD τ).loc main_arg3)) (words (m ((c : Thread nD τ).loc main_arg4)))) := by
  rw [W3_of m ρ c main_v1_6 (by decide)]
  refine (hF1 m ρ c 10).symm.trans ((final1_10 (V1 m ρ) c).trans ?_)
  rw [e0, e1, e2, widened]
  rfl

end Cert.Proof.OutValues

end
-- ==== Proof.OutRun.lean ====
/- The kernel's run with its seven results read at the end. -/
module

public import proofs.«01_k».proof.Proof.OutValues

@[expose] public section

set_option maxRecDepth 16384

noncomputable section

namespace Cert.Proof.OutRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.OutIdeal Cert.OutIdeal.Gen

variable {F : FTy → Type} [FloatOps F] [Named F]
variable (m : (ℓ : Loc nD τ sig) → Buf (Elt F) ℓ) (ρ : Dev nD → PrngReg)

-- The launch theorem's implicit arguments are found by unfolding plain definitions in a type.
set_option backward.isDefEq.respectTransparency.types false in
/-- Every buffer that outlives the calls ends at the last boundary's contents. -/
theorem ends : θ_run defs (onTc (τ := τ) (main (F := F))) ⟨m, fun _ => 0, ρ⟩ (fun r => ∀ c : Dev nD, ∀ b ∈ Pipeline.ucRefs τ sig,
      r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end Cert.Proof.OutRun

end
-- ==== Proof.OutRef.lean ====
/- The second plain reference's payloads, index by index. -/
module

public import proofs.«01_k».proof.Proof.OutSpec
public import proofs.«01_k».proof.Proof.Ref
public import proofs.«01_k».proof.Proof.Gen.OutRefIdeal.Frame
public import Idealize.ShloMosaic.Lib.Pipeline.ValueKit
public import Idealize.ShloMosaic.Lib.Pointwise

@[expose] public section

set_option maxRecDepth 16384

noncomputable section

namespace Cert.Proof.OutRef

open Idealize.ShloMosaic Idealize.ShloMosaic.TcCoe Idealize.SL.Sem
open Cert.OutRefIdeal Cert.OutRefIdeal.Gen
open Cert.Proof.Quant (amax scaleOf codeOf)
open Cert.Proof.Ref (pow pows)

/-- The exponents of the scales of 40 blocks a row. -/
def expos40 (h : FVec Ideal S2x9216x40x32 .f32) : FVec Ideal S2x9216x40 .f32 :=
  have v4 : FVec Ideal S2x9216x40x32 .f32 := absf h
  have v5 : FVec Ideal S2x9216x40 .f32 := multiReduction .maximumf [3] S2x9216x40 v4 0xFF800000#32 reduces_S2x9216x40x32_S2x9216x40 (.inl rfl) rfl
  have cst_3 : Ideal .f32 := Scalar.ofBits .f32 0x3B124925#32
  have v6 : FVec Ideal S2x9216x40 .f32 := broadcast S2x9216x40 cst_3
  have v7 : FVec Ideal S2x9216x40 .f32 := mulf v5 v6
  have v8 : FVec Ideal S2x9216x40 .f32 := log v7
  have cst_4 : Ideal .f32 := Named.named κ "log_two" 0x3F317218#32
  have v9 : FVec Ideal S2x9216x40 .f32 := broadcast S2x9216x40 cst_4
  have v10 : FVec Ideal S2x9216x40 .f32 := divf v8 v9
  have v11 : FVec Ideal S2x9216x40 .f32 := floor v10
  have cst_5 : Ideal .f32 := Scalar.ofBits .f32 0x3F800000#32
  have v12 : FVec Ideal S2x9216x40 .f32 := broadcast S2x9216x40 cst_5
  have v13 : FVec Ideal S2x9216x40 .f32 := addf v11 v12
  have cst_6 : Ideal .f32 := Scalar.ofBits .f32 0x00000000#32
  have v14 : FVec Ideal S2x9216x40 .f32 := broadcast S2x9216x40 cst_6
  have v15 : IVec S2x9216x40 1 := cmpf .oeq v5 v14
  have cst_7 : Ideal .f32 := Scalar.ofBits .f32 0x00000000#32
  have v16 : FVec Ideal S2x9216x40 .f32 := broadcast S2x9216x40 cst_7
  have v17 : FVec Ideal S2x9216x40 .f32 := select v15 v16 v13
  v17

/-- The codes of 40 blocks a row, from the exponents. -/
def codes40 (h : FVec Ideal S2x9216x40x32 .f32) (e : FVec Ideal S2x9216x40 .f32) : FVec Ideal S2x9216x40x32 .fp8e4m3 :=
  have cst_8 : Ideal .f32 := Scalar.ofBits .f32 0x00000000#32
  have v18 : FVec Ideal S2x9216x40 .f32 := broadcast S2x9216x40 cst_8
  have v19 : FVec Ideal S2x9216x40 .f32 := subf v18 e
  have v20 : FVec Ideal S2x9216x40 .f32 := exp2 v19
  have v21 : FVec Ideal S2x9216x40x1 .f32 := shapeCast S2x9216x40x1 v20 shapeCasts_S2x9216x40_S2x9216x40x1
  have v22 : FVec Ideal S2x9216x40x32 .f32 := broadcastTo S2x9216x40x32 v21 broadcasts_S2x9216x40x1_S2x9216x40x32
  have v23 : FVec Ideal S2x9216x40x32 .f32 := mulf h v22
  have cst_9 : Ideal .f32 := Scalar.ofBits .f32 0xC3E00000#32
  have cst_10 : Ideal .f32 := Scalar.ofBits .f32 0x43E00000#32
  have v24 : FVec Ideal S2x9216x40x32 .f32 := broadcast S2x9216x40x32 cst_9
  have v25 : FVec Ideal S2x9216x40x32 .f32 := maximumf v24 v23
  have v26 : FVec Ideal S2x9216x40x32 .f32 := broadcast S2x9216x40x32 cst_10
  have v27 : FVec Ideal S2x9216x40x32 .f32 := minimumf v26 v25
  have v28 : FVec Ideal S2x9216x40x32 .fp8e4m3 := truncf .fp8e4m3 v27 bitsLt_fp8e4m3_f32
  v28

/-- Codes times scales, 40 blocks a row. -/
def backs40 (q : FVec Ideal S2x9216x40x32 .fp8e4m3) (s : FVec Ideal S2x9216x40 .f32) : FVec Ideal S2x9216x1280 .bf16 :=
  have v31 : FVec Ideal S2x9216x40x32 .bf16 := extf .bf16 q bitsLt_fp8e4m3_bf16
  have v32 : FVec Ideal S2x9216x40 .bf16 := truncf .bf16 s bitsLt_bf16_f32
  have v33 : FVec Ideal S2x9216x40x1 .bf16 := shapeCast S2x9216x40x1 v32 shapeCasts_S2x9216x40_S2x9216x40x1
  have v34 : FVec Ideal S2x9216x40x32 .bf16 := broadcastTo S2x9216x40x32 v33 broadcasts_S2x9216x40x1_S2x9216x40x32
  have v35 : FVec Ideal S2x9216x40x32 .bf16 := mulf v31 v34
  have v36 : FVec Ideal S2x9216x1280 .bf16 := shapeCast S2x9216x1280 v35 shapeCasts_S2x9216x40x32_S2x9216x1280
  v36

/-- The largest magnitude of each block, as the maximum over its axis. -/
theorem largest40_apply {H : Fin 2 → Fin 9216 → ℕ → EReal} {h : FVec Ideal S2x9216x40x32 .f32} (hh : ∀ b r n l, h (ix4 b r n l) = H b r (32 * n.val + l.val))
    (b : Fin 2) (r : Fin 9216) (n : Fin 40) :
    multiReduction .maximumf [3] S2x9216x40 (absf h) 0xFF800000#32 reduces_S2x9216x40x32_S2x9216x40 (.inl rfl) rfl (ix3 b r n) = amax (H b r) n.val := by
  pointwise
  rw [Ref.ninf, ← Ref.amax_fin]
  simp only [hh]
  rfl

/-- The exponent of a block's scale, from its largest magnitude. -/
theorem expo40_apply (a : FVec Ideal S2x9216x40 .f32) (b : Fin 2) (r : Fin 9216) (n : Fin 40) :
    select (cmpf .oeq a (broadcast S2x9216x40 (Scalar.ofBits (F := Ideal) .f32 0x00000000#32))) (broadcast S2x9216x40 (Scalar.ofBits (F := Ideal) .f32 0x00000000#32))
      (addf (floor (divf (log (mulf a (broadcast S2x9216x40 (Scalar.ofBits (F := Ideal) .f32 0x3B124925#32)))) (broadcast S2x9216x40 (Named.named (F := Ideal) κ "log_two" 0x3F317218#32))))
        (broadcast S2x9216x40 (Scalar.ofBits (F := Ideal) .f32 0x3F800000#32))) (ix3 b r n) = Scale.expo (a (ix3 b r n)) := by
  pointwise
  rfl

theorem expos40_apply {H : Fin 2 → Fin 9216 → ℕ → EReal} {h : FVec Ideal S2x9216x40x32 .f32} (hh : ∀ b r n l, h (ix4 b r n l) = H b r (32 * n.val + l.val))
    (b : Fin 2) (r : Fin 9216) (n : Fin 40) : expos40 h (ix3 b r n) = Scale.expo (amax (H b r) n.val) := by
  rw [← largest40_apply hh b r n]
  exact expo40_apply (multiReduction .maximumf [3] S2x9216x40 (absf h) 0xFF800000#32 reduces_S2x9216x40x32_S2x9216x40 (.inl rfl) rfl) b r n

theorem codes40_apply {H : Fin 2 → Fin 9216 → ℕ → EReal} {h : FVec Ideal S2x9216x40x32 .f32} (hh : ∀ b r n l, h (ix4 b r n l) = H b r (32 * n.val + l.val))
    {e : FVec Ideal S2x9216x40 .f32} (he : ∀ b r n, e (ix3 b r n) = Scale.expo (amax (H b r) n.val))
    (b : Fin 2) (r : Fin 9216) (n : Fin 40) (l : Fin 32) : codes40 h e (ix4 b r n l) = codeOf (H b r) (32 * n.val + l.val) := by
  unfold codes40
  pointwise
  rw [he, hh, zero_sub]
  unfold codeOf
  rw [show (32 * n.val + l.val) / 32 = n.val by omega]
  rfl

/-- Codes as stored. -/
theorem join40_apply {e : FTy} (q : FVec Ideal S2x9216x40x32 e) {Q : Fin 2 → Fin 9216 → ℕ → EReal} (hq : ∀ b r n l, q (ix4 b r n l) = Q b r (32 * n.val + l.val))
    (b : Fin 2) (r : Fin 9216) (k : Fin 1280) : shapeCast S2x9216x1280 q shapeCasts_S2x9216x40x32_S2x9216x1280 (ix3 b r k) = Q b r k.val := by
  pointwise
  rw [hq]
  refine congrArg _ ?_
  show 32 * (k.val / 32) + k.val % 32 = k.val
  omega

/-- A row cut into blocks. -/
theorem split40_apply {e : FTy} (v : FVec Ideal S2x9216x1280 e) {Q : Fin 2 → Fin 9216 → ℕ → EReal} (hq : ∀ b r k, v (ix3 b r k) = Q b r k.val)
    (b : Fin 2) (r : Fin 9216) (n : Fin 40) (l : Fin 32) : shapeCast S2x9216x40x32 v shapeCasts_S2x9216x1280_S2x9216x40x32 (ix4 b r n l) = Q b r (32 * n.val + l.val) := by
  pointwise
  rw [hq]
  refine congrArg _ ?_
  show n.val * 32 + l.val = 32 * n.val + l.val
  omega

theorem backs40_apply {H : Fin 2 → Fin 9216 → ℕ → EReal} {q : FVec Ideal S2x9216x40x32 .fp8e4m3} (hq : ∀ b r n l, q (ix4 b r n l) = codeOf (H b r) (32 * n.val + l.val))
    {s : FVec Ideal S2x9216x40 .f32} (hs : ∀ b r n, s (ix3 b r n) = scaleOf (H b r) n.val) (b : Fin 2) (r : Fin 9216) (k : Fin 1280) :
    backs40 q s (ix3 b r k) = Spec.back (H b r) k.val := by
  unfold backs40 Spec.back
  pointwise
  rw [hq, hs, show (32 * (⟨k.val / 32, by omega⟩ : Fin 40).val + (⟨k.val % 32, by omega⟩ : Fin 32).val) = k.val by dsimp only; omega]

/-- The exponents of the scales of 80 blocks a row. -/
def expos80 (h : FVec Ideal S2x9216x80x32 .f32) : FVec Ideal S2x9216x80 .f32 :=
  have v89 : FVec Ideal S2x9216x80x32 .f32 := absf h
  have v90 : FVec Ideal S2x9216x80 .f32 := multiReduction .maximumf [3] S2x9216x80 v89 0xFF800000#32 reduces_S2x9216x80x32_S2x9216x80 (.inl rfl) rfl
  have cst_39 : Ideal .f32 := Scalar.ofBits .f32 0x3B124925#32
  have v91 : FVec Ideal S2x9216x80 .f32 := broadcast S2x9216x80 cst_39
  have v92 : FVec Ideal S2x9216x80 .f32 := mulf v90 v91
  have v93 : FVec Ideal S2x9216x80 .f32 := log v92
  have cst_40 : Ideal .f32 := Named.named κ "log_two" 0x3F317218#32
  have v94 : FVec Ideal S2x9216x80 .f32 := broadcast S2x9216x80 cst_40
  have v95 : FVec Ideal S2x9216x80 .f32 := divf v93 v94
  have v96 : FVec Ideal S2x9216x80 .f32 := floor v95
  have cst_41 : Ideal .f32 := Scalar.ofBits .f32 0x3F800000#32
  have v97 : FVec Ideal S2x9216x80 .f32 := broadcast S2x9216x80 cst_41
  have v98 : FVec Ideal S2x9216x80 .f32 := addf v96 v97
  have cst_42 : Ideal .f32 := Scalar.ofBits .f32 0x00000000#32
  have v99 : FVec Ideal S2x9216x80 .f32 := broadcast S2x9216x80 cst_42
  have v100 : IVec S2x9216x80 1 := cmpf .oeq v90 v99
  have cst_43 : Ideal .f32 := Scalar.ofBits .f32 0x00000000#32
  have v101 : FVec Ideal S2x9216x80 .f32 := broadcast S2x9216x80 cst_43
  have v102 : FVec Ideal S2x9216x80 .f32 := select v100 v101 v98
  v102

/-- The codes of 80 blocks a row, from the exponents. -/
def codes80 (h : FVec Ideal S2x9216x80x32 .f32) (e : FVec Ideal S2x9216x80 .f32) : FVec Ideal S2x9216x80x32 .fp8e4m3 :=
  have cst_44 : Ideal .f32 := Scalar.ofBits .f32 0x00000000#32
  have v103 : FVec Ideal S2x9216x80 .f32 := broadcast S2x9216x80 cst_44
  have v104 : FVec Ideal S2x9216x80 .f32 := subf v103 e
  have v105 : FVec Ideal S2x9216x80 .f32 := exp2 v104
  have v106 : FVec Ideal S2x9216x80x1 .f32 := shapeCast S2x9216x80x1 v105 shapeCasts_S2x9216x80_S2x9216x80x1
  have v107 : FVec Ideal S2x9216x80x32 .f32 := broadcastTo S2x9216x80x32 v106 broadcasts_S2x9216x80x1_S2x9216x80x32
  have v108 : FVec Ideal S2x9216x80x32 .f32 := mulf h v107
  have cst_45 : Ideal .f32 := Scalar.ofBits .f32 0xC3E00000#32
  have cst_46 : Ideal .f32 := Scalar.ofBits .f32 0x43E00000#32
  have v109 : FVec Ideal S2x9216x80x32 .f32 := broadcast S2x9216x80x32 cst_45
  have v110 : FVec Ideal S2x9216x80x32 .f32 := maximumf v109 v108
  have v111 : FVec Ideal S2x9216x80x32 .f32 := broadcast S2x9216x80x32 cst_46
  have v112 : FVec Ideal S2x9216x80x32 .f32 := minimumf v111 v110
  have v113 : FVec Ideal S2x9216x80x32 .fp8e4m3 := truncf .fp8e4m3 v112 bitsLt_fp8e4m3_f32
  v113

/-- Codes times scales, 80 blocks a row. -/
def backs80 (q : FVec Ideal S2x9216x80x32 .fp8e4m3) (s : FVec Ideal S2x9216x80 .f32) : FVec Ideal S2x9216x2560 .bf16 :=
  have v116 : FVec Ideal S2x9216x80x32 .bf16 := extf .bf16 q bitsLt_fp8e4m3_bf16
  have v117 : FVec Ideal S2x9216x80 .bf16 := truncf .bf16 s bitsLt_bf16_f32
  have v118 : FVec Ideal S2x9216x80x1 .bf16 := shapeCast S2x9216x80x1 v117 shapeCasts_S2x9216x80_S2x9216x80x1
  have v119 : FVec Ideal S2x9216x80x32 .bf16 := broadcastTo S2x9216x80x32 v118 broadcasts_S2x9216x80x1_S2x9216x80x32
  have v120 : FVec Ideal S2x9216x80x32 .bf16 := mulf v116 v119
  have v121 : FVec Ideal S2x9216x2560 .bf16 := shapeCast S2x9216x2560 v120 shapeCasts_S2x9216x80x32_S2x9216x2560
  v121

/-- The largest magnitude of each block, as the maximum over its axis. -/
theorem largest80_apply {H : Fin 2 → Fin 9216 → ℕ → EReal} {h : FVec Ideal S2x9216x80x32 .f32} (hh : ∀ b r n l, h (ix4 b r n l) = H b r (32 * n.val + l.val))
    (b : Fin 2) (r : Fin 9216) (n : Fin 80) :
    multiReduction .maximumf [3] S2x9216x80 (absf h) 0xFF800000#32 reduces_S2x9216x80x32_S2x9216x80 (.inl rfl) rfl (ix3 b r n) = amax (H b r) n.val := by
  pointwise
  rw [Ref.ninf, ← Ref.amax_fin]
  simp only [hh]
  rfl

/-- The exponent of a block's scale, from its largest magnitude. -/
theorem expo80_apply (a : FVec Ideal S2x9216x80 .f32) (b : Fin 2) (r : Fin 9216) (n : Fin 80) :
    select (cmpf .oeq a (broadcast S2x9216x80 (Scalar.ofBits (F := Ideal) .f32 0x00000000#32))) (broadcast S2x9216x80 (Scalar.ofBits (F := Ideal) .f32 0x00000000#32))
      (addf (floor (divf (log (mulf a (broadcast S2x9216x80 (Scalar.ofBits (F := Ideal) .f32 0x3B124925#32)))) (broadcast S2x9216x80 (Named.named (F := Ideal) κ "log_two" 0x3F317218#32))))
        (broadcast S2x9216x80 (Scalar.ofBits (F := Ideal) .f32 0x3F800000#32))) (ix3 b r n) = Scale.expo (a (ix3 b r n)) := by
  pointwise
  rfl

theorem expos80_apply {H : Fin 2 → Fin 9216 → ℕ → EReal} {h : FVec Ideal S2x9216x80x32 .f32} (hh : ∀ b r n l, h (ix4 b r n l) = H b r (32 * n.val + l.val))
    (b : Fin 2) (r : Fin 9216) (n : Fin 80) : expos80 h (ix3 b r n) = Scale.expo (amax (H b r) n.val) := by
  rw [← largest80_apply hh b r n]
  exact expo80_apply (multiReduction .maximumf [3] S2x9216x80 (absf h) 0xFF800000#32 reduces_S2x9216x80x32_S2x9216x80 (.inl rfl) rfl) b r n

theorem codes80_apply {H : Fin 2 → Fin 9216 → ℕ → EReal} {h : FVec Ideal S2x9216x80x32 .f32} (hh : ∀ b r n l, h (ix4 b r n l) = H b r (32 * n.val + l.val))
    {e : FVec Ideal S2x9216x80 .f32} (he : ∀ b r n, e (ix3 b r n) = Scale.expo (amax (H b r) n.val))
    (b : Fin 2) (r : Fin 9216) (n : Fin 80) (l : Fin 32) : codes80 h e (ix4 b r n l) = codeOf (H b r) (32 * n.val + l.val) := by
  unfold codes80
  pointwise
  rw [he, hh, zero_sub]
  unfold codeOf
  rw [show (32 * n.val + l.val) / 32 = n.val by omega]
  rfl

/-- Codes as stored. -/
theorem join80_apply {e : FTy} (q : FVec Ideal S2x9216x80x32 e) {Q : Fin 2 → Fin 9216 → ℕ → EReal} (hq : ∀ b r n l, q (ix4 b r n l) = Q b r (32 * n.val + l.val))
    (b : Fin 2) (r : Fin 9216) (k : Fin 2560) : shapeCast S2x9216x2560 q shapeCasts_S2x9216x80x32_S2x9216x2560 (ix3 b r k) = Q b r k.val := by
  pointwise
  rw [hq]
  refine congrArg _ ?_
  show 32 * (k.val / 32) + k.val % 32 = k.val
  omega

/-- A row cut into blocks. -/
theorem split80_apply {e : FTy} (v : FVec Ideal S2x9216x2560 e) {Q : Fin 2 → Fin 9216 → ℕ → EReal} (hq : ∀ b r k, v (ix3 b r k) = Q b r k.val)
    (b : Fin 2) (r : Fin 9216) (n : Fin 80) (l : Fin 32) : shapeCast S2x9216x80x32 v shapeCasts_S2x9216x2560_S2x9216x80x32 (ix4 b r n l) = Q b r (32 * n.val + l.val) := by
  pointwise
  rw [hq]
  refine congrArg _ ?_
  show n.val * 32 + l.val = 32 * n.val + l.val
  omega

theorem backs80_apply {H : Fin 2 → Fin 9216 → ℕ → EReal} {q : FVec Ideal S2x9216x80x32 .fp8e4m3} (hq : ∀ b r n l, q (ix4 b r n l) = codeOf (H b r) (32 * n.val + l.val))
    {s : FVec Ideal S2x9216x80 .f32} (hs : ∀ b r n, s (ix3 b r n) = scaleOf (H b r) n.val) (b : Fin 2) (r : Fin 9216) (k : Fin 2560) :
    backs80 q s (ix3 b r k) = Spec.back (H b r) k.val := by
  unfold backs80 Spec.back
  pointwise
  rw [hq, hs, show (32 * (⟨k.val / 32, by omega⟩ : Fin 80).val + (⟨k.val % 32, by omega⟩ : Fin 32).val) = k.val by dsimp only; omega]

section Root

theorem eps_eq : ∃ r : ℝ, 0 < r ∧ Ideal.ofBits .f32 0x358637BD#32 = (r : EReal) := by
  refine ⟨_, ?_, by simp [Ideal.ofBits, Ideal.ieee, -EReal.coe_mul]; rfl⟩
  positivity

theorem count_eq : Ideal.ofBits .f32 0x45200000#32 = ((2560 : ℝ) : EReal) := by
  simp [Ideal.ofBits, Ideal.ieee, -EReal.coe_mul]; norm_num

theorem sq_nonneg' (x : EReal) : 0 ≤ x * x := by
  rcases le_total 0 x with h | h
  · exact mul_nonneg h h
  · rw [← neg_mul_neg]
    exact mul_nonneg (EReal.neg_nonneg.mpr h) (EReal.neg_nonneg.mpr h)

theorem meanSq_pos (y : ℕ → EReal) : 0 < OutSpec.meanSq y := by
  unfold OutSpec.meanSq
  obtain ⟨r, hr, e⟩ := eps_eq
  rw [e, count_eq]
  have hn : (0 : EReal) ≤ Ideal.div (∑ j : Fin 2560, y j.val * y j.val) ((2560 : ℝ) : EReal) := by
    unfold Ideal.div
    rw [if_neg (by exact_mod_cast (by norm_num : (2560 : ℝ) ≠ 0))]
    refine mul_nonneg (Finset.sum_nonneg fun j _ => sq_nonneg' _) ?_
    rw [← EReal.coe_inv]
    exact_mod_cast (by norm_num : (0 : ℝ) ≤ (2560 : ℝ)⁻¹)
  refine lt_of_lt_of_le (show (0 : EReal) < (r : EReal) from by exact_mod_cast hr) ?_
  exact le_add_of_nonneg_left hn

theorem sqrt_ne {x : EReal} (h : 0 < x) : Ideal.sqrt x ≠ 0 := by
  induction x using EReal.rec with
  | bot => exact absurd h (by simp)
  | top =>
    show (⊤ : EReal) ≠ 0
    simp
  | coe r =>
    have hr : 0 < r := by exact_mod_cast h
    show (if r < 0 then (⊥ : EReal) else (Real.sqrt r : EReal)) ≠ 0
    rw [if_neg (not_lt.mpr hr.le)]
    exact_mod_cast (Real.sqrt_pos.mpr hr).ne'

/-- Dividing by the root is multiplying by its inverse. -/
theorem over_root (a : EReal) (y : ℕ → EReal) : Ideal.div a (Ideal.sqrt (OutSpec.meanSq y)) = a * Ideal.div 1 (Ideal.sqrt (OutSpec.meanSq y)) := by
  unfold Ideal.div
  rw [if_neg (sqrt_ne (meanSq_pos y)), if_neg (sqrt_ne (meanSq_pos y)), one_mul]

end Root

/-- A power of two at an index. -/
theorem exp2_at {S : Shape} (e : FVec Ideal S .f32) (i : S.Idx) {a : EReal} (h : e i = a) : exp2 e i = Ideal.exp2 a := congrArg Ideal.exp2 h

section Heads

variable (o : Vec Ideal S2x10x9216x128 .f32)

theorem pay1_apply (b : Fin 2) (r : Fin 9216) (k : Fin 1280) : k0_pay1 (F := Ideal) o (ix3 b r k) = OutSpec.attn o b r k.val := by
  unfold k0_pay1 OutSpec.attn
  rw [dif_pos (by omega)]
  pointwise

theorem pay2_apply (b : Fin 2) (r : Fin 9216) (n : Fin 40) (l : Fin 32) : k0_pay2 (F := Ideal) o (ix4 b r n l) = OutSpec.attn o b r (32 * n.val + l.val) :=
  split40_apply (k0_pay1 (F := Ideal) o) (pay1_apply o) b r n l

theorem pay3_apply (b : Fin 2) (r : Fin 9216) (n : Fin 40) : k0_pay3 (F := Ideal) o (ix3 b r n) = Scale.expo (amax (OutSpec.attn o b r) n.val) :=
  expos40_apply (pay2_apply o) b r n

theorem pay4_apply (b : Fin 2) (r : Fin 9216) (n : Fin 40) (l : Fin 32) : k0_pay4 (F := Ideal) o (ix4 b r n l) = codeOf (OutSpec.attn o b r) (32 * n.val + l.val) :=
  codes40_apply (pay2_apply o) (pay3_apply o) b r n l

theorem pay5_apply (b : Fin 2) (r : Fin 9216) (n : Fin 40) : k0_pay5 (F := Ideal) o (ix3 b r n) = scaleOf (OutSpec.attn o b r) n.val := by
  unfold k0_pay5 scaleOf
  exact exp2_at _ _ (pay3_apply o b r n)

theorem pay6_apply (b : Fin 2) (r : Fin 9216) (k : Fin 1280) : k0_pay6 (F := Ideal) o (ix3 b r k) = codeOf (OutSpec.attn o b r) k.val :=
  join40_apply (k0_pay4 (F := Ideal) o) (Q := fun b r c => codeOf (OutSpec.attn o b r) c) (pay4_apply o) b r k

theorem pay7_apply (b : Fin 2) (r : Fin 9216) (k : Fin 1280) : k0_pay7 (F := Ideal) o (ix3 b r k) = Spec.back (OutSpec.attn o b r) k.val :=
  backs40_apply (pay4_apply o) (pay5_apply o) b r k

theorem pay8_apply (b : Fin 2) (r : Fin 9216) (k : Fin 1280) : k0_pay8 (F := Ideal) o (ix3 b r k) = OutSpec.attn o b r k.val :=
  pay1_apply o b r k

end Heads

section Project

/-- The residual plus the modulated projection. -/
theorem pay9_apply (a : FVec Ideal S2x9216x1280 .bf16) (s : Vec Ideal S40x2560 .i8) (w : Vec Ideal S1280x2560 .fp8e4m3) (md : Vec Ideal S2x6x2560 .f32) (x : Vec Ideal S2x9216x2560 .bf16)
    (b : Fin 2) (r : Fin 9216) (j : Fin 2560) : k0_pay9 (F := Ideal) a s w md x (ix3 b r j)
      = x (ix3 b r j) + md (ix3 b 2 j) * ∑ k : Fin 1280, a (ix3 b r k) * (w (ix2 k j) * pow (s (ix2 ⟨k.val / 32, by omega⟩ j))) := by
  unfold k0_pay9
  pointwise
  rfl

/-- A row over the root of its mean square. -/
def rooted (y : FVec Ideal S2x9216x2560 .f32) : FVec Ideal S2x9216x2560 .f32 :=
  have v66 : FVec Ideal S2x9216x2560 .f32 := mulf y y
  have v67 : FVec Ideal S2x9216 .f32 := multiReduction .add [2] S2x9216 v66 0x00000000#32 reduces_S2x9216x2560_S2x9216 (.inl rfl) rfl
  have v68 : FVec Ideal S2x9216x1 .f32 := shapeCast S2x9216x1 v67 shapeCasts_S2x9216_S2x9216x1
  have cst_35 : Ideal .f32 := Scalar.ofBits .f32 0x45200000#32
  have v69 : FVec Ideal S2x9216x1 .f32 := broadcast S2x9216x1 cst_35
  have v70 : FVec Ideal S2x9216x1 .f32 := divf v68 v69
  have cst_36 : Ideal .f32 := Scalar.ofBits .f32 0x358637BD#32
  have v71 : FVec Ideal S2x9216x1 .f32 := broadcast S2x9216x1 cst_36
  have v72 : FVec Ideal S2x9216x1 .f32 := addf v70 v71
  have v73 : FVec Ideal S2x9216x1 .f32 := sqrt v72
  have v74 : FVec Ideal S2x9216x2560 .f32 := broadcastTo S2x9216x2560 v73 broadcasts_S2x9216x1_S2x9216x2560
  have v75 : FVec Ideal S2x9216x2560 .f32 := divf y v74
  v75

theorem rooted_apply (y : FVec Ideal S2x9216x2560 .f32) {Y : Fin 2 → Fin 9216 → ℕ → EReal} (hy : ∀ b r k, y (ix3 b r k) = Y b r k.val)
    (b : Fin 2) (r : Fin 9216) (j : Fin 2560) : rooted y (ix3 b r j) = Ideal.div (Y b r j.val) (Ideal.sqrt (OutSpec.meanSq (Y b r))) := by
  unfold rooted OutSpec.meanSq
  pointwise
  simp only [hy]

/-- The scaled and shifted rows. -/
def shifted (md : Vec Ideal S2x6x2560 .f32) (z : FVec Ideal S2x9216x2560 .f32) : FVec Ideal S2x9216x2560 .f32 :=
  have v76 : FVec Ideal S2x1x2560 .f32 := extractStridedSlice S2x1x2560 ![0, 4, 0] md slices_S2x6x2560_o0_4_0_S2x1x2560
  have v77 : FVec Ideal S2x2560 .f32 := shapeCast S2x2560 v76 shapeCasts_S2x1x2560_S2x2560
  have v78 : FVec Ideal S2x1x2560 .f32 := shapeCast S2x1x2560 v77 shapeCasts_S2x2560_S2x1x2560
  have cst_37 : Ideal .f32 := Scalar.ofBits .f32 0x3F800000#32
  have v79 : FVec Ideal S2x1x2560 .f32 := broadcast S2x1x2560 cst_37
  have v80 : FVec Ideal S2x1x2560 .f32 := addf v79 v78
  have v81 : FVec Ideal S2x9216x2560 .f32 := broadcastTo S2x9216x2560 v80 broadcasts_S2x1x2560_S2x9216x2560
  have v82 : FVec Ideal S2x9216x2560 .f32 := mulf z v81
  have v83 : FVec Ideal S2x1x2560 .f32 := extractStridedSlice S2x1x2560 ![0, 3, 0] md slices_S2x6x2560_o0_3_0_S2x1x2560
  have v84 : FVec Ideal S2x2560 .f32 := shapeCast S2x2560 v83 shapeCasts_S2x1x2560_S2x2560
  have v85 : FVec Ideal S2x1x2560 .f32 := shapeCast S2x1x2560 v84 shapeCasts_S2x2560_S2x1x2560
  have v86 : FVec Ideal S2x9216x2560 .f32 := broadcastTo S2x9216x2560 v85 broadcasts_S2x1x2560_S2x9216x2560
  have v87 : FVec Ideal S2x9216x2560 .f32 := addf v82 v86
  v87

theorem shifted_apply (md : Vec Ideal S2x6x2560 .f32) (z : FVec Ideal S2x9216x2560 .f32) (b : Fin 2) (r : Fin 9216) (j : Fin 2560) :
    shifted md z (ix3 b r j) = z (ix3 b r j) * (1 + md (ix3 b 4 j)) + md (ix3 b 3 j) := by
  unfold shifted
  pointwise

/-- They, cut into blocks. -/
theorem pay11_apply (md : Vec Ideal S2x6x2560 .f32) (z : FVec Ideal S2x9216x2560 .f32) {Z : Fin 2 → Fin 9216 → ℕ → EReal}
    (hz : ∀ b r (j : Fin 2560), z (ix3 b r j) * (1 + md (ix3 b 4 j)) + md (ix3 b 3 j) = Z b r j.val)
    (b : Fin 2) (r : Fin 9216) (n : Fin 80) (l : Fin 32) : k0_pay11 (F := Ideal) md z (ix4 b r n l) = Z b r (32 * n.val + l.val) := by
  exact split80_apply (shifted md z) (fun b r k => (shifted_apply md z b r k).trans (hz b r k)) b r n l

variable (md : Vec Ideal S2x6x2560 .f32) (z : FVec Ideal S2x9216x2560 .f32) {Z : Fin 2 → Fin 9216 → ℕ → EReal}
  (h : ∀ b r n l, k0_pay11 (F := Ideal) md z (ix4 b r n l) = Z b r (32 * n.val + l.val))

include h

theorem pay12_apply (b : Fin 2) (r : Fin 9216) (n : Fin 80) : k0_pay12 (F := Ideal) md z (ix3 b r n) = Scale.expo (amax (Z b r) n.val) :=
  expos80_apply h b r n

theorem pay13_apply (b : Fin 2) (r : Fin 9216) (n : Fin 80) (l : Fin 32) : k0_pay13 (F := Ideal) md z (ix4 b r n l) = codeOf (Z b r) (32 * n.val + l.val) :=
  codes80_apply h (pay12_apply md z h) b r n l

theorem pay14_apply (b : Fin 2) (r : Fin 9216) (n : Fin 80) : k0_pay14 (F := Ideal) md z (ix3 b r n) = scaleOf (Z b r) n.val := by
  unfold k0_pay14 scaleOf
  exact exp2_at _ _ (pay12_apply md z h b r n)

theorem pay15_apply (b : Fin 2) (r : Fin 9216) (k : Fin 2560) : k0_pay15 (F := Ideal) md z (ix3 b r k) = codeOf (Z b r) k.val :=
  join80_apply (k0_pay13 (F := Ideal) md z) (Q := fun b r c => codeOf (Z b r) c) (pay13_apply md z h) b r k

theorem pay16_apply (b : Fin 2) (r : Fin 9216) (k : Fin 2560) : k0_pay16 (F := Ideal) md z (ix3 b r k) = Spec.back (Z b r) k.val :=
  backs80_apply (pay13_apply md z h) (pay14_apply md z h) b r k

end Project

end Cert.Proof.OutRef

end
-- ==== Proof.OutRefRun.lean ====
/- The second plain reference's run: its seven results as plain sums of its arguments. -/
module

public import proofs.«01_k».proof.Proof.OutRef
public import proofs.«01_k».proof.Proof.Widen

@[expose] public section

set_option maxRecDepth 16384

noncomputable section

namespace Cert.Proof.OutRefRun

open Idealize.ShloMosaic Idealize.ShloMosaic.TcCoe Idealize.SL.Sem
open Cert.OutRefIdeal Cert.OutRefIdeal.Gen Cert.Proof.OutRef
open Cert.Proof.Quant (amax scaleOf codeOf)
open Cert.Proof.Ref (pow pows)

section Outs

variable (x0 : Vec Ideal S2x10x9216x128 .f32) (x1 : Vec Ideal S2x9216x2560 .bf16) (x2 : Vec Ideal S2x6x2560 .f32) (x3 : Vec Ideal S1280x2560 .fp8e4m3) (x4 : Vec Ideal S40x2560 .i8)

theorem back_at (b : Fin 2) (r : Fin 9216) (k : Fin 1280) : k0_pay17 (F := Ideal) x0 x1 x2 x3 x4 (ix3 b r k) = Spec.back (OutSpec.attn x0 b r) k.val := by
  unfold k0_pay17
  rw [Widen.ld_all x0 _ (by decide)]
  exact pay7_apply x0 b r k

/-- The projection from a row of quantised heads. -/
theorem proj_of {a : FVec Ideal S2x9216x1280 .bf16} (ha : ∀ b r k, a (ix3 b r k) = Spec.back (OutSpec.attn x0 b r) k.val) (b : Fin 2) (r : Fin 9216) (j : Fin 2560) :
    k0_pay9 (F := Ideal) a x4 x3 x2 x1 (ix3 b r j) = OutSpec.proj x0 x1 x2 (OutSpec.wide x3 (pows x4)) b r j.val := by
  rw [pay9_apply]
  unfold OutSpec.proj
  have e : (⟨j.val % 2560, Nat.mod_lt _ (by decide)⟩ : Fin 2560) = j := Fin.ext (Nat.mod_eq_of_lt j.isLt)
  rw [e]
  refine Ideal.add_congr rfl (Ideal.mul_congr rfl (Finset.sum_congr rfl fun k _ => Ideal.mul_congr (ha b r k) rfl))

theorem rooted_of {a : FVec Ideal S2x9216x1280 .bf16} (ha : ∀ b r k, a (ix3 b r k) = Spec.back (OutSpec.attn x0 b r) k.val) (b : Fin 2) (r : Fin 9216) (j : Fin 2560) :
    k0_pay10 (F := Ideal) a x4 x3 x2 x1 (ix3 b r j) = Ideal.div (OutSpec.proj x0 x1 x2 (OutSpec.wide x3 (pows x4)) b r j.val)
      (Ideal.sqrt (OutSpec.meanSq (OutSpec.proj x0 x1 x2 (OutSpec.wide x3 (pows x4)) b r))) :=
  rooted_apply (k0_pay9 (F := Ideal) a x4 x3 x2 x1) (proj_of x0 x1 x2 x3 x4 ha) b r j

theorem root_at (b : Fin 2) (r : Fin 9216) (j : Fin 2560) :
    k0_pay18 (F := Ideal) x0 x1 x2 x3 x4 (ix3 b r j) = Ideal.div (OutSpec.proj x0 x1 x2 (OutSpec.wide x3 (pows x4)) b r j.val)
      (Ideal.sqrt (OutSpec.meanSq (OutSpec.proj x0 x1 x2 (OutSpec.wide x3 (pows x4)) b r))) := by
  unfold k0_pay18
  rw [Widen.ld_all x1 _ (by decide), Widen.ld_all x2 _ (by decide), Widen.ld_all x3 _ (by decide), Widen.ld_all x4 _ (by decide)]
  exact rooted_of x0 x1 x2 x3 x4 (back_at x0 x1 x2 x3 x4) b r j

/-- The normalized rows cut into blocks, from rows already over their root. -/
theorem norm_of {W : Spec.Tokens.Idx → EReal} {w : OutSpec.Out.Idx → EReal} {z : FVec Ideal S2x9216x2560 .f32}
    (hz : ∀ b r (j : Fin 2560), z (ix3 b r j) = Ideal.div (OutSpec.proj x0 W x2 w b r j.val) (Ideal.sqrt (OutSpec.meanSq (OutSpec.proj x0 W x2 w b r))))
    (b : Fin 2) (r : Fin 9216) (n : Fin 80) (l : Fin 32) : k0_pay11 (F := Ideal) x2 z (ix4 b r n l) = OutSpec.nrm x0 W x2 w b r (32 * n.val + l.val) := by
  refine pay11_apply x2 z (Z := OutSpec.nrm x0 W x2 w) (fun b r j => ?_) b r n l
  have e : (⟨j.val % 2560, Nat.mod_lt _ (by decide)⟩ : Fin 2560) = j := Fin.ext (Nat.mod_eq_of_lt j.isLt)
  unfold OutSpec.nrm OutSpec.normed OutSpec.modRow
  rw [if_pos (by omega), hz, over_root, e]

theorem norm_at (b : Fin 2) (r : Fin 9216) (n : Fin 80) (l : Fin 32) :
    k0_pay11 (F := Ideal) x2 (k0_pay18 (F := Ideal) x0 x1 x2 x3 x4) (ix4 b r n l) = OutSpec.nrm x0 x1 x2 (OutSpec.wide x3 (pows x4)) b r (32 * n.val + l.val) :=
  norm_of x0 x2 (root_at x0 x1 x2 x3 x4) b r n l

/-- The heads side by side. -/
theorem attn_eq : out0_5 (F := Ideal) x0 x1 x2 x3 x4 = OutSpec.attnAll x0 := by
  funext i
  unfold out0_5
  rw [View.canon_cons_unit_lit _ _ _ (by decide)]
  rw [Widen.ld_all x0 _ (by decide)]
  obtain ⟨b, r, j, rfl⟩ : ∃ (b : Fin 2) (r : Fin 9216) (j : Fin 1280), i = ix3 b r j := ⟨i 0, i 1, i 2, by funext a; fin_cases a <;> rfl⟩
  exact pay8_apply x0 b r j

/-- Their codes. -/
theorem attn_codes_eq : out0_6 (F := Ideal) x0 x1 x2 x3 x4 = OutSpec.attnCodes x0 := by
  funext i
  unfold out0_6
  rw [View.canon_cons_unit_lit _ _ _ (by decide)]
  rw [Widen.ld_all x0 _ (by decide)]
  obtain ⟨b, r, j, rfl⟩ : ∃ (b : Fin 2) (r : Fin 9216) (j : Fin 1280), i = ix3 b r j := ⟨i 0, i 1, i 2, by funext a; fin_cases a <;> rfl⟩
  exact pay6_apply x0 b r j

/-- Their scales. -/
theorem attn_scales_eq : out0_7 (F := Ideal) x0 x1 x2 x3 x4 = OutSpec.attnScales x0 := by
  funext i
  unfold out0_7
  rw [View.canon_cons_unit_lit _ _ _ (by decide)]
  rw [Widen.ld_all x0 _ (by decide)]
  obtain ⟨b, r, j, rfl⟩ : ∃ (b : Fin 2) (r : Fin 9216) (j : Fin 40), i = ix3 b r j := ⟨i 0, i 1, i 2, by funext a; fin_cases a <;> rfl⟩
  exact pay5_apply x0 b r j

/-- The projection. -/
theorem proj_eq : out0_8 (F := Ideal) x0 x1 x2 x3 x4 = OutSpec.projAll x0 x1 x2 (OutSpec.wide x3 (pows x4)) := by
  funext i
  unfold out0_8
  rw [View.canon_cons_unit_lit _ _ _ (by decide)]
  rw [Widen.ld_all x4 _ (by decide)]
  rw [Widen.ld_all x3 _ (by decide)]
  rw [Widen.ld_all x2 _ (by decide)]
  rw [Widen.ld_all x1 _ (by decide)]
  obtain ⟨b, r, j, rfl⟩ : ∃ (b : Fin 2) (r : Fin 9216) (j : Fin 2560), i = ix3 b r j := ⟨i 0, i 1, i 2, by funext a; fin_cases a <;> rfl⟩
  exact proj_of x0 x1 x2 x3 x4 (back_at x0 x1 x2 x3 x4) b r j

/-- The normalized rows' codes. -/
theorem codes_eq : out0_9 (F := Ideal) x0 x1 x2 x3 x4 = OutSpec.codes x0 x1 x2 (OutSpec.wide x3 (pows x4)) := by
  funext i
  unfold out0_9
  rw [View.canon_cons_unit_lit _ _ _ (by decide)]
  rw [Widen.ld_all x2 _ (by decide)]
  obtain ⟨b, r, j, rfl⟩ : ∃ (b : Fin 2) (r : Fin 9216) (j : Fin 2560), i = ix3 b r j := ⟨i 0, i 1, i 2, by funext a; fin_cases a <;> rfl⟩
  exact pay15_apply x2 (k0_pay18 (F := Ideal) x0 x1 x2 x3 x4) (norm_at x0 x1 x2 x3 x4) b r j

/-- Their scales. -/
theorem scales_eq : out0_10 (F := Ideal) x0 x1 x2 x3 x4 = OutSpec.scales x0 x1 x2 (OutSpec.wide x3 (pows x4)) := by
  funext i
  unfold out0_10
  rw [View.canon_cons_unit_lit _ _ _ (by decide)]
  rw [Widen.ld_all x2 _ (by decide)]
  obtain ⟨b, r, j, rfl⟩ : ∃ (b : Fin 2) (r : Fin 9216) (j : Fin 80), i = ix3 b r j := ⟨i 0, i 1, i 2, by funext a; fin_cases a <;> rfl⟩
  exact pay14_apply x2 (k0_pay18 (F := Ideal) x0 x1 x2 x3 x4) (norm_at x0 x1 x2 x3 x4) b r j

/-- Codes times scales. -/
theorem products_eq : out0_11 (F := Ideal) x0 x1 x2 x3 x4 = OutSpec.products x0 x1 x2 (OutSpec.wide x3 (pows x4)) := by
  funext i
  unfold out0_11
  rw [View.canon_cons_unit_lit _ _ _ (by decide)]
  rw [Widen.ld_all x2 _ (by decide)]
  obtain ⟨b, r, j, rfl⟩ : ∃ (b : Fin 2) (r : Fin 9216) (j : Fin 2560), i = ix3 b r j := ⟨i 0, i 1, i 2, by funext a; fin_cases a <;> rfl⟩
  exact pay16_apply x2 (k0_pay18 (F := Ideal) x0 x1 x2 x3 x4) (norm_at x0 x1 x2 x3 x4) b r j

end Outs

variable (m : (ℓ : Loc nD τ sig) → Buf (Elt Ideal) ℓ) (ρ : Dev nD → PrngReg) (c : Dev nD)

theorem idx : ∀ t : Fin cfg0.N, win0_0.index t = ![0, 0, 0, 0] ∧ win0_1.index t = ![0, 0, 0] ∧ win0_2.index t = ![0, 0, 0] ∧ win0_3.index t = ![0, 0]
    ∧ win0_4.index t = ![0, 0] ∧ win0_5.index t = ![0, 0, 0] ∧ win0_6.index t = ![0, 0, 0] ∧ win0_7.index t = ![0, 0, 0] ∧ win0_8.index t = ![0, 0, 0]
    ∧ win0_9.index t = ![0, 0, 0] ∧ win0_10.index t = ![0, 0, 0] ∧ win0_11.index t = ![0, 0, 0] := by
  decide +kernel

theorem blk0 (t : Fin cfg0.N) : iblk m c 0 t = m ((c : Thread nD τ).loc main_arg0) := by
  obtain ⟨e0, e1, e2, e3, e4, e5, e6, e7, e8, e9, e10, e11⟩ := idx t
  funext y; blk_ext [iblk, V, e0]
theorem blk1 (t : Fin cfg0.N) : iblk m c 1 t = m ((c : Thread nD τ).loc main_arg1) := by
  obtain ⟨e0, e1, e2, e3, e4, e5, e6, e7, e8, e9, e10, e11⟩ := idx t
  funext y; blk_ext [iblk, V, e1]
theorem blk2 (t : Fin cfg0.N) : iblk m c 2 t = m ((c : Thread nD τ).loc main_arg2) := by
  obtain ⟨e0, e1, e2, e3, e4, e5, e6, e7, e8, e9, e10, e11⟩ := idx t
  funext y; blk_ext [iblk, V, e2]
theorem blk3 (t : Fin cfg0.N) : iblk m c 3 t = m ((c : Thread nD τ).loc main_arg3) := by
  obtain ⟨e0, e1, e2, e3, e4, e5, e6, e7, e8, e9, e10, e11⟩ := idx t
  funext y; blk_ext [iblk, V, e3]
theorem blk4 (t : Fin cfg0.N) : iblk m c 4 t = m ((c : Thread nD τ).loc main_arg4) := by
  obtain ⟨e0, e1, e2, e3, e4, e5, e6, e7, e8, e9, e10, e11⟩ := idx t
  funext y; blk_ext [iblk, V, e4]

/-- A whole block of an array is the array. -/
theorem whole5 (t : Fin cfg0.N) (y : S2x9216x1280.Idx) : (win0_5.blk t).view.emb y = y := by
  obtain ⟨e0, e1, e2, e3, e4, e5, e6, e7, e8, e9, e10, e11⟩ := idx t
  blk_ext [e5]
theorem whole6 (t : Fin cfg0.N) (y : S2x9216x1280.Idx) : (win0_6.blk t).view.emb y = y := by
  obtain ⟨e0, e1, e2, e3, e4, e5, e6, e7, e8, e9, e10, e11⟩ := idx t
  blk_ext [e6]
theorem whole7 (t : Fin cfg0.N) (y : S2x9216x40.Idx) : (win0_7.blk t).view.emb y = y := by
  obtain ⟨e0, e1, e2, e3, e4, e5, e6, e7, e8, e9, e10, e11⟩ := idx t
  blk_ext [e7]
theorem whole8 (t : Fin cfg0.N) (y : S2x9216x2560.Idx) : (win0_8.blk t).view.emb y = y := by
  obtain ⟨e0, e1, e2, e3, e4, e5, e6, e7, e8, e9, e10, e11⟩ := idx t
  blk_ext [e8]
theorem whole9 (t : Fin cfg0.N) (y : S2x9216x2560.Idx) : (win0_9.blk t).view.emb y = y := by
  obtain ⟨e0, e1, e2, e3, e4, e5, e6, e7, e8, e9, e10, e11⟩ := idx t
  blk_ext [e9]
theorem whole10 (t : Fin cfg0.N) (y : S2x9216x80.Idx) : (win0_10.blk t).view.emb y = y := by
  obtain ⟨e0, e1, e2, e3, e4, e5, e6, e7, e8, e9, e10, e11⟩ := idx t
  blk_ext [e10]
theorem whole11 (t : Fin cfg0.N) (y : S2x9216x2560.Idx) : (win0_11.blk t).view.emb y = y := by
  obtain ⟨e0, e1, e2, e3, e4, e5, e6, e7, e8, e9, e10, e11⟩ := idx t
  blk_ext [e11]

theorem arr5 : (dats m 0 c).arrAt 5 cfg0.N = OutSpec.attnAll (m ((c : Thread nD τ).loc main_arg0)) := by
  refine (dats m 0 c).arrAt_eq_of_covers 5 _ (by decide +kernel) fun t hf y => ?_
  rw [after0_5, attn_eq, blk0]
  generalize OutSpec.attnAll _ = W
  exact congrArg W (whole5 t y).symm

theorem arr6 : (dats m 0 c).arrAt 6 cfg0.N = OutSpec.attnCodes (m ((c : Thread nD τ).loc main_arg0)) := by
  refine (dats m 0 c).arrAt_eq_of_covers 6 _ (by decide +kernel) fun t hf y => ?_
  rw [after0_6, attn_codes_eq, blk0]
  generalize OutSpec.attnCodes _ = W
  exact congrArg W (whole6 t y).symm

theorem arr7 : (dats m 0 c).arrAt 7 cfg0.N = OutSpec.attnScales (m ((c : Thread nD τ).loc main_arg0)) := by
  refine (dats m 0 c).arrAt_eq_of_covers 7 _ (by decide +kernel) fun t hf y => ?_
  rw [after0_7, attn_scales_eq, blk0]
  generalize OutSpec.attnScales _ = W
  exact congrArg W (whole7 t y).symm

theorem arr8 : (dats m 0 c).arrAt 8 cfg0.N = OutSpec.projAll (m ((c : Thread nD τ).loc main_arg0)) (m ((c : Thread nD τ).loc main_arg1)) (m ((c : Thread nD τ).loc main_arg2)) (OutSpec.wide (m ((c : Thread nD τ).loc main_arg3)) (pows (m ((c : Thread nD τ).loc main_arg4)))) := by
  refine (dats m 0 c).arrAt_eq_of_covers 8 _ (by decide +kernel) fun t hf y => ?_
  rw [after0_8, proj_eq, blk0, blk1, blk2, blk3, blk4]
  generalize OutSpec.projAll _ _ _ _ = W
  exact congrArg W (whole8 t y).symm

theorem arr9 : (dats m 0 c).arrAt 9 cfg0.N = OutSpec.codes (m ((c : Thread nD τ).loc main_arg0)) (m ((c : Thread nD τ).loc main_arg1)) (m ((c : Thread nD τ).loc main_arg2)) (OutSpec.wide (m ((c : Thread nD τ).loc main_arg3)) (pows (m ((c : Thread nD τ).loc main_arg4)))) := by
  refine (dats m 0 c).arrAt_eq_of_covers 9 _ (by decide +kernel) fun t hf y => ?_
  rw [after0_9, codes_eq, blk0, blk1, blk2, blk3, blk4]
  generalize OutSpec.codes _ _ _ _ = W
  exact congrArg W (whole9 t y).symm

theorem arr10 : (dats m 0 c).arrAt 10 cfg0.N = OutSpec.scales (m ((c : Thread nD τ).loc main_arg0)) (m ((c : Thread nD τ).loc main_arg1)) (m ((c : Thread nD τ).loc main_arg2)) (OutSpec.wide (m ((c : Thread nD τ).loc main_arg3)) (pows (m ((c : Thread nD τ).loc main_arg4)))) := by
  refine (dats m 0 c).arrAt_eq_of_covers 10 _ (by decide +kernel) fun t hf y => ?_
  rw [after0_10, scales_eq, blk0, blk1, blk2, blk3, blk4]
  generalize OutSpec.scales _ _ _ _ = W
  exact congrArg W (whole10 t y).symm

theorem arr11 : (dats m 0 c).arrAt 11 cfg0.N = OutSpec.products (m ((c : Thread nD τ).loc main_arg0)) (m ((c : Thread nD τ).loc main_arg1)) (m ((c : Thread nD τ).loc main_arg2)) (OutSpec.wide (m ((c : Thread nD τ).loc main_arg3)) (pows (m ((c : Thread nD τ).loc main_arg4)))) := by
  refine (dats m 0 c).arrAt_eq_of_covers 11 _ (by decide +kernel) fun t hf y => ?_
  rw [after0_11, products_eq, blk0, blk1, blk2, blk3, blk4]
  generalize OutSpec.products _ _ _ _ = W
  exact congrArg W (whole11 t y).symm

/-- The reference's run: its seven results, and its arguments unchanged. -/
theorem run : θ_run defs (onTc (τ := τ) (main (F := Ideal))) ⟨m, fun _ => 0, ρ⟩ (fun r => ∀ c : Dev nD,
      r.2.mem ((c : Thread nD τ).loc main_v0_0) = OutSpec.attnAll (m ((c : Thread nD τ).loc main_arg0))
      ∧ r.2.mem ((c : Thread nD τ).loc main_v0_1) = OutSpec.attnCodes (m ((c : Thread nD τ).loc main_arg0))
      ∧ r.2.mem ((c : Thread nD τ).loc main_v0_2) = OutSpec.attnScales (m ((c : Thread nD τ).loc main_arg0))
      ∧ r.2.mem ((c : Thread nD τ).loc main_v0_3) = OutSpec.projAll (m ((c : Thread nD τ).loc main_arg0)) (m ((c : Thread nD τ).loc main_arg1)) (m ((c : Thread nD τ).loc main_arg2)) (OutSpec.wide (m ((c : Thread nD τ).loc main_arg3)) (pows (m ((c : Thread nD τ).loc main_arg4))))
      ∧ r.2.mem ((c : Thread nD τ).loc main_v0_4) = OutSpec.codes (m ((c : Thread nD τ).loc main_arg0)) (m ((c : Thread nD τ).loc main_arg1)) (m ((c : Thread nD τ).loc main_arg2)) (OutSpec.wide (m ((c : Thread nD τ).loc main_arg3)) (pows (m ((c : Thread nD τ).loc main_arg4))))
      ∧ r.2.mem ((c : Thread nD τ).loc main_v0_5) = OutSpec.scales (m ((c : Thread nD τ).loc main_arg0)) (m ((c : Thread nD τ).loc main_arg1)) (m ((c : Thread nD τ).loc main_arg2)) (OutSpec.wide (m ((c : Thread nD τ).loc main_arg3)) (pows (m ((c : Thread nD τ).loc main_arg4))))
      ∧ r.2.mem ((c : Thread nD τ).loc main_v0_6) = OutSpec.products (m ((c : Thread nD τ).loc main_arg0)) (m ((c : Thread nD τ).loc main_arg1)) (m ((c : Thread nD τ).loc main_arg2)) (OutSpec.wide (m ((c : Thread nD τ).loc main_arg3)) (pows (m ((c : Thread nD τ).loc main_arg4))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨((h c).1 5).trans (arr5 m c),
      ((h c).1 6).trans (arr6 m c),
      ((h c).1 7).trans (arr7 m c),
      ((h c).1 8).trans (arr8 m c),
      ((h c).1 9).trans (arr9 m c),
      ((h c).1 10).trans (arr10 m c),
      ((h c).1 11).trans (arr11 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.Proof.OutRefRun

end
-- ==== Proof.OutCodes.lean ====
/- What the precondition says of the array of scale bytes. -/
module

public import proofs.«01_k».proof.Pre_out_scale_codes
public import proofs.«01_k».proof.Proof.Gen.Pre_out_scale_codes
public import proofs.«01_k».proof.Proof.Codes

@[expose] public section

set_option maxRecDepth 16384

noncomputable section

namespace Cert.Proof.OutCodes

open Idealize.ShloMosaic Cert.Pre_out_scale_codes

/-- The precondition, read: every scale byte lies between 1 and 254. -/
theorem bounds (a0 : FVec Ideal S2x10x9216x128 .f32) (a1 : FVec Ideal S2x9216x2560 .bf16) (a2 : FVec Ideal S2x6x2560 .f32) (a3 : FVec Ideal S1280x2560 .fp8e4m3) (a4 : IVec S40x2560 8)
    [Facts] (h : fn (F := Ideal) a0 a1 a2 a3 a4 = fun _ => 1#1) (y : S40x2560.Idx) : 1 ≤ (a4 y).toNat ∧ (a4 y).toNat ≤ 254 := by
  unfold fn at h
  exact Codes.byte_bounds _ (congrFun h y)

end Cert.Proof.OutCodes

end
-- ==== Proof.OutAlgebraic.lean ====
/- The claim that the second kernel's seven results are its plain reference's. -/
module

public import proofs.«01_k».proof.Defs
public import proofs.«01_k».proof.Proof.OutRun
public import proofs.«01_k».proof.Proof.OutRefRun
public import proofs.«01_k».proof.Proof.OutCodes

@[expose] public section

set_option maxRecDepth 16384

noncomputable section

namespace Cert.Proof.OutAlgebraic

open Idealize.ShloMosaic Idealize.ShloMosaic.TcCoe Idealize.SL.Sem

section Kernel

open Cert.OutIdeal Cert.OutIdeal.Gen

/-- The kernel's run: its seven results, and its arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v1_0) = OutSpec.attnAll (m ((c : Thread nD τ).loc main_arg0))
      ∧ r.2.mem ((c : Thread nD τ).loc main_v1_1) = OutSpec.attnCodes (m ((c : Thread nD τ).loc main_arg0))
      ∧ r.2.mem ((c : Thread nD τ).loc main_v2) = OutSpec.attnScales (m ((c : Thread nD τ).loc main_arg0))
      ∧ r.2.mem ((c : Thread nD τ).loc main_v1_3) = OutSpec.projAll (m ((c : Thread nD τ).loc main_arg0)) (m ((c : Thread nD τ).loc main_arg1)) (m ((c : Thread nD τ).loc main_arg2)) (OutSpec.wide (m ((c : Thread nD τ).loc main_arg3)) (OutValues.words (m ((c : Thread nD τ).loc main_arg4))))
      ∧ r.2.mem ((c : Thread nD τ).loc main_v1_4) = OutSpec.codes (m ((c : Thread nD τ).loc main_arg0)) (m ((c : Thread nD τ).loc main_arg1)) (m ((c : Thread nD τ).loc main_arg2)) (OutSpec.wide (m ((c : Thread nD τ).loc main_arg3)) (OutValues.words (m ((c : Thread nD τ).loc main_arg4))))
      ∧ r.2.mem ((c : Thread nD τ).loc main_v3) = OutSpec.scales (m ((c : Thread nD τ).loc main_arg0)) (m ((c : Thread nD τ).loc main_arg1)) (m ((c : Thread nD τ).loc main_arg2)) (OutSpec.wide (m ((c : Thread nD τ).loc main_arg3)) (OutValues.words (m ((c : Thread nD τ).loc main_arg4))))
      ∧ r.2.mem ((c : Thread nD τ).loc main_v1_6) = OutSpec.products (m ((c : Thread nD τ).loc main_arg0)) (m ((c : Thread nD τ).loc main_arg1)) (m ((c : Thread nD τ).loc main_arg2)) (OutSpec.wide (m ((c : Thread nD τ).loc main_arg3)) (OutValues.words (m ((c : Thread nD τ).loc main_arg4))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨(h c _ (mem_uc main_v1_0 (by decide))).trans (OutValues.end_attn m ρ c),
      (h c _ (mem_uc main_v1_1 (by decide))).trans (OutValues.end_attn_codes m ρ c),
      (h c _ (mem_uc main_v2 (by decide))).trans (OutValues.end_attn_scales m ρ c),
      (h c _ (mem_uc main_v1_3 (by decide))).trans (OutValues.end_proj m ρ c),
      (h c _ (mem_uc main_v1_4 (by decide))).trans (OutValues.end_codes m ρ c),
      (h c _ (mem_uc main_v3 (by decide))).trans (OutValues.end_scales m ρ c),
      (h c _ (mem_uc main_v1_6 (by decide))).trans (OutValues.end_products m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c)⟩) (OutRun.ends m ρ)

end Kernel

/-- Where every scale byte lies between 1 and 254, both programs end with the same seven results, for all inputs. -/
theorem algebraic [hP : Cert.Pre_out_scale_codes.Facts] : Cert.algebraic_OutIdeal_OutRefIdeal_pre_out_scale_codes (hOutIdeal := Cert.OutIdeal.Gen.facts) (hOutRefIdeal := Cert.OutRefIdeal.Gen.facts)
    (hPre_out_scale_codes := hP) := by
  intro m g m' g' hpre hag
  refine ⟨_, _, _, _, _, _, _, kernel_run m g, (θ_run _ _ _).mono (fun r h c => ?_) (OutRefRun.run m' g')⟩
  obtain ⟨a0, a1, a2, a3, a4⟩ := hag c
  have w4 := Codes.words_eq _ (OutCodes.bounds _ _ _ _ _ (hpre c))
  obtain ⟨h0, h1, h2, h3, h4, h5, h6, h7⟩ := h c
  refine ⟨h0.trans ?_, h1.trans ?_, h2.trans ?_, h3.trans ?_, h4.trans ?_, h5.trans ?_, h6.trans ?_, h7⟩
  · rw [a0]
  · rw [a0]
  · rw [a0]
  · rw [a0, a1, a2, a3, a4]
    exact congrArg (fun s => OutSpec.projAll _ _ _ (OutSpec.wide _ s)) w4.symm
  · rw [a0, a1, a2, a3, a4]
    exact congrArg (fun s => OutSpec.codes _ _ _ (OutSpec.wide _ s)) w4.symm
  · rw [a0, a1, a2, a3, a4]
    exact congrArg (fun s => OutSpec.scales _ _ _ (OutSpec.wide _ s)) w4.symm
  · rw [a0, a1, a2, a3, a4]
    exact congrArg (fun s => OutSpec.products _ _ _ (OutSpec.wide _ s)) w4.symm

end Cert.Proof.OutAlgebraic

end
-- ==== Proof.QkvWiden.lean ====
/- The call that widens the query, key and value matrix at one grid point: what it stores, index by index. -/
module

public import proofs.«01_k».proof.Proof.Widen
public import proofs.«01_k».proof.Proof.Gen.QkvIdeal.Frame

@[expose] public section

set_option maxRecDepth 16384

noncomputable section

namespace Cert.Proof.QkvWiden

open Idealize.ShloMosaic Cert.QkvIdeal Cert.QkvIdeal.Gen
open Cert.Proof.Widen (word ld_all)

/-- `32` rows of codes against one row of scale bytes. -/
def rows (s : Vec Ideal S80x256 .i8) (i : ℕ) (hs : S80x256.Slices ![i, 0] S1x256) (v : Vec Ideal S32x256 .fp8e4m3) : FVec Ideal S32x256 .bf16 :=
  truncf .bf16 (mulf (extf .f32 v bitsLt_fp8e4m3_f32)
    (broadcastTo S32x256 (extractStridedSlice S1x256 ![i, 0] (bitcastToFloat .f32 (shli (extui 32 s natLt_8_32) (broadcast S80x256 23#32))) hs) broadcasts_S1x256_S32x256)) bitsLt_bf16_f32

/-- One row of it at an index. -/
theorem rows_apply (s : Vec Ideal S80x256 .i8) (i : ℕ) (hi : i < 80) (hs : S80x256.Slices ![i, 0] S1x256) (v : Vec Ideal S32x256 .fp8e4m3) (x : S32x256.Idx) :
    rows s i hs v x = v x * word (s (ix2 ⟨i, hi⟩ (x 1))) := by
  unfold rows word
  pointwise

/-- The widened matrix. -/
def single (x0 : Vec Ideal S2560x256 .fp8e4m3) (x1 : Vec Ideal S80x256 .i8) (r : Fin 2560) (c : Fin 256) : EReal :=
  x0 (ix2 r c) * word (x1 (ix2 ⟨r.val / 32, by omega⟩ c))

variable (z0 : Vec Ideal S2560x256 .fp8e4m3) (z1 : Vec Ideal S80x256 .i8)

theorem tile (y : S2560x256.Idx) (i : ℕ) (hi : i < 80) (hs : S80x256.Slices ![i, 0] S1x256) (inb)
    (off : Fin 2 → ℕ) (w : Vec Ideal S32x256 .bf16) (hoff : off = ![32 * i, 0])
    (hw : w = rows (View.ld z1 r0_0) i hs (View.ld z0 (Rect.unit (s := S2560x256) ![32 * i, 0] S32x256.size inb))) :
    View.TileAt (Val := Elt Ideal) (e := .bf16) y off S32x256.size w (single z0 z1 (y 0) (y 1)) := by
  subst hoff hw
  intro x hx
  have h0 := hx 0
  have h1 := hx 1
  simp only [Fin.isValue, Matrix.cons_val, zero_add] at h0 h1
  have hr : (x 0).val < 32 := (x 0).isLt
  rw [rows_apply _ _ hi, ld_all _ _ (by decide)]
  unfold single
  rw [View.ld_unit_apply_of z0 _ _ _ x (ix2 (y 0) (y 1)) (fun a => by
    fin_cases a
    · exact h0
    · exact h1.trans (Nat.zero_add _).symm)]
  congr 4
  · apply Fin.ext; show i = (y 0).val / 32; omega
  · apply Fin.ext; exact h1.symm

/-- What the call stores. -/
theorem single_apply (y : S2560x256.Idx) : out0_2 z0 z1 y = single z0 z1 (y 0) (y 1) := by
  unfold out0_2
  refine View.canon_eq_of_allAt _ y _ (cover0_2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y) ?_
  refine View.allAt_cons_unit _ _ _ _ _ (tile z0 z1 y 79 (by decide) slices_S80x256_o79_0_S1x256 _ _ _ rfl rfl) ?_
  refine View.allAt_cons_unit _ _ _ _ _ (tile z0 z1 y 78 (by decide) slices_S80x256_o78_0_S1x256 _ _ _ rfl rfl) ?_
  refine View.allAt_cons_unit _ _ _ _ _ (tile z0 z1 y 77 (by decide) slices_S80x256_o77_0_S1x256 _ _ _ rfl rfl) ?_
  refine View.allAt_cons_unit _ _ _ _ _ (tile z0 z1 y 76 (by decide) slices_S80x256_o76_0_S1x256 _ _ _ rfl rfl) ?_
  refine View.allAt_cons_unit _ _ _ _ _ (tile z0 z1 y 75 (by decide) slices_S80x256_o75_0_S1x256 _ _ _ rfl rfl) ?_
  refine View.allAt_cons_unit _ _ _ _ _ (tile z0 z1 y 74 (by decide) slices_S80x256_o74_0_S1x256 _ _ _ rfl rfl) ?_
  refine View.allAt_cons_unit _ _ _ _ _ (tile z0 z1 y 73 (by decide) slices_S80x256_o73_0_S1x256 _ _ _ rfl rfl) ?_
  refine View.allAt_cons_unit _ _ _ _ _ (tile z0 z1 y 72 (by decide) slices_S80x256_o72_0_S1x256 _ _ _ rfl rfl) ?_
  refine View.allAt_cons_unit _ _ _ _ _ (tile z0 z1 y 71 (by decide) slices_S80x256_o71_0_S1x256 _ _ _ rfl rfl) ?_
  refine View.allAt_cons_unit _ _ _ _ _ (tile z0 z1 y 70 (by decide) slices_S80x256_o70_0_S1x256 _ _ _ rfl rfl) ?_
  refine View.allAt_cons_unit _ _ _ _ _ (tile z0 z1 y 69 (by decide) slices_S80x256_o69_0_S1x256 _ _ _ rfl rfl) ?_
  refine View.allAt_cons_unit _ _ _ _ _ (tile z0 z1 y 68 (by decide) slices_S80x256_o68_0_S1x256 _ _ _ rfl rfl) ?_
  refine View.allAt_cons_unit _ _ _ _ _ (tile z0 z1 y 67 (by decide) slices_S80x256_o67_0_S1x256 _ _ _ rfl rfl) ?_
  refine View.allAt_cons_unit _ _ _ _ _ (tile z0 z1 y 66 (by decide) slices_S80x256_o66_0_S1x256 _ _ _ rfl rfl) ?_
  refine View.allAt_cons_unit _ _ _ _ _ (tile z0 z1 y 65 (by decide) slices_S80x256_o65_0_S1x256 _ _ _ rfl rfl) ?_
  refine View.allAt_cons_unit _ _ _ _ _ (tile z0 z1 y 64 (by decide) slices_S80x256_o64_0_S1x256 _ _ _ rfl rfl) ?_
  refine View.allAt_cons_unit _ _ _ _ _ (tile z0 z1 y 63 (by decide) slices_S80x256_o63_0_S1x256 _ _ _ rfl rfl) ?_
  refine View.allAt_cons_unit _ _ _ _ _ (tile z0 z1 y 62 (by decide) slices_S80x256_o62_0_S1x256 _ _ _ rfl rfl) ?_
  refine View.allAt_cons_unit _ _ _ _ _ (tile z0 z1 y 61 (by decide) slices_S80x256_o61_0_S1x256 _ _ _ rfl rfl) ?_
  refine View.allAt_cons_unit _ _ _ _ _ (tile z0 z1 y 60 (by decide) slices_S80x256_o60_0_S1x256 _ _ _ rfl rfl) ?_
  refine View.allAt_cons_unit _ _ _ _ _ (tile z0 z1 y 59 (by decide) slices_S80x256_o59_0_S1x256 _ _ _ rfl rfl) ?_
  refine View.allAt_cons_unit _ _ _ _ _ (tile z0 z1 y 58 (by decide) slices_S80x256_o58_0_S1x256 _ _ _ rfl rfl) ?_
  refine View.allAt_cons_unit _ _ _ _ _ (tile z0 z1 y 57 (by decide) slices_S80x256_o57_0_S1x256 _ _ _ rfl rfl) ?_
  refine View.allAt_cons_unit _ _ _ _ _ (tile z0 z1 y 56 (by decide) slices_S80x256_o56_0_S1x256 _ _ _ rfl rfl) ?_
  refine View.allAt_cons_unit _ _ _ _ _ (tile z0 z1 y 55 (by decide) slices_S80x256_o55_0_S1x256 _ _ _ rfl rfl) ?_
  refine View.allAt_cons_unit _ _ _ _ _ (tile z0 z1 y 54 (by decide) slices_S80x256_o54_0_S1x256 _ _ _ rfl rfl) ?_
  refine View.allAt_cons_unit _ _ _ _ _ (tile z0 z1 y 53 (by decide) slices_S80x256_o53_0_S1x256 _ _ _ rfl rfl) ?_
  refine View.allAt_cons_unit _ _ _ _ _ (tile z0 z1 y 52 (by decide) slices_S80x256_o52_0_S1x256 _ _ _ rfl rfl) ?_
  refine View.allAt_cons_unit _ _ _ _ _ (tile z0 z1 y 51 (by decide) slices_S80x256_o51_0_S1x256 _ _ _ rfl rfl) ?_
  refine View.allAt_cons_unit _ _ _ _ _ (tile z0 z1 y 50 (by decide) slices_S80x256_o50_0_S1x256 _ _ _ rfl rfl) ?_
  refine View.allAt_cons_unit _ _ _ _ _ (tile z0 z1 y 49 (by decide) slices_S80x256_o49_0_S1x256 _ _ _ rfl rfl) ?_
  refine View.allAt_cons_unit _ _ _ _ _ (tile z0 z1 y 48 (by decide) slices_S80x256_o48_0_S1x256 _ _ _ rfl rfl) ?_
  refine View.allAt_cons_unit _ _ _ _ _ (tile z0 z1 y 47 (by decide) slices_S80x256_o47_0_S1x256 _ _ _ rfl rfl) ?_
  refine View.allAt_cons_unit _ _ _ _ _ (tile z0 z1 y 46 (by decide) slices_S80x256_o46_0_S1x256 _ _ _ rfl rfl) ?_
  refine View.allAt_cons_unit _ _ _ _ _ (tile z0 z1 y 45 (by decide) slices_S80x256_o45_0_S1x256 _ _ _ rfl rfl) ?_
  refine View.allAt_cons_unit _ _ _ _ _ (tile z0 z1 y 44 (by decide) slices_S80x256_o44_0_S1x256 _ _ _ rfl rfl) ?_
  refine View.allAt_cons_unit _ _ _ _ _ (tile z0 z1 y 43 (by decide) slices_S80x256_o43_0_S1x256 _ _ _ rfl rfl) ?_
  refine View.allAt_cons_unit _ _ _ _ _ (tile z0 z1 y 42 (by decide) slices_S80x256_o42_0_S1x256 _ _ _ rfl rfl) ?_
  refine View.allAt_cons_unit _ _ _ _ _ (tile z0 z1 y 41 (by decide) slices_S80x256_o41_0_S1x256 _ _ _ rfl rfl) ?_
  refine View.allAt_cons_unit _ _ _ _ _ (tile z0 z1 y 40 (by decide) slices_S80x256_o40_0_S1x256 _ _ _ rfl rfl) ?_
  refine View.allAt_cons_unit _ _ _ _ _ (tile z0 z1 y 39 (by decide) slices_S80x256_o39_0_S1x256 _ _ _ rfl rfl) ?_
  refine View.allAt_cons_unit _ _ _ _ _ (tile z0 z1 y 38 (by decide) slices_S80x256_o38_0_S1x256 _ _ _ rfl rfl) ?_
  refine View.allAt_cons_unit _ _ _ _ _ (tile z0 z1 y 37 (by decide) slices_S80x256_o37_0_S1x256 _ _ _ rfl rfl) ?_
  refine View.allAt_cons_unit _ _ _ _ _ (tile z0 z1 y 36 (by decide) slices_S80x256_o36_0_S1x256 _ _ _ rfl rfl) ?_
  refine View.allAt_cons_unit _ _ _ _ _ (tile z0 z1 y 35 (by decide) slices_S80x256_o35_0_S1x256 _ _ _ rfl rfl) ?_
  refine View.allAt_cons_unit _ _ _ _ _ (tile z0 z1 y 34 (by decide) slices_S80x256_o34_0_S1x256 _ _ _ rfl rfl) ?_
  refine View.allAt_cons_unit _ _ _ _ _ (tile z0 z1 y 33 (by decide) slices_S80x256_o33_0_S1x256 _ _ _ rfl rfl) ?_
  refine View.allAt_cons_unit _ _ _ _ _ (tile z0 z1 y 32 (by decide) slices_S80x256_o32_0_S1x256 _ _ _ rfl rfl) ?_
  refine View.allAt_cons_unit _ _ _ _ _ (tile z0 z1 y 31 (by decide) slices_S80x256_o31_0_S1x256 _ _ _ rfl rfl) ?_
  refine View.allAt_cons_unit _ _ _ _ _ (tile z0 z1 y 30 (by decide) slices_S80x256_o30_0_S1x256 _ _ _ rfl rfl) ?_
  refine View.allAt_cons_unit _ _ _ _ _ (tile z0 z1 y 29 (by decide) slices_S80x256_o29_0_S1x256 _ _ _ rfl rfl) ?_
  refine View.allAt_cons_unit _ _ _ _ _ (tile z0 z1 y 28 (by decide) slices_S80x256_o28_0_S1x256 _ _ _ rfl rfl) ?_
  refine View.allAt_cons_unit _ _ _ _ _ (tile z0 z1 y 27 (by decide) slices_S80x256_o27_0_S1x256 _ _ _ rfl rfl) ?_
  refine View.allAt_cons_unit _ _ _ _ _ (tile z0 z1 y 26 (by decide) slices_S80x256_o26_0_S1x256 _ _ _ rfl rfl) ?_
  refine View.allAt_cons_unit _ _ _ _ _ (tile z0 z1 y 25 (by decide) slices_S80x256_o25_0_S1x256 _ _ _ rfl rfl) ?_
  refine View.allAt_cons_unit _ _ _ _ _ (tile z0 z1 y 24 (by decide) slices_S80x256_o24_0_S1x256 _ _ _ rfl rfl) ?_
  refine View.allAt_cons_unit _ _ _ _ _ (tile z0 z1 y 23 (by decide) slices_S80x256_o23_0_S1x256 _ _ _ rfl rfl) ?_
  refine View.allAt_cons_unit _ _ _ _ _ (tile z0 z1 y 22 (by decide) slices_S80x256_o22_0_S1x256 _ _ _ rfl rfl) ?_
  refine View.allAt_cons_unit _ _ _ _ _ (tile z0 z1 y 21 (by decide) slices_S80x256_o21_0_S1x256 _ _ _ rfl rfl) ?_
  refine View.allAt_cons_unit _ _ _ _ _ (tile z0 z1 y 20 (by decide) slices_S80x256_o20_0_S1x256 _ _ _ rfl rfl) ?_
  refine View.allAt_cons_unit _ _ _ _ _ (tile z0 z1 y 19 (by decide) slices_S80x256_o19_0_S1x256 _ _ _ rfl rfl) ?_
  refine View.allAt_cons_unit _ _ _ _ _ (tile z0 z1 y 18 (by decide) slices_S80x256_o18_0_S1x256 _ _ _ rfl rfl) ?_
  refine View.allAt_cons_unit _ _ _ _ _ (tile z0 z1 y 17 (by decide) slices_S80x256_o17_0_S1x256 _ _ _ rfl rfl) ?_
  refine View.allAt_cons_unit _ _ _ _ _ (tile z0 z1 y 16 (by decide) slices_S80x256_o16_0_S1x256 _ _ _ rfl rfl) ?_
  refine View.allAt_cons_unit _ _ _ _ _ (tile z0 z1 y 15 (by decide) slices_S80x256_o15_0_S1x256 _ _ _ rfl rfl) ?_
  refine View.allAt_cons_unit _ _ _ _ _ (tile z0 z1 y 14 (by decide) slices_S80x256_o14_0_S1x256 _ _ _ rfl rfl) ?_
  refine View.allAt_cons_unit _ _ _ _ _ (tile z0 z1 y 13 (by decide) slices_S80x256_o13_0_S1x256 _ _ _ rfl rfl) ?_
  refine View.allAt_cons_unit _ _ _ _ _ (tile z0 z1 y 12 (by decide) slices_S80x256_o12_0_S1x256 _ _ _ rfl rfl) ?_
  refine View.allAt_cons_unit _ _ _ _ _ (tile z0 z1 y 11 (by decide) slices_S80x256_o11_0_S1x256 _ _ _ rfl rfl) ?_
  refine View.allAt_cons_unit _ _ _ _ _ (tile z0 z1 y 10 (by decide) slices_S80x256_o10_0_S1x256 _ _ _ rfl rfl) ?_
  refine View.allAt_cons_unit _ _ _ _ _ (tile z0 z1 y 9 (by decide) slices_S80x256_o9_0_S1x256 _ _ _ rfl rfl) ?_
  refine View.allAt_cons_unit _ _ _ _ _ (tile z0 z1 y 8 (by decide) slices_S80x256_o8_0_S1x256 _ _ _ rfl rfl) ?_
  refine View.allAt_cons_unit _ _ _ _ _ (tile z0 z1 y 7 (by decide) slices_S80x256_o7_0_S1x256 _ _ _ rfl rfl) ?_
  refine View.allAt_cons_unit _ _ _ _ _ (tile z0 z1 y 6 (by decide) slices_S80x256_o6_0_S1x256 _ _ _ rfl rfl) ?_
  refine View.allAt_cons_unit _ _ _ _ _ (tile z0 z1 y 5 (by decide) slices_S80x256_o5_0_S1x256 _ _ _ rfl rfl) ?_
  refine View.allAt_cons_unit _ _ _ _ _ (tile z0 z1 y 4 (by decide) slices_S80x256_o4_0_S1x256 _ _ _ rfl rfl) ?_
  refine View.allAt_cons_unit _ _ _ _ _ (tile z0 z1 y 3 (by decide) slices_S80x256_o3_0_S1x256 _ _ _ rfl rfl) ?_
  refine View.allAt_cons_unit _ _ _ _ _ (tile z0 z1 y 2 (by decide) slices_S80x256_o2_0_S1x256 _ _ _ rfl rfl) ?_
  refine View.allAt_cons_unit _ _ _ _ _ (tile z0 z1 y 1 (by decide) slices_S80x256_o1_0_S1x256 _ _ _ rfl rfl) ?_
  refine View.allAt_cons_unit _ _ _ _ _ (tile z0 z1 y 0 (by decide) slices_S80x256_o0_0_S1x256 _ _ _ rfl rfl) ?_
  exact View.allAt_nil _ _

end Cert.Proof.QkvWiden

end
-- ==== Proof.QkvSpec.lean ====
/- The query, key and value products of the normalized tokens, and the normalization of the heads, written as plain sums. -/
module

public import proofs.«01_k».proof.Proof.OutSpec

@[expose] public section

set_option maxRecDepth 16384

noncomputable section

namespace Cert.Proof.QkvSpec

open Idealize.ShloMosaic Cert.Proof.Quant
open Cert.Proof.OutSpec (Tokens TokensS Mods modRow normed)

abbrev Mat : Shape := ⟨2, ![2560, 3840]⟩
abbrev MatS : Shape := ⟨2, ![80, 3840]⟩
abbrev Gain : Shape := ⟨2, ![1, 128]⟩
abbrev QueryKey : Shape := ⟨4, ![2, 20, 9216, 128]⟩
abbrev Value : Shape := ⟨4, ![2, 10, 9216, 128]⟩

/-- A token. -/
def tok (x : Tokens.Idx → EReal) (b : Fin 2) (r : Fin 9216) (c : ℕ) : EReal := x (ix3 b r ⟨c % 2560, Nat.mod_lt _ (by decide)⟩)

/-- A token normalized, scaled and shifted, and zero past its end. -/
def nrm (x : Tokens.Idx → EReal) (md : Mods.Idx → EReal) (b : Fin 2) (r : Fin 9216) (c : ℕ) : EReal :=
  if c / 128 < 20 then normed (tok x b r) (modRow md b 0) (modRow md b 1) c else 0

/-- The widened matrix: a code times its block's scale. -/
def wide (w : Mat.Idx → EReal) (s : MatS.Idx → EReal) : Mat.Idx → EReal :=
  fun i => w i * s (ix2 ⟨(i 0).val / 32, by have := (i 0).isLt; simp only [Fin.isValue, Matrix.cons_val] at this; omega⟩ (i 1))

/-- A quantised token times the widened matrix. -/
def prod (x : Tokens.Idx → EReal) (md : Mods.Idx → EReal) (w : Mat.Idx → EReal) (b : Fin 2) (r : Fin 9216) (c : ℕ) : EReal :=
  ∑ k : Fin 2560, Spec.back (nrm x md b r) k.val * w (ix2 k ⟨c % 3840, Nat.mod_lt _ (by decide)⟩)

/-- The mean square of head `h` of a row, plus the constant that keeps it positive. -/
def headSq (y : ℕ → EReal) (h : ℕ) : EReal :=
  Ideal.div (∑ j : Fin 128, y (128 * h + j.val) * y (128 * h + j.val)) (Ideal.ofBits .f32 0x43000000#32) + Ideal.ofBits .f32 0x358637BD#32

/-- A head's value over the root of the head's mean square, times its gain. -/
def headNorm (y g : ℕ → EReal) (h l : ℕ) : EReal := y (128 * h + l) * Ideal.div 1 (Ideal.sqrt (headSq y h)) * g l

/-- The gain of head `h`: the queries' for the first ten, the keys' for the others. -/
def gain (gq gk : Gain.Idx → EReal) (h l : ℕ) : EReal :=
  if h < 10 then gq (ix2 0 ⟨l % 128, Nat.mod_lt _ (by decide)⟩) else gk (ix2 0 ⟨l % 128, Nat.mod_lt _ (by decide)⟩)

def codes (x : Tokens.Idx → EReal) (md : Mods.Idx → EReal) : Tokens.Idx → EReal := fun i => codeOf (nrm x md (i 0) (i 1)) (i 2).val
def scales (x : Tokens.Idx → EReal) (md : Mods.Idx → EReal) : TokensS.Idx → EReal := fun i => scaleOf (nrm x md (i 0) (i 1)) (i 2).val
def queryKey (x : Tokens.Idx → EReal) (md : Mods.Idx → EReal) (w : Mat.Idx → EReal) (gq gk : Gain.Idx → EReal) : QueryKey.Idx → EReal :=
  fun i => headNorm (prod x md w (i 0) (i 2)) (gain gq gk (i 1).val) (i 1).val (i 3).val
def value (x : Tokens.Idx → EReal) (md : Mods.Idx → EReal) (w : Mat.Idx → EReal) : Value.Idx → EReal :=
  fun i => prod x md w (i 0) (i 2) (128 * (20 + (i 1).val) + (i 3).val)

end Cert.Proof.QkvSpec

end
-- ==== Proof.QkvTwo.lean ====
/- The stores of one trip of the loop over the chunks ahead of the query, key and value products, and of the whole loop, read at an index. -/
module

public import proofs.«01_k».proof.Proof.OutTiles
public import proofs.«01_k».proof.Proof.Gen.QkvIdeal.Loops

@[expose] public section

set_option maxRecDepth 16384

noncomputable section

namespace Cert.Proof.QkvTwo

open Idealize.ShloMosaic Cert.QkvIdeal Cert.QkvIdeal.Gen Cert.Proof.Tiles Cert.Proof.OutTiles
open Cert.Proof.Butterfly (lane)
open Cert.Proof.Quant (scaleOf codeOf)

variable (arg1 : Memref sig .tc .vmem S1x512x2560 .bf16) (v0 v2 : Vec Ideal S1x1x2560 .f32)
  (X : BufTy.Contents (Elt Ideal) arg1.view.ty) (k : Fin k1_t1_loop.trips)

/-- The normalized rows of a trip. -/
def normed : FVec Ideal S32x2560 .f32 :=
  k1_pay2 (k1_pay191 v0) (k1_pay192 v2) (View.readAt (Elt Ideal) arg1.view (Rect.unit (s := S1x512x2560) (k1_off1 k) S1x32x2560.size (k1_off1_inb k)).toLoadRect X)

theorem slices_tile (t : Fin 20) : S32x2560.Slices ![0, 128 * t.val] S32x128 := by revert t; decide +kernel

/-- Tile `t` of 20 tiles of 128 columns. -/
def cut (Y : FVec Ideal S32x2560 .f32) (t : Fin 20) : FVec Ideal S32x128 .f32 :=
  extractStridedSlice S32x128 ![0, 128 * t.val] Y (slices_tile t)

theorem cut_apply (Y : FVec Ideal S32x2560 .f32) (t : Fin 20) (r : Fin 32) (l : Fin 128) :
    cut Y t (ix2 r l) = Y (ix2 r ⟨128 * t.val + l.val, by omega⟩) := by
  unfold cut
  pointwise

/-- The lane of block `b`'s maximum, at lane `b`. -/
def at2 : IVec S32x128 32 :=
  select (k1_pay189 lane 4#32 (Scalar.cmpi .eq 4#32 0#32)) (k1_pay190 lane 4#32 (Scalar.cmpi .eq 4#32 0#32)) (k1_pay188 lane 4#32 (Scalar.cmpi .eq 4#32 0#32))

theorem at2_apply (r : Fin 32) (b : Fin 128) : at2 (ix2 r b) = BitVec.ofNat 32 (32 * (b.val % 4) + b.val / 4) := by
  unfold at2 k1_pay189 k1_pay190 k1_pay188 lane
  pointwise
  clear r
  revert b
  decide +kernel

/-- The scales of a chunk, from its block maxima. -/
theorem scale_pay (top : FVec Ideal S32x128 .f32) :
    k1_pay193 (F := Ideal) top (k1_pay188 lane 4#32 (Scalar.cmpi .eq 4#32 0#32)) (k1_pay189 lane 4#32 (Scalar.cmpi .eq 4#32 0#32)) (k1_pay190 lane 4#32 (Scalar.cmpi .eq 4#32 0#32))
      = shapeCast S32x128 (scaleV top at2) OutIdeal.Gen.shapeCasts_S32x128_S32x128 := by
  unfold k1_pay193 scaleV gather at2
  rfl

theorem at_0 : k1_off3 k = ![0, 32 * k.val, 0] := by revert k; decide +kernel
theorem at_1 : k1_off5 k = ![0, 32 * k.val, 128] := by revert k; decide +kernel
theorem at_2 : k1_off7 k = ![0, 32 * k.val, 256] := by revert k; decide +kernel
theorem at_3 : k1_off9 k = ![0, 32 * k.val, 384] := by revert k; decide +kernel
theorem at_4 : k1_off11 k = ![0, 32 * k.val, 512] := by revert k; decide +kernel
theorem at_5 : k1_off13 k = ![0, 32 * k.val, 640] := by revert k; decide +kernel
theorem at_6 : k1_off15 k = ![0, 32 * k.val, 768] := by revert k; decide +kernel
theorem at_7 : k1_off17 k = ![0, 32 * k.val, 896] := by revert k; decide +kernel
theorem at_8 : k1_off19 k = ![0, 32 * k.val, 1024] := by revert k; decide +kernel
theorem at_9 : k1_off21 k = ![0, 32 * k.val, 1152] := by revert k; decide +kernel
theorem at_10 : k1_off23 k = ![0, 32 * k.val, 1280] := by revert k; decide +kernel
theorem at_11 : k1_off25 k = ![0, 32 * k.val, 1408] := by revert k; decide +kernel
theorem at_12 : k1_off27 k = ![0, 32 * k.val, 1536] := by revert k; decide +kernel
theorem at_13 : k1_off29 k = ![0, 32 * k.val, 1664] := by revert k; decide +kernel
theorem at_14 : k1_off31 k = ![0, 32 * k.val, 1792] := by revert k; decide +kernel
theorem at_15 : k1_off33 k = ![0, 32 * k.val, 1920] := by revert k; decide +kernel
theorem at_16 : k1_off35 k = ![0, 32 * k.val, 2048] := by revert k; decide +kernel
theorem at_17 : k1_off37 k = ![0, 32 * k.val, 2176] := by revert k; decide +kernel
theorem at_18 : k1_off39 k = ![0, 32 * k.val, 2304] := by revert k; decide +kernel
theorem at_19 : k1_off41 k = ![0, 32 * k.val, 2432] := by revert k; decide +kernel
theorem aw_0 : k1_off2 k = ![32 * k.val, 0] := by revert k; decide +kernel
theorem aw_1 : k1_off4 k = ![32 * k.val, 128] := by revert k; decide +kernel
theorem aw_2 : k1_off6 k = ![32 * k.val, 256] := by revert k; decide +kernel
theorem aw_3 : k1_off8 k = ![32 * k.val, 384] := by revert k; decide +kernel
theorem aw_4 : k1_off10 k = ![32 * k.val, 512] := by revert k; decide +kernel
theorem aw_5 : k1_off12 k = ![32 * k.val, 640] := by revert k; decide +kernel
theorem aw_6 : k1_off14 k = ![32 * k.val, 768] := by revert k; decide +kernel
theorem aw_7 : k1_off16 k = ![32 * k.val, 896] := by revert k; decide +kernel
theorem aw_8 : k1_off18 k = ![32 * k.val, 1024] := by revert k; decide +kernel
theorem aw_9 : k1_off20 k = ![32 * k.val, 1152] := by revert k; decide +kernel
theorem aw_10 : k1_off22 k = ![32 * k.val, 1280] := by revert k; decide +kernel
theorem aw_11 : k1_off24 k = ![32 * k.val, 1408] := by revert k; decide +kernel
theorem aw_12 : k1_off26 k = ![32 * k.val, 1536] := by revert k; decide +kernel
theorem aw_13 : k1_off28 k = ![32 * k.val, 1664] := by revert k; decide +kernel
theorem aw_14 : k1_off30 k = ![32 * k.val, 1792] := by revert k; decide +kernel
theorem aw_15 : k1_off32 k = ![32 * k.val, 1920] := by revert k; decide +kernel
theorem aw_16 : k1_off34 k = ![32 * k.val, 2048] := by revert k; decide +kernel
theorem aw_17 : k1_off36 k = ![32 * k.val, 2176] := by revert k; decide +kernel
theorem aw_18 : k1_off38 k = ![32 * k.val, 2304] := by revert k; decide +kernel
theorem aw_19 : k1_off40 k = ![32 * k.val, 2432] := by revert k; decide +kernel
theorem at_s : k1_off42 k = ![32 * k.val, 0] := by revert k; decide +kernel

variable (𝒱 : Variants) (c : Dev nD) (bd : Option 𝒱.V) (i : grid1.Coords)
  (harg1 : arg1.IsWhole) (arg2 : Memref sig .tc .vmem S1x6x2560 .f32) (harg2 : arg2.IsWhole) (arg3 : Memref sig .tc .vmem S2560x3840 .bf16) (harg3 : arg3.IsWhole) (arg4 : Memref sig .tc .vmem S1x128 .f32) (harg4 : arg4.IsWhole)
  (arg5 : Memref sig .tc .vmem S1x128 .f32) (harg5 : arg5.IsWhole) (arg6 : Memref sig .tc .vmem S1x512x2560 .fp8e4m3) (harg6 : arg6.IsWhole) (arg7 : Memref sig .tc .vmem S1x80x512 .f32) (harg7 : arg7.IsWhole) (arg8 : Memref sig .tc .vmem S1x20x512x128 .f32) (harg8 : arg8.IsWhole)
  (arg9 : Memref sig .tc .vmem S1x10x512x128 .f32) (harg9 : arg9.IsWhole) (arg10 : Memref sig .tc .vmem S512x2560 .bf16) (harg10 : arg10.IsWhole) (arg11 : Memref sig .tc .vmem S512x128 .f32) (harg11 : arg11.IsWhole)

theorem trip_codes (H : ℕ → ℕ → EReal) (hH : ∀ r, row (cut (normed arg1 v0 v2 X k)) r = H (32 * k.val + r.val)) (y : S1x512x2560.Idx) :
    View.AllAt (trip_k1_t1 (F := Ideal) 𝒱 c bd i arg1 harg1 arg2 harg2 arg3 harg3 arg4 harg4 arg5 harg5 arg6 harg6 arg7 harg7 arg8 harg8 arg9 harg9 arg10 harg10 arg11 harg11 v0 v2 X k).1 y (codeOf (H (y 1).val) (y 2).val) := by
  unfold trip_k1_t1
  refine View.allAt_cons_unit _ _ _ _ _ (codeTile (by decide : (20 : ℕ) ≤ 32) (tops20 (cut (normed arg1 v0 v2 X k))) H k.val hH y 19 _ _ (at_19 k) rfl) ?_
  refine View.allAt_cons_unit _ _ _ _ _ (codeTile (by decide : (20 : ℕ) ≤ 32) (tops20 (cut (normed arg1 v0 v2 X k))) H k.val hH y 18 _ _ (at_18 k) rfl) ?_
  refine View.allAt_cons_unit _ _ _ _ _ (codeTile (by decide : (20 : ℕ) ≤ 32) (tops20 (cut (normed arg1 v0 v2 X k))) H k.val hH y 17 _ _ (at_17 k) rfl) ?_
  refine View.allAt_cons_unit _ _ _ _ _ (codeTile (by decide : (20 : ℕ) ≤ 32) (tops20 (cut (normed arg1 v0 v2 X k))) H k.val hH y 16 _ _ (at_16 k) rfl) ?_
  refine View.allAt_cons_unit _ _ _ _ _ (codeTile (by decide : (20 : ℕ) ≤ 32) (tops20 (cut (normed arg1 v0 v2 X k))) H k.val hH y 15 _ _ (at_15 k) rfl) ?_
  refine View.allAt_cons_unit _ _ _ _ _ (codeTile (by decide : (20 : ℕ) ≤ 32) (tops20 (cut (normed arg1 v0 v2 X k))) H k.val hH y 14 _ _ (at_14 k) rfl) ?_
  refine View.allAt_cons_unit _ _ _ _ _ (codeTile (by decide : (20 : ℕ) ≤ 32) (tops20 (cut (normed arg1 v0 v2 X k))) H k.val hH y 13 _ _ (at_13 k) rfl) ?_
  refine View.allAt_cons_unit _ _ _ _ _ (codeTile (by decide : (20 : ℕ) ≤ 32) (tops20 (cut (normed arg1 v0 v2 X k))) H k.val hH y 12 _ _ (at_12 k) rfl) ?_
  refine View.allAt_cons_unit _ _ _ _ _ (codeTile (by decide : (20 : ℕ) ≤ 32) (tops20 (cut (normed arg1 v0 v2 X k))) H k.val hH y 11 _ _ (at_11 k) rfl) ?_
  refine View.allAt_cons_unit _ _ _ _ _ (codeTile (by decide : (20 : ℕ) ≤ 32) (tops20 (cut (normed arg1 v0 v2 X k))) H k.val hH y 10 _ _ (at_10 k) rfl) ?_
  refine View.allAt_cons_unit _ _ _ _ _ (codeTile (by decide : (20 : ℕ) ≤ 32) (tops20 (cut (normed arg1 v0 v2 X k))) H k.val hH y 9 _ _ (at_9 k) rfl) ?_
  refine View.allAt_cons_unit _ _ _ _ _ (codeTile (by decide : (20 : ℕ) ≤ 32) (tops20 (cut (normed arg1 v0 v2 X k))) H k.val hH y 8 _ _ (at_8 k) rfl) ?_
  refine View.allAt_cons_unit _ _ _ _ _ (codeTile (by decide : (20 : ℕ) ≤ 32) (tops20 (cut (normed arg1 v0 v2 X k))) H k.val hH y 7 _ _ (at_7 k) rfl) ?_
  refine View.allAt_cons_unit _ _ _ _ _ (codeTile (by decide : (20 : ℕ) ≤ 32) (tops20 (cut (normed arg1 v0 v2 X k))) H k.val hH y 6 _ _ (at_6 k) rfl) ?_
  refine View.allAt_cons_unit _ _ _ _ _ (codeTile (by decide : (20 : ℕ) ≤ 32) (tops20 (cut (normed arg1 v0 v2 X k))) H k.val hH y 5 _ _ (at_5 k) rfl) ?_
  refine View.allAt_cons_unit _ _ _ _ _ (codeTile (by decide : (20 : ℕ) ≤ 32) (tops20 (cut (normed arg1 v0 v2 X k))) H k.val hH y 4 _ _ (at_4 k) rfl) ?_
  refine View.allAt_cons_unit _ _ _ _ _ (codeTile (by decide : (20 : ℕ) ≤ 32) (tops20 (cut (normed arg1 v0 v2 X k))) H k.val hH y 3 _ _ (at_3 k) rfl) ?_
  refine View.allAt_cons_unit _ _ _ _ _ (codeTile (by decide : (20 : ℕ) ≤ 32) (tops20 (cut (normed arg1 v0 v2 X k))) H k.val hH y 2 _ _ (at_2 k) rfl) ?_
  refine View.allAt_cons_unit _ _ _ _ _ (codeTile (by decide : (20 : ℕ) ≤ 32) (tops20 (cut (normed arg1 v0 v2 X k))) H k.val hH y 1 _ _ (at_1 k) rfl) ?_
  refine View.allAt_cons_unit _ _ _ _ _ (codeTile (by decide : (20 : ℕ) ≤ 32) (tops20 (cut (normed arg1 v0 v2 X k))) H k.val hH y 0 _ _ (at_0 k) rfl) ?_
  exact View.allAt_nil _ _

theorem trip_hw (H : ℕ → ℕ → EReal) (hH : ∀ r, row (cut (normed arg1 v0 v2 X k)) r = H (32 * k.val + r.val)) (y : S512x2560.Idx) :
    View.AllAt (trip_k1_t1 (F := Ideal) 𝒱 c bd i arg1 harg1 arg2 harg2 arg3 harg3 arg4 harg4 arg5 harg5 arg6 harg6 arg7 harg7 arg8 harg8 arg9 harg9 arg10 harg10 arg11 harg11 v0 v2 X k).2.1 y (codeOf (H (y 0).val) (y 1).val * scaleOf (H (y 0).val) ((y 1).val / 32)) := by
  unfold trip_k1_t1
  refine View.allAt_cons_unit _ _ _ _ _ (hwTile2 (by decide : (20 : ℕ) ≤ 32) (tops20 (cut (normed arg1 v0 v2 X k))) H k.val hH y 19 _ _ (aw_19 k) rfl) ?_
  refine View.allAt_cons_unit _ _ _ _ _ (hwTile2 (by decide : (20 : ℕ) ≤ 32) (tops20 (cut (normed arg1 v0 v2 X k))) H k.val hH y 18 _ _ (aw_18 k) rfl) ?_
  refine View.allAt_cons_unit _ _ _ _ _ (hwTile2 (by decide : (20 : ℕ) ≤ 32) (tops20 (cut (normed arg1 v0 v2 X k))) H k.val hH y 17 _ _ (aw_17 k) rfl) ?_
  refine View.allAt_cons_unit _ _ _ _ _ (hwTile2 (by decide : (20 : ℕ) ≤ 32) (tops20 (cut (normed arg1 v0 v2 X k))) H k.val hH y 16 _ _ (aw_16 k) rfl) ?_
  refine View.allAt_cons_unit _ _ _ _ _ (hwTile2 (by decide : (20 : ℕ) ≤ 32) (tops20 (cut (normed arg1 v0 v2 X k))) H k.val hH y 15 _ _ (aw_15 k) rfl) ?_
  refine View.allAt_cons_unit _ _ _ _ _ (hwTile2 (by decide : (20 : ℕ) ≤ 32) (tops20 (cut (normed arg1 v0 v2 X k))) H k.val hH y 14 _ _ (aw_14 k) rfl) ?_
  refine View.allAt_cons_unit _ _ _ _ _ (hwTile2 (by decide : (20 : ℕ) ≤ 32) (tops20 (cut (normed arg1 v0 v2 X k))) H k.val hH y 13 _ _ (aw_13 k) rfl) ?_
  refine View.allAt_cons_unit _ _ _ _ _ (hwTile2 (by decide : (20 : ℕ) ≤ 32) (tops20 (cut (normed arg1 v0 v2 X k))) H k.val hH y 12 _ _ (aw_12 k) rfl) ?_
  refine View.allAt_cons_unit _ _ _ _ _ (hwTile2 (by decide : (20 : ℕ) ≤ 32) (tops20 (cut (normed arg1 v0 v2 X k))) H k.val hH y 11 _ _ (aw_11 k) rfl) ?_
  refine View.allAt_cons_unit _ _ _ _ _ (hwTile2 (by decide : (20 : ℕ) ≤ 32) (tops20 (cut (normed arg1 v0 v2 X k))) H k.val hH y 10 _ _ (aw_10 k) rfl) ?_
  refine View.allAt_cons_unit _ _ _ _ _ (hwTile2 (by decide : (20 : ℕ) ≤ 32) (tops20 (cut (normed arg1 v0 v2 X k))) H k.val hH y 9 _ _ (aw_9 k) rfl) ?_
  refine View.allAt_cons_unit _ _ _ _ _ (hwTile2 (by decide : (20 : ℕ) ≤ 32) (tops20 (cut (normed arg1 v0 v2 X k))) H k.val hH y 8 _ _ (aw_8 k) rfl) ?_
  refine View.allAt_cons_unit _ _ _ _ _ (hwTile2 (by decide : (20 : ℕ) ≤ 32) (tops20 (cut (normed arg1 v0 v2 X k))) H k.val hH y 7 _ _ (aw_7 k) rfl) ?_
  refine View.allAt_cons_unit _ _ _ _ _ (hwTile2 (by decide : (20 : ℕ) ≤ 32) (tops20 (cut (normed arg1 v0 v2 X k))) H k.val hH y 6 _ _ (aw_6 k) rfl) ?_
  refine View.allAt_cons_unit _ _ _ _ _ (hwTile2 (by decide : (20 : ℕ) ≤ 32) (tops20 (cut (normed arg1 v0 v2 X k))) H k.val hH y 5 _ _ (aw_5 k) rfl) ?_
  refine View.allAt_cons_unit _ _ _ _ _ (hwTile2 (by decide : (20 : ℕ) ≤ 32) (tops20 (cut (normed arg1 v0 v2 X k))) H k.val hH y 4 _ _ (aw_4 k) rfl) ?_
  refine View.allAt_cons_unit _ _ _ _ _ (hwTile2 (by decide : (20 : ℕ) ≤ 32) (tops20 (cut (normed arg1 v0 v2 X k))) H k.val hH y 3 _ _ (aw_3 k) rfl) ?_
  refine View.allAt_cons_unit _ _ _ _ _ (hwTile2 (by decide : (20 : ℕ) ≤ 32) (tops20 (cut (normed arg1 v0 v2 X k))) H k.val hH y 2 _ _ (aw_2 k) rfl) ?_
  refine View.allAt_cons_unit _ _ _ _ _ (hwTile2 (by decide : (20 : ℕ) ≤ 32) (tops20 (cut (normed arg1 v0 v2 X k))) H k.val hH y 1 _ _ (aw_1 k) rfl) ?_
  refine View.allAt_cons_unit _ _ _ _ _ (hwTile2 (by decide : (20 : ℕ) ≤ 32) (tops20 (cut (normed arg1 v0 v2 X k))) H k.val hH y 0 _ _ (aw_0 k) rfl) ?_
  exact View.allAt_nil _ _

theorem trip_scales (H : ℕ → ℕ → EReal) (hH : ∀ r, row (cut (normed arg1 v0 v2 X k)) r = H (32 * k.val + r.val)) (y : S512x128.Idx) (hy : (y 1).val < 80) :
    View.AllAt (trip_k1_t1 (F := Ideal) 𝒱 c bd i arg1 harg1 arg2 harg2 arg3 harg3 arg4 harg4 arg5 harg5 arg6 harg6 arg7 harg7 arg8 harg8 arg9 harg9 arg10 harg10 arg11 harg11 v0 v2 X k).2.2.1 y (scaleOf (H (y 0).val) (y 1).val) := by
  unfold trip_k1_t1
  refine View.allAt_cons_unit _ _ _ _ _ (scaleTile (by decide : (20 : ℕ) ≤ 32) (tops20 (cut (normed arg1 v0 v2 X k))) H k.val hH at2 at2_apply y hy _ _ (at_s k) ?h) ?_
  case h =>
    have e1 : trip_k1_t1.sl.v1906 = k1_pay188 lane 4#32 (Scalar.cmpi .eq 4#32 0#32) := rfl
    have e2 : cmpi CmpIPredicate.slt trip_k1_t1.sl.v1906 trip_k1_t1.sl.v762 = k1_pay189 lane 4#32 (Scalar.cmpi .eq 4#32 0#32) := by rw [e1]; rfl
    have e3 : addi trip_k1_t1.sl.v1906 trip_k1_t1.sl.v764 = k1_pay190 lane 4#32 (Scalar.cmpi .eq 4#32 0#32) := by rw [e1]; rfl
    have e4 : trip_k1_t1.sl.v1042 arg1 v0 v2 X k = top20 (cut (normed arg1 v0 v2 X k)) := rfl
    show k1_pay193 (trip_k1_t1.sl.v1042 arg1 v0 v2 X k) trip_k1_t1.sl.v1906 (cmpi CmpIPredicate.slt trip_k1_t1.sl.v1906 trip_k1_t1.sl.v762) (addi trip_k1_t1.sl.v1906 trip_k1_t1.sl.v764) = _
    rw [e2, e3, e1, e4]
    exact scale_pay _
  exact View.allAt_nil _ _

theorem loop_codes (H : ℕ → ℕ → EReal) (hH : ∀ (k : Fin k1_t1_loop.trips) r, row (cut (normed arg1 v0 v2 X k)) r = H (32 * k.val + r.val)) (y : S1x512x2560.Idx) :
    ∀ n, n ≤ k1_t1_loop.trips → View.AllAt (pb_k1_t1 (F := Ideal) 𝒱 c bd i arg1 harg1 arg2 harg2 arg3 harg3 arg4 harg4 arg5 harg5 arg6 harg6 arg7 harg7 arg8 harg8 arg9 harg9 arg10 harg10 arg11 harg11 v0 v2 X n).1 y (codeOf (H (y 1).val) (y 2).val)
  | 0, _ => View.allAt_nil _ _
  | n + 1, hn => by
    rw [pb_k1_t1_succ (F := Ideal) 𝒱 c bd i arg1 harg1 arg2 harg2 arg3 harg3 arg4 harg4 arg5 harg5 arg6 harg6 arg7 harg7 arg8 harg8 arg9 harg9 arg10 harg10 arg11 harg11 v0 v2 X ⟨n, hn⟩]
    exact allAt_append _ _ _ _ (trip_codes arg1 v0 v2 X ⟨n, hn⟩ 𝒱 c bd i harg1 arg2 harg2 arg3 harg3 arg4 harg4 arg5 harg5 arg6 harg6 arg7 harg7 arg8 harg8 arg9 harg9 arg10 harg10 arg11 harg11 H (hH _) y)
      (loop_codes H hH y n (Nat.le_of_succ_le hn))

theorem loop_hw (H : ℕ → ℕ → EReal) (hH : ∀ (k : Fin k1_t1_loop.trips) r, row (cut (normed arg1 v0 v2 X k)) r = H (32 * k.val + r.val)) (y : S512x2560.Idx) :
    ∀ n, n ≤ k1_t1_loop.trips → View.AllAt (pb_k1_t1 (F := Ideal) 𝒱 c bd i arg1 harg1 arg2 harg2 arg3 harg3 arg4 harg4 arg5 harg5 arg6 harg6 arg7 harg7 arg8 harg8 arg9 harg9 arg10 harg10 arg11 harg11 v0 v2 X n).2.1 y (codeOf (H (y 0).val) (y 1).val * scaleOf (H (y 0).val) ((y 1).val / 32))
  | 0, _ => View.allAt_nil _ _
  | n + 1, hn => by
    rw [pb_k1_t1_succ (F := Ideal) 𝒱 c bd i arg1 harg1 arg2 harg2 arg3 harg3 arg4 harg4 arg5 harg5 arg6 harg6 arg7 harg7 arg8 harg8 arg9 harg9 arg10 harg10 arg11 harg11 v0 v2 X ⟨n, hn⟩]
    exact allAt_append _ _ _ _ (trip_hw arg1 v0 v2 X ⟨n, hn⟩ 𝒱 c bd i harg1 arg2 harg2 arg3 harg3 arg4 harg4 arg5 harg5 arg6 harg6 arg7 harg7 arg8 harg8 arg9 harg9 arg10 harg10 arg11 harg11 H (hH _) y)
      (loop_hw H hH y n (Nat.le_of_succ_le hn))

theorem loop_scales (H : ℕ → ℕ → EReal) (hH : ∀ (k : Fin k1_t1_loop.trips) r, row (cut (normed arg1 v0 v2 X k)) r = H (32 * k.val + r.val)) (y : S512x128.Idx) (hy : (y 1).val < 80) :
    ∀ n, n ≤ k1_t1_loop.trips → View.AllAt (pb_k1_t1 (F := Ideal) 𝒱 c bd i arg1 harg1 arg2 harg2 arg3 harg3 arg4 harg4 arg5 harg5 arg6 harg6 arg7 harg7 arg8 harg8 arg9 harg9 arg10 harg10 arg11 harg11 v0 v2 X n).2.2 y (scaleOf (H (y 0).val) (y 1).val)
  | 0, _ => View.allAt_nil _ _
  | n + 1, hn => by
    rw [pb_k1_t1_succ (F := Ideal) 𝒱 c bd i arg1 harg1 arg2 harg2 arg3 harg3 arg4 harg4 arg5 harg5 arg6 harg6 arg7 harg7 arg8 harg8 arg9 harg9 arg10 harg10 arg11 harg11 v0 v2 X ⟨n, hn⟩]
    exact allAt_append _ _ _ _ (trip_scales arg1 v0 v2 X ⟨n, hn⟩ 𝒱 c bd i harg1 arg2 harg2 arg3 harg3 arg4 harg4 arg5 harg5 arg6 harg6 arg7 harg7 arg8 harg8 arg9 harg9 arg10 harg10 arg11 harg11 H (hH _) y hy)
      (loop_scales H hH y hy n (Nat.le_of_succ_le hn))

end Cert.Proof.QkvTwo

end
-- ==== Proof.QkvPieces.lean ====
/- The tiles of the query, key and value products, the normalization of a chunk and the transposed scales, index by index. -/
module

public import proofs.«01_k».proof.Proof.QkvSpec
public import proofs.«01_k».proof.Proof.QkvTwo
public import Idealize.ShloMosaic.Lib.WholeRead

@[expose] public section

set_option maxRecDepth 16384

noncomputable section

namespace Cert.Proof.QkvPieces

open Idealize.ShloMosaic Cert.QkvIdeal Cert.QkvIdeal.Gen Cert.Proof.Quant Cert.Proof.Tiles Cert.Proof.QkvTwo
open Cert.Proof.QkvSpec (headSq headNorm gain)

/-- Row `r` of the tokens. -/
def tAt (x0 : Vec Ideal S1x512x2560 .bf16) (r c : ℕ) : EReal := x0 (ix3 0 ⟨r % 512, Nat.mod_lt _ (by decide)⟩ ⟨c % 2560, Nat.mod_lt _ (by decide)⟩)

/-- One row of the modulation. -/
def mAt (x1 : Vec Ideal S1x6x2560 .f32) (q : Fin 6) (c : ℕ) : EReal := x1 (ix3 0 q ⟨c % 2560, Nat.mod_lt _ (by decide)⟩)

/-- Row `r` normalized, and zero past its end. -/
def nAt (x0 : Vec Ideal S1x512x2560 .bf16) (x1 : Vec Ideal S1x6x2560 .f32) (r c : ℕ) : EReal :=
  if c / 128 < 20 then OutSpec.normed (tAt x0 r) (mAt x1 0) (mAt x1 1) c else 0

/-- Row `r`'s codes times their scales times the matrix. -/
def pAt (x0 : Vec Ideal S1x512x2560 .bf16) (x1 : Vec Ideal S1x6x2560 .f32) (x2 : Vec Ideal S2560x3840 .bf16) (r c : ℕ) : EReal :=
  ∑ k : Fin 2560, Spec.back (nAt x0 x1 r) k.val * x2 (ix2 k ⟨c % 3840, Nat.mod_lt _ (by decide)⟩)

theorem half_slices (u : Fin 2) : S512x256.Slices ![0, 128 * u.val] S512x128 := by revert u; decide +kernel

/-- One head of a tile of two. -/
def half (a : Vec Ideal S512x2560 .bf16) (w : Vec Ideal S2560x256 .bf16) (u : Fin 2) : FVec Ideal S512x128 .f32 :=
  extractStridedSlice S512x128 ![0, 128 * u.val] (k1_pay199 (F := Ideal) a w) (half_slices u)

theorem half_apply (a : Vec Ideal S512x2560 .bf16) (w : Vec Ideal S2560x256 .bf16) (u : Fin 2) (r : Fin 512) (l : Fin 128) :
    half a w u (ix2 r l) = ∑ k : Fin 2560, a (ix2 r k) * w (ix2 k ⟨128 * u.val + l.val, by omega⟩) := by
  unfold half k1_pay199
  pointwise

/-- A head normalized. -/
def headed (Z : FVec Ideal S512x128 .f32) (g : Vec Ideal S1x128 .f32) : FVec Ideal S1x1x512x128 .f32 :=
  shapeCast S1x1x512x128
    (mulf (mulf Z (broadcastTo S512x128
        (divf (broadcast S512x1 (Scalar.ofBits .f32 0x3F800000#32 : Ideal .f32))
          (sqrt (addf (divf (shapeCast S512x1 (multiReduction .add [1] S512 (mulf Z Z) 0x00000000#32 reduces_S512x128_S512 (.inl rfl) rfl) shapeCasts_S512_S512x1)
              (broadcast S512x1 (Scalar.ofBits .f32 0x43000000#32 : Ideal .f32)))
            (broadcast S512x1 (Scalar.ofBits .f32 0x358637BD#32 : Ideal .f32)))))
        broadcasts_S512x1_S512x128))
      (broadcastTo S512x128 g broadcasts_S1x128_S512x128))
    shapeCasts_S512x128_S1x1x512x128

theorem headed_apply (Z : FVec Ideal S512x128 .f32) (g : Vec Ideal S1x128 .f32) (Y G : ℕ → EReal) (h : ℕ) (r : Fin 512)
    (hZ : ∀ j : Fin 128, Z (ix2 r j) = Y (128 * h + j.val)) (hg : ∀ j : Fin 128, g (ix2 0 j) = G j.val) (l : Fin 128) :
    headed Z g (ix4 0 0 r l) = headNorm Y G h l.val := by
  unfold headed headNorm headSq
  pointwise
  simp only [hZ, hg]

theorem plain_apply (Z : FVec Ideal S512x128 .f32) (r : Fin 512) (l : Fin 128) :
    shapeCast S1x1x512x128 Z shapeCasts_S512x128_S1x1x512x128 (ix4 0 0 r l) = Z (ix2 r l) := by
  pointwise

theorem inb_w (j : Fin 15) : ∀ a, (![0, 256 * j.val] : Fin 2 → ℕ) a + S2560x256.size a ≤ S2560x3840.size a := by revert j; decide +kernel
theorem inb_g : ∀ a, (![0, 0] : Fin 2 → ℕ) a + S1x128.size a ≤ S1x128.size a := by decide

/-- One head of the products of a tile. -/
theorem half_rows (arg3 : Memref sig .tc .vmem S2560x3840 .bf16) (harg3 : arg3.IsWhole)
    (x0 : Vec Ideal S1x512x2560 .bf16) (x1 : Vec Ideal S1x6x2560 .f32) (x2 : Vec Ideal S2560x3840 .bf16)
    (a : Vec Ideal S512x2560 .bf16) (ha : ∀ (r : Fin 512) (k : Fin 2560), a (ix2 r k) = Spec.back (nAt x0 x1 r.val) k.val)
    (j : Fin 15) (u : Fin 2) (r : Fin 512) (l : Fin 128) :
    half a (View.readAt (Elt Ideal) arg3.view (Rect.unit (s := S2560x3840) ![0, 256 * j.val] S2560x256.size (inb_w j)).toLoadRect (harg3.unread x2)) u (ix2 r l)
      = pAt x0 x1 x2 r.val (128 * (2 * j.val + u.val) + l.val) := by
  refine (half_apply _ _ _ _ _).trans ?_
  unfold pAt
  have hu := u.isLt
  have hj := j.isLt
  have hl := l.isLt
  refine Finset.sum_congr rfl fun k _ => congrArg₂ (· * ·) (ha r k) ?_
  refine (harg3.readAt_unread x2 (Rect.unit (s := S2560x3840) ![0, 256 * j.val] S2560x256.size (inb_w j)).toLoadRect _).trans (congrArg x2 ?_)
  funext b
  refine Fin.ext ((Rect.idx_unit_val _ _ (inb_w j) (ix2 k ⟨128 * u.val + l.val, by omega⟩) b).trans ?_)
  fin_cases b
  · show 0 + k.val = k.val; omega
  · show 256 * j.val + (128 * u.val + l.val) = (128 * (2 * j.val + u.val) + l.val) % 3840; omega

theorem gain_rows (arg4 : Memref sig .tc .vmem S1x128 .f32) (harg4 : arg4.IsWhole) (x3 : Vec Ideal S1x128 .f32) (l : Fin 128) :
    View.readAt (Elt Ideal) arg4.view (Rect.unit (s := S1x128) ![0, 0] S1x128.size inb_g).toLoadRect (harg4.unread x3) (ix2 0 l) = x3 (ix2 0 ⟨l.val % 128, Nat.mod_lt _ (by decide)⟩) := by
  refine (harg4.readAt_unread x3 (Rect.unit (s := S1x128) ![0, 0] S1x128.size inb_g).toLoadRect _).trans (congrArg x3 ?_)
  funext b
  refine Fin.ext ((Rect.idx_unit_val _ _ inb_g (ix2 0 l) b).trans ?_)
  have hl := l.isLt
  fin_cases b
  · rfl
  · show 0 + l.val = l.val % 128; omega

/-- One head of the queries and keys. -/
theorem headTile (arg3 : Memref sig .tc .vmem S2560x3840 .bf16) (harg3 : arg3.IsWhole)
    (x0 : Vec Ideal S1x512x2560 .bf16) (x1 : Vec Ideal S1x6x2560 .f32) (x2 : Vec Ideal S2560x3840 .bf16)
    (a : Vec Ideal S512x2560 .bf16) (ha : ∀ (r : Fin 512) (k : Fin 2560), a (ix2 r k) = Spec.back (nAt x0 x1 r.val) k.val)
    (x3 x4 : Vec Ideal S1x128 .f32) (y : S1x20x512x128.Idx) (j : Fin 15) (u : Fin 2)
    (g : Vec Ideal S1x128 .f32) (hg : ∀ l : Fin 128, g (ix2 0 l) = gain x3 x4 (2 * j.val + u.val) l.val)
    (off : Fin 4 → ℕ) (w : Vec Ideal S1x1x512x128 .f32) (hoff : off = ![0, 2 * j.val + u.val, 0, 0])
    (hw : w = headed (half a (View.readAt (Elt Ideal) arg3.view (Rect.unit (s := S2560x3840) ![0, 256 * j.val] S2560x256.size (inb_w j)).toLoadRect (harg3.unread x2)) u) g) :
    View.TileAt (Val := Elt Ideal) (e := .f32) y off S1x1x512x128.size w (headNorm (pAt x0 x1 x2 (y 2).val) (gain x3 x4 (y 1).val) (y 1).val (y 3).val) := by
  subst hoff hw
  intro x hx
  have h1 := hx 1
  have h2 := hx 2
  have h3 := hx 3
  simp only [Fin.isValue, Matrix.cons_val, zero_add] at h1 h2 h3
  have i0 : (x 0).val < 1 := (x 0).isLt
  have i1 : (x 1).val < 1 := (x 1).isLt
  have hr : (x 2).val < 512 := (x 2).isLt
  have hl : (x 3).val < 128 := (x 3).isLt
  have ex : x = ix4 0 0 ⟨(x 2).val, hr⟩ ⟨(x 3).val, hl⟩ := by
    funext a; fin_cases a
    · exact Fin.ext (by show (x 0).val = 0; omega)
    · exact Fin.ext (by show (x 1).val = 0; omega)
    · rfl
    · rfl
  have h1' : (y 1).val = 2 * j.val + u.val := by omega
  rw [ex, h1', h2, h3]
  exact headed_apply _ _ (pAt x0 x1 x2 (x 2).val) _ _ ⟨(x 2).val, hr⟩ (fun l => half_rows arg3 harg3 x0 x1 x2 a ha j u _ l) hg ⟨(x 3).val, hl⟩

/-- One head of the values. -/
theorem valueTile (arg3 : Memref sig .tc .vmem S2560x3840 .bf16) (harg3 : arg3.IsWhole)
    (x0 : Vec Ideal S1x512x2560 .bf16) (x1 : Vec Ideal S1x6x2560 .f32) (x2 : Vec Ideal S2560x3840 .bf16)
    (a : Vec Ideal S512x2560 .bf16) (ha : ∀ (r : Fin 512) (k : Fin 2560), a (ix2 r k) = Spec.back (nAt x0 x1 r.val) k.val)
    (y : S1x10x512x128.Idx) (j : Fin 15) (u : Fin 2) (t : ℕ) (ht : 2 * j.val + u.val = 20 + t)
    (off : Fin 4 → ℕ) (w : Vec Ideal S1x1x512x128 .f32) (hoff : off = ![0, t, 0, 0])
    (hw : w = shapeCast S1x1x512x128 (half a (View.readAt (Elt Ideal) arg3.view (Rect.unit (s := S2560x3840) ![0, 256 * j.val] S2560x256.size (inb_w j)).toLoadRect (harg3.unread x2)) u)
      shapeCasts_S512x128_S1x1x512x128) :
    View.TileAt (Val := Elt Ideal) (e := .f32) y off S1x1x512x128.size w (pAt x0 x1 x2 (y 2).val (128 * (20 + (y 1).val) + (y 3).val)) := by
  subst hoff hw
  intro x hx
  have h1 := hx 1
  have h2 := hx 2
  have h3 := hx 3
  simp only [Fin.isValue, Matrix.cons_val, zero_add] at h1 h2 h3
  have i0 : (x 0).val < 1 := (x 0).isLt
  have i1 : (x 1).val < 1 := (x 1).isLt
  have hr : (x 2).val < 512 := (x 2).isLt
  have hl : (x 3).val < 128 := (x 3).isLt
  have ex : x = ix4 0 0 ⟨(x 2).val, hr⟩ ⟨(x 3).val, hl⟩ := by
    funext a; fin_cases a
    · exact Fin.ext (by show (x 0).val = 0; omega)
    · exact Fin.ext (by show (x 1).val = 0; omega)
    · rfl
    · rfl
  have h1' : 20 + (y 1).val = 2 * j.val + u.val := by omega
  rw [ex, h1', h2, h3]
  exact (plain_apply _ _ _).trans (half_rows arg3 harg3 x0 x1 x2 a ha j u ⟨(x 2).val, hr⟩ ⟨(x 3).val, hl⟩)

/-- A chunk normalized, at an index. -/
theorem norm_apply (sh sc : Vec Ideal S1x1x2560 .f32) (v : Vec Ideal S1x32x2560 .bf16) (Y S C : ℕ → EReal) (r : Fin 32) (hv : ∀ j : Fin 2560, v (ix3 0 r j) = Y j.val)
    (hS : ∀ j : Fin 2560, sh (ix3 0 0 j) = S j.val) (hC : ∀ j : Fin 2560, sc (ix3 0 0 j) = C j.val) (c : Fin 2560) :
    k1_pay2 (F := Ideal) (k1_pay191 sh) (k1_pay192 sc) v (ix2 r c) = OutSpec.normed Y S C c.val := by
  unfold k1_pay2 k1_pay191 k1_pay192 OutSpec.normed OutSpec.meanSq
  pointwise
  simp only [hv, hS, hC]

/-- The scales of 128 rows, one row for each block. -/
theorem s_apply (v : Vec Ideal S128x128 .f32) (x : S1x80x128.Idx) :
    k1_pay194 (F := Ideal) v x = v (ix2 ⟨(x 2).val, (x 2).isLt⟩ ⟨(x 1).val, lt_trans (x 1).isLt (by decide)⟩) := by
  unfold k1_pay194
  pointwise

end Cert.Proof.QkvPieces

end
-- ==== Proof.QkvBody.lean ====
/- One run of the query, key and value products: what it leaves in its four results. -/
module

public import proofs.«01_k».proof.Proof.QkvPieces
public import proofs.«01_k».proof.Proof.Gen.QkvIdeal.Frame

@[expose] public section

set_option maxRecDepth 16384

noncomputable section

namespace Cert.Proof.QkvBody

open Idealize.ShloMosaic Cert.QkvIdeal Cert.QkvIdeal.Gen Cert.Proof.Tiles Cert.Proof.QkvTwo Cert.Proof.QkvPieces
open Cert.Proof.Quant (scaleOf codeOf)
open Cert.Proof.QkvSpec (headNorm gain)

theorem inb_sh : ∀ a, (![0, 0, 0] : Fin 3 → ℕ) a + S1x1x2560.size a ≤ S1x6x2560.size a := by decide
theorem inb_sc : ∀ a, (![0, 1, 0] : Fin 3 → ℕ) a + S1x1x2560.size a ≤ S1x6x2560.size a := by decide

theorem off1 (k : Fin k1_t1_loop.trips) : k1_off1 k = ![0, 32 * k.val, 0] := by revert k; decide +kernel

/-- The rows that a trip of the loop normalizes. -/
theorem rows1 (arg1 : Memref sig .tc .vmem S1x512x2560 .bf16) (harg1 : arg1.IsWhole) (arg2 : Memref sig .tc .vmem S1x6x2560 .f32) (harg2 : arg2.IsWhole)
    (x0 : Vec Ideal S1x512x2560 .bf16) (x1 : Vec Ideal S1x6x2560 .f32) (k : Fin k1_t1_loop.trips) (r : Fin 32) :
    row (cut (normed arg1 (View.readAt (Elt Ideal) arg2.view (Rect.unit (s := S1x6x2560) ![0, 0, 0] S1x1x2560.size inb_sh).toLoadRect (harg2.unread x1)) (View.readAt (Elt Ideal) arg2.view (Rect.unit (s := S1x6x2560) ![0, 1, 0] S1x1x2560.size inb_sc).toLoadRect (harg2.unread x1)) (harg1.unread x0) k)) r = nAt x0 x1 (32 * k.val + r.val) := by
  have hk : k.val < 16 := Nat.lt_of_lt_of_le k.isLt k1_t1_abs.2.1
  funext q
  unfold row nAt
  by_cases h : q / 128 < 20
  · rw [dif_pos h, if_pos h, cut_apply]
    unfold normed
    have hq : 128 * (q / 128) + q % 128 = q := by omega
    refine (norm_apply _ _ _ (tAt x0 (32 * k.val + r.val)) (mAt x1 0) (mAt x1 1) r (fun j => ?_) (fun j => ?_) (fun j => ?_) ⟨128 * (q / 128) + q % 128, by omega⟩).trans ?_
    · refine (harg1.readAt_unread x0 (Rect.unit (s := S1x512x2560) (k1_off1 k) S1x32x2560.size (k1_off1_inb k)).toLoadRect _).trans (congrArg x0 ?_)
      have e := fun a => Rect.idx_unit_val (s := S1x512x2560) (k1_off1 k) S1x32x2560.size (k1_off1_inb k) (ix3 0 r j) a
      have e0 := (e 0).trans (congrArg (· + 0) (congrFun (off1 k) 0))
      have e1 := (e 1).trans (congrArg (· + r.val) (congrFun (off1 k) 1))
      have e2 := (e 2).trans (congrArg (· + j.val) (congrFun (off1 k) 2))
      funext a; fin_cases a
      · exact Fin.ext e0
      · refine Fin.ext (e1.trans ?_); show 32 * k.val + r.val = (32 * k.val + r.val) % 512; omega
      · refine Fin.ext (e2.trans ?_); show 0 + j.val = j.val % 2560; omega
    · refine (harg2.readAt_unread x1 (Rect.unit (s := S1x6x2560) ![0, 0, 0] S1x1x2560.size inb_sh).toLoadRect _).trans (congrArg x1 ?_)
      funext a; refine Fin.ext ((Rect.idx_unit_val _ _ inb_sh (ix3 0 0 j) a).trans ?_)
      fin_cases a
      · rfl
      · rfl
      · show 0 + j.val = j.val % 2560; omega
    · refine (harg2.readAt_unread x1 (Rect.unit (s := S1x6x2560) ![0, 1, 0] S1x1x2560.size inb_sc).toLoadRect _).trans (congrArg x1 ?_)
      funext a; refine Fin.ext ((Rect.idx_unit_val _ _ inb_sc (ix3 0 0 j) a).trans ?_)
      fin_cases a
      · rfl
      · rfl
      · show 0 + j.val = j.val % 2560; omega
    · exact congrArg (OutSpec.normed (tAt x0 (32 * k.val + r.val)) (mAt x1 0) (mAt x1 1)) hq
  · rw [dif_neg h, if_neg h]

theorem gain_q (arg4 : Memref sig .tc .vmem S1x128 .f32) (harg4 : arg4.IsWhole) (x3 x4 : Vec Ideal S1x128 .f32) (h : ℕ) (hh : h < 10) (l : Fin 128) :
    View.readAt (Elt Ideal) arg4.view (Rect.unit (s := S1x128) ![0, 0] S1x128.size inb_g).toLoadRect (harg4.unread x3) (ix2 0 l) = gain x3 x4 h l.val := by
  unfold gain
  rw [if_pos hh]
  exact gain_rows arg4 harg4 x3 l

theorem gain_k (arg5 : Memref sig .tc .vmem S1x128 .f32) (harg5 : arg5.IsWhole) (x3 x4 : Vec Ideal S1x128 .f32) (h : ℕ) (hh : ¬ h < 10) (l : Fin 128) :
    View.readAt (Elt Ideal) arg5.view (Rect.unit (s := S1x128) ![0, 0] S1x128.size inb_g).toLoadRect (harg5.unread x4) (ix2 0 l) = gain x3 x4 h l.val := by
  unfold gain
  rw [if_neg hh]
  exact gain_rows arg5 harg5 x4 l

variable (c : Dev nD) (i : grid1.Coords) (arg1 : Memref sig .tc .vmem S1x512x2560 .bf16) (harg1 : arg1.IsWhole) (arg2 : Memref sig .tc .vmem S1x6x2560 .f32) (harg2 : arg2.IsWhole) (arg3 : Memref sig .tc .vmem S2560x3840 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x512x2560 .fp8e4m3) (harg6 : arg6.IsWhole) (arg7 : Memref sig .tc .vmem S1x80x512 .f32) (harg7 : arg7.IsWhole) (arg8 : Memref sig .tc .vmem S1x20x512x128 .f32) (harg8 : arg8.IsWhole) (arg9 : Memref sig .tc .vmem S1x10x512x128 .f32) (harg9 : arg9.IsWhole) (arg10 : Memref sig .tc .vmem S512x2560 .bf16) (harg10 : arg10.IsWhole) (arg11 : Memref sig .tc .vmem S512x128 .f32) (harg11 : arg11.IsWhole)
  (x0 : Vec Ideal S1x512x2560 .bf16) (x1 : Vec Ideal S1x6x2560 .f32) (x2 : Vec Ideal S2560x3840 .bf16) (x3 x4 : Vec Ideal S1x128 .f32)

/-- The codes times their scales, as the products read them. -/
theorem xw_apply (h : ∀ a, (![0, 0] : Fin 2 → ℕ) a + S512x2560.size a ≤ S512x2560.size a) (r : Fin 512) (k : Fin 2560) :
    arg10.view.readCov (pb_k1_t1 (F := Ideal) Variants.none c none i arg1 harg1 arg2 harg2 arg3 harg3 arg4 harg4 arg5 harg5 arg6 harg6 arg7 harg7 arg8 harg8 arg9 harg9 arg10 harg10 arg11 harg11 (View.readAt (Elt Ideal) arg2.view (Rect.unit (s := S1x6x2560) ![0, 0, 0] S1x1x2560.size inb_sh).toLoadRect (harg2.unread x1)) (View.readAt (Elt Ideal) arg2.view (Rect.unit (s := S1x6x2560) ![0, 1, 0] S1x1x2560.size inb_sc).toLoadRect (harg2.unread x1)) (harg1.unread x0) k1_t1_loop.trips).2.1 (Rect.unit (s := S512x2560) ![0, 0] S512x2560.size h).toLoadRect (ix2 r k) = Spec.back (nAt x0 x1 r.val) k.val := by
  rw [View.readCov_eq_canon']
  have e := fun a => Rect.idx_unit_val (s := S512x2560) (![0, 0] : Fin 2 → ℕ) S512x2560.size h (ix2 r k) a
  have e0 := e 0
  have e1 := e 1
  simp only [Fin.isValue, Matrix.cons_val, zero_add] at e0 e1
  refine (View.canon_eq_of_allAt _ _ _ (View.cover_of_tiledL (pb_k1_t1 (F := Ideal) Variants.none c none i arg1 harg1 arg2 harg2 arg3 harg3 arg4 harg4 arg5 harg5 arg6 harg6 arg7 harg7 arg8 harg8 arg9 harg9 arg10 harg10 arg11 harg11 (View.readAt (Elt Ideal) arg2.view (Rect.unit (s := S1x6x2560) ![0, 0, 0] S1x1x2560.size inb_sh).toLoadRect (harg2.unread x1)) (View.readAt (Elt Ideal) arg2.view (Rect.unit (s := S1x6x2560) ![0, 1, 0] S1x1x2560.size inb_sc).toLoadRect (harg2.unread x1)) (harg1.unread x0) k1_t1_loop.trips).2.1 S32x128.size (by sl_kernel_rfl) _)
    (QkvTwo.loop_hw arg1 (View.readAt (Elt Ideal) arg2.view (Rect.unit (s := S1x6x2560) ![0, 0, 0] S1x1x2560.size inb_sh).toLoadRect (harg2.unread x1)) (View.readAt (Elt Ideal) arg2.view (Rect.unit (s := S1x6x2560) ![0, 1, 0] S1x1x2560.size inb_sc).toLoadRect (harg2.unread x1)) _ Variants.none c none i harg1 arg2 harg2 arg3 harg3 arg4 harg4 arg5 harg5 arg6 harg6 arg7 harg7 arg8 harg8 arg9 harg9 arg10 harg10 arg11 harg11 _ (rows1 arg1 harg1 arg2 harg2 x0 x1) _ _ le_rfl)).trans ?_
  exact congrArg₂ (fun r b => Spec.back (nAt x0 x1 r) b) e0 e1

/-- The normalized rows' codes. -/
theorem codes (y : S1x512x2560.Idx) :
    out1_A_5 (F := Ideal) c i arg1 harg1 arg2 harg2 arg3 harg3 arg4 harg4 arg5 harg5 arg6 harg6 arg7 harg7 arg8 harg8 arg9 harg9 arg10 harg10 arg11 harg11 x0 x1 x2 x3 x4 y = codeOf (nAt x0 x1 (y 1).val) (y 2).val := by
  unfold out1_A_5
  rw [View.read_writes_junk_eq_canon]
  refine View.canon_eq_of_allAt _ y _ (cover1_A_5 c i arg1 harg1 arg2 harg2 arg3 harg3 arg4 harg4 arg5 harg5 arg6 harg6 arg7 harg7 arg8 harg8 arg9 harg9 arg10 harg10 arg11 harg11 x0 x1 x2 x3 x4 y) ?_
  exact QkvTwo.loop_codes arg1 (View.readAt (Elt Ideal) arg2.view (Rect.unit (s := S1x6x2560) ![0, 0, 0] S1x1x2560.size inb_sh).toLoadRect (harg2.unread x1)) (View.readAt (Elt Ideal) arg2.view (Rect.unit (s := S1x6x2560) ![0, 1, 0] S1x1x2560.size inb_sc).toLoadRect (harg2.unread x1)) _ Variants.none c none i harg1 arg2 harg2 arg3 harg3 arg4 harg4 arg5 harg5 arg6 harg6 arg7 harg7 arg8 harg8 arg9 harg9 arg10 harg10 arg11 harg11 _ (rows1 arg1 harg1 arg2 harg2 x0 x1) y _ le_rfl

theorem scaleBlock (o : ℕ) (ho : ∀ a, (![o, 0] : Fin 2 → ℕ) a + S128x128.size a ≤ S512x128.size a) (y : S1x80x512.Idx) (w : Vec Ideal S1x80x128 .f32)
    (off : Fin 3 → ℕ) (hoff : off = ![0, 0, o])
    (hw : w = k1_pay194 (F := Ideal) (arg11.view.readCov (pb_k1_t1 (F := Ideal) Variants.none c none i arg1 harg1 arg2 harg2 arg3 harg3 arg4 harg4 arg5 harg5 arg6 harg6 arg7 harg7 arg8 harg8 arg9 harg9 arg10 harg10 arg11 harg11 (View.readAt (Elt Ideal) arg2.view (Rect.unit (s := S1x6x2560) ![0, 0, 0] S1x1x2560.size inb_sh).toLoadRect (harg2.unread x1)) (View.readAt (Elt Ideal) arg2.view (Rect.unit (s := S1x6x2560) ![0, 1, 0] S1x1x2560.size inb_sc).toLoadRect (harg2.unread x1)) (harg1.unread x0) k1_t1_loop.trips).2.2 (Rect.unit (s := S512x128) ![o, 0] S128x128.size ho).toLoadRect)) :
    View.TileAt (Val := Elt Ideal) (e := .f32) y off S1x80x128.size w (scaleOf (nAt x0 x1 (y 2).val) (y 1).val) := by
  subst hoff hw
  intro x hx
  have h1 := hx 1
  have h2 := hx 2
  simp only [Fin.isValue, Matrix.cons_val, zero_add] at h1 h2
  rw [s_apply, View.readCov_eq_canon']
  have e := fun a => Rect.idx_unit_val (s := S512x128) (![o, 0] : Fin 2 → ℕ) S128x128.size ho (ix2 ⟨(x 2).val, (x 2).isLt⟩ ⟨(x 1).val, lt_trans (x 1).isLt (by decide)⟩) a
  have e0 := e 0
  have e1 := e 1
  simp only [Fin.isValue, Matrix.cons_val, zero_add] at e0 e1
  have hb : (x 1).val < 80 := (x 1).isLt
  refine (View.canon_eq_of_allAt _ _ _ (View.cover_of_tiledL (pb_k1_t1 (F := Ideal) Variants.none c none i arg1 harg1 arg2 harg2 arg3 harg3 arg4 harg4 arg5 harg5 arg6 harg6 arg7 harg7 arg8 harg8 arg9 harg9 arg10 harg10 arg11 harg11 (View.readAt (Elt Ideal) arg2.view (Rect.unit (s := S1x6x2560) ![0, 0, 0] S1x1x2560.size inb_sh).toLoadRect (harg2.unread x1)) (View.readAt (Elt Ideal) arg2.view (Rect.unit (s := S1x6x2560) ![0, 1, 0] S1x1x2560.size inb_sc).toLoadRect (harg2.unread x1)) (harg1.unread x0) k1_t1_loop.trips).2.2 S32x128.size (by sl_kernel_rfl) _)
    (QkvTwo.loop_scales arg1 (View.readAt (Elt Ideal) arg2.view (Rect.unit (s := S1x6x2560) ![0, 0, 0] S1x1x2560.size inb_sh).toLoadRect (harg2.unread x1)) (View.readAt (Elt Ideal) arg2.view (Rect.unit (s := S1x6x2560) ![0, 1, 0] S1x1x2560.size inb_sc).toLoadRect (harg2.unread x1)) _ Variants.none c none i harg1 arg2 harg2 arg3 harg3 arg4 harg4 arg5 harg5 arg6 harg6 arg7 harg7 arg8 harg8 arg9 harg9 arg10 harg10 arg11 harg11 _ (rows1 arg1 harg1 arg2 harg2 x0 x1) _ (by exact lt_of_eq_of_lt e1 hb) _ le_rfl)).trans ?_
  exact congrArg₂ (fun r b => scaleOf (nAt x0 x1 r) b) (e0.trans h2.symm) (e1.trans h1.symm)

/-- The scales of the normalized rows' codes. -/
theorem scales (y : S1x80x512.Idx) :
    out1_A_6 (F := Ideal) c i arg1 harg1 arg2 harg2 arg3 harg3 arg4 harg4 arg5 harg5 arg6 harg6 arg7 harg7 arg8 harg8 arg9 harg9 arg10 harg10 arg11 harg11 x0 x1 x2 x3 x4 y = scaleOf (nAt x0 x1 (y 2).val) (y 1).val := by
  unfold out1_A_6
  rw [View.read_writes_junk_eq_canon]
  refine View.canon_eq_of_allAt _ y _ (cover1_A_6 c i arg1 harg1 arg2 harg2 arg3 harg3 arg4 harg4 arg5 harg5 arg6 harg6 arg7 harg7 arg8 harg8 arg9 harg9 arg10 harg10 arg11 harg11 x0 x1 x2 x3 x4 y) ?_
  unfold kernelRun1_A
  refine View.allAt_cons_unit _ _ _ _ _ (scaleBlock c i arg1 harg1 arg2 harg2 arg3 harg3 arg4 harg4 arg5 harg5 arg6 harg6 arg7 harg7 arg8 harg8 arg9 harg9 arg10 harg10 arg11 harg11 x0 x1 384 (by decide) y _ _ rfl rfl) ?_
  refine View.allAt_cons_unit _ _ _ _ _ (scaleBlock c i arg1 harg1 arg2 harg2 arg3 harg3 arg4 harg4 arg5 harg5 arg6 harg6 arg7 harg7 arg8 harg8 arg9 harg9 arg10 harg10 arg11 harg11 x0 x1 256 (by decide) y _ _ rfl rfl) ?_
  refine View.allAt_cons_unit _ _ _ _ _ (scaleBlock c i arg1 harg1 arg2 harg2 arg3 harg3 arg4 harg4 arg5 harg5 arg6 harg6 arg7 harg7 arg8 harg8 arg9 harg9 arg10 harg10 arg11 harg11 x0 x1 128 (by decide) y _ _ rfl rfl) ?_
  refine View.allAt_cons_unit _ _ _ _ _ (scaleBlock c i arg1 harg1 arg2 harg2 arg3 harg3 arg4 harg4 arg5 harg5 arg6 harg6 arg7 harg7 arg8 harg8 arg9 harg9 arg10 harg10 arg11 harg11 x0 x1 0 (by decide) y _ _ rfl rfl) ?_
  exact View.allAt_nil _ _

/-- The queries and keys. -/
theorem queryKey (y : S1x20x512x128.Idx) :
    out1_A_7 (F := Ideal) c i arg1 harg1 arg2 harg2 arg3 harg3 arg4 harg4 arg5 harg5 arg6 harg6 arg7 harg7 arg8 harg8 arg9 harg9 arg10 harg10 arg11 harg11 x0 x1 x2 x3 x4 y = headNorm (pAt x0 x1 x2 (y 2).val) (gain x3 x4 (y 1).val) (y 1).val (y 3).val := by
  unfold out1_A_7
  rw [View.read_writes_junk_eq_canon]
  refine View.canon_eq_of_allAt _ y _ (cover1_A_7 c i arg1 harg1 arg2 harg2 arg3 harg3 arg4 harg4 arg5 harg5 arg6 harg6 arg7 harg7 arg8 harg8 arg9 harg9 arg10 harg10 arg11 harg11 x0 x1 x2 x3 x4 y) ?_
  unfold kernelRun1_A
  refine View.allAt_cons_unit _ _ _ _ _ (headTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) x3 x4 y 9 1 _ (gain_k arg5 harg5 x3 x4 19 (by decide)) _ _ rfl rfl) ?_
  refine View.allAt_cons_unit _ _ _ _ _ (headTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) x3 x4 y 9 0 _ (gain_k arg5 harg5 x3 x4 18 (by decide)) _ _ rfl rfl) ?_
  refine View.allAt_cons_unit _ _ _ _ _ (headTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) x3 x4 y 8 1 _ (gain_k arg5 harg5 x3 x4 17 (by decide)) _ _ rfl rfl) ?_
  refine View.allAt_cons_unit _ _ _ _ _ (headTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) x3 x4 y 8 0 _ (gain_k arg5 harg5 x3 x4 16 (by decide)) _ _ rfl rfl) ?_
  refine View.allAt_cons_unit _ _ _ _ _ (headTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) x3 x4 y 7 1 _ (gain_k arg5 harg5 x3 x4 15 (by decide)) _ _ rfl rfl) ?_
  refine View.allAt_cons_unit _ _ _ _ _ (headTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) x3 x4 y 7 0 _ (gain_k arg5 harg5 x3 x4 14 (by decide)) _ _ rfl rfl) ?_
  refine View.allAt_cons_unit _ _ _ _ _ (headTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) x3 x4 y 6 1 _ (gain_k arg5 harg5 x3 x4 13 (by decide)) _ _ rfl rfl) ?_
  refine View.allAt_cons_unit _ _ _ _ _ (headTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) x3 x4 y 6 0 _ (gain_k arg5 harg5 x3 x4 12 (by decide)) _ _ rfl rfl) ?_
  refine View.allAt_cons_unit _ _ _ _ _ (headTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) x3 x4 y 5 1 _ (gain_k arg5 harg5 x3 x4 11 (by decide)) _ _ rfl rfl) ?_
  refine View.allAt_cons_unit _ _ _ _ _ (headTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) x3 x4 y 5 0 _ (gain_k arg5 harg5 x3 x4 10 (by decide)) _ _ rfl rfl) ?_
  refine View.allAt_cons_unit _ _ _ _ _ (headTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) x3 x4 y 4 1 _ (gain_q arg4 harg4 x3 x4 9 (by decide)) _ _ rfl rfl) ?_
  refine View.allAt_cons_unit _ _ _ _ _ (headTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) x3 x4 y 4 0 _ (gain_q arg4 harg4 x3 x4 8 (by decide)) _ _ rfl rfl) ?_
  refine View.allAt_cons_unit _ _ _ _ _ (headTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) x3 x4 y 3 1 _ (gain_q arg4 harg4 x3 x4 7 (by decide)) _ _ rfl rfl) ?_
  refine View.allAt_cons_unit _ _ _ _ _ (headTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) x3 x4 y 3 0 _ (gain_q arg4 harg4 x3 x4 6 (by decide)) _ _ rfl rfl) ?_
  refine View.allAt_cons_unit _ _ _ _ _ (headTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) x3 x4 y 2 1 _ (gain_q arg4 harg4 x3 x4 5 (by decide)) _ _ rfl rfl) ?_
  refine View.allAt_cons_unit _ _ _ _ _ (headTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) x3 x4 y 2 0 _ (gain_q arg4 harg4 x3 x4 4 (by decide)) _ _ rfl rfl) ?_
  refine View.allAt_cons_unit _ _ _ _ _ (headTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) x3 x4 y 1 1 _ (gain_q arg4 harg4 x3 x4 3 (by decide)) _ _ rfl rfl) ?_
  refine View.allAt_cons_unit _ _ _ _ _ (headTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) x3 x4 y 1 0 _ (gain_q arg4 harg4 x3 x4 2 (by decide)) _ _ rfl rfl) ?_
  refine View.allAt_cons_unit _ _ _ _ _ (headTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) x3 x4 y 0 1 _ (gain_q arg4 harg4 x3 x4 1 (by decide)) _ _ rfl rfl) ?_
  refine View.allAt_cons_unit _ _ _ _ _ (headTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) x3 x4 y 0 0 _ (gain_q arg4 harg4 x3 x4 0 (by decide)) _ _ rfl rfl) ?_
  exact View.allAt_nil _ _

/-- The values. -/
theorem value (y : S1x10x512x128.Idx) :
    out1_A_8 (F := Ideal) c i arg1 harg1 arg2 harg2 arg3 harg3 arg4 harg4 arg5 harg5 arg6 harg6 arg7 harg7 arg8 harg8 arg9 harg9 arg10 harg10 arg11 harg11 x0 x1 x2 x3 x4 y = pAt x0 x1 x2 (y 2).val (128 * (20 + (y 1).val) + (y 3).val) := by
  unfold out1_A_8
  rw [View.read_writes_junk_eq_canon]
  refine View.canon_eq_of_allAt _ y _ (cover1_A_8 c i arg1 harg1 arg2 harg2 arg3 harg3 arg4 harg4 arg5 harg5 arg6 harg6 arg7 harg7 arg8 harg8 arg9 harg9 arg10 harg10 arg11 harg11 x0 x1 x2 x3 x4 y) ?_
  unfold kernelRun1_A
  refine View.allAt_cons_unit _ _ _ _ _ (valueTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) y 14 1 9 rfl _ _ rfl rfl) ?_
  refine View.allAt_cons_unit _ _ _ _ _ (valueTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) y 14 0 8 rfl _ _ rfl rfl) ?_
  refine View.allAt_cons_unit _ _ _ _ _ (valueTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) y 13 1 7 rfl _ _ rfl rfl) ?_
  refine View.allAt_cons_unit _ _ _ _ _ (valueTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) y 13 0 6 rfl _ _ rfl rfl) ?_
  refine View.allAt_cons_unit _ _ _ _ _ (valueTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) y 12 1 5 rfl _ _ rfl rfl) ?_
  refine View.allAt_cons_unit _ _ _ _ _ (valueTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) y 12 0 4 rfl _ _ rfl rfl) ?_
  refine View.allAt_cons_unit _ _ _ _ _ (valueTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) y 11 1 3 rfl _ _ rfl rfl) ?_
  refine View.allAt_cons_unit _ _ _ _ _ (valueTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) y 11 0 2 rfl _ _ rfl rfl) ?_
  refine View.allAt_cons_unit _ _ _ _ _ (valueTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) y 10 1 1 rfl _ _ rfl rfl) ?_
  refine View.allAt_cons_unit _ _ _ _ _ (valueTile arg3 harg3 x0 x1 x2 _ (xw_apply c i arg1 harg1 arg2 harg2 arg3 harg3 arg4 harg4 arg5 harg5 arg6 harg6 arg7 harg7 arg8 harg8 arg9 harg9 arg10 harg10 arg11 harg11 x0 x1 (by decide)) y 10 0 0 rfl _ _ rfl rfl) ?_
  exact View.allAt_nil _ _

end Cert.Proof.QkvBody

end
-- ==== Proof.QkvRegions.lean ====
/- What the two calls leave in their result arrays, from the arrays they were entered with. -/
module

public import proofs.«01_k».proof.Proof.QkvWiden
public import proofs.«01_k».proof.Proof.QkvBody
public import proofs.«01_k».proof.Proof.QkvSpec
public import Idealize.ShloMosaic.Lib.Pipeline.ValueKit
public import Idealize.ShloMosaic.Lib.Pointwise

@[expose] public section

set_option maxRecDepth 16384

noncomputable section

namespace Cert.Proof.QkvRegions

open Idealize.ShloMosaic Idealize.ShloMosaic.TcCoe Idealize.SL.Sem
open Cert.QkvIdeal Cert.QkvIdeal.Gen
open Cert.Proof.Quant (scaleOf codeOf)

variable (V : (c : Dev nD) → (b : Ref sig .tc) → Buf (Elt Ideal) ((c : Thread nD τ).loc b)) (c : Dev nD)

theorem idx0 : ∀ t : Fin grid0.N, win0_0.index t = ![0, t.val] ∧ win0_1.index t = ![0, t.val] ∧ win0_2.index t = ![0, t.val] := by
  decide +kernel

theorem final0 : (dat0 V c).arrAt 2 cfg0.N = QkvSpec.wide (V c main_arg2) (fun a => Widen.word (V c main_arg3 a)) := by
  refine (dat0 V c).arrAt_eq_of_covers 2 _ (by decide +kernel) fun t hf y => ?_
  blk_simp
  rw [after0_2]
  rw [QkvWiden.single_apply]
  obtain ⟨e0, e1, e2⟩ := idx0 t
  unfold QkvWiden.single QkvSpec.wide
  refine Ideal.mul_congr ?_ (congrArg Widen.word ?_) <;> blk_ext [iblk0, e0, e1, e2]

theorem idx1 : ∀ t : Fin grid1.N, win1_0.index t = ![t.val / 18, t.val % 18, 0] ∧ win1_1.index t = ![t.val / 18, 0, 0]
    ∧ win1_2.index t = ![0, 0] ∧ win1_3.index t = ![0, 0] ∧ win1_4.index t = ![0, 0]
    ∧ win1_5.index t = ![t.val / 18, t.val % 18, 0] ∧ win1_6.index t = ![t.val / 18, 0, t.val % 18]
    ∧ win1_7.index t = ![t.val / 18, 0, t.val % 18, 0] ∧ win1_8.index t = ![t.val / 18, 0, t.val % 18, 0] := by
  decide +kernel

theorem tAt_blk (t : Fin cfg1.N) (r : ℕ) (hr : r < 512) (b : Fin 2) (r' : Fin 9216) (hb : b.val = t.val / 18) (hr' : r'.val = t.val % 18 * 512 + r) :
    QkvPieces.tAt (iblk1 V c 0 t) r = QkvSpec.tok (V c main_arg0) b r' := by
  obtain ⟨e0, e1, e2, e3, e4, e5, e6, e7, e8⟩ := idx1 t
  funext j
  unfold QkvPieces.tAt QkvSpec.tok
  blk_ext [iblk1, e0]

theorem mAt_blk (t : Fin cfg1.N) (q : Fin 6) (b : Fin 2) (hb : b.val = t.val / 18) : QkvPieces.mAt (iblk1 V c 1 t) q = OutSpec.modRow (V c main_arg1) b q := by
  obtain ⟨e0, e1, e2, e3, e4, e5, e6, e7, e8⟩ := idx1 t
  funext j
  unfold QkvPieces.mAt OutSpec.modRow
  blk_ext [iblk1, e1]

theorem nAt_blk (t : Fin cfg1.N) (r : ℕ) (hr : r < 512) (b : Fin 2) (r' : Fin 9216) (hb : b.val = t.val / 18) (hr' : r'.val = t.val % 18 * 512 + r) :
    QkvPieces.nAt (iblk1 V c 0 t) (iblk1 V c 1 t) r = QkvSpec.nrm (V c main_arg0) (V c main_arg1) b r' := by
  funext q
  unfold QkvPieces.nAt QkvSpec.nrm
  rw [tAt_blk V c t r hr b r' hb hr', mAt_blk V c t 0 b hb, mAt_blk V c t 1 b hb]

theorem blk2 (t : Fin cfg1.N) : iblk1 V c 2 t = V c main_v0 := by
  obtain ⟨e0, e1, e2, e3, e4, e5, e6, e7, e8⟩ := idx1 t
  funext y; blk_ext [iblk1, e2]

theorem blk3 (t : Fin cfg1.N) : iblk1 V c 3 t = (V c main_arg4) := by
  obtain ⟨e0, e1, e2, e3, e4, e5, e6, e7, e8⟩ := idx1 t
  funext y; blk_ext [iblk1, e3]

theorem blk4 (t : Fin cfg1.N) : iblk1 V c 4 t = (V c main_arg5) := by
  obtain ⟨e0, e1, e2, e3, e4, e5, e6, e7, e8⟩ := idx1 t
  funext y; blk_ext [iblk1, e4]

theorem pAt_blk (t : Fin cfg1.N) (r : ℕ) (hr : r < 512) (b : Fin 2) (r' : Fin 9216) (hb : b.val = t.val / 18) (hr' : r'.val = t.val % 18 * 512 + r) :
    QkvPieces.pAt (iblk1 V c 0 t) (iblk1 V c 1 t) (iblk1 V c 2 t) r = QkvSpec.prod (V c main_arg0) (V c main_arg1) (V c main_v0) b r' := by
  funext q
  unfold QkvPieces.pAt QkvSpec.prod
  rw [nAt_blk V c t r hr b r' hb hr', blk2]

theorem final1_5 : (dat1 V c).arrAt 5 cfg1.N = fun i => codeOf (QkvSpec.nrm (V c main_arg0) (V c main_arg1) (i 0) (i 1)) (i 2).val := by
  refine (dat1 V c).arrAt_eq_of_covers 5 _ (by decide +kernel) fun t hf y => ?_
  blk_simp
  rw [after1_5]
  obtain ⟨e0, e1, e2, e3, e4, e5, e6, e7, e8⟩ := idx1 t
  unfold outsAt1
  dsimp only
  rw [QkvBody.codes, nAt_blk V c t (y 1).val (y 1).isLt ((win1_5.blk t).view.emb y 0) ((win1_5.blk t).view.emb y 1)]
  · refine congrArg (codeOf _) ?_
    blk_simp [e5]
  · blk_simp [e5]
  · blk_simp [e5]

theorem final1_6 : (dat1 V c).arrAt 6 cfg1.N = fun i => scaleOf (QkvSpec.nrm (V c main_arg0) (V c main_arg1) (i 0) (i 2)) (i 1).val := by
  refine (dat1 V c).arrAt_eq_of_covers 6 _ (by decide +kernel) fun t hf y => ?_
  blk_simp
  rw [after1_6]
  obtain ⟨e0, e1, e2, e3, e4, e5, e6, e7, e8⟩ := idx1 t
  unfold outsAt1
  dsimp only
  rw [QkvBody.scales, nAt_blk V c t (y 2).val (y 2).isLt ((win1_6.blk t).view.emb y 0) ((win1_6.blk t).view.emb y 2)]
  · refine congrArg (scaleOf _) ?_
    blk_simp [e6]
  · blk_simp [e6]
  · blk_simp [e6]

theorem final1_7 : (dat1 V c).arrAt 7 cfg1.N = fun i => QkvSpec.headNorm (QkvSpec.prod (V c main_arg0) (V c main_arg1) (V c main_v0) (i 0) (i 2)) (QkvSpec.gain (V c main_arg4) (V c main_arg5) (i 1).val) (i 1).val (i 3).val := by
  refine (dat1 V c).arrAt_eq_of_covers 7 _ (by decide +kernel) fun t hf y => ?_
  blk_simp
  rw [after1_7]
  obtain ⟨e0, e1, e2, e3, e4, e5, e6, e7, e8⟩ := idx1 t
  unfold outsAt1
  dsimp only
  rw [QkvBody.queryKey, pAt_blk V c t (y 2).val (y 2).isLt ((win1_7.blk t).view.emb y 0) ((win1_7.blk t).view.emb y 2), blk3, blk4]
  · refine congr (congr (congrArg (QkvSpec.headNorm _) (congrArg (QkvSpec.gain _ _) ?_)) ?_) ?_ <;>
    blk_simp [e7]
  · blk_simp [e7]
  · blk_simp [e7]

theorem final1_8 : (dat1 V c).arrAt 8 cfg1.N = fun i => QkvSpec.prod (V c main_arg0) (V c main_arg1) (V c main_v0) (i 0) (i 2) (128 * (20 + (i 1).val) + (i 3).val) := by
  refine (dat1 V c).arrAt_eq_of_covers 8 _ (by decide +kernel) fun t hf y => ?_
  blk_simp
  rw [after1_8]
  obtain ⟨e0, e1, e2, e3, e4, e5, e6, e7, e8⟩ := idx1 t
  unfold outsAt1
  dsimp only
  rw [QkvBody.value, pAt_blk V c t (y 2).val (y 2).isLt ((win1_8.blk t).view.emb y 0) ((win1_8.blk t).view.emb y 2)]
  · refine congrArg (QkvSpec.prod (V c main_arg0) (V c main_arg1) (V c main_v0) _ _) ?_
    blk_simp [e8]
  · blk_simp [e8]
  · blk_simp [e8]

end Cert.Proof.QkvRegions

end
-- ==== Proof.QkvValues.lean ====
/- The kernel's run: its four results as plain sums of its arguments. -/
module

public import proofs.«01_k».proof.Proof.QkvRegions
public import proofs.«01_k».proof.Proof.Gen.QkvIdeal.Frame
public import Idealize.ShloMosaic.Lib.Claim

@[expose] public section

set_option maxRecDepth 16384

noncomputable section

namespace Cert.Proof.QkvValues

open Idealize.ShloMosaic Idealize.ShloMosaic.TcCoe Idealize.SL Idealize.SL.Sem
open Cert.QkvIdeal Cert.QkvIdeal.Gen Cert.Proof.QkvRegions
open Cert.Proof.Quant (scaleOf codeOf)

variable (m : (ℓ : Loc nD τ sig) → Buf (Elt Ideal) ℓ) (ρ : Dev nD → PrngReg) (c : Dev nD)

/-- The scale words of an array of scale bytes. -/
abbrev words {S : Shape} (s : S.Idx → BitVec 8) : S.Idx → EReal := fun a => Widen.word (s a)

theorem widened : V1 (F := Ideal) m ρ c main_v0 = QkvSpec.wide (m ((c : Thread nD τ).loc main_arg2)) (words (m ((c : Thread nD τ).loc main_arg3))) :=
  (hF0 m ρ c 2).symm.trans (final0 (V0 m ρ) c)

theorem e0 : V1 (F := Ideal) m ρ c main_arg0 = (m ((c : Thread nD τ).loc main_arg0)) := W1_args m ρ c main_arg0 (by decide)
theorem e1 : V1 (F := Ideal) m ρ c main_arg1 = (m ((c : Thread nD τ).loc main_arg1)) := W1_args m ρ c main_arg1 (by decide)
theorem e4 : V1 (F := Ideal) m ρ c main_arg4 = (m ((c : Thread nD τ).loc main_arg4)) := W1_args m ρ c main_arg4 (by decide)
theorem e5 : V1 (F := Ideal) m ρ c main_arg5 = (m ((c : Thread nD τ).loc main_arg5)) := W1_args m ρ c main_arg5 (by decide)

theorem end_codes : W3 (F := Ideal) m ρ c (Proc.devRef .tc main_v1_0) = QkvSpec.codes (m ((c : Thread nD τ).loc main_arg0)) (m ((c : Thread nD τ).loc main_arg1)) := by
  rw [W3_of m ρ c main_v1_0 (by decide)]
  refine (hF1 m ρ c 5).symm.trans ((final1_5 (V1 m ρ) c).trans ?_)
  rw [e0, e1]
  rfl

theorem end_scales : W3 (F := Ideal) m ρ c (Proc.devRef .tc main_v2) = QkvSpec.scales (m ((c : Thread nD τ).loc main_arg0)) (m ((c : Thread nD τ).loc main_arg1)) := by
  have h : W2 (F := Ideal) m ρ c (Proc.devRef .tc main_v1_1) = fun i => scaleOf (QkvSpec.nrm (m ((c : Thread nD τ).loc main_arg0)) (m ((c : Thread nD τ).loc main_arg1)) (i 0) (i 2)) (i 1).val := by
    refine (hF1 m ρ c 6).symm.trans ((final1_6 (V1 m ρ) c).trans ?_)
    rw [e0, e1]
  show StableHlo.after hostOps2 (W2 m ρ c) (Proc.devRef .tc main_v2) = _
  entry_read
  rw [h]
  funext i
  pointwise [QkvSpec.scales]

theorem end_queryKey : W3 (F := Ideal) m ρ c (Proc.devRef .tc main_v1_2) = QkvSpec.queryKey (m ((c : Thread nD τ).loc main_arg0)) (m ((c : Thread nD τ).loc main_arg1)) (QkvSpec.wide (m ((c : Thread nD τ).loc main_arg2)) (words (m ((c : Thread nD τ).loc main_arg3)))) (m ((c : Thread nD τ).loc main_arg4)) (m ((c : Thread nD τ).loc main_arg5)) := by
  rw [W3_of m ρ c main_v1_2 (by decide)]
  refine (hF1 m ρ c 7).symm.trans ((final1_7 (V1 m ρ) c).trans ?_)
  rw [e0, e1, e4, e5, widened]
  rfl

theorem end_value : W3 (F := Ideal) m ρ c (Proc.devRef .tc main_v1_3) = QkvSpec.value (m ((c : Thread nD τ).loc main_arg0)) (m ((c : Thread nD τ).loc main_arg1)) (QkvSpec.wide (m ((c : Thread nD τ).loc main_arg2)) (words (m ((c : Thread nD τ).loc main_arg3)))) := by
  rw [W3_of m ρ c main_v1_3 (by decide)]
  refine (hF1 m ρ c 8).symm.trans ((final1_8 (V1 m ρ) c).trans ?_)
  rw [e0, e1, widened]
  rfl

end Cert.Proof.QkvValues

end
-- ==== Proof.QkvRun.lean ====
/- The kernel's run with its four results read at the end. -/
module

public import proofs.«01_k».proof.Proof.QkvValues

@[expose] public section

set_option maxRecDepth 16384

noncomputable section

namespace Cert.Proof.QkvRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.QkvIdeal Cert.QkvIdeal.Gen

variable {F : FTy → Type} [FloatOps F] [Named F]
variable (m : (ℓ : Loc nD τ sig) → Buf (Elt F) ℓ) (ρ : Dev nD → PrngReg)

-- The launch theorem's implicit arguments are found by unfolding plain definitions in a type.
set_option backward.isDefEq.respectTransparency.types false in
/-- Every buffer that outlives the calls ends at the last boundary's contents. -/
theorem ends : θ_run defs (onTc (τ := τ) (main (F := F))) ⟨m, fun _ => 0, ρ⟩ (fun r => ∀ c : Dev nD, ∀ b ∈ Pipeline.ucRefs τ sig,
      r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end Cert.Proof.QkvRun

end
-- ==== Proof.QkvRef.lean ====
/- The third plain reference's payloads, index by index. -/
module

public import proofs.«01_k».proof.Proof.QkvSpec
public import proofs.«01_k».proof.Proof.OutRef
public import proofs.«01_k».proof.Proof.Gen.QkvRefIdeal.Frame
public import Idealize.ShloMosaic.Lib.Pipeline.ValueKit
public import Idealize.ShloMosaic.Lib.Pointwise

@[expose] public section

set_option maxRecDepth 16384

noncomputable section

namespace Cert.Proof.QkvRef

open Idealize.ShloMosaic Idealize.ShloMosaic.TcCoe Idealize.SL.Sem
open Cert.QkvRefIdeal Cert.QkvRefIdeal.Gen
open Cert.Proof.Quant (amax scaleOf codeOf)
open Cert.Proof.Ref (pow pows)
open Cert.Proof.QkvSpec (headSq headNorm)

/-- The scaled and shifted rows. -/
def shifted (md : Vec Ideal S2x6x2560 .f32) (z : FVec Ideal S2x9216x2560 .f32) : FVec Ideal S2x9216x2560 .f32 :=
  have v13 : FVec Ideal S2x1x2560 .f32 := extractStridedSlice S2x1x2560 ![0, 1, 0] md slices_S2x6x2560_o0_1_0_S2x1x2560
  have v14 : FVec Ideal S2x2560 .f32 := shapeCast S2x2560 v13 shapeCasts_S2x1x2560_S2x2560
  have v15 : FVec Ideal S2x1x2560 .f32 := shapeCast S2x1x2560 v14 shapeCasts_S2x2560_S2x1x2560
  have cst_7 : Ideal .f32 := Scalar.ofBits .f32 0x3F800000#32
  have v16 : FVec Ideal S2x1x2560 .f32 := broadcast S2x1x2560 cst_7
  have v17 : FVec Ideal S2x1x2560 .f32 := addf v16 v15
  have v18 : FVec Ideal S2x9216x2560 .f32 := broadcastTo S2x9216x2560 v17 broadcasts_S2x1x2560_S2x9216x2560
  have v19 : FVec Ideal S2x9216x2560 .f32 := mulf z v18
  have v20 : FVec Ideal S2x1x2560 .f32 := extractStridedSlice S2x1x2560 ![0, 0, 0] md slices_S2x6x2560_o0_0_0_S2x1x2560
  have v21 : FVec Ideal S2x2560 .f32 := shapeCast S2x2560 v20 shapeCasts_S2x1x2560_S2x2560
  have v22 : FVec Ideal S2x1x2560 .f32 := shapeCast S2x1x2560 v21 shapeCasts_S2x2560_S2x1x2560
  have v23 : FVec Ideal S2x9216x2560 .f32 := broadcastTo S2x9216x2560 v22 broadcasts_S2x1x2560_S2x9216x2560
  have v24 : FVec Ideal S2x9216x2560 .f32 := addf v19 v23
  v24

theorem shifted_apply (md : Vec Ideal S2x6x2560 .f32) (z : FVec Ideal S2x9216x2560 .f32) (b : Fin 2) (r : Fin 9216) (j : Fin 2560) :
    shifted md z (ix3 b r j) = z (ix3 b r j) * (1 + md (ix3 b 1 j)) + md (ix3 b 0 j) := by
  unfold shifted
  pointwise

section Rows

variable (x : Vec Ideal S2x9216x2560 .bf16) (md : Vec Ideal S2x6x2560 .f32)

theorem wide_apply (b : Fin 2) (r : Fin 9216) (k : Fin 2560) :
    (extf .f32 x bitsLt_bf16_f32 : FVec Ideal S2x9216x2560 .f32) (ix3 b r k) = QkvSpec.tok x b r k.val := by
  unfold QkvSpec.tok
  have e : (⟨k.val % 2560, Nat.mod_lt _ (by decide)⟩ : Fin 2560) = k := Fin.ext (Nat.mod_eq_of_lt k.isLt)
  rw [e]
  rfl

theorem row_apply (b : Fin 2) (r : Fin 9216) (j : Fin 2560) :
    shifted md (OutRef.rooted (extf .f32 x bitsLt_bf16_f32)) (ix3 b r j) = QkvSpec.nrm x md b r j.val := by
  have e : (⟨j.val % 2560, Nat.mod_lt _ (by decide)⟩ : Fin 2560) = j := Fin.ext (Nat.mod_eq_of_lt j.isLt)
  rw [shifted_apply, OutRef.rooted_apply _ (wide_apply x), OutRef.over_root]
  unfold QkvSpec.nrm OutSpec.normed OutSpec.modRow
  rw [if_pos (by omega), e]

theorem pay4_apply (b : Fin 2) (r : Fin 9216) (n : Fin 80) (l : Fin 32) : k0_pay4 (F := Ideal) md x (ix4 b r n l) = QkvSpec.nrm x md b r (32 * n.val + l.val) :=
  OutRef.split80_apply (shifted md (OutRef.rooted (extf .f32 x bitsLt_bf16_f32))) (row_apply x md) b r n l

theorem pay5_apply (b : Fin 2) (r : Fin 9216) (n : Fin 80) : k0_pay5 (F := Ideal) md x (ix3 b r n) = Scale.expo (amax (QkvSpec.nrm x md b r) n.val) :=
  OutRef.expos80_apply (pay4_apply x md) b r n

/-- The codes, cut into blocks. -/
theorem pay7_apply (b : Fin 2) (r : Fin 9216) (n : Fin 80) (l : Fin 32) :
    k0_pay7 (F := Ideal) (k0_pay4 (F := Ideal) md x) (k0_pay6 (F := Ideal) md x) (ix4 b r n l) = codeOf (QkvSpec.nrm x md b r) (32 * n.val + l.val) :=
  OutRef.codes80_apply (pay4_apply x md) (pay5_apply x md) b r n l

theorem pay8_apply (b : Fin 2) (r : Fin 9216) (n : Fin 80) : k0_pay8 (F := Ideal) (k0_pay5 (F := Ideal) md x) (ix3 b r n) = scaleOf (QkvSpec.nrm x md b r) n.val := by
  unfold k0_pay8 scaleOf
  exact OutRef.exp2_at _ _ (pay5_apply x md b r n)

theorem pay9_apply (b : Fin 2) (r : Fin 9216) (k : Fin 2560) :
    k0_pay9 (F := Ideal) (k0_pay4 (F := Ideal) md x) (k0_pay6 (F := Ideal) md x) (ix3 b r k) = codeOf (QkvSpec.nrm x md b r) k.val :=
  OutRef.join80_apply (k0_pay7 (F := Ideal) (k0_pay4 (F := Ideal) md x) (k0_pay6 (F := Ideal) md x)) (Q := fun b r c => codeOf (QkvSpec.nrm x md b r) c) (pay7_apply x md) b r k

end Rows

section Product

/-- The product of the widened rows and the widened matrix, cut into heads. -/
def product (a : FVec Ideal S2x9216x2560 .bf16) (s : Vec Ideal S80x3840 .i8) (w : Vec Ideal S2560x3840 .fp8e4m3) : FVec Ideal S2x9216x30x128 .f32 :=
  have v62 : IVec S80x3840 32 := extui 32 s natLt_8_32
  have v63 : IVec S80x3840 32 := broadcast S80x3840 127#32
  have v64 : IVec S80x3840 32 := subi v62 v63
  have v65 : FVec Ideal S80x3840 .f32 := sitofp .f32 v64
  have v66 : FVec Ideal S80x3840 .f32 := exp2 v65
  have v67 : FVec Ideal S80x3840 .bf16 := truncf .bf16 v66 bitsLt_bf16_f32
  have v69 : FVec Ideal S2560x3840 .bf16 := extf .bf16 w bitsLt_fp8e4m3_bf16
  have v70 : FVec Ideal S80x32x3840 .bf16 := shapeCast S80x32x3840 v69 shapeCasts_S2560x3840_S80x32x3840
  have v71 : FVec Ideal S80x1x3840 .bf16 := shapeCast S80x1x3840 v67 shapeCasts_S80x3840_S80x1x3840
  have v72 : FVec Ideal S80x32x3840 .bf16 := broadcastTo S80x32x3840 v71 broadcasts_S80x1x3840_S80x32x3840
  have v73 : FVec Ideal S80x32x3840 .bf16 := mulf v70 v72
  have v74 : FVec Ideal S2560x3840 .bf16 := shapeCast S2560x3840 v73 shapeCasts_S80x32x3840_S2560x3840
  have cst_27 : FVec Ideal S2x9216x3840 .f32 := constant S2x9216x3840 .f32 0x00000000#32
  have v75 : FVec Ideal S2x9216x3840 .f32 := matmul dot_S2x9216x2560_S2560x3840_S2x9216x3840_2_0_01_1_n_n none a v74 cst_27
  have v76 : FVec Ideal S2x9216x30x128 .f32 := shapeCast S2x9216x30x128 v75 shapeCasts_S2x9216x3840_S2x9216x30x128
  v76

theorem product_apply (a : FVec Ideal S2x9216x2560 .bf16) (s : Vec Ideal S80x3840 .i8) (w : Vec Ideal S2560x3840 .fp8e4m3) (b : Fin 2) (r : Fin 9216) (h : Fin 30) (l : Fin 128) :
    product a s w (ix4 b r h l) = ∑ k : Fin 2560, a (ix3 b r k) * (w (ix2 k ⟨128 * h.val + l.val, by omega⟩) * pow (s (ix2 ⟨k.val / 32, by omega⟩ ⟨128 * h.val + l.val, by omega⟩))) := by
  unfold product
  pointwise
  have e : (⟨h.val * 128 + l.val, by omega⟩ : Fin 3840) = ⟨128 * h.val + l.val, by omega⟩ := Fin.ext (by dsimp only; omega)
  simp only [e]
  rfl

variable (x : Vec Ideal S2x9216x2560 .bf16) (md : Vec Ideal S2x6x2560 .f32) (w : Vec Ideal S2560x3840 .fp8e4m3) (s : Vec Ideal S80x3840 .i8)

theorem pay10_apply (b : Fin 2) (r : Fin 9216) (h : Fin 30) (l : Fin 128) :
    k0_pay10 (F := Ideal) (k0_pay4 (F := Ideal) md x) (k0_pay5 (F := Ideal) md x) (k0_pay6 (F := Ideal) md x) s w (ix4 b r h l)
      = QkvSpec.prod x md (QkvSpec.wide w (pows s)) b r (128 * h.val + l.val) := by
  refine (product_apply (OutRef.backs80 (k0_pay7 (F := Ideal) (k0_pay4 (F := Ideal) md x) (k0_pay6 (F := Ideal) md x)) (k0_pay8 (F := Ideal) (k0_pay5 (F := Ideal) md x))) s w b r h l).trans ?_
  unfold QkvSpec.prod
  have e : (⟨(128 * h.val + l.val) % 3840, Nat.mod_lt _ (by decide)⟩ : Fin 3840) = ⟨128 * h.val + l.val, by omega⟩ := Fin.ext (Nat.mod_eq_of_lt (by omega))
  rw [e]
  exact Finset.sum_congr rfl fun k _ => Ideal.mul_congr (OutRef.backs80_apply (pay7_apply x md) (pay8_apply x md) b r k) rfl

end Product

section Root

theorem count_eq : Ideal.ofBits .f32 0x43000000#32 = ((128 : ℝ) : EReal) := by
  simp [Ideal.ofBits, Ideal.ieee, -EReal.coe_mul]; norm_num

theorem headSq_pos (y : ℕ → EReal) (h : ℕ) : 0 < headSq y h := by
  unfold headSq
  obtain ⟨r, hr, e⟩ := OutRef.eps_eq
  rw [e, count_eq]
  have hn : (0 : EReal) ≤ Ideal.div (∑ j : Fin 128, y (128 * h + j.val) * y (128 * h + j.val)) ((128 : ℝ) : EReal) := by
    unfold Ideal.div
    rw [if_neg (by exact_mod_cast (by norm_num : (128 : ℝ) ≠ 0))]
    refine mul_nonneg (Finset.sum_nonneg fun j _ => OutRef.sq_nonneg' _) ?_
    rw [← EReal.coe_inv]
    exact_mod_cast (by norm_num : (0 : ℝ) ≤ (128 : ℝ)⁻¹)
  refine lt_of_lt_of_le (show (0 : EReal) < (r : EReal) from by exact_mod_cast hr) ?_
  exact le_add_of_nonneg_left hn

/-- Dividing by a head's root is multiplying by its inverse. -/
theorem over_head (a : EReal) (y : ℕ → EReal) (h : ℕ) : Ideal.div a (Ideal.sqrt (headSq y h)) = a * Ideal.div 1 (Ideal.sqrt (headSq y h)) := by
  unfold Ideal.div
  rw [if_neg (OutRef.sqrt_ne (headSq_pos y h)), if_neg (OutRef.sqrt_ne (headSq_pos y h)), one_mul]

end Root

section Heads

/-- Ten heads, each over its root and times its gain, heads first. -/
def normedHeads (z : FVec Ideal S2x9216x10x128 .f32) (g : Vec Ideal S1x128 .f32) : FVec Ideal S2x10x9216x128 .f32 :=
  have v79 : FVec Ideal S2x9216x10x128 .f32 := mulf z z
  have v80 : FVec Ideal S2x9216x10 .f32 := multiReduction .add [3] S2x9216x10 v79 0x00000000#32 reduces_S2x9216x10x128_S2x9216x10 (.inl rfl) rfl
  have v81 : FVec Ideal S2x9216x10x1 .f32 := shapeCast S2x9216x10x1 v80 shapeCasts_S2x9216x10_S2x9216x10x1
  k0_pay1 (F := Ideal) z g v81 (k0_pay13 (F := Ideal))

theorem normedHeads_apply (z : FVec Ideal S2x9216x10x128 .f32) (g : Vec Ideal S1x128 .f32) (Y : ℕ → EReal) (G : ℕ → EReal) (h : ℕ) (b : Fin 2) (n : Fin 10) (r : Fin 9216)
    (hz : ∀ j : Fin 128, z (ix4 b r n j) = Y (128 * h + j.val)) (hg : ∀ j : Fin 128, g (ix2 0 j) = G j.val) (l : Fin 128) :
    normedHeads z g (ix4 b n r l) = headNorm Y G h l.val := by
  have e : normedHeads z g (ix4 b n r l) = Ideal.div (Y (128 * h + l.val)) (Ideal.sqrt (headSq Y h)) * G l.val := by
    unfold normedHeads k0_pay1 k0_pay13 headSq
    pointwise
    simp only [hz, hg]
  rw [e, over_head]
  rfl

theorem slice_apply (o : ℕ) (ho : S2x9216x30x128.Slices ![0, 0, o, 0] S2x9216x10x128) (z : FVec Ideal S2x9216x30x128 .f32) (b : Fin 2) (r : Fin 9216) (n : Fin 10) (l : Fin 128) (h : Fin 30)
    (hh : h.val = o + n.val) : extractStridedSlice S2x9216x10x128 ![0, 0, o, 0] z ho (ix4 b r n l) = z (ix4 b r h l) := by
  refine congrArg z ?_
  funext a
  refine Fin.ext ?_
  fin_cases a
  · exact Nat.zero_add _
  · exact Nat.zero_add _
  · exact hh.symm
  · exact Nat.zero_add _

theorem turn_apply (z : FVec Ideal S2x9216x10x128 .f32) (b : Fin 2) (n : Fin 10) (r : Fin 9216) (l : Fin 128) :
    transpose S2x10x9216x128 [0, 2, 1, 3] z transposes_S2x9216x10x128_p0_2_1_3_S2x10x9216x128 (ix4 b n r l) = z (ix4 b r n l) := by
  pointwise

end Heads

end Cert.Proof.QkvRef

end
-- ==== Proof.QkvRefRun.lean ====
/- The third plain reference's run: its four results as plain sums of its arguments. -/
module

public import proofs.«01_k».proof.Proof.QkvRef
public import proofs.«01_k».proof.Proof.Widen

@[expose] public section

set_option maxRecDepth 16384

noncomputable section

namespace Cert.Proof.QkvRefRun

open Idealize.ShloMosaic Idealize.ShloMosaic.TcCoe Idealize.SL.Sem
open Cert.QkvRefIdeal Cert.QkvRefIdeal.Gen Cert.Proof.QkvRef
open Cert.Proof.Quant (amax scaleOf codeOf)
open Cert.Proof.Ref (pow pows)

section Outs

variable (x0 : Vec Ideal S2x9216x2560 .bf16) (x1 : Vec Ideal S2x6x2560 .f32) (x2 : Vec Ideal S2560x3840 .fp8e4m3) (x3 : Vec Ideal S80x3840 .i8) (x4 : Vec Ideal S1x128 .f32) (x5 : Vec Ideal S1x128 .f32)

theorem cut_eq : k0_pay14 (F := Ideal) x0 x1 x2 x3 x4 x5 = k0_pay4 (F := Ideal) x1 x0 := by
  unfold k0_pay14
  rw [Widen.ld_all x0 _ (by decide), Widen.ld_all x1 _ (by decide)]

theorem expo_eq : k0_pay15 (F := Ideal) x0 x1 x2 x3 x4 x5 = k0_pay5 (F := Ideal) x1 x0 := by
  unfold k0_pay15
  rw [Widen.ld_all x0 _ (by decide), Widen.ld_all x1 _ (by decide)]

theorem over_eq : k0_pay16 (F := Ideal) x0 x1 x2 x3 x4 x5 = k0_pay6 (F := Ideal) x1 x0 := by
  unfold k0_pay16
  rw [Widen.ld_all x0 _ (by decide), Widen.ld_all x1 _ (by decide)]

theorem prod_at (b : Fin 2) (r : Fin 9216) (h : Fin 30) (l : Fin 128) :
    k0_pay17 (F := Ideal) x0 x1 x2 x3 x4 x5 (ix4 b r h l) = QkvSpec.prod x0 x1 (QkvSpec.wide x2 (pows x3)) b r (128 * h.val + l.val) := by
  unfold k0_pay17
  rw [cut_eq, expo_eq, over_eq, Widen.ld_all x2 _ (by decide), Widen.ld_all x3 _ (by decide)]
  exact pay10_apply x0 x1 x2 x3 b r h l

/-- The codes. -/
theorem codes_eq : out0_6 (F := Ideal) x0 x1 x2 x3 x4 x5 = QkvSpec.codes x0 x1 := by
  funext i
  unfold out0_6
  rw [View.canon_cons_unit_lit _ _ _ (by decide)]
  rw [cut_eq, over_eq]
  obtain ⟨b, r, j, rfl⟩ : ∃ (b : Fin 2) (r : Fin 9216) (j : Fin 2560), i = ix3 b r j := ⟨i 0, i 1, i 2, by funext a; fin_cases a <;> rfl⟩
  exact pay9_apply x0 x1 b r j

/-- Their scales. -/
theorem scales_eq : out0_7 (F := Ideal) x0 x1 x2 x3 x4 x5 = QkvSpec.scales x0 x1 := by
  funext i
  unfold out0_7
  rw [View.canon_cons_unit_lit _ _ _ (by decide)]
  rw [expo_eq]
  obtain ⟨b, r, j, rfl⟩ : ∃ (b : Fin 2) (r : Fin 9216) (j : Fin 80), i = ix3 b r j := ⟨i 0, i 1, i 2, by funext a; fin_cases a <;> rfl⟩
  exact pay8_apply x0 x1 b r j

theorem third_at (v : FVec Ideal S2x9216x30x128 .f32) (b : Fin 2) (n : Fin 10) (r : Fin 9216) (l : Fin 128) (h : Fin 30) (hh : h.val = 20 + n.val) :
    k0_pay3 (F := Ideal) v (ix4 b n r l) = v (ix4 b r h l) :=
  (turn_apply _ b n r l).trans (slice_apply 20 slices_S2x9216x30x128_o0_0_20_0_S2x9216x10x128 v b r n l h hh)

/-- The values. -/
theorem value_eq : out0_9 (F := Ideal) x0 x1 x2 x3 x4 x5 = QkvSpec.value x0 x1 (QkvSpec.wide x2 (pows x3)) := by
  funext i
  unfold out0_9
  rw [View.canon_cons_unit_lit _ _ _ (by decide)]
  obtain ⟨b, n, r, l, rfl⟩ : ∃ (b : Fin 2) (n : Fin 10) (r : Fin 9216) (l : Fin 128), i = ix4 b n r l := ⟨i 0, i 1, i 2, i 3, by funext a; fin_cases a <;> rfl⟩
  exact (third_at _ b n r l ⟨20 + n.val, by omega⟩ rfl).trans (prod_at x0 x1 x2 x3 x4 x5 b r ⟨20 + n.val, by omega⟩ l)

theorem tenHeads (o : ℕ) (ho : ∀ a, (![0, o, 0, 0] : Fin 4 → ℕ) a + S2x10x9216x128.size a ≤ S2x20x9216x128.size a) (hs : S2x9216x30x128.Slices ![0, 0, o, 0] S2x9216x10x128)
    (ho' : o + 10 ≤ 20) (g : Vec Ideal S1x128 .f32) (hg : ∀ (n : Fin 10) (l : Fin 128), g (ix2 0 l) = QkvSpec.gain x4 x5 (o + n.val) l.val)
    (y : S2x20x9216x128.Idx) (w : Vec Ideal S2x10x9216x128 .f32)
    (hw : w = normedHeads (extractStridedSlice S2x9216x10x128 ![0, 0, o, 0] (k0_pay17 (F := Ideal) x0 x1 x2 x3 x4 x5) hs) g) :
    View.TileAt (Val := Elt Ideal) (e := .f32) y ![0, o, 0, 0] S2x10x9216x128.size w (QkvSpec.queryKey x0 x1 (QkvSpec.wide x2 (pows x3)) x4 x5 y) := by
  subst hw
  intro x hx
  have h0 := hx 0
  have h1 := hx 1
  have h2 := hx 2
  have h3 := hx 3
  simp only [Fin.isValue, Matrix.cons_val, zero_add] at h0 h1 h2 h3
  obtain ⟨b, n, r, l, rfl⟩ : ∃ (b : Fin 2) (n : Fin 10) (r : Fin 9216) (l : Fin 128), x = ix4 b n r l := ⟨x 0, x 1, x 2, x 3, by funext a; fin_cases a <;> rfl⟩
  have ey : y = ix4 b ⟨o + n.val, by omega⟩ r l := by
    funext a; fin_cases a
    · exact Fin.ext h0
    · exact Fin.ext h1
    · exact Fin.ext h2
    · exact Fin.ext h3
  rw [ey]
  refine normedHeads_apply _ g (QkvSpec.prod x0 x1 (QkvSpec.wide x2 (pows x3)) b r) _ (o + n.val) b n r (fun j => ?_) (hg n) l
  exact (slice_apply o hs _ b r n j ⟨o + n.val, by omega⟩ rfl).trans (prod_at x0 x1 x2 x3 x4 x5 b r ⟨o + n.val, by omega⟩ j)

theorem gain_at (g : Vec Ideal S1x128 .f32) (l : Fin 128) : g (ix2 0 l) = g (ix2 0 ⟨l.val % 128, Nat.mod_lt _ (by decide)⟩) := by
  have e : (⟨l.val % 128, Nat.mod_lt _ (by decide)⟩ : Fin 128) = l := Fin.ext (Nat.mod_eq_of_lt l.isLt)
  rw [e]

/-- The queries and keys. -/
theorem queryKey_eq : out0_8 (F := Ideal) x0 x1 x2 x3 x4 x5 = QkvSpec.queryKey x0 x1 (QkvSpec.wide x2 (pows x3)) x4 x5 := by
  funext i
  unfold out0_8
  refine View.canon_eq_of_allAt _ i _ (cover0_8 _ _ i) ?_
  refine View.allAt_cons_unit _ _ _ _ _ (tenHeads x0 x1 x2 x3 x4 x5 10 (by decide) slices_S2x9216x30x128_o0_0_10_0_S2x9216x10x128 (by decide) x5 (fun n l => ?_) i _ ?_) ?_
  · unfold QkvSpec.gain
    rw [if_neg (by omega)]
    exact gain_at x5 l
  · rw [Widen.ld_all x5 _ (by decide)]
    rfl
  refine View.allAt_cons_unit _ _ _ _ _ (tenHeads x0 x1 x2 x3 x4 x5 0 (by decide) slices_S2x9216x30x128_o0_0_0_0_S2x9216x10x128 (by decide) x4 (fun n l => ?_) i _ ?_) ?_
  · unfold QkvSpec.gain
    rw [if_pos (by omega)]
    exact gain_at x4 l
  · rw [Widen.ld_all x4 _ (by decide)]
    rfl
  exact View.allAt_nil _ _

end Outs

variable (m : (ℓ : Loc nD τ sig) → Buf (Elt Ideal) ℓ) (ρ : Dev nD → PrngReg) (c : Dev nD)

theorem idx : ∀ t : Fin cfg0.N, win0_0.index t = ![0, 0, 0] ∧ win0_1.index t = ![0, 0, 0] ∧ win0_2.index t = ![0, 0] ∧ win0_3.index t = ![0, 0]
    ∧ win0_4.index t = ![0, 0] ∧ win0_5.index t = ![0, 0] ∧ win0_6.index t = ![0, 0, 0] ∧ win0_7.index t = ![0, 0, 0] ∧ win0_8.index t = ![0, 0, 0, 0]
    ∧ win0_9.index t = ![0, 0, 0, 0] := by
  decide +kernel

theorem blk0 (t : Fin cfg0.N) : iblk m c 0 t = m ((c : Thread nD τ).loc main_arg0) := by
  obtain ⟨e0, e1, e2, e3, e4, e5, e6, e7, e8, e9⟩ := idx t
  funext y; blk_ext [iblk, V, e0]
theorem blk1 (t : Fin cfg0.N) : iblk m c 1 t = m ((c : Thread nD τ).loc main_arg1) := by
  obtain ⟨e0, e1, e2, e3, e4, e5, e6, e7, e8, e9⟩ := idx t
  funext y; blk_ext [iblk, V, e1]
theorem blk2 (t : Fin cfg0.N) : iblk m c 2 t = m ((c : Thread nD τ).loc main_arg2) := by
  obtain ⟨e0, e1, e2, e3, e4, e5, e6, e7, e8, e9⟩ := idx t
  funext y; blk_ext [iblk, V, e2]
theorem blk3 (t : Fin cfg0.N) : iblk m c 3 t = m ((c : Thread nD τ).loc main_arg3) := by
  obtain ⟨e0, e1, e2, e3, e4, e5, e6, e7, e8, e9⟩ := idx t
  funext y; blk_ext [iblk, V, e3]
theorem blk4 (t : Fin cfg0.N) : iblk m c 4 t = m ((c : Thread nD τ).loc main_arg4) := by
  obtain ⟨e0, e1, e2, e3, e4, e5, e6, e7, e8, e9⟩ := idx t
  funext y; blk_ext [iblk, V, e4]
theorem blk5 (t : Fin cfg0.N) : iblk m c 5 t = m ((c : Thread nD τ).loc main_arg5) := by
  obtain ⟨e0, e1, e2, e3, e4, e5, e6, e7, e8, e9⟩ := idx t
  funext y; blk_ext [iblk, V, e5]

/-- A whole block of an array is the array. -/
theorem whole6 (t : Fin cfg0.N) (y : S2x9216x2560.Idx) : (win0_6.blk t).view.emb y = y := by
  obtain ⟨e0, e1, e2, e3, e4, e5, e6, e7, e8, e9⟩ := idx t
  blk_ext [e6]
theorem whole7 (t : Fin cfg0.N) (y : S2x9216x80.Idx) : (win0_7.blk t).view.emb y = y := by
  obtain ⟨e0, e1, e2, e3, e4, e5, e6, e7, e8, e9⟩ := idx t
  blk_ext [e7]
theorem whole8 (t : Fin cfg0.N) (y : S2x20x9216x128.Idx) : (win0_8.blk t).view.emb y = y := by
  obtain ⟨e0, e1, e2, e3, e4, e5, e6, e7, e8, e9⟩ := idx t
  blk_ext [e8]
theorem whole9 (t : Fin cfg0.N) (y : S2x10x9216x128.Idx) : (win0_9.blk t).view.emb y = y := by
  obtain ⟨e0, e1, e2, e3, e4, e5, e6, e7, e8, e9⟩ := idx t
  blk_ext [e9]

theorem arr6 : (dats m 0 c).arrAt 6 cfg0.N = QkvSpec.codes (m ((c : Thread nD τ).loc main_arg0)) (m ((c : Thread nD τ).loc main_arg1)) := by
  refine (dats m 0 c).arrAt_eq_of_covers 6 _ (by decide +kernel) fun t hf y => ?_
  rw [after0_6, codes_eq, blk0, blk1]
  generalize QkvSpec.codes _ _ = W
  exact congrArg W (whole6 t y).symm

theorem arr7 : (dats m 0 c).arrAt 7 cfg0.N = QkvSpec.scales (m ((c : Thread nD τ).loc main_arg0)) (m ((c : Thread nD τ).loc main_arg1)) := by
  refine (dats m 0 c).arrAt_eq_of_covers 7 _ (by decide +kernel) fun t hf y => ?_
  rw [after0_7, scales_eq, blk0, blk1]
  generalize QkvSpec.scales _ _ = W
  exact congrArg W (whole7 t y).symm

theorem arr8 : (dats m 0 c).arrAt 8 cfg0.N = QkvSpec.queryKey (m ((c : Thread nD τ).loc main_arg0)) (m ((c : Thread nD τ).loc main_arg1)) (QkvSpec.wide (m ((c : Thread nD τ).loc main_arg2)) (pows (m ((c : Thread nD τ).loc main_arg3)))) (m ((c : Thread nD τ).loc main_arg4)) (m ((c : Thread nD τ).loc main_arg5)) := by
  refine (dats m 0 c).arrAt_eq_of_covers 8 _ (by decide +kernel) fun t hf y => ?_
  rw [after0_8, queryKey_eq, blk0, blk1, blk2, blk3, blk4, blk5]
  generalize QkvSpec.queryKey _ _ _ _ _ = W
  exact congrArg W (whole8 t y).symm

theorem arr9 : (dats m 0 c).arrAt 9 cfg0.N = QkvSpec.value (m ((c : Thread nD τ).loc main_arg0)) (m ((c : Thread nD τ).loc main_arg1)) (QkvSpec.wide (m ((c : Thread nD τ).loc main_arg2)) (pows (m ((c : Thread nD τ).loc main_arg3)))) := by
  refine (dats m 0 c).arrAt_eq_of_covers 9 _ (by decide +kernel) fun t hf y => ?_
  rw [after0_9, value_eq, blk0, blk1, blk2, blk3]
  generalize QkvSpec.value _ _ _ = W
  exact congrArg W (whole9 t y).symm

/-- The reference's run: its four results, and its arguments unchanged. -/
theorem run : θ_run defs (onTc (τ := τ) (main (F := Ideal))) ⟨m, fun _ => 0, ρ⟩ (fun r => ∀ c : Dev nD,
      r.2.mem ((c : Thread nD τ).loc main_v0_0) = QkvSpec.codes (m ((c : Thread nD τ).loc main_arg0)) (m ((c : Thread nD τ).loc main_arg1))
      ∧ r.2.mem ((c : Thread nD τ).loc main_v0_1) = QkvSpec.scales (m ((c : Thread nD τ).loc main_arg0)) (m ((c : Thread nD τ).loc main_arg1))
      ∧ r.2.mem ((c : Thread nD τ).loc main_v0_2) = QkvSpec.queryKey (m ((c : Thread nD τ).loc main_arg0)) (m ((c : Thread nD τ).loc main_arg1)) (QkvSpec.wide (m ((c : Thread nD τ).loc main_arg2)) (pows (m ((c : Thread nD τ).loc main_arg3)))) (m ((c : Thread nD τ).loc main_arg4)) (m ((c : Thread nD τ).loc main_arg5))
      ∧ r.2.mem ((c : Thread nD τ).loc main_v0_3) = QkvSpec.value (m ((c : Thread nD τ).loc main_arg0)) (m ((c : Thread nD τ).loc main_arg1)) (QkvSpec.wide (m ((c : Thread nD τ).loc main_arg2)) (pows (m ((c : Thread nD τ).loc main_arg3))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c => ⟨((h c).1 6).trans (arr6 m c),
      ((h c).1 7).trans (arr7 m c),
      ((h c).1 8).trans (arr8 m c),
      ((h c).1 9).trans (arr9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩) (run_main m ρ)

end Cert.Proof.QkvRefRun

end
-- ==== Proof.QkvCodes.lean ====
/- What the precondition says of the array of scale bytes. -/
module

public import proofs.«01_k».proof.Pre_qkv_scale_codes
public import proofs.«01_k».proof.Proof.Gen.Pre_qkv_scale_codes
public import proofs.«01_k».proof.Proof.Codes

@[expose] public section

set_option maxRecDepth 16384

noncomputable section

namespace Cert.Proof.QkvCodes

open Idealize.ShloMosaic Cert.Pre_qkv_scale_codes

/-- The precondition, read: every scale byte lies between 1 and 254. -/
theorem bounds (a0 : FVec Ideal S2x9216x2560 .bf16) (a1 : FVec Ideal S2x6x2560 .f32) (a2 : FVec Ideal S2560x3840 .fp8e4m3) (a3 : IVec S80x3840 8) (a4 a5 : FVec Ideal S1x128 .f32)
    [Facts] (h : fn (F := Ideal) a0 a1 a2 a3 a4 a5 = fun _ => 1#1) (y : S80x3840.Idx) : 1 ≤ (a3 y).toNat ∧ (a3 y).toNat ≤ 254 := by
  unfold fn at h
  exact Codes.byte_bounds _ (congrFun h y)

end Cert.Proof.QkvCodes

end
-- ==== Proof.QkvAlgebraic.lean ====
/- The claim that the third kernel's four results are its plain reference's. -/
module

public import proofs.«01_k».proof.Defs
public import proofs.«01_k».proof.Proof.QkvRun
public import proofs.«01_k».proof.Proof.QkvRefRun
public import proofs.«01_k».proof.Proof.QkvCodes

@[expose] public section

set_option maxRecDepth 16384

noncomputable section

namespace Cert.Proof.QkvAlgebraic

open Idealize.ShloMosaic Idealize.ShloMosaic.TcCoe Idealize.SL.Sem

section Kernel

open Cert.QkvIdeal Cert.QkvIdeal.Gen

/-- The kernel's run: its four results, and its arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c : Thread nD τ).loc main_v1_0) = QkvSpec.codes (m ((c : Thread nD τ).loc main_arg0)) (m ((c : Thread nD τ).loc main_arg1))
      ∧ r.2.mem ((c : Thread nD τ).loc main_v2) = QkvSpec.scales (m ((c : Thread nD τ).loc main_arg0)) (m ((c : Thread nD τ).loc main_arg1))
      ∧ r.2.mem ((c : Thread nD τ).loc main_v1_2) = QkvSpec.queryKey (m ((c : Thread nD τ).loc main_arg0)) (m ((c : Thread nD τ).loc main_arg1)) (QkvSpec.wide (m ((c : Thread nD τ).loc main_arg2)) (QkvValues.words (m ((c : Thread nD τ).loc main_arg3)))) (m ((c : Thread nD τ).loc main_arg4)) (m ((c : Thread nD τ).loc main_arg5))
      ∧ r.2.mem ((c : Thread nD τ).loc main_v1_3) = QkvSpec.value (m ((c : Thread nD τ).loc main_arg0)) (m ((c : Thread nD τ).loc main_arg1)) (QkvSpec.wide (m ((c : Thread nD τ).loc main_arg2)) (QkvValues.words (m ((c : Thread nD τ).loc main_arg3))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c => ⟨(h c _ (mem_uc main_v1_0 (by decide))).trans (QkvValues.end_codes m ρ c),
      (h c _ (mem_uc main_v2 (by decide))).trans (QkvValues.end_scales m ρ c),
      (h c _ (mem_uc main_v1_2 (by decide))).trans (QkvValues.end_queryKey m ρ c),
      (h c _ (mem_uc main_v1_3 (by decide))).trans (QkvValues.end_value m ρ c),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c),
      (h c _ (mem_uc main_arg4 (by decide))).trans (W3_main_arg4 m ρ c),
      (h c _ (mem_uc main_arg5 (by decide))).trans (W3_main_arg5 m ρ c)⟩) (QkvRun.ends m ρ)

end Kernel

/-- Where every scale byte lies between 1 and 254, both programs end with the same four results, for all inputs. -/
theorem algebraic [hP : Cert.Pre_qkv_scale_codes.Facts] : Cert.algebraic_QkvIdeal_QkvRefIdeal_pre_qkv_scale_codes (hQkvIdeal := Cert.QkvIdeal.Gen.facts) (hQkvRefIdeal := Cert.QkvRefIdeal.Gen.facts)
    (hPre_qkv_scale_codes := hP) := by
  intro m g m' g' hpre hag
  refine ⟨_, _, _, _, kernel_run m g, (θ_run _ _ _).mono (fun r h c => ?_) (QkvRefRun.run m' g')⟩
  obtain ⟨a0, a1, a2, a3, a4, a5⟩ := hag c
  have w3 := Codes.words_eq _ (QkvCodes.bounds _ _ _ _ _ _ (hpre c))
  obtain ⟨h0, h1, h2, h3, h4⟩ := h c
  refine ⟨h0.trans ?_, h1.trans ?_, h2.trans ?_, h3.trans ?_, h4⟩
  · rw [a0, a1]
  · rw [a0, a1]
  · rw [a0, a1, a2, a3, a4, a5]
    exact congrArg (fun s => QkvSpec.queryKey _ _ (QkvSpec.wide _ s) _ _) w3.symm
  · rw [a0, a1, a2, a3]
    exact congrArg (fun s => QkvSpec.value _ _ (QkvSpec.wide _ s)) w3.symm

end Cert.Proof.QkvAlgebraic

end
-- ==== Proof.lean ====
/- The claims, assembled: the frames, the named constant, and the equality of the feed-forward block and of the output projection with their plain references. -/
module

public import proofs.«01_k».proof.Defs
public import proofs.«01_k».proof.Proof.Gen.Mlp
public import proofs.«01_k».proof.Proof.Gen.Mlp.Skeleton
public import proofs.«01_k».proof.Proof.Gen.Mlp.Loops
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Loops
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Skeleton
public import proofs.«01_k».proof.Proof.Gen.MlpRefIdeal.Launch
public import proofs.«01_k».proof.Proof.Gen.MlpRefIdeal.Points
public import proofs.«01_k».proof.Proof.Gen.MlpRefIdeal.Frame
public import proofs.«01_k».proof.Proof.Gen.Pre_scale_codes
public import proofs.«01_k».proof.Proof.Gen.Out
public import proofs.«01_k».proof.Proof.Gen.Out.Skeleton
public import proofs.«01_k».proof.Proof.Gen.Out.Loops
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Loops
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Skeleton
public import proofs.«01_k».proof.Proof.Gen.OutRefIdeal.Launch
public import proofs.«01_k».proof.Proof.Gen.OutRefIdeal.Points
public import proofs.«01_k».proof.Proof.Gen.OutRefIdeal.Frame
public import proofs.«01_k».proof.Proof.Gen.Pre_out_scale_codes
public import proofs.«01_k».proof.Proof.Gen.Qkv
public import proofs.«01_k».proof.Proof.Gen.Qkv.Skeleton
public import proofs.«01_k».proof.Proof.Gen.Qkv.Loops
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Loops
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.Pre_qkv_scale_codes
public import proofs.«01_k».proof.Proof.Algebraic
public import proofs.«01_k».proof.Proof.OutAlgebraic
public import proofs.«01_k».proof.Proof.QkvAlgebraic
public import Idealize.ShloMosaic.Adequacy
public import Idealize.ShloMosaic.Init

@[expose] public section

noncomputable section

namespace Cert.Proof

open Idealize.ShloMosaic Idealize.SL.Sem Cert.Mlp

theorem claim : Cert.Claim := ⟨Cert.Mlp.Gen.facts, Cert.MlpIdeal.Gen.facts, Cert.MlpRefIdeal.Gen.facts,
  Cert.Out.Gen.facts, Cert.OutIdeal.Gen.facts, Cert.OutRefIdeal.Gen.facts,
  Cert.Qkv.Gen.facts, Cert.QkvIdeal.Gen.facts, Cert.QkvRefIdeal.Gen.facts,
  Cert.Pre_scale_codes.Gen.facts, Cert.Pre_out_scale_codes.Gen.facts, Cert.Pre_qkv_scale_codes.Gen.facts,
  fun m ρ _ => Cert.Mlp.Gen.frame m ρ, fun m ρ _ => Cert.MlpIdeal.Gen.frame m ρ, fun m ρ _ => Cert.MlpIdeal.Gen.frame m ρ,
  fun m ρ _ => Cert.MlpRefIdeal.Gen.frame m ρ, fun m ρ _ => Cert.MlpRefIdeal.Gen.frame m ρ,
  fun m ρ _ => Cert.Out.Gen.frame m ρ, fun m ρ _ => Cert.OutIdeal.Gen.frame m ρ, fun m ρ _ => Cert.OutIdeal.Gen.frame m ρ,
  fun m ρ _ => Cert.OutRefIdeal.Gen.frame m ρ, fun m ρ _ => Cert.OutRefIdeal.Gen.frame m ρ,
  fun m ρ _ => Cert.Qkv.Gen.frame m ρ, fun m ρ _ => Cert.QkvIdeal.Gen.frame m ρ, fun m ρ _ => Cert.QkvIdeal.Gen.frame m ρ,
  fun m ρ _ => Cert.QkvRefIdeal.Gen.frame m ρ, fun m ρ _ => Cert.QkvRefIdeal.Gen.frame m ρ,
  IdealRules.named_const.statement Cert.MlpIdeal.κ "log_two" .f32 0x3F317218#32 ((Real.log 2 : ℝ) : EReal) rfl,
  Cert.Proof.Algebraic.algebraic,
  IdealRules.named_const.statement Cert.OutIdeal.κ "log_two" .f32 0x3F317218#32 ((Real.log 2 : ℝ) : EReal) rfl,
  Cert.Proof.OutAlgebraic.algebraic,
  IdealRules.named_const.statement Cert.QkvIdeal.κ "log_two" .f32 0x3F317218#32 ((Real.log 2 : ℝ) : EReal) rfl,
  Cert.Proof.QkvAlgebraic.algebraic⟩

end Cert.Proof

end
